-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.2.2 = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.2.2 = (fun _ => 1#1)

def Pre_GridIdeal (m : (ℓ : Loc Cert.GridIdeal.nD Cert.GridIdeal.τ Cert.GridIdeal.sig) → Buf (Elt Ideal) ℓ) : Prop :=
  True

def Pre_GridIdeal_finite [hPre_finite : Cert.Pre_finite.Facts] (m : (ℓ : Loc Cert.GridIdeal.nD Cert.GridIdeal.τ Cert.GridIdeal.sig) → Buf (Elt Ideal) ℓ) : Prop :=
  ∀ c : Dev Cert.GridIdeal.nD,
    (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.2.2.2.2.2.2.1 = (fun _ => 1#1)
    ∧ (Cert.Pre_finite.fn (F := Ideal) (m ((c.tc : Thread Cert.GridIdeal.nD Cert.GridIdeal.τ).loc Cert.GridIdeal.main_arg0)) (m ((c.tc : Thread Cert.GridIdeal.nD Cert.GridIdeal.τ).loc Cert.GridIdeal.main_arg1)) (m ((c.tc : Thread Cert.GridIdeal.nD Cert.GridIdeal.τ).loc Cert.GridIdeal.main_arg2)) (m ((c.tc : Thread Cert.GridIdeal.nD Cert.GridIdeal.τ).loc Cert.GridIdeal.main_arg3)) (m ((c.tc : Thread Cert.GridIdeal.nD Cert.GridIdeal.τ).loc Cert.GridIdeal.main_arg4)) (m ((c.tc : Thread Cert.GridIdeal.nD Cert.GridIdeal.τ).loc Cert.GridIdeal.main_arg5)) (m ((c.tc : Thread Cert.GridIdeal.nD Cert.GridIdeal.τ).loc Cert.GridIdeal.main_arg6)) (m ((c.tc : Thread Cert.GridIdeal.nD Cert.GridIdeal.τ).loc Cert.GridIdeal.main_arg7)) (m ((c.tc : Thread Cert.GridIdeal.nD Cert.GridIdeal.τ).loc Cert.GridIdeal.main_arg8)) (m ((c.tc : Thread Cert.GridIdeal.nD Cert.GridIdeal.τ).loc Cert.GridIdeal.main_arg9)) (m ((c.tc : Thread Cert.GridIdeal.nD Cert.GridIdeal.τ).loc Cert.GridIdeal.main_arg10)) (m ((c.tc : Thread Cert.GridIdeal.nD Cert.GridIdeal.τ).loc Cert.GridIdeal.main_arg11)) (m ((c.tc : Thread Cert.GridIdeal.nD Cert.GridIdeal.τ).loc Cert.GridIdeal.main_arg12)) (m ((c.tc : Thread Cert.GridIdeal.nD Cert.GridIdeal.τ).loc Cert.GridIdeal.main_arg13)) (m ((c.tc : Thread Cert.GridIdeal.nD Cert.GridIdeal.τ).loc Cert.GridIdeal.main_arg14)) (m ((c.tc : Thread Cert.GridIdeal.nD Cert.GridIdeal.τ).loc Cert.GridIdeal.main_arg15))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_GridIdeal [hGridIdeal : Cert.GridIdeal.Facts] : Prop :=
  ∀ (m : (ℓ : Loc Cert.GridIdeal.nD Cert.GridIdeal.τ Cert.GridIdeal.sig) → Buf (Elt Ideal) ℓ) (g : Dev Cert.GridIdeal.nD → PrngReg), Pre_GridIdeal m →
    θ_run (Cert.GridIdeal.defs (F := Ideal)) (onTc (τ := Cert.GridIdeal.τ) (Cert.GridIdeal.main (F := Ideal))) ⟨m, fun _ => 0, g⟩ (fun r => (∀ c : Dev Cert.GridIdeal.nD,
      r.2.mem ((c.tc : Thread Cert.GridIdeal.nD Cert.GridIdeal.τ).loc Cert.GridIdeal.main_arg0) = m ((c.tc : Thread Cert.GridIdeal.nD Cert.GridIdeal.τ).loc Cert.GridIdeal.main_arg0)
      ∧ r.2.mem ((c.tc : Thread Cert.GridIdeal.nD Cert.GridIdeal.τ).loc Cert.GridIdeal.main_arg1) = m ((c.tc : Thread Cert.GridIdeal.nD Cert.GridIdeal.τ).loc Cert.GridIdeal.main_arg1)
      ∧ r.2.mem ((c.tc : Thread Cert.GridIdeal.nD Cert.GridIdeal.τ).loc Cert.GridIdeal.main_arg2) = m ((c.tc : Thread Cert.GridIdeal.nD Cert.GridIdeal.τ).loc Cert.GridIdeal.main_arg2)
      ∧ r.2.mem ((c.tc : Thread Cert.GridIdeal.nD Cert.GridIdeal.τ).loc Cert.GridIdeal.main_arg3) = m ((c.tc : Thread Cert.GridIdeal.nD Cert.GridIdeal.τ).loc Cert.GridIdeal.main_arg3)
      ∧ r.2.mem ((c.tc : Thread Cert.GridIdeal.nD Cert.GridIdeal.τ).loc Cert.GridIdeal.main_arg4) = m ((c.tc : Thread Cert.GridIdeal.nD Cert.GridIdeal.τ).loc Cert.GridIdeal.main_arg4)
      ∧ r.2.mem ((c.tc : Thread Cert.GridIdeal.nD Cert.GridIdeal.τ).loc Cert.GridIdeal.main_arg5) = m ((c.tc : Thread Cert.GridIdeal.nD Cert.GridIdeal.τ).loc Cert.GridIdeal.main_arg5)
      ∧ r.2.mem ((c.tc : Thread Cert.GridIdeal.nD Cert.GridIdeal.τ).loc Cert.GridIdeal.main_arg6) = m ((c.tc : Thread Cert.GridIdeal.nD Cert.GridIdeal.τ).loc Cert.GridIdeal.main_arg6)
      ∧ r.2.mem ((c.tc : Thread Cert.GridIdeal.nD Cert.GridIdeal.τ).loc Cert.GridIdeal.main_arg7) = m ((c.tc : Thread Cert.GridIdeal.nD Cert.GridIdeal.τ).loc Cert.GridIdeal.main_arg7)
      ∧ r.2.mem ((c.tc : Thread Cert.GridIdeal.nD Cert.GridIdeal.τ).loc Cert.GridIdeal.main_arg8) = m ((c.tc : Thread Cert.GridIdeal.nD Cert.GridIdeal.τ).loc Cert.GridIdeal.main_arg8)
      ∧ r.2.mem ((c.tc : Thread Cert.GridIdeal.nD Cert.GridIdeal.τ).loc Cert.GridIdeal.main_arg9) = m ((c.tc : Thread Cert.GridIdeal.nD Cert.GridIdeal.τ).loc Cert.GridIdeal.main_arg9)
      ∧ r.2.mem ((c.tc : Thread Cert.GridIdeal.nD Cert.GridIdeal.τ).loc Cert.GridIdeal.main_arg10) = m ((c.tc : Thread Cert.GridIdeal.nD Cert.GridIdeal.τ).loc Cert.GridIdeal.main_arg10)
      ∧ r.2.mem ((c.tc : Thread Cert.GridIdeal.nD Cert.GridIdeal.τ).loc Cert.GridIdeal.main_arg11) = m ((c.tc : Thread Cert.GridIdeal.nD Cert.GridIdeal.τ).loc Cert.GridIdeal.main_arg11)
      ∧ r.2.mem ((c.tc : Thread Cert.GridIdeal.nD Cert.GridIdeal.τ).loc Cert.GridIdeal.main_arg12) = m ((c.tc : Thread Cert.GridIdeal.nD Cert.GridIdeal.τ).loc Cert.GridIdeal.main_arg12)
      ∧ r.2.mem ((c.tc : Thread Cert.GridIdeal.nD Cert.GridIdeal.τ).loc Cert.GridIdeal.main_arg13) = m ((c.tc : Thread Cert.GridIdeal.nD Cert.GridIdeal.τ).loc Cert.GridIdeal.main_arg13)
      ∧ r.2.mem ((c.tc : Thread Cert.GridIdeal.nD Cert.GridIdeal.τ).loc Cert.GridIdeal.main_arg14) = m ((c.tc : Thread Cert.GridIdeal.nD Cert.GridIdeal.τ).loc Cert.GridIdeal.main_arg14)
      ∧ r.2.mem ((c.tc : Thread Cert.GridIdeal.nD Cert.GridIdeal.τ).loc Cert.GridIdeal.main_arg15) = m ((c.tc : Thread Cert.GridIdeal.nD Cert.GridIdeal.τ).loc Cert.GridIdeal.main_arg15))
      ∧ r.2.sem = fun _ => 0)

def quiescent_GridIdeal_pre_finite [hGridIdeal : Cert.GridIdeal.Facts] [hPre_finite : Cert.Pre_finite.Facts] : Prop :=
  ∀ (m : (ℓ : Loc Cert.GridIdeal.nD Cert.GridIdeal.τ Cert.GridIdeal.sig) → Buf (Elt Ideal) ℓ) (g : Dev Cert.GridIdeal.nD → PrngReg), Pre_GridIdeal_finite m →
    θ_run (Cert.GridIdeal.defs (F := Ideal)) (onTc (τ := Cert.GridIdeal.τ) (Cert.GridIdeal.main (F := Ideal))) ⟨m, fun _ => 0, g⟩ (fun r => (∀ c : Dev Cert.GridIdeal.nD,
      r.2.mem ((c.tc : Thread Cert.GridIdeal.nD Cert.GridIdeal.τ).loc Cert.GridIdeal.main_arg0) = m ((c.tc : Thread Cert.GridIdeal.nD Cert.GridIdeal.τ).loc Cert.GridIdeal.main_arg0)
      ∧ r.2.mem ((c.tc : Thread Cert.GridIdeal.nD Cert.GridIdeal.τ).loc Cert.GridIdeal.main_arg1) = m ((c.tc : Thread Cert.GridIdeal.nD Cert.GridIdeal.τ).loc Cert.GridIdeal.main_arg1)
      ∧ r.2.mem ((c.tc : Thread Cert.GridIdeal.nD Cert.GridIdeal.τ).loc Cert.GridIdeal.main_arg2) = m ((c.tc : Thread Cert.GridIdeal.nD Cert.GridIdeal.τ).loc Cert.GridIdeal.main_arg2)
      ∧ r.2.mem ((c.tc : Thread Cert.GridIdeal.nD Cert.GridIdeal.τ).loc Cert.GridIdeal.main_arg3) = m ((c.tc : Thread Cert.GridIdeal.nD Cert.GridIdeal.τ).loc Cert.GridIdeal.main_arg3)
      ∧ r.2.mem ((c.tc : Thread Cert.GridIdeal.nD Cert.GridIdeal.τ).loc Cert.GridIdeal.main_arg4) = m ((c.tc : Thread Cert.GridIdeal.nD Cert.GridIdeal.τ).loc Cert.GridIdeal.main_arg4)
      ∧ r.2.mem ((c.tc : Thread Cert.GridIdeal.nD Cert.GridIdeal.τ).loc Cert.GridIdeal.main_arg5) = m ((c.tc : Thread Cert.GridIdeal.nD Cert.GridIdeal.τ).loc Cert.GridIdeal.main_arg5)
      ∧ r.2.mem ((c.tc : Thread Cert.GridIdeal.nD Cert.GridIdeal.τ).loc Cert.GridIdeal.main_arg6) = m ((c.tc : Thread Cert.GridIdeal.nD Cert.GridIdeal.τ).loc Cert.GridIdeal.main_arg6)
      ∧ r.2.mem ((c.tc : Thread Cert.GridIdeal.nD Cert.GridIdeal.τ).loc Cert.GridIdeal.main_arg7) = m ((c.tc : Thread Cert.GridIdeal.nD Cert.GridIdeal.τ).loc Cert.GridIdeal.main_arg7)
      ∧ r.2.mem ((c.tc : Thread Cert.GridIdeal.nD Cert.GridIdeal.τ).loc Cert.GridIdeal.main_arg8) = m ((c.tc : Thread Cert.GridIdeal.nD Cert.GridIdeal.τ).loc Cert.GridIdeal.main_arg8)
      ∧ r.2.mem ((c.tc : Thread Cert.GridIdeal.nD Cert.GridIdeal.τ).loc Cert.GridIdeal.main_arg9) = m ((c.tc : Thread Cert.GridIdeal.nD Cert.GridIdeal.τ).loc Cert.GridIdeal.main_arg9)
      ∧ r.2.mem ((c.tc : Thread Cert.GridIdeal.nD Cert.GridIdeal.τ).loc Cert.GridIdeal.main_arg10) = m ((c.tc : Thread Cert.GridIdeal.nD Cert.GridIdeal.τ).loc Cert.GridIdeal.main_arg10)
      ∧ r.2.mem ((c.tc : Thread Cert.GridIdeal.nD Cert.GridIdeal.τ).loc Cert.GridIdeal.main_arg11) = m ((c.tc : Thread Cert.GridIdeal.nD Cert.GridIdeal.τ).loc Cert.GridIdeal.main_arg11)
      ∧ r.2.mem ((c.tc : Thread Cert.GridIdeal.nD Cert.GridIdeal.τ).loc Cert.GridIdeal.main_arg12) = m ((c.tc : Thread Cert.GridIdeal.nD Cert.GridIdeal.τ).loc Cert.GridIdeal.main_arg12)
      ∧ r.2.mem ((c.tc : Thread Cert.GridIdeal.nD Cert.GridIdeal.τ).loc Cert.GridIdeal.main_arg13) = m ((c.tc : Thread Cert.GridIdeal.nD Cert.GridIdeal.τ).loc Cert.GridIdeal.main_arg13)
      ∧ r.2.mem ((c.tc : Thread Cert.GridIdeal.nD Cert.GridIdeal.τ).loc Cert.GridIdeal.main_arg14) = m ((c.tc : Thread Cert.GridIdeal.nD Cert.GridIdeal.τ).loc Cert.GridIdeal.main_arg14)
      ∧ r.2.mem ((c.tc : Thread Cert.GridIdeal.nD Cert.GridIdeal.τ).loc Cert.GridIdeal.main_arg15) = m ((c.tc : Thread Cert.GridIdeal.nD Cert.GridIdeal.τ).loc Cert.GridIdeal.main_arg15))
      ∧ r.2.sem = fun _ => 0)

def preserves_Kernel_KernelIdeal : Prop :=
  IdealRules.sign_bit.Statement Cert.KernelIdeal.S3072x512 .f32

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def algebraic_KernelIdeal_GridIdeal_pre_finite [hKernelIdeal : Cert.KernelIdeal.Facts] [hGridIdeal : Cert.GridIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GridIdeal.nD Cert.GridIdeal.τ Cert.GridIdeal.sig) → Buf (Elt Ideal) ℓ) (g' : Dev Cert.GridIdeal.nD → PrngReg), Pre_KernelIdeal_finite m →
    (∀ c : Dev Cert.KernelIdeal.nD,
      m' ((c.tc : Thread Cert.GridIdeal.nD Cert.GridIdeal.τ).loc Cert.GridIdeal.main_arg0) = m ((c.tc : Thread Cert.KernelIdeal.nD Cert.KernelIdeal.τ).loc Cert.KernelIdeal.main_arg0)
      ∧ m' ((c.tc : Thread Cert.GridIdeal.nD Cert.GridIdeal.τ).loc Cert.GridIdeal.main_arg1) = m ((c.tc : Thread Cert.KernelIdeal.nD Cert.KernelIdeal.τ).loc Cert.KernelIdeal.main_arg1)
      ∧ m' ((c.tc : Thread Cert.GridIdeal.nD Cert.GridIdeal.τ).loc Cert.GridIdeal.main_arg2) = m ((c.tc : Thread Cert.KernelIdeal.nD Cert.KernelIdeal.τ).loc Cert.KernelIdeal.main_arg2)
      ∧ m' ((c.tc : Thread Cert.GridIdeal.nD Cert.GridIdeal.τ).loc Cert.GridIdeal.main_arg3) = m ((c.tc : Thread Cert.KernelIdeal.nD Cert.KernelIdeal.τ).loc Cert.KernelIdeal.main_arg3)
      ∧ m' ((c.tc : Thread Cert.GridIdeal.nD Cert.GridIdeal.τ).loc Cert.GridIdeal.main_arg4) = m ((c.tc : Thread Cert.KernelIdeal.nD Cert.KernelIdeal.τ).loc Cert.KernelIdeal.main_arg4)
      ∧ m' ((c.tc : Thread Cert.GridIdeal.nD Cert.GridIdeal.τ).loc Cert.GridIdeal.main_arg5) = m ((c.tc : Thread Cert.KernelIdeal.nD Cert.KernelIdeal.τ).loc Cert.KernelIdeal.main_arg5)
      ∧ m' ((c.tc : Thread Cert.GridIdeal.nD Cert.GridIdeal.τ).loc Cert.GridIdeal.main_arg6) = m ((c.tc : Thread Cert.KernelIdeal.nD Cert.KernelIdeal.τ).loc Cert.KernelIdeal.main_arg6)
      ∧ m' ((c.tc : Thread Cert.GridIdeal.nD Cert.GridIdeal.τ).loc Cert.GridIdeal.main_arg7) = m ((c.tc : Thread Cert.KernelIdeal.nD Cert.KernelIdeal.τ).loc Cert.KernelIdeal.main_arg7)
      ∧ m' ((c.tc : Thread Cert.GridIdeal.nD Cert.GridIdeal.τ).loc Cert.GridIdeal.main_arg8) = m ((c.tc : Thread Cert.KernelIdeal.nD Cert.KernelIdeal.τ).loc Cert.KernelIdeal.main_arg8)
      ∧ m' ((c.tc : Thread Cert.GridIdeal.nD Cert.GridIdeal.τ).loc Cert.GridIdeal.main_arg9) = m ((c.tc : Thread Cert.KernelIdeal.nD Cert.KernelIdeal.τ).loc Cert.KernelIdeal.main_arg9)
      ∧ m' ((c.tc : Thread Cert.GridIdeal.nD Cert.GridIdeal.τ).loc Cert.GridIdeal.main_arg10) = m ((c.tc : Thread Cert.KernelIdeal.nD Cert.KernelIdeal.τ).loc Cert.KernelIdeal.main_arg10)
      ∧ m' ((c.tc : Thread Cert.GridIdeal.nD Cert.GridIdeal.τ).loc Cert.GridIdeal.main_arg11) = m ((c.tc : Thread Cert.KernelIdeal.nD Cert.KernelIdeal.τ).loc Cert.KernelIdeal.main_arg11)
      ∧ m' ((c.tc : Thread Cert.GridIdeal.nD Cert.GridIdeal.τ).loc Cert.GridIdeal.main_arg12) = m ((c.tc : Thread Cert.KernelIdeal.nD Cert.KernelIdeal.τ).loc Cert.KernelIdeal.main_arg12)
      ∧ m' ((c.tc : Thread Cert.GridIdeal.nD Cert.GridIdeal.τ).loc Cert.GridIdeal.main_arg13) = m ((c.tc : Thread Cert.KernelIdeal.nD Cert.KernelIdeal.τ).loc Cert.KernelIdeal.main_arg13)
      ∧ m' ((c.tc : Thread Cert.GridIdeal.nD Cert.GridIdeal.τ).loc Cert.GridIdeal.main_arg14) = m ((c.tc : Thread Cert.KernelIdeal.nD Cert.KernelIdeal.τ).loc Cert.KernelIdeal.main_arg14)
      ∧ m' ((c.tc : Thread Cert.GridIdeal.nD Cert.GridIdeal.τ).loc Cert.GridIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.GridIdeal.defs (F := Ideal)) (onTc (τ := Cert.GridIdeal.τ) (Cert.GridIdeal.main (F := Ideal))) ⟨m', fun _ => 0, g'⟩ (fun r => ∀ c : Dev Cert.GridIdeal.nD,
          r.2.mem ((c.tc : Thread Cert.GridIdeal.nD Cert.GridIdeal.τ).loc Cert.GridIdeal.main_v399) = v0 c
          ∧ r.2.mem ((c.tc : Thread Cert.GridIdeal.nD Cert.GridIdeal.τ).loc Cert.GridIdeal.main_arg0) = m' ((c.tc : Thread Cert.GridIdeal.nD Cert.GridIdeal.τ).loc Cert.GridIdeal.main_arg0)
          ∧ r.2.mem ((c.tc : Thread Cert.GridIdeal.nD Cert.GridIdeal.τ).loc Cert.GridIdeal.main_arg1) = m' ((c.tc : Thread Cert.GridIdeal.nD Cert.GridIdeal.τ).loc Cert.GridIdeal.main_arg1)
          ∧ r.2.mem ((c.tc : Thread Cert.GridIdeal.nD Cert.GridIdeal.τ).loc Cert.GridIdeal.main_arg2) = m' ((c.tc : Thread Cert.GridIdeal.nD Cert.GridIdeal.τ).loc Cert.GridIdeal.main_arg2)
          ∧ r.2.mem ((c.tc : Thread Cert.GridIdeal.nD Cert.GridIdeal.τ).loc Cert.GridIdeal.main_arg3) = m' ((c.tc : Thread Cert.GridIdeal.nD Cert.GridIdeal.τ).loc Cert.GridIdeal.main_arg3)
          ∧ r.2.mem ((c.tc : Thread Cert.GridIdeal.nD Cert.GridIdeal.τ).loc Cert.GridIdeal.main_arg4) = m' ((c.tc : Thread Cert.GridIdeal.nD Cert.GridIdeal.τ).loc Cert.GridIdeal.main_arg4)
          ∧ r.2.mem ((c.tc : Thread Cert.GridIdeal.nD Cert.GridIdeal.τ).loc Cert.GridIdeal.main_arg5) = m' ((c.tc : Thread Cert.GridIdeal.nD Cert.GridIdeal.τ).loc Cert.GridIdeal.main_arg5)
          ∧ r.2.mem ((c.tc : Thread Cert.GridIdeal.nD Cert.GridIdeal.τ).loc Cert.GridIdeal.main_arg6) = m' ((c.tc : Thread Cert.GridIdeal.nD Cert.GridIdeal.τ).loc Cert.GridIdeal.main_arg6)
          ∧ r.2.mem ((c.tc : Thread Cert.GridIdeal.nD Cert.GridIdeal.τ).loc Cert.GridIdeal.main_arg7) = m' ((c.tc : Thread Cert.GridIdeal.nD Cert.GridIdeal.τ).loc Cert.GridIdeal.main_arg7)
          ∧ r.2.mem ((c.tc : Thread Cert.GridIdeal.nD Cert.GridIdeal.τ).loc Cert.GridIdeal.main_arg8) = m' ((c.tc : Thread Cert.GridIdeal.nD Cert.GridIdeal.τ).loc Cert.GridIdeal.main_arg8)
          ∧ r.2.mem ((c.tc : Thread Cert.GridIdeal.nD Cert.GridIdeal.τ).loc Cert.GridIdeal.main_arg9) = m' ((c.tc : Thread Cert.GridIdeal.nD Cert.GridIdeal.τ).loc Cert.GridIdeal.main_arg9)
          ∧ r.2.mem ((c.tc : Thread Cert.GridIdeal.nD Cert.GridIdeal.τ).loc Cert.GridIdeal.main_arg10) = m' ((c.tc : Thread Cert.GridIdeal.nD Cert.GridIdeal.τ).loc Cert.GridIdeal.main_arg10)
          ∧ r.2.mem ((c.tc : Thread Cert.GridIdeal.nD Cert.GridIdeal.τ).loc Cert.GridIdeal.main_arg11) = m' ((c.tc : Thread Cert.GridIdeal.nD Cert.GridIdeal.τ).loc Cert.GridIdeal.main_arg11)
          ∧ r.2.mem ((c.tc : Thread Cert.GridIdeal.nD Cert.GridIdeal.τ).loc Cert.GridIdeal.main_arg12) = m' ((c.tc : Thread Cert.GridIdeal.nD Cert.GridIdeal.τ).loc Cert.GridIdeal.main_arg12)
          ∧ r.2.mem ((c.tc : Thread Cert.GridIdeal.nD Cert.GridIdeal.τ).loc Cert.GridIdeal.main_arg13) = m' ((c.tc : Thread Cert.GridIdeal.nD Cert.GridIdeal.τ).loc Cert.GridIdeal.main_arg13)
          ∧ r.2.mem ((c.tc : Thread Cert.GridIdeal.nD Cert.GridIdeal.τ).loc Cert.GridIdeal.main_arg14) = m' ((c.tc : Thread Cert.GridIdeal.nD Cert.GridIdeal.τ).loc Cert.GridIdeal.main_arg14)
          ∧ r.2.mem ((c.tc : Thread Cert.GridIdeal.nD Cert.GridIdeal.τ).loc Cert.GridIdeal.main_arg15) = m' ((c.tc : Thread Cert.GridIdeal.nD Cert.GridIdeal.τ).loc Cert.GridIdeal.main_arg15))

def Claim : Prop :=
  ∃ (hKernel : Cert.Kernel.Facts) (hKernelIdeal : Cert.KernelIdeal.Facts) (hReferenceIdeal : Cert.ReferenceIdeal.Facts) (hGridIdeal : Cert.GridIdeal.Facts) (hPre_separated : Cert.Pre_separated.Facts) (hPre_finite : Cert.Pre_finite.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_KernelIdeal_pre_finite (hKernelIdeal := hKernelIdeal) (hPre_finite := hPre_finite)
    ∧ quiescent_ReferenceIdeal (hReferenceIdeal := hReferenceIdeal)
    ∧ quiescent_ReferenceIdeal_pre_separated (hReferenceIdeal := hReferenceIdeal) (hPre_separated := hPre_separated)
    ∧ quiescent_GridIdeal (hGridIdeal := hGridIdeal)
    ∧ quiescent_GridIdeal_pre_finite (hGridIdeal := hGridIdeal) (hPre_finite := hPre_finite)
    ∧ preserves_Kernel_KernelIdeal
    ∧ algebraic_KernelIdeal_ReferenceIdeal_pre_separated (hKernelIdeal := hKernelIdeal) (hReferenceIdeal := hReferenceIdeal) (hPre_separated := hPre_separated)
    ∧ algebraic_KernelIdeal_GridIdeal_pre_finite (hKernelIdeal := hKernelIdeal) (hGridIdeal := hGridIdeal) (hPre_finite := hPre_finite)
-- ==== Pre_finite.lean ====
abbrev S1x2048x768 : Shape := ⟨3, ![1, 2048, 768]⟩
abbrev S2x768 : Shape := ⟨2, ![2, 768]⟩
abbrev S2x768x768 : Shape := ⟨3, ![2, 768, 768]⟩
abbrev S2x768x1536 : Shape := ⟨3, ![2, 768, 1536]⟩
abbrev S2x1536 : Shape := ⟨2, ![2, 1536]⟩
abbrev S2x2 : Shape := ⟨2, ![2, 2]⟩
abbrev S2x768x3072 : Shape := ⟨3, ![2, 768, 3072]⟩
abbrev S2x3072 : Shape := ⟨2, ![2, 3072]⟩
abbrev S2x3072x768 : Shape := ⟨3, ![2, 3072, 768]⟩
abbrev S_ : Shape := ⟨0, ![]⟩

class Facts : Prop where
  bcast_S_S1x2048x768 : S_.BroadcastsInDim S1x2048x768 (![] : Fin 0 → Fin S1x2048x768.rank)
  bcast_S_S2x768 : S_.BroadcastsInDim S2x768 (![] : Fin 0 → Fin S2x768.rank)
  bcast_S_S2x768x768 : S_.BroadcastsInDim S2x768x768 (![] : Fin 0 → Fin S2x768x768.rank)
  bcast_S_S2x768x1536 : S_.BroadcastsInDim S2x768x1536 (![] : Fin 0 → Fin S2x768x1536.rank)
  bcast_S_S2x1536 : S_.BroadcastsInDim S2x1536 (![] : Fin 0 → Fin S2x1536.rank)
  bcast_S_S2x2 : S_.BroadcastsInDim S2x2 (![] : Fin 0 → Fin S2x2.rank)
  bcast_S_S2x768x3072 : S_.BroadcastsInDim S2x768x3072 (![] : Fin 0 → Fin S2x768x3072.rank)
  bcast_S_S2x3072 : S_.BroadcastsInDim S2x3072 (![] : Fin 0 → Fin S2x3072.rank)
  bcast_S_S2x3072x768 : S_.BroadcastsInDim S2x3072x768 (![] : Fin 0 → Fin S2x3072x768.rank)

variable [Facts]

def fn_part2 {F : FTy → Type} [FloatOps F] (main_arg12 : FVec F S2x768x3072 .f32) (main_arg13 : FVec F S2x3072 .f32) (main_arg14 : FVec F S2x3072x768 .f32) (main_arg15 : FVec F S2x768 .f32) (main_v2 : IVec S1x2048x768 1) (main_v5 : IVec S2x768 1) (main_v8 : IVec S2x768 1) (main_v11 : IVec S2x768x768 1) (main_v14 : IVec S2x768 1) (main_v17 : IVec S2x768x1536 1) (main_v20 : IVec S2x1536 1) (main_v23 : IVec S2x2 1) (main_v26 : IVec S2x768x768 1) (main_v29 : IVec S2x768 1) (main_v32 : IVec S2x768 1) (main_v35 : IVec S2x768 1) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 :=
  let main_v36 : FVec F S2x768x3072 .f32 := Host.absf main_arg12
  let main_cst_11 : FVec F S_ .f32 := constant S_ .f32 0x7F800000#32
  let main_v37 : FVec F S2x768x3072 .f32 := broadcastInDim S2x768x3072 ![] bcast_S_S2x768x3072 main_cst_11
  let main_v38 : IVec S2x768x3072 1 := cmpf .olt main_v36 main_v37
  let main_v39 : FVec F S2x3072 .f32 := Host.absf main_arg13
  let main_cst_12 : FVec F S_ .f32 := constant S_ .f32 0x7F800000#32
  let main_v40 : FVec F S2x3072 .f32 := broadcastInDim S2x3072 ![] bcast_S_S2x3072 main_cst_12
  let main_v41 : IVec S2x3072 1 := cmpf .olt main_v39 main_v40
  let main_v42 : FVec F S2x3072x768 .f32 := Host.absf main_arg14
  let main_cst_13 : FVec F S_ .f32 := constant S_ .f32 0x7F800000#32
  let main_v43 : FVec F S2x3072x768 .f32 := broadcastInDim S2x3072x768 ![] bcast_S_S2x3072x768 main_cst_13
  let main_v44 : IVec S2x3072x768 1 := cmpf .olt main_v42 main_v43
  let main_v45 : FVec F S2x768 .f32 := Host.absf main_arg15
  let main_cst_14 : FVec F S_ .f32 := constant S_ .f32 0x7F800000#32
  let main_v46 : FVec F S2x768 .f32 := broadcastInDim S2x768 ![] bcast_S_S2x768 main_cst_14
  let main_v47 : IVec S2x768 1 := cmpf .olt main_v45 main_v46
  (main_v2, main_v5, main_v8, main_v11, main_v14, main_v17, main_v20, main_v23, main_v26, main_v29, main_v32, main_v35, main_v38, main_v41, main_v44, main_v47)

def fn_part1 {F : FTy → Type} [FloatOps F] (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v2 : IVec S1x2048x768 1) (main_v5 : IVec S2x768 1) (main_v8 : IVec S2x768 1) (main_v11 : IVec S2x768x768 1) (main_v14 : IVec S2x768 1) (main_v17 : IVec S2x768x1536 1) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 :=
  let main_v18 : FVec F S2x1536 .f32 := Host.absf main_arg6
  let main_cst_5 : FVec F S_ .f32 := constant S_ .f32 0x7F800000#32
  let main_v19 : FVec F S2x1536 .f32 := broadcastInDim S2x1536 ![] bcast_S_S2x1536 main_cst_5
  let main_v20 : IVec S2x1536 1 := cmpf .olt main_v18 main_v19
  let main_v21 : FVec F S2x2 .f32 := Host.absf main_arg7
  let main_cst_6 : FVec F S_ .f32 := constant S_ .f32 0x7F800000#32
  let main_v22 : FVec F S2x2 .f32 := broadcastInDim S2x2 ![] bcast_S_S2x2 main_cst_6
  let main_v23 : IVec S2x2 1 := cmpf .olt main_v21 main_v22
  let main_v24 : FVec F S2x768x768 .f32 := Host.absf main_arg8
  let main_cst_7 : FVec F S_ .f32 := constant S_ .f32 0x7F800000#32
  let main_v25 : FVec F S2x768x768 .f32 := broadcastInDim S2x768x768 ![] bcast_S_S2x768x768 main_cst_7
  let main_v26 : IVec S2x768x768 1 := cmpf .olt main_v24 main_v25
  let main_v27 : FVec F S2x768 .f32 := Host.absf main_arg9
  let main_cst_8 : FVec F S_ .f32 := constant S_ .f32 0x7F800000#32
  let main_v28 : FVec F S2x768 .f32 := broadcastInDim S2x768 ![] bcast_S_S2x768 main_cst_8
  let main_v29 : IVec S2x768 1 := cmpf .olt main_v27 main_v28
  let main_v30 : FVec F S2x768 .f32 := Host.absf main_arg10
  let main_cst_9 : FVec F S_ .f32 := constant S_ .f32 0x7F800000#32
  let main_v31 : FVec F S2x768 .f32 := broadcastInDim S2x768 ![] bcast_S_S2x768 main_cst_9
  let main_v32 : IVec S2x768 1 := cmpf .olt main_v30 main_v31
  let main_v33 : FVec F S2x768 .f32 := Host.absf main_arg11
  let main_cst_10 : FVec F S_ .f32 := constant S_ .f32 0x7F800000#32
  let main_v34 : FVec F S2x768 .f32 := broadcastInDim S2x768 ![] bcast_S_S2x768 main_cst_10
  let main_v35 : IVec S2x768 1 := cmpf .olt main_v33 main_v34
  fn_part2 (F := F) main_arg12 main_arg13 main_arg14 main_arg15 main_v2 main_v5 main_v8 main_v11 main_v14 main_v17 main_v20 main_v23 main_v26 main_v29 main_v32 main_v35

def fn {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S2x768 .f32 := Host.absf main_arg1
  let main_cst_0 : FVec F S_ .f32 := constant S_ .f32 0x7F800000#32
  let main_v4 : FVec F S2x768 .f32 := broadcastInDim S2x768 ![] bcast_S_S2x768 main_cst_0
  let main_v5 : IVec S2x768 1 := cmpf .olt main_v3 main_v4
  let main_v6 : FVec F S2x768 .f32 := Host.absf main_arg2
  let main_cst_1 : FVec F S_ .f32 := constant S_ .f32 0x7F800000#32
  let main_v7 : FVec F S2x768 .f32 := broadcastInDim S2x768 ![] bcast_S_S2x768 main_cst_1
  let main_v8 : IVec S2x768 1 := cmpf .olt main_v6 main_v7
  let main_v9 : FVec F S2x768x768 .f32 := Host.absf main_arg3
  let main_cst_2 : FVec F S_ .f32 := constant S_ .f32 0x7F800000#32
  let main_v10 : FVec F S2x768x768 .f32 := broadcastInDim S2x768x768 ![] bcast_S_S2x768x768 main_cst_2
  let main_v11 : IVec S2x768x768 1 := cmpf .olt main_v9 main_v10
  let main_v12 : FVec F S2x768 .f32 := Host.absf main_arg4
  let main_cst_3 : FVec F S_ .f32 := constant S_ .f32 0x7F800000#32
  let main_v13 : FVec F S2x768 .f32 := broadcastInDim S2x768 ![] bcast_S_S2x768 main_cst_3
  let main_v14 : IVec S2x768 1 := cmpf .olt main_v12 main_v13
  let main_v15 : FVec F S2x768x1536 .f32 := Host.absf main_arg5
  let main_cst_4 : FVec F S_ .f32 := constant S_ .f32 0x7F800000#32
  let main_v16 : FVec F S2x768x1536 .f32 := broadcastInDim S2x768x1536 ![] bcast_S_S2x768x1536 main_cst_4
  let main_v17 : IVec S2x768x1536 1 := cmpf .olt main_v15 main_v16
  fn_part1 (F := F) main_arg6 main_arg7 main_arg8 main_arg9 main_arg10 main_arg11 main_arg12 main_arg13 main_arg14 main_arg15 main_v2 main_v5 main_v8 main_v11 main_v14 main_v17
-- ==== Pre_separated.lean ====
abbrev S1x2048x768 : Shape := ⟨3, ![1, 2048, 768]⟩
abbrev S2x768 : Shape := ⟨2, ![2, 768]⟩
abbrev S2x768x768 : Shape := ⟨3, ![2, 768, 768]⟩
abbrev S2x768x1536 : Shape := ⟨3, ![2, 768, 1536]⟩
abbrev S2x1536 : Shape := ⟨2, ![2, 1536]⟩
abbrev S2x2 : Shape := ⟨2, ![2, 2]⟩
abbrev S2x768x3072 : Shape := ⟨3, ![2, 768, 3072]⟩
abbrev S2x3072 : Shape := ⟨2, ![2, 3072]⟩
abbrev S2x3072x768 : Shape := ⟨3, ![2, 3072, 768]⟩
abbrev S2048x768 : Shape := ⟨2, ![2048, 768]⟩
abbrev S1x768 : Shape := ⟨2, ![1, 768]⟩
abbrev S768 : Shape := ⟨1, ![768]⟩
abbrev S1x768x768 : Shape := ⟨3, ![1, 768, 768]⟩
abbrev S768x768 : Shape := ⟨2, ![768, 768]⟩
abbrev S1x768x1536 : Shape := ⟨3, ![1, 768, 1536]⟩
abbrev S768x1536 : Shape := ⟨2, ![768, 1536]⟩
abbrev S1x1536 : Shape := ⟨2, ![1, 1536]⟩
abbrev S1536 : Shape := ⟨1, ![1536]⟩
abbrev S_ : Shape := ⟨0, ![]⟩
abbrev S2048 : Shape := ⟨1, ![2048]⟩
abbrev S2048x1 : Shape := ⟨2, ![2048, 1]⟩
abbrev S2048x12x64 : Shape := ⟨3, ![2048, 12, 64]⟩
abbrev S2048x1536 : Shape := ⟨2, ![2048, 1536]⟩
abbrev S2048x2x12x64 : Shape := ⟨4, ![2048, 2, 12, 64]⟩
abbrev S2048x1x12x64 : Shape := ⟨4, ![2048, 1, 12, 64]⟩
abbrev S1x2 : Shape := ⟨2, ![1, 2]⟩
abbrev S2 : Shape := ⟨1, ![2]⟩
abbrev S1x768x3072 : Shape := ⟨3, ![1, 768, 3072]⟩
abbrev S768x3072 : Shape := ⟨2, ![768, 3072]⟩
abbrev S1x3072 : Shape := ⟨2, ![1, 3072]⟩
abbrev S3072 : Shape := ⟨1, ![3072]⟩
abbrev S1x3072x768 : Shape := ⟨3, ![1, 3072, 768]⟩
abbrev S3072x768 : Shape := ⟨2, ![3072, 768]⟩
abbrev S12x2048x2048 : Shape := ⟨3, ![12, 2048, 2048]⟩
abbrev S12x2048 : Shape := ⟨2, ![12, 2048]⟩
abbrev S12x2048x1 : Shape := ⟨3, ![12, 2048, 1]⟩
abbrev S12x64x2048 : Shape := ⟨3, ![12, 64, 2048]⟩
abbrev S12x2048x99 : Shape := ⟨3, ![12, 2048, 99]⟩
abbrev S12 : Shape := ⟨1, ![12]⟩
abbrev S12x1x1 : Shape := ⟨3, ![12, 1, 1]⟩
abbrev S1x2048x1 : Shape := ⟨3, ![1, 2048, 1]⟩
abbrev S12x2048x99x1 : Shape := ⟨4, ![12, 2048, 99, 1]⟩
abbrev S12x2048x99x3 : Shape := ⟨4, ![12, 2048, 99, 3]⟩
abbrev S1 : Shape := ⟨1, ![1]⟩
abbrev S2048x3072 : Shape := ⟨2, ![2048, 3072]⟩
abbrev S12x2048x100 : Shape := ⟨3, ![12, 2048, 100]⟩

class Facts : Prop where
  shapeCasts_S1x2048x768_S2048x768 : S1x2048x768.ShapeCasts S2048x768
  slices_S2x768_S1x768_0_0 : S2x768.Slices ![0, 0] S1x768
  shapeCasts_S1x768_S768 : S1x768.ShapeCasts S768
  slices_S2x768x768_S1x768x768_0_0_0 : S2x768x768.Slices ![0, 0, 0] S1x768x768
  shapeCasts_S1x768x768_S768x768 : S1x768x768.ShapeCasts S768x768
  slices_S2x768x1536_S1x768x1536_0_0_0 : S2x768x1536.Slices ![0, 0, 0] S1x768x1536
  shapeCasts_S1x768x1536_S768x1536 : S1x768x1536.ShapeCasts S768x1536
  slices_S2x1536_S1x1536_0_0 : S2x1536.Slices ![0, 0] S1x1536
  shapeCasts_S1x1536_S1536 : S1x1536.ShapeCasts S1536
  reducesTo_S2048x768_S2048_d1 : S2048x768.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x768_0_1 : S2048x1.BroadcastsInDim S2048x768 (![0, 1] : Fin 2 → Fin S2048x768.rank)
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  shapeCasts_S2048x768_S2048x12x64 : S2048x768.ShapeCasts S2048x12x64
  bcast_S1536_S1x1536_1 : S1536.BroadcastsInDim S1x1536 (![1] : Fin 1 → Fin S1x1536.rank)
  bcast_S1x1536_S2048x1536_0_1 : S1x1536.BroadcastsInDim S2048x1536 (![0, 1] : Fin 2 → Fin S2048x1536.rank)
  shapeCasts_S2048x1536_S2048x2x12x64 : S2048x1536.ShapeCasts S2048x2x12x64
  slices_S2048x2x12x64_S2048x1x12x64_0_0_0_0 : S2048x2x12x64.Slices ![0, 0, 0, 0] S2048x1x12x64
  shapeCasts_S2048x1x12x64_S2048x12x64 : S2048x1x12x64.ShapeCasts S2048x12x64
  slices_S2048x2x12x64_S2048x1x12x64_0_1_0_0 : S2048x2x12x64.Slices ![0, 1, 0, 0] S2048x1x12x64
  slices_S2x2_S1x2_0_0 : S2x2.Slices ![0, 0] S1x2
  shapeCasts_S1x2_S2 : S1x2.ShapeCasts S2
  slices_S2x768x3072_S1x768x3072_0_0_0 : S2x768x3072.Slices ![0, 0, 0] S1x768x3072
  shapeCasts_S1x768x3072_S768x3072 : S1x768x3072.ShapeCasts S768x3072
  slices_S2x3072_S1x3072_0_0 : S2x3072.Slices ![0, 0] S1x3072
  shapeCasts_S1x3072_S3072 : S1x3072.ShapeCasts S3072
  slices_S2x3072x768_S1x3072x768_0_0_0 : S2x3072x768.Slices ![0, 0, 0] S1x3072x768
  shapeCasts_S1x3072x768_S3072x768 : S1x3072x768.ShapeCasts S3072x768
  bcast_S_S12x2048x2048 : S_.BroadcastsInDim S12x2048x2048 (![] : Fin 0 → Fin S12x2048x2048.rank)
  reducesTo_S12x2048x2048_S12x2048_d2 : S12x2048x2048.ReducesTo [2] S12x2048
  bcast_S12x2048_S12x2048x1_0_1 : S12x2048.BroadcastsInDim S12x2048x1 (![0, 1] : Fin 2 → Fin S12x2048x1.rank)
  bcast_S12x2048x1_S12x2048x2048_0_1_2 : S12x2048x1.BroadcastsInDim S12x2048x2048 (![0, 1, 2] : Fin 3 → Fin S12x2048x2048.rank)
  transposes_S12x64x2048_S2048x12x64_2_0_1 : S12x64x2048.Transposes [2, 0, 1] S2048x12x64
  sliceFits_S12x2048x2048_S12x2048x99 : S12x2048x2048.Slices (fun _ => 0) S12x2048x99
  bcast_S12_S12x1x1_0 : S12.BroadcastsInDim S12x1x1 (![0] : Fin 1 → Fin S12x1x1.rank)
  bcast_S2048_S1x2048x1_1 : S2048.BroadcastsInDim S1x2048x1 (![1] : Fin 1 → Fin S1x2048x1.rank)
  bcast_S_S12x1x1 : S_.BroadcastsInDim S12x1x1 (![] : Fin 0 → Fin S12x1x1.rank)
  bcast_S_S1x2048x1 : S_.BroadcastsInDim S1x2048x1 (![] : Fin 0 → Fin S1x2048x1.rank)
  bcast_S_S12x2048x99 : S_.BroadcastsInDim S12x2048x99 (![] : Fin 0 → Fin S12x2048x99.rank)
  bcast_S12x1x1_S12x2048x99_0_1_2 : S12x1x1.BroadcastsInDim S12x2048x99 (![0, 1, 2] : Fin 3 → Fin S12x2048x99.rank)
  bcast_S1x2048x1_S12x2048x99_0_1_2 : S1x2048x1.BroadcastsInDim S12x2048x99 (![0, 1, 2] : Fin 3 → Fin S12x2048x99.rank)
  bcast_S12x2048x99_S12x2048x99x1_0_1_2 : S12x2048x99.BroadcastsInDim S12x2048x99x1 (![0, 1, 2] : Fin 3 → Fin S12x2048x99x1.rank)
  concatenates_S12x2048x99x1_S12x2048x99x1_S12x2048x99x1_S12x2048x99x3_d3 : Shape.Concatenates [S12x2048x99x1, S12x2048x99x1, S12x2048x99x1] S12x2048x99x3 3
  reducesTo_S2_S_d0 : S2.ReducesTo [0] S_
  slices_S2_S1_0 : S2.Slices ![0] S1
  shapeCasts_S1_S_ : S1.ShapeCasts S_
  bcast_S_S2048x12x64 : S_.BroadcastsInDim S2048x12x64 (![] : Fin 0 → Fin S2048x12x64.rank)
  slices_S2_S1_1 : S2.Slices ![1] S1
  shapeCasts_S2048x12x64_S2048x768 : S2048x12x64.ShapeCasts S2048x768
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  bcast_S_S2048x3072 : S_.BroadcastsInDim S2048x3072 (![] : Fin 0 → Fin S2048x3072.rank)
  slices_S2x768_S1x768_1_0 : S2x768.Slices ![1, 0] S1x768
  slices_S2x768x768_S1x768x768_1_0_0 : S2x768x768.Slices ![1, 0, 0] S1x768x768
  slices_S2x768x1536_S1x768x1536_1_0_0 : S2x768x1536.Slices ![1, 0, 0] S1x768x1536
  slices_S2x1536_S1x1536_1_0 : S2x1536.Slices ![1, 0] S1x1536
  bcast_S_S1x2048x768 : S_.BroadcastsInDim S1x2048x768 (![] : Fin 0 → Fin S1x2048x768.rank)
  bcast_S_S2x768 : S_.BroadcastsInDim S2x768 (![] : Fin 0 → Fin S2x768.rank)
  bcast_S_S2x768x768 : S_.BroadcastsInDim S2x768x768 (![] : Fin 0 → Fin S2x768x768.rank)
  bcast_S_S2x768x1536 : S_.BroadcastsInDim S2x768x1536 (![] : Fin 0 → Fin S2x768x1536.rank)
  bcast_S_S2x1536 : S_.BroadcastsInDim S2x1536 (![] : Fin 0 → Fin S2x1536.rank)
  bcast_S_S2x2 : S_.BroadcastsInDim S2x2 (![] : Fin 0 → Fin S2x2.rank)
  bcast_S_S2x768x3072 : S_.BroadcastsInDim S2x768x3072 (![] : Fin 0 → Fin S2x768x3072.rank)
  bcast_S_S2x3072 : S_.BroadcastsInDim S2x3072 (![] : Fin 0 → Fin S2x3072.rank)
  bcast_S_S2x3072x768 : S_.BroadcastsInDim S2x3072x768 (![] : Fin 0 → Fin S2x3072x768.rank)
  sliceFits_S12x2048x2048_S12x2048x100 : S12x2048x2048.Slices (fun _ => 0) S12x2048x100
  slices_S12x2048x100_S12x2048x1_0_0_99 : S12x2048x100.Slices ![0, 0, 99] S12x2048x1
  slices_S12x2048x99_S12x2048x1_0_0_98 : S12x2048x99.Slices ![0, 0, 98] S12x2048x1
  bcast_S_S12x2048x1 : S_.BroadcastsInDim S12x2048x1 (![] : Fin 0 → Fin S12x2048x1.rank)
  dot_S2048x768_S768x768_S2048x768_1_0_0_1_n_n_wf : DotDims.WF S2048x768 S768x768 S2048x768 [1] [0] [0] [1] [] []
  dot_S2048x768_S768x1536_S2048x1536_1_0_0_1_n_n_wf : DotDims.WF S2048x768 S768x1536 S2048x1536 [1] [0] [0] [1] [] []
  dot_S2048x12x64_S2048x12x64_S12x2048x2048_2_2_0_0_1_1_wf : DotDims.WF S2048x12x64 S2048x12x64 S12x2048x2048 [2] [2] [0] [0] [1] [1]
  dot_S2048x12x64_S12x2048x2048_S12x64x2048_0_2_2_1_1_0_wf : DotDims.WF S2048x12x64 S12x2048x2048 S12x64x2048 [0] [2] [2] [1] [1] [0]
  scatter_S12x2048x2048_S12x2048x99x3_S12x2048x99_n_012_012_3_wf : ScatterDims.WF S12x2048x2048 S12x2048x99x3 S12x2048x99 [] [0, 1, 2] [0, 1, 2] 3
  dot_S2048x768_S768x3072_S2048x3072_1_0_0_1_n_n_wf : DotDims.WF S2048x768 S768x3072 S2048x3072 [1] [0] [0] [1] [] []
  dot_S2048x3072_S3072x768_S2048x768_1_0_0_1_n_n_wf : DotDims.WF S2048x3072 S3072x768 S2048x768 [1] [0] [0] [1] [] []

variable [Facts]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S2048x768_S768x1536_S2048x1536_1_0_0_1_n_n : DotDims S2048x768 S768x1536 S2048x1536 where
  lhsContracting := [1]
  rhsContracting := [0]
  lhsNonContracting := [0]
  rhsNonContracting := [1]
  lhsBatch := []
  rhsBatch := []
  wf := dot_S2048x768_S768x1536_S2048x1536_1_0_0_1_n_n_wf
def dot_S2048x12x64_S2048x12x64_S12x2048x2048_2_2_0_0_1_1 : DotDims S2048x12x64 S2048x12x64 S12x2048x2048 where
  lhsContracting := [2]
  rhsContracting := [2]
  lhsNonContracting := [0]
  rhsNonContracting := [0]
  lhsBatch := [1]
  rhsBatch := [1]
  wf := dot_S2048x12x64_S2048x12x64_S12x2048x2048_2_2_0_0_1_1_wf
def dot_S2048x12x64_S12x2048x2048_S12x64x2048_0_2_2_1_1_0 : DotDims S2048x12x64 S12x2048x2048 S12x64x2048 where
  lhsContracting := [0]
  rhsContracting := [2]
  lhsNonContracting := [2]
  rhsNonContracting := [1]
  lhsBatch := [1]
  rhsBatch := [0]
  wf := dot_S2048x12x64_S12x2048x2048_S12x64x2048_0_2_2_1_1_0_wf
def scatter_S12x2048x2048_S12x2048x99x3_S12x2048x99_n_012_012_3 : ScatterDims S12x2048x2048 S12x2048x99x3 S12x2048x99 where
  updateWindowDims := []
  insertedWindowDims := [0, 1, 2]
  scatterDimsToOperandDims := [0, 1, 2]
  indexVectorDim := 3
  wf := scatter_S12x2048x2048_S12x2048x99x3_S12x2048x99_n_012_012_3_wf
def dot_S2048x768_S768x3072_S2048x3072_1_0_0_1_n_n : DotDims S2048x768 S768x3072 S2048x3072 where
  lhsContracting := [1]
  rhsContracting := [0]
  lhsNonContracting := [0]
  rhsNonContracting := [1]
  lhsBatch := []
  rhsBatch := []
  wf := dot_S2048x768_S768x3072_S2048x3072_1_0_0_1_n_n_wf
def dot_S2048x3072_S3072x768_S2048x768_1_0_0_1_n_n : DotDims S2048x3072 S3072x768 S2048x768 where
  lhsContracting := [1]
  rhsContracting := [0]
  lhsNonContracting := [0]
  rhsNonContracting := [1]
  lhsBatch := []
  rhsBatch := []
  wf := dot_S2048x3072_S3072x768_S2048x768_1_0_0_1_n_n_wf
def fn_where {F : FTy → Type} [FloatOps F] (arg0 : IVec S_ 1) (arg1 : FVec F S2048x1 .f32) (arg2 : FVec F S_ .f32) : FVec F S2048x1 .f32 :=
  let v0 : FVec F S_ .f32 := id arg2
  let v1 : FVec F S2048x1 .f32 := broadcastInDim S2048x1 ![] bcast_S_S2048x1 v0
  let v2 : FVec F S2048x1 .f32 := (fun p a b => select (broadcastInDim S2048x1 ![] bcast_S_S2048x1 p) a b) arg0 arg1 v1
  v2

def fn_var {F : FTy → Type} [FloatOps F] (arg0 : FVec F S2048x768 .f32) (arg1 : IVec S_ 32) : FVec F S2048x1 .f32 :=
  let cst : FVec F S_ .f32 := constant S_ .f32 0x00000000#32
  let v0 : FVec F S2048 .f32 := (fun x v => Host.reduceAdd x v reducesTo_S2048x768_S2048_d1 h_S_) arg0 cst
  let v1 : FVec F S2048x1 .f32 := broadcastInDim S2048x1 ![0] bcast_S2048_S2048x1_0 v0
  let cst_0 : FVec F S_ .f32 := constant S_ .f32 0x44400000#32
  let v2 : FVec F S2048x1 .f32 := broadcastInDim S2048x1 ![] bcast_S_S2048x1 cst_0
  let v3 : FVec F S2048x1 .f32 := Host.divf v1 v2
  let v4 : FVec F S2048x768 .f32 := broadcastInDim S2048x768 ![0, 1] bcast_S2048x1_S2048x768_0_1 v3
  let v5 : FVec F S2048x768 .f32 := subf arg0 v4
  let v6 : FVec F S2048x768 .f32 := mulf v5 v5
  let v7 : FVec F S_ .f32 := sitofp .f32 arg1
  let cst_1 : FVec F S_ .f32 := constant S_ .f32 0x44400000#32
  let v8 : FVec F S_ .f32 := subf cst_1 v7
  let cst_2 : FVec F S_ .f32 := constant S_ .f32 0x00000000#32
  let v9 : FVec F S2048 .f32 := (fun x v => Host.reduceAdd x v reducesTo_S2048x768_S2048_d1 h_S_) v6 cst_2
  let v10 : FVec F S2048x1 .f32 := broadcastInDim S2048x1 ![0] bcast_S2048_S2048x1_0 v9
  let v11 : FVec F S2048x1 .f32 := broadcastInDim S2048x1 ![] bcast_S_S2048x1 v8
  let v12 : FVec F S2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S2048x1 .f32 := fn_where (F := F) v13 v12 cst_4
  v14

def fn_part19 {F : FTy → Type} [FloatOps F] (main_v293 : IVec S1x2048x768 1) (main_v296 : IVec S2x768 1) (main_v299 : IVec S2x768 1) (main_v302 : IVec S2x768x768 1) (main_v305 : IVec S2x768 1) (main_v308 : IVec S2x768x1536 1) (main_v311 : IVec S2x1536 1) (main_v314 : IVec S2x2 1) (main_v317 : IVec S2x768x768 1) (main_v320 : IVec S2x768 1) (main_v323 : IVec S2x768 1) (main_v326 : IVec S2x768 1) (main_v329 : IVec S2x768x3072 1) (main_v332 : IVec S2x3072 1) (main_v335 : IVec S2x3072x768 1) (main_v338 : IVec S2x768 1) (main_v364 : IVec S12x2048x1 1) (main_v367 : FVec F S12x2048x2048 .f32) (main_v368 : FVec F S12x2048x1 .f32) (main_v369 : FVec F S12x2048x1 .f32) (main_v375 : FVec F S12x2048x1 .f32) (main_v376 : FVec F S12x2048x1 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v377 : FVec F S12x2048x1 .f32 := subf main_v375 main_v376
  let main_cst_75 : FVec F S_ .f32 := constant S_ .f32 0xFF800000#32
  let main_v378 : FVec F S12x2048 .f32 := (fun x v => Host.reduce FloatOps.maximumf x v reducesTo_S12x2048x2048_S12x2048_d2 h_S_) main_v367 main_cst_75
  let main_v379 : FVec F S12x2048x1 .f32 := broadcastInDim S12x2048x1 ![0, 1] bcast_S12x2048_S12x2048x1_0_1 main_v378
  let main_cst_76 : FVec F S_ .f32 := constant S_ .f32 0x3F800000#32
  let main_v380 : FVec F S12x2048x1 .f32 := broadcastInDim S12x2048x1 ![] bcast_S_S12x2048x1 main_cst_76
  let main_v381 : FVec F S12x2048x1 .f32 := addf main_v379 main_v380
  let main_v382 : FVec F S12x2048x1 .f32 := subf main_v381 main_v377
  let main_cst_77 : FVec F S_ .f32 := constant S_ .f32 0x43800000#32
  let main_v383 : FVec F S12x2048x1 .f32 := broadcastInDim S12x2048x1 ![] bcast_S_S12x2048x1 main_cst_77
  let main_v384 : FVec F S12x2048x1 .f32 := Host.divf main_v382 main_v383
  let main_v385 : FVec F S12x2048x1 .f32 := subf main_v369 main_v377
  let main_v386 : FVec F S12x2048x1 .f32 := Host.divf main_v385 main_v384
  let main_v387 : FVec F S12x2048x1 .f32 := Host.floor main_v386
  let main_v388 : FVec F S12x2048x1 .f32 := mulf main_v387 main_v384
  let main_v389 : FVec F S12x2048x1 .f32 := addf main_v377 main_v388
  let main_v390 : IVec S12x2048x1 1 := cmpf .olt main_v368 main_v389
  (main_v293, main_v296, main_v299, main_v302, main_v305, main_v308, main_v311, main_v314, main_v317, main_v320, main_v323, main_v326, main_v329, main_v332, main_v335, main_v338, main_v364, main_v390)

def fn_part18 {F : FTy → Type} [FloatOps F] (main_v281 : FVec F S2048x12x64 .f32) (main_v288 : FVec F S2048x12x64 .f32) (main_v293 : IVec S1x2048x768 1) (main_v296 : IVec S2x768 1) (main_v299 : IVec S2x768 1) (main_v302 : IVec S2x768x768 1) (main_v305 : IVec S2x768 1) (main_v308 : IVec S2x768x1536 1) (main_v311 : IVec S2x1536 1) (main_v314 : IVec S2x2 1) (main_v317 : IVec S2x768x768 1) (main_v320 : IVec S2x768 1) (main_v323 : IVec S2x768 1) (main_v326 : IVec S2x768 1) (main_v329 : IVec S2x768x3072 1) (main_v332 : IVec S2x3072 1) (main_v335 : IVec S2x3072x768 1) (main_v338 : IVec S2x768 1) (main_v342 : FVec F S12x2048x1 .f32) (main_v351 : FVec F S12x2048x1 .f32) (main_v358 : FVec F S12x2048x1 .f32) (main_v360 : FVec F S12x2048x1 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v361 : FVec F S12x2048x1 .f32 := Host.floor main_v360
  let main_v362 : FVec F S12x2048x1 .f32 := mulf main_v361 main_v358
  let main_v363 : FVec F S12x2048x1 .f32 := addf main_v351 main_v362
  let main_v364 : IVec S12x2048x1 1 := cmpf .olt main_v342 main_v363
  let main_v365 : FVec F S12x2048x2048 .f32 := (fun l r => Host.dotGeneral dot_S2048x12x64_S2048x12x64_S12x2048x2048_2_2_0_0_1_1 none l r) main_v281 main_v288
  let main_cst_67 : FVec F S_ .f32 := constant S_ .f32 0x3E000000#32
  let main_v366 : FVec F S12x2048x2048 .f32 := broadcastInDim S12x2048x2048 ![] bcast_S_S12x2048x2048 main_cst_67
  let main_v367 : FVec F S12x2048x2048 .f32 := mulf main_v365 main_v366
  let main_values_68 : FVec F S12x2048x100 .f32 := (fun x => (Host.topK S12x2048x100 2 (FloatOps.cmpfTotal .gt) x sliceFits_S12x2048x2048_S12x2048x100).1) main_v367
  let main_indices_69 : IVec S12x2048x100 32 := (fun x => (Host.topK S12x2048x100 2 (FloatOps.cmpfTotal .gt) x sliceFits_S12x2048x2048_S12x2048x100).2) main_v367
  let main_v368 : FVec F S12x2048x1 .f32 := (extractStridedSlice S12x2048x1 ![0, 0, 99] · slices_S12x2048x100_S12x2048x1_0_0_99) main_values_68
  let main_values_70 : FVec F S12x2048x99 .f32 := (fun x => (Host.topK S12x2048x99 2 (FloatOps.cmpfTotal .gt) x sliceFits_S12x2048x2048_S12x2048x99).1) main_v367
  let main_indices_71 : IVec S12x2048x99 32 := (fun x => (Host.topK S12x2048x99 2 (FloatOps.cmpfTotal .gt) x sliceFits_S12x2048x2048_S12x2048x99).2) main_v367
  let main_v369 : FVec F S12x2048x1 .f32 := (extractStridedSlice S12x2048x1 ![0, 0, 98] · slices_S12x2048x99_S12x2048x1_0_0_98) main_values_70
  let main_cst_72 : FVec F S_ .f32 := constant S_ .f32 0x7F800000#32
  let main_v370 : FVec F S12x2048 .f32 := (fun x v => Host.reduce FloatOps.minimumf x v reducesTo_S12x2048x2048_S12x2048_d2 h_S_) main_v367 main_cst_72
  let main_v371 : FVec F S12x2048x1 .f32 := broadcastInDim S12x2048x1 ![0, 1] bcast_S12x2048_S12x2048x1_0_1 main_v370
  let main_v372 : FVec F S12x2048x1 .f32 := Host.absf main_v371
  let main_cst_73 : FVec F S_ .f32 := constant S_ .f32 0x3C23D70A#32
  let main_v373 : FVec F S12x2048x1 .f32 := broadcastInDim S12x2048x1 ![] bcast_S_S12x2048x1 main_cst_73
  let main_v374 : FVec F S12x2048x1 .f32 := mulf main_v373 main_v372
  let main_v375 : FVec F S12x2048x1 .f32 := subf main_v371 main_v374
  let main_cst_74 : FVec F S_ .f32 := constant S_ .f32 0x358637BD#32
  let main_v376 : FVec F S12x2048x1 .f32 := broadcastInDim S12x2048x1 ![] bcast_S_S12x2048x1 main_cst_74
  fn_part19 (F := F) main_v293 main_v296 main_v299 main_v302 main_v305 main_v308 main_v311 main_v314 main_v317 main_v320 main_v323 main_v326 main_v329 main_v332 main_v335 main_v338 main_v364 main_v367 main_v368 main_v369 main_v375 main_v376

def fn_part17 {F : FTy → Type} [FloatOps F] (main_v281 : FVec F S2048x12x64 .f32) (main_v288 : FVec F S2048x12x64 .f32) (main_v293 : IVec S1x2048x768 1) (main_v296 : IVec S2x768 1) (main_v299 : IVec S2x768 1) (main_v302 : IVec S2x768x768 1) (main_v305 : IVec S2x768 1) (main_v308 : IVec S2x768x1536 1) (main_v311 : IVec S2x1536 1) (main_v314 : IVec S2x2 1) (main_v317 : IVec S2x768x768 1) (main_v320 : IVec S2x768 1) (main_v323 : IVec S2x768 1) (main_v326 : IVec S2x768 1) (main_v329 : IVec S2x768x3072 1) (main_v332 : IVec S2x3072 1) (main_v335 : IVec S2x3072x768 1) (main_v338 : IVec S2x768 1) (main_v341 : FVec F S12x2048x2048 .f32) (main_v342 : FVec F S12x2048x1 .f32) (main_values_59 : FVec F S12x2048x99 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v343 : FVec F S12x2048x1 .f32 := (extractStridedSlice S12x2048x1 ![0, 0, 98] · slices_S12x2048x99_S12x2048x1_0_0_98) main_values_59
  let main_cst_61 : FVec F S_ .f32 := constant S_ .f32 0x7F800000#32
  let main_v344 : FVec F S12x2048 .f32 := (fun x v => Host.reduce FloatOps.minimumf x v reducesTo_S12x2048x2048_S12x2048_d2 h_S_) main_v341 main_cst_61
  let main_v345 : FVec F S12x2048x1 .f32 := broadcastInDim S12x2048x1 ![0, 1] bcast_S12x2048_S12x2048x1_0_1 main_v344
  let main_v346 : FVec F S12x2048x1 .f32 := Host.absf main_v345
  let main_cst_62 : FVec F S_ .f32 := constant S_ .f32 0x3C23D70A#32
  let main_v347 : FVec F S12x2048x1 .f32 := broadcastInDim S12x2048x1 ![] bcast_S_S12x2048x1 main_cst_62
  let main_v348 : FVec F S12x2048x1 .f32 := mulf main_v347 main_v346
  let main_v349 : FVec F S12x2048x1 .f32 := subf main_v345 main_v348
  let main_cst_63 : FVec F S_ .f32 := constant S_ .f32 0x358637BD#32
  let main_v350 : FVec F S12x2048x1 .f32 := broadcastInDim S12x2048x1 ![] bcast_S_S12x2048x1 main_cst_63
  let main_v351 : FVec F S12x2048x1 .f32 := subf main_v349 main_v350
  let main_cst_64 : FVec F S_ .f32 := constant S_ .f32 0xFF800000#32
  let main_v352 : FVec F S12x2048 .f32 := (fun x v => Host.reduce FloatOps.maximumf x v reducesTo_S12x2048x2048_S12x2048_d2 h_S_) main_v341 main_cst_64
  let main_v353 : FVec F S12x2048x1 .f32 := broadcastInDim S12x2048x1 ![0, 1] bcast_S12x2048_S12x2048x1_0_1 main_v352
  let main_cst_65 : FVec F S_ .f32 := constant S_ .f32 0x3F800000#32
  let main_v354 : FVec F S12x2048x1 .f32 := broadcastInDim S12x2048x1 ![] bcast_S_S12x2048x1 main_cst_65
  let main_v355 : FVec F S12x2048x1 .f32 := addf main_v353 main_v354
  let main_v356 : FVec F S12x2048x1 .f32 := subf main_v355 main_v351
  let main_cst_66 : FVec F S_ .f32 := constant S_ .f32 0x43800000#32
  let main_v357 : FVec F S12x2048x1 .f32 := broadcastInDim S12x2048x1 ![] bcast_S_S12x2048x1 main_cst_66
  let main_v358 : FVec F S12x2048x1 .f32 := Host.divf main_v356 main_v357
  let main_v359 : FVec F S12x2048x1 .f32 := subf main_v343 main_v351
  let main_v360 : FVec F S12x2048x1 .f32 := Host.divf main_v359 main_v358
  fn_part18 (F := F) main_v281 main_v288 main_v293 main_v296 main_v299 main_v302 main_v305 main_v308 main_v311 main_v314 main_v317 main_v320 main_v323 main_v326 main_v329 main_v332 main_v335 main_v338 main_v342 main_v351 main_v358 main_v360

def fn_part16 {F : FTy → Type} [FloatOps F] (main_arg13 : FVec F S2x3072 .f32) (main_arg14 : FVec F S2x3072x768 .f32) (main_arg15 : FVec F S2x768 .f32) (main_v35 : FVec F S2048x12x64 .f32) (main_v42 : FVec F S2048x12x64 .f32) (main_v281 : FVec F S2048x12x64 .f32) (main_v288 : FVec F S2048x12x64 .f32) (main_v293 : IVec S1x2048x768 1) (main_v296 : IVec S2x768 1) (main_v299 : IVec S2x768 1) (main_v302 : IVec S2x768x768 1) (main_v305 : IVec S2x768 1) (main_v308 : IVec S2x768x1536 1) (main_v311 : IVec S2x1536 1) (main_v314 : IVec S2x2 1) (main_v317 : IVec S2x768x768 1) (main_v320 : IVec S2x768 1) (main_v323 : IVec S2x768 1) (main_v326 : IVec S2x768 1) (main_v327 : FVec F S2x768x3072 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_cst_52 : FVec F S_ .f32 := constant S_ .f32 0x7F800000#32
  let main_v328 : FVec F S2x768x3072 .f32 := broadcastInDim S2x768x3072 ![] bcast_S_S2x768x3072 main_cst_52
  let main_v329 : IVec S2x768x3072 1 := cmpf .olt main_v327 main_v328
  let main_v330 : FVec F S2x3072 .f32 := Host.absf main_arg13
  let main_cst_53 : FVec F S_ .f32 := constant S_ .f32 0x7F800000#32
  let main_v331 : FVec F S2x3072 .f32 := broadcastInDim S2x3072 ![] bcast_S_S2x3072 main_cst_53
  let main_v332 : IVec S2x3072 1 := cmpf .olt main_v330 main_v331
  let main_v333 : FVec F S2x3072x768 .f32 := Host.absf main_arg14
  let main_cst_54 : FVec F S_ .f32 := constant S_ .f32 0x7F800000#32
  let main_v334 : FVec F S2x3072x768 .f32 := broadcastInDim S2x3072x768 ![] bcast_S_S2x3072x768 main_cst_54
  let main_v335 : IVec S2x3072x768 1 := cmpf .olt main_v333 main_v334
  let main_v336 : FVec F S2x768 .f32 := Host.absf main_arg15
  let main_cst_55 : FVec F S_ .f32 := constant S_ .f32 0x7F800000#32
  let main_v337 : FVec F S2x768 .f32 := broadcastInDim S2x768 ![] bcast_S_S2x768 main_cst_55
  let main_v338 : IVec S2x768 1 := cmpf .olt main_v336 main_v337
  let main_v339 : FVec F S12x2048x2048 .f32 := (fun l r => Host.dotGeneral dot_S2048x12x64_S2048x12x64_S12x2048x2048_2_2_0_0_1_1 none l r) main_v35 main_v42
  let main_cst_56 : FVec F S_ .f32 := constant S_ .f32 0x3E000000#32
  let main_v340 : FVec F S12x2048x2048 .f32 := broadcastInDim S12x2048x2048 ![] bcast_S_S12x2048x2048 main_cst_56
  let main_v341 : FVec F S12x2048x2048 .f32 := mulf main_v339 main_v340
  let main_values_57 : FVec F S12x2048x100 .f32 := (fun x => (Host.topK S12x2048x100 2 (FloatOps.cmpfTotal .gt) x sliceFits_S12x2048x2048_S12x2048x100).1) main_v341
  let main_indices_58 : IVec S12x2048x100 32 := (fun x => (Host.topK S12x2048x100 2 (FloatOps.cmpfTotal .gt) x sliceFits_S12x2048x2048_S12x2048x100).2) main_v341
  let main_v342 : FVec F S12x2048x1 .f32 := (extractStridedSlice S12x2048x1 ![0, 0, 99] · slices_S12x2048x100_S12x2048x1_0_0_99) main_values_57
  let main_values_59 : FVec F S12x2048x99 .f32 := (fun x => (Host.topK S12x2048x99 2 (FloatOps.cmpfTotal .gt) x sliceFits_S12x2048x2048_S12x2048x99).1) main_v341
  let main_indices_60 : IVec S12x2048x99 32 := (fun x => (Host.topK S12x2048x99 2 (FloatOps.cmpfTotal .gt) x sliceFits_S12x2048x2048_S12x2048x99).2) main_v341
  fn_part17 (F := F) main_v281 main_v288 main_v293 main_v296 main_v299 main_v302 main_v305 main_v308 main_v311 main_v314 main_v317 main_v320 main_v323 main_v326 main_v329 main_v332 main_v335 main_v338 main_v341 main_v342 main_values_59

def fn_part15 {F : FTy → Type} [FloatOps F] (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v35 : FVec F S2048x12x64 .f32) (main_v42 : FVec F S2048x12x64 .f32) (main_v281 : FVec F S2048x12x64 .f32) (main_v288 : FVec F S2048x12x64 .f32) (main_v293 : IVec S1x2048x768 1) (main_v296 : IVec S2x768 1) (main_v299 : IVec S2x768 1) (main_v302 : IVec S2x768x768 1) (main_v305 : IVec S2x768 1) (main_v308 : IVec S2x768x1536 1) (main_v309 : FVec F S2x1536 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_cst_46 : FVec F S_ .f32 := constant S_ .f32 0x7F800000#32
  let main_v310 : FVec F S2x1536 .f32 := broadcastInDim S2x1536 ![] bcast_S_S2x1536 main_cst_46
  let main_v311 : IVec S2x1536 1 := cmpf .olt main_v309 main_v310
  let main_v312 : FVec F S2x2 .f32 := Host.absf main_arg7
  let main_cst_47 : FVec F S_ .f32 := constant S_ .f32 0x7F800000#32
  let main_v313 : FVec F S2x2 .f32 := broadcastInDim S2x2 ![] bcast_S_S2x2 main_cst_47
  let main_v314 : IVec S2x2 1 := cmpf .olt main_v312 main_v313
  let main_v315 : FVec F S2x768x768 .f32 := Host.absf main_arg8
  let main_cst_48 : FVec F S_ .f32 := constant S_ .f32 0x7F800000#32
  let main_v316 : FVec F S2x768x768 .f32 := broadcastInDim S2x768x768 ![] bcast_S_S2x768x768 main_cst_48
  let main_v317 : IVec S2x768x768 1 := cmpf .olt main_v315 main_v316
  let main_v318 : FVec F S2x768 .f32 := Host.absf main_arg9
  let main_cst_49 : FVec F S_ .f32 := constant S_ .f32 0x7F800000#32
  let main_v319 : FVec F S2x768 .f32 := broadcastInDim S2x768 ![] bcast_S_S2x768 main_cst_49
  let main_v320 : IVec S2x768 1 := cmpf .olt main_v318 main_v319
  let main_v321 : FVec F S2x768 .f32 := Host.absf main_arg10
  let main_cst_50 : FVec F S_ .f32 := constant S_ .f32 0x7F800000#32
  let main_v322 : FVec F S2x768 .f32 := broadcastInDim S2x768 ![] bcast_S_S2x768 main_cst_50
  let main_v323 : IVec S2x768 1 := cmpf .olt main_v321 main_v322
  let main_v324 : FVec F S2x768 .f32 := Host.absf main_arg11
  let main_cst_51 : FVec F S_ .f32 := constant S_ .f32 0x7F800000#32
  let main_v325 : FVec F S2x768 .f32 := broadcastInDim S2x768 ![] bcast_S_S2x768 main_cst_51
  let main_v326 : IVec S2x768 1 := cmpf .olt main_v324 main_v325
  let main_v327 : FVec F S2x768x3072 .f32 := Host.absf main_arg12
  fn_part16 (F := F) main_arg13 main_arg14 main_arg15 main_v35 main_v42 main_v281 main_v288 main_v293 main_v296 main_v299 main_v302 main_v305 main_v308 main_v311 main_v314 main_v317 main_v320 main_v323 main_v326 main_v327

def fn_part14 {F : FTy → Type} [FloatOps F] (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v35 : FVec F S2048x12x64 .f32) (main_v42 : FVec F S2048x12x64 .f32) (main_v281 : FVec F S2048x12x64 .f32) (main_v288 : FVec F S2048x12x64 .f32) (main_v291 : FVec F S1x2048x768 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_cst_40 : FVec F S_ .f32 := constant S_ .f32 0x7F800000#32
  let main_v292 : FVec F S1x2048x768 .f32 := broadcastInDim S1x2048x768 ![] bcast_S_S1x2048x768 main_cst_40
  let main_v293 : IVec S1x2048x768 1 := cmpf .olt main_v291 main_v292
  let main_v294 : FVec F S2x768 .f32 := Host.absf main_arg1
  let main_cst_41 : FVec F S_ .f32 := constant S_ .f32 0x7F800000#32
  let main_v295 : FVec F S2x768 .f32 := broadcastInDim S2x768 ![] bcast_S_S2x768 main_cst_41
  let main_v296 : IVec S2x768 1 := cmpf .olt main_v294 main_v295
  let main_v297 : FVec F S2x768 .f32 := Host.absf main_arg2
  let main_cst_42 : FVec F S_ .f32 := constant S_ .f32 0x7F800000#32
  let main_v298 : FVec F S2x768 .f32 := broadcastInDim S2x768 ![] bcast_S_S2x768 main_cst_42
  let main_v299 : IVec S2x768 1 := cmpf .olt main_v297 main_v298
  let main_v300 : FVec F S2x768x768 .f32 := Host.absf main_arg3
  let main_cst_43 : FVec F S_ .f32 := constant S_ .f32 0x7F800000#32
  let main_v301 : FVec F S2x768x768 .f32 := broadcastInDim S2x768x768 ![] bcast_S_S2x768x768 main_cst_43
  let main_v302 : IVec S2x768x768 1 := cmpf .olt main_v300 main_v301
  let main_v303 : FVec F S2x768 .f32 := Host.absf main_arg4
  let main_cst_44 : FVec F S_ .f32 := constant S_ .f32 0x7F800000#32
  let main_v304 : FVec F S2x768 .f32 := broadcastInDim S2x768 ![] bcast_S_S2x768 main_cst_44
  let main_v305 : IVec S2x768 1 := cmpf .olt main_v303 main_v304
  let main_v306 : FVec F S2x768x1536 .f32 := Host.absf main_arg5
  let main_cst_45 : FVec F S_ .f32 := constant S_ .f32 0x7F800000#32
  let main_v307 : FVec F S2x768x1536 .f32 := broadcastInDim S2x768x1536 ![] bcast_S_S2x768x1536 main_cst_45
  let main_v308 : IVec S2x768x1536 1 := cmpf .olt main_v306 main_v307
  let main_v309 : FVec F S2x1536 .f32 := Host.absf main_arg6
  fn_part15 (F := F) main_arg7 main_arg8 main_arg9 main_arg10 main_arg11 main_arg12 main_arg13 main_arg14 main_arg15 main_v35 main_v42 main_v281 main_v288 main_v293 main_v296 main_v299 main_v302 main_v305 main_v308 main_v309

def fn_part13 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v35 : FVec F S2048x12x64 .f32) (main_v42 : FVec F S2048x12x64 .f32) (main_v248 : FVec F S768 .f32) (main_v250 : FVec F S768 .f32) (main_v252 : FVec F S768x768 .f32) (main_v254 : FVec F S768 .f32) (main_v256 : FVec F S768x1536 .f32) (main_v258 : FVec F S1536 .f32) (main_v265 : FVec F S2048x768 .f32) (main_v267 : FVec F S2048x1 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v268 : FVec F S2048x1 .f32 := Host.sqrt main_v267
  let main_v269 : FVec F S2048x768 .f32 := broadcastInDim S2048x768 ![0, 1] bcast_S2048x1_S2048x768_0_1 main_v268
  let main_v270 : FVec F S2048x768 .f32 := Host.divf main_v265 main_v269
  let main_v271 : FVec F S1x768 .f32 := broadcastInDim S1x768 ![1] bcast_S768_S1x768_1 main_v248
  let main_v272 : FVec F S2048x768 .f32 := broadcastInDim S2048x768 ![0, 1] bcast_S1x768_S2048x768_0_1 main_v271
  let main_v273 : FVec F S2048x768 .f32 := mulf main_v270 main_v272
  let main_v274 : FVec F S1x768 .f32 := broadcastInDim S1x768 ![1] bcast_S768_S1x768_1 main_v250
  let main_v275 : FVec F S2048x768 .f32 := broadcastInDim S2048x768 ![0, 1] bcast_S1x768_S2048x768_0_1 main_v274
  let main_v276 : FVec F S2048x768 .f32 := addf main_v273 main_v275
  let main_v277 : FVec F S2048x768 .f32 := (fun l r => Host.dotGeneral dot_S2048x768_S768x768_S2048x768_1_0_0_1_n_n none l r) main_v276 main_v252
  let main_v278 : FVec F S1x768 .f32 := broadcastInDim S1x768 ![1] bcast_S768_S1x768_1 main_v254
  let main_v279 : FVec F S2048x768 .f32 := broadcastInDim S2048x768 ![0, 1] bcast_S1x768_S2048x768_0_1 main_v278
  let main_v280 : FVec F S2048x768 .f32 := addf main_v277 main_v279
  let main_v281 : FVec F S2048x12x64 .f32 := shapeCast S2048x12x64 main_v280 shapeCasts_S2048x768_S2048x12x64
  let main_v282 : FVec F S2048x1536 .f32 := (fun l r => Host.dotGeneral dot_S2048x768_S768x1536_S2048x1536_1_0_0_1_n_n none l r) main_v276 main_v256
  let main_v283 : FVec F S1x1536 .f32 := broadcastInDim S1x1536 ![1] bcast_S1536_S1x1536_1 main_v258
  let main_v284 : FVec F S2048x1536 .f32 := broadcastInDim S2048x1536 ![0, 1] bcast_S1x1536_S2048x1536_0_1 main_v283
  let main_v285 : FVec F S2048x1536 .f32 := addf main_v282 main_v284
  let main_v286 : FVec F S2048x2x12x64 .f32 := shapeCast S2048x2x12x64 main_v285 shapeCasts_S2048x1536_S2048x2x12x64
  let main_v287 : FVec F S2048x1x12x64 .f32 := (extractStridedSlice S2048x1x12x64 ![0, 0, 0, 0] · slices_S2048x2x12x64_S2048x1x12x64_0_0_0_0) main_v286
  let main_v288 : FVec F S2048x12x64 .f32 := shapeCast S2048x12x64 main_v287 shapeCasts_S2048x1x12x64_S2048x12x64
  let main_v289 : FVec F S2048x1x12x64 .f32 := (extractStridedSlice S2048x1x12x64 ![0, 1, 0, 0] · slices_S2048x2x12x64_S2048x1x12x64_0_1_0_0) main_v286
  let main_v290 : FVec F S2048x12x64 .f32 := shapeCast S2048x12x64 main_v289 shapeCasts_S2048x1x12x64_S2048x12x64
  let main_v291 : FVec F S1x2048x768 .f32 := Host.absf main_arg0
  fn_part14 (F := F) main_arg1 main_arg2 main_arg3 main_arg4 main_arg5 main_arg6 main_arg7 main_arg8 main_arg9 main_arg10 main_arg11 main_arg12 main_arg13 main_arg14 main_arg15 main_v35 main_v42 main_v281 main_v288 main_v291

def fn_part12 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v35 : FVec F S2048x12x64 .f32) (main_v42 : FVec F S2048x12x64 .f32) (main_v246 : FVec F S2048x768 .f32) (main_v247 : FVec F S1x768 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v248 : FVec F S768 .f32 := shapeCast S768 main_v247 shapeCasts_S1x768_S768
  let main_v249 : FVec F S1x768 .f32 := (extractStridedSlice S1x768 ![1, 0] · slices_S2x768_S1x768_1_0) main_arg2
  let main_v250 : FVec F S768 .f32 := shapeCast S768 main_v249 shapeCasts_S1x768_S768
  let main_v251 : FVec F S1x768x768 .f32 := (extractStridedSlice S1x768x768 ![1, 0, 0] · slices_S2x768x768_S1x768x768_1_0_0) main_arg3
  let main_v252 : FVec F S768x768 .f32 := shapeCast S768x768 main_v251 shapeCasts_S1x768x768_S768x768
  let main_v253 : FVec F S1x768 .f32 := (extractStridedSlice S1x768 ![1, 0] · slices_S2x768_S1x768_1_0) main_arg4
  let main_v254 : FVec F S768 .f32 := shapeCast S768 main_v253 shapeCasts_S1x768_S768
  let main_v255 : FVec F S1x768x1536 .f32 := (extractStridedSlice S1x768x1536 ![1, 0, 0] · slices_S2x768x1536_S1x768x1536_1_0_0) main_arg5
  let main_v256 : FVec F S768x1536 .f32 := shapeCast S768x1536 main_v255 shapeCasts_S1x768x1536_S768x1536
  let main_v257 : FVec F S1x1536 .f32 := (extractStridedSlice S1x1536 ![1, 0] · slices_S2x1536_S1x1536_1_0) main_arg6
  let main_v258 : FVec F S1536 .f32 := shapeCast S1536 main_v257 shapeCasts_S1x1536_S1536
  let main_cst_36 : FVec F S_ .f32 := constant S_ .f32 0x00000000#32
  let main_v259 : FVec F S2048 .f32 := (fun x v => Host.reduceAdd x v reducesTo_S2048x768_S2048_d1 h_S_) main_v246 main_cst_36
  let main_v260 : FVec F S2048x1 .f32 := broadcastInDim S2048x1 ![0] bcast_S2048_S2048x1_0 main_v259
  let main_cst_37 : FVec F S_ .f32 := constant S_ .f32 0x44400000#32
  let main_v261 : FVec F S2048x1 .f32 := broadcastInDim S2048x1 ![] bcast_S_S2048x1 main_cst_37
  let main_v262 : FVec F S2048x1 .f32 := Host.divf main_v260 main_v261
  let main_c_38 : IVec S_ 32 := constantI S_ 32 0#32
  let main_v263 : FVec F S2048x1 .f32 := fn_var (F := F) main_v246 main_c_38
  let main_v264 : FVec F S2048x768 .f32 := broadcastInDim S2048x768 ![0, 1] bcast_S2048x1_S2048x768_0_1 main_v262
  let main_v265 : FVec F S2048x768 .f32 := subf main_v246 main_v264
  let main_cst_39 : FVec F S_ .f32 := constant S_ .f32 0x3727C5AC#32
  let main_v266 : FVec F S2048x1 .f32 := broadcastInDim S2048x1 ![] bcast_S_S2048x1 main_cst_39
  let main_v267 : FVec F S2048x1 .f32 := addf main_v263 main_v266
  fn_part13 (F := F) main_arg0 main_arg1 main_arg2 main_arg3 main_arg4 main_arg5 main_arg6 main_arg7 main_arg8 main_arg9 main_arg10 main_arg11 main_arg12 main_arg13 main_arg14 main_arg15 main_v35 main_v42 main_v248 main_v250 main_v252 main_v254 main_v256 main_v258 main_v265 main_v267

def fn_part11 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v35 : FVec F S2048x12x64 .f32) (main_v42 : FVec F S2048x12x64 .f32) (main_v72 : FVec F S3072x768 .f32) (main_v74 : FVec F S768 .f32) (main_v179 : FVec F S2048x768 .f32) (main_v203 : FVec F S2048x3072 .f32) (main_v205 : FVec F S2048x3072 .f32) (main_v213 : FVec F S2048x3072 .f32) (main_v214 : FVec F S2048x3072 .f32) (main_v226 : FVec F S2048x3072 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v227 : FVec F S2048x3072 .f32 := mulf main_v214 main_v213
  let main_cst_33 : FVec F S_ .f32 := constant S_ .f32 0x3F87DC22#32
  let main_v228 : FVec F S2048x3072 .f32 := broadcastInDim S2048x3072 ![] bcast_S_S2048x3072 main_cst_33
  let main_v229 : FVec F S2048x3072 .f32 := mulf main_v228 main_v227
  let main_v230 : FVec F S2048x3072 .f32 := addf main_v226 main_v229
  let main_v231 : FVec F S2048x3072 .f32 := Host.sign main_v205
  let main_v232 : FVec F S2048x3072 .f32 := mulf main_v205 main_v205
  let main_v233 : FVec F S2048x3072 .f32 := Host.negf main_v232
  let main_v234 : FVec F S2048x3072 .f32 := Host.exp main_v233
  let main_v235 : FVec F S2048x3072 .f32 := mulf main_v230 main_v234
  let main_cst_34 : FVec F S_ .f32 := constant S_ .f32 0x3F800000#32
  let main_v236 : FVec F S2048x3072 .f32 := broadcastInDim S2048x3072 ![] bcast_S_S2048x3072 main_cst_34
  let main_v237 : FVec F S2048x3072 .f32 := subf main_v236 main_v235
  let main_v238 : FVec F S2048x3072 .f32 := mulf main_v231 main_v237
  let main_cst_35 : FVec F S_ .f32 := constant S_ .f32 0x3F800000#32
  let main_v239 : FVec F S2048x3072 .f32 := broadcastInDim S2048x3072 ![] bcast_S_S2048x3072 main_cst_35
  let main_v240 : FVec F S2048x3072 .f32 := addf main_v239 main_v238
  let main_v241 : FVec F S2048x3072 .f32 := mulf main_v203 main_v240
  let main_v242 : FVec F S2048x768 .f32 := (fun l r => Host.dotGeneral dot_S2048x3072_S3072x768_S2048x768_1_0_0_1_n_n none l r) main_v241 main_v72
  let main_v243 : FVec F S1x768 .f32 := broadcastInDim S1x768 ![1] bcast_S768_S1x768_1 main_v74
  let main_v244 : FVec F S2048x768 .f32 := broadcastInDim S2048x768 ![0, 1] bcast_S1x768_S2048x768_0_1 main_v243
  let main_v245 : FVec F S2048x768 .f32 := addf main_v242 main_v244
  let main_v246 : FVec F S2048x768 .f32 := addf main_v179 main_v245
  let main_v247 : FVec F S1x768 .f32 := (extractStridedSlice S1x768 ![1, 0] · slices_S2x768_S1x768_1_0) main_arg1
  fn_part12 (F := F) main_arg0 main_arg1 main_arg2 main_arg3 main_arg4 main_arg5 main_arg6 main_arg7 main_arg8 main_arg9 main_arg10 main_arg11 main_arg12 main_arg13 main_arg14 main_arg15 main_v35 main_v42 main_v246 main_v247

def fn_part10 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v35 : FVec F S2048x12x64 .f32) (main_v42 : FVec F S2048x12x64 .f32) (main_v72 : FVec F S3072x768 .f32) (main_v74 : FVec F S768 .f32) (main_v179 : FVec F S2048x768 .f32) (main_v203 : FVec F S2048x3072 .f32) (main_v205 : FVec F S2048x3072 .f32) (main_v208 : FVec F S2048x3072 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_cst_27 : FVec F S_ .f32 := constant S_ .f32 0x3F800000#32
  let main_v209 : FVec F S2048x3072 .f32 := broadcastInDim S2048x3072 ![] bcast_S_S2048x3072 main_cst_27
  let main_v210 : FVec F S2048x3072 .f32 := addf main_v209 main_v208
  let main_cst_28 : FVec F S_ .f32 := constant S_ .f32 0x3F800000#32
  let main_v211 : FVec F S2048x3072 .f32 := broadcastInDim S2048x3072 ![] bcast_S_S2048x3072 main_cst_28
  let main_v212 : FVec F S2048x3072 .f32 := Host.divf main_v211 main_v210
  let main_v213 : FVec F S2048x3072 .f32 := mulf main_v212 main_v212
  let main_v214 : FVec F S2048x3072 .f32 := mulf main_v213 main_v212
  let main_cst_29 : FVec F S_ .f32 := constant S_ .f32 0x3E827906#32
  let main_v215 : FVec F S2048x3072 .f32 := broadcastInDim S2048x3072 ![] bcast_S_S2048x3072 main_cst_29
  let main_v216 : FVec F S2048x3072 .f32 := mulf main_v215 main_v212
  let main_cst_30 : FVec F S_ .f32 := constant S_ .f32 0xBE91A98E#32
  let main_v217 : FVec F S2048x3072 .f32 := broadcastInDim S2048x3072 ![] bcast_S_S2048x3072 main_cst_30
  let main_v218 : FVec F S2048x3072 .f32 := mulf main_v217 main_v213
  let main_v219 : FVec F S2048x3072 .f32 := addf main_v216 main_v218
  let main_cst_31 : FVec F S_ .f32 := constant S_ .f32 0x3FB5F0E3#32
  let main_v220 : FVec F S2048x3072 .f32 := broadcastInDim S2048x3072 ![] bcast_S_S2048x3072 main_cst_31
  let main_v221 : FVec F S2048x3072 .f32 := mulf main_v220 main_v214
  let main_v222 : FVec F S2048x3072 .f32 := addf main_v219 main_v221
  let main_v223 : FVec F S2048x3072 .f32 := mulf main_v213 main_v213
  let main_cst_32 : FVec F S_ .f32 := constant S_ .f32 0xBFBA00E3#32
  let main_v224 : FVec F S2048x3072 .f32 := broadcastInDim S2048x3072 ![] bcast_S_S2048x3072 main_cst_32
  let main_v225 : FVec F S2048x3072 .f32 := mulf main_v224 main_v223
  let main_v226 : FVec F S2048x3072 .f32 := addf main_v222 main_v225
  fn_part11 (F := F) main_arg0 main_arg1 main_arg2 main_arg3 main_arg4 main_arg5 main_arg6 main_arg7 main_arg8 main_arg9 main_arg10 main_arg11 main_arg12 main_arg13 main_arg14 main_arg15 main_v35 main_v42 main_v72 main_v74 main_v179 main_v203 main_v205 main_v213 main_v214 main_v226

def fn_part9 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v35 : FVec F S2048x12x64 .f32) (main_v42 : FVec F S2048x12x64 .f32) (main_v64 : FVec F S768 .f32) (main_v66 : FVec F S768 .f32) (main_v68 : FVec F S768x3072 .f32) (main_v70 : FVec F S3072 .f32) (main_v72 : FVec F S3072x768 .f32) (main_v74 : FVec F S768 .f32) (main_v179 : FVec F S2048x768 .f32) (main_v184 : FVec F S2048x1 .f32) (main_v186 : FVec F S2048x768 .f32) (main_v187 : FVec F S2048x1 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v188 : FVec F S2048x1 .f32 := addf main_v184 main_v187
  let main_v189 : FVec F S2048x1 .f32 := Host.sqrt main_v188
  let main_v190 : FVec F S2048x768 .f32 := broadcastInDim S2048x768 ![0, 1] bcast_S2048x1_S2048x768_0_1 main_v189
  let main_v191 : FVec F S2048x768 .f32 := Host.divf main_v186 main_v190
  let main_v192 : FVec F S1x768 .f32 := broadcastInDim S1x768 ![1] bcast_S768_S1x768_1 main_v64
  let main_v193 : FVec F S2048x768 .f32 := broadcastInDim S2048x768 ![0, 1] bcast_S1x768_S2048x768_0_1 main_v192
  let main_v194 : FVec F S2048x768 .f32 := mulf main_v191 main_v193
  let main_v195 : FVec F S1x768 .f32 := broadcastInDim S1x768 ![1] bcast_S768_S1x768_1 main_v66
  let main_v196 : FVec F S2048x768 .f32 := broadcastInDim S2048x768 ![0, 1] bcast_S1x768_S2048x768_0_1 main_v195
  let main_v197 : FVec F S2048x768 .f32 := addf main_v194 main_v196
  let main_v198 : FVec F S2048x3072 .f32 := (fun l r => Host.dotGeneral dot_S2048x768_S768x3072_S2048x3072_1_0_0_1_n_n none l r) main_v197 main_v68
  let main_v199 : FVec F S1x3072 .f32 := broadcastInDim S1x3072 ![1] bcast_S3072_S1x3072_1 main_v70
  let main_v200 : FVec F S2048x3072 .f32 := broadcastInDim S2048x3072 ![0, 1] bcast_S1x3072_S2048x3072_0_1 main_v199
  let main_v201 : FVec F S2048x3072 .f32 := addf main_v198 main_v200
  let main_cst_24 : FVec F S_ .f32 := constant S_ .f32 0x3F000000#32
  let main_v202 : FVec F S2048x3072 .f32 := broadcastInDim S2048x3072 ![] bcast_S_S2048x3072 main_cst_24
  let main_v203 : FVec F S2048x3072 .f32 := mulf main_v202 main_v201
  let main_cst_25 : FVec F S_ .f32 := constant S_ .f32 0x3F3504F3#32
  let main_v204 : FVec F S2048x3072 .f32 := broadcastInDim S2048x3072 ![] bcast_S_S2048x3072 main_cst_25
  let main_v205 : FVec F S2048x3072 .f32 := mulf main_v201 main_v204
  let main_v206 : FVec F S2048x3072 .f32 := Host.absf main_v205
  let main_cst_26 : FVec F S_ .f32 := constant S_ .f32 0x3EA7BA05#32
  let main_v207 : FVec F S2048x3072 .f32 := broadcastInDim S2048x3072 ![] bcast_S_S2048x3072 main_cst_26
  let main_v208 : FVec F S2048x3072 .f32 := mulf main_v207 main_v206
  fn_part10 (F := F) main_arg0 main_arg1 main_arg2 main_arg3 main_arg4 main_arg5 main_arg6 main_arg7 main_arg8 main_arg9 main_arg10 main_arg11 main_arg12 main_arg13 main_arg14 main_arg15 main_v35 main_v42 main_v72 main_v74 main_v179 main_v203 main_v205 main_v208

def fn_part8 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v35 : FVec F S2048x12x64 .f32) (main_v42 : FVec F S2048x12x64 .f32) (main_v60 : FVec F S768x768 .f32) (main_v62 : FVec F S768 .f32) (main_v64 : FVec F S768 .f32) (main_v66 : FVec F S768 .f32) (main_v68 : FVec F S768x3072 .f32) (main_v70 : FVec F S3072 .f32) (main_v72 : FVec F S3072x768 .f32) (main_v74 : FVec F S768 .f32) (main_v160 : FVec F S2048x12x64 .f32) (main_v161 : FVec F S2 .f32) (main_v162 : FVec F S_ .f32) (main_v167 : FVec F S2048x12x64 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v168 : FVec F S1 .f32 := (extractStridedSlice S1 ![1] · slices_S2_S1_1) main_v161
  let main_v169 : FVec F S_ .f32 := shapeCast S_ main_v168 shapeCasts_S1_S_
  let main_v170 : FVec F S_ .f32 := Host.divf main_v169 main_v162
  let main_v171 : FVec F S2048x12x64 .f32 := broadcastInDim S2048x12x64 ![] bcast_S_S2048x12x64 main_v170
  let main_v172 : FVec F S2048x12x64 .f32 := mulf main_v171 main_v160
  let main_v173 : FVec F S2048x12x64 .f32 := addf main_v167 main_v172
  let main_v174 : FVec F S2048x768 .f32 := shapeCast S2048x768 main_v173 shapeCasts_S2048x12x64_S2048x768
  let main_v175 : FVec F S2048x768 .f32 := (fun l r => Host.dotGeneral dot_S2048x768_S768x768_S2048x768_1_0_0_1_n_n none l r) main_v174 main_v60
  let main_v176 : FVec F S1x768 .f32 := broadcastInDim S1x768 ![1] bcast_S768_S1x768_1 main_v62
  let main_v177 : FVec F S2048x768 .f32 := broadcastInDim S2048x768 ![0, 1] bcast_S1x768_S2048x768_0_1 main_v176
  let main_v178 : FVec F S2048x768 .f32 := addf main_v175 main_v177
  let main_v179 : FVec F S2048x768 .f32 := addf main_v0 main_v178
  let main_cst_20 : FVec F S_ .f32 := constant S_ .f32 0x00000000#32
  let main_v180 : FVec F S2048 .f32 := (fun x v => Host.reduceAdd x v reducesTo_S2048x768_S2048_d1 h_S_) main_v179 main_cst_20
  let main_v181 : FVec F S2048x1 .f32 := broadcastInDim S2048x1 ![0] bcast_S2048_S2048x1_0 main_v180
  let main_cst_21 : FVec F S_ .f32 := constant S_ .f32 0x44400000#32
  let main_v182 : FVec F S2048x1 .f32 := broadcastInDim S2048x1 ![] bcast_S_S2048x1 main_cst_21
  let main_v183 : FVec F S2048x1 .f32 := Host.divf main_v181 main_v182
  let main_c_22 : IVec S_ 32 := constantI S_ 32 0#32
  let main_v184 : FVec F S2048x1 .f32 := fn_var (F := F) main_v179 main_c_22
  let main_v185 : FVec F S2048x768 .f32 := broadcastInDim S2048x768 ![0, 1] bcast_S2048x1_S2048x768_0_1 main_v183
  let main_v186 : FVec F S2048x768 .f32 := subf main_v179 main_v185
  let main_cst_23 : FVec F S_ .f32 := constant S_ .f32 0x3727C5AC#32
  let main_v187 : FVec F S2048x1 .f32 := broadcastInDim S2048x1 ![] bcast_S_S2048x1 main_cst_23
  fn_part9 (F := F) main_arg0 main_arg1 main_arg2 main_arg3 main_arg4 main_arg5 main_arg6 main_arg7 main_arg8 main_arg9 main_arg10 main_arg11 main_arg12 main_arg13 main_arg14 main_arg15 main_v35 main_v42 main_v64 main_v66 main_v68 main_v70 main_v72 main_v74 main_v179 main_v184 main_v186 main_v187

def fn_part7 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v35 : FVec F S2048x12x64 .f32) (main_v42 : FVec F S2048x12x64 .f32) (main_v58 : FVec F S2 .f32) (main_v60 : FVec F S768x768 .f32) (main_v62 : FVec F S768 .f32) (main_v64 : FVec F S768 .f32) (main_v66 : FVec F S768 .f32) (main_v68 : FVec F S768x3072 .f32) (main_v70 : FVec F S3072 .f32) (main_v72 : FVec F S3072x768 .f32) (main_v74 : FVec F S768 .f32) (main_v106 : FVec F S2048x12x64 .f32) (main_v109 : FVec F S12x2048x2048 .f32) (main_v120 : FVec F S2048x12x64 .f32) (main_v125 : FVec F S12x2048x2048 .f32) (main_v146 : IVec S12x2048x99x3 32) (main_cst_16 : FVec F S_ .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v147 : FVec F S12x2048x99 .f32 := broadcastInDim S12x2048x99 ![] bcast_S_S12x2048x99 main_cst_16
  let main_v148 : FVec F S12x2048x2048 .f32 := (fun x i u => Host.scatter scatter_S12x2048x2048_S12x2048x99x3_S12x2048x99_n_012_012_3 (fun _ b => b) x i u) main_v125 main_v146 main_v147
  let main_v149 : FVec F S12x2048x2048 .f32 := addf main_v109 main_v148
  let main_cst_17 : FVec F S_ .f32 := constant S_ .f32 0xFF800000#32
  let main_v150 : FVec F S12x2048 .f32 := (fun x v => Host.reduce FloatOps.maximumf x v reducesTo_S12x2048x2048_S12x2048_d2 h_S_) main_v149 main_cst_17
  let main_v151 : FVec F S12x2048x1 .f32 := broadcastInDim S12x2048x1 ![0, 1] bcast_S12x2048_S12x2048x1_0_1 main_v150
  let main_v152 : FVec F S12x2048x2048 .f32 := broadcastInDim S12x2048x2048 ![0, 1, 2] bcast_S12x2048x1_S12x2048x2048_0_1_2 main_v151
  let main_v153 : FVec F S12x2048x2048 .f32 := subf main_v149 main_v152
  let main_v154 : FVec F S12x2048x2048 .f32 := Host.exp main_v153
  let main_cst_18 : FVec F S_ .f32 := constant S_ .f32 0x00000000#32
  let main_v155 : FVec F S12x2048 .f32 := (fun x v => Host.reduceAdd x v reducesTo_S12x2048x2048_S12x2048_d2 h_S_) main_v154 main_cst_18
  let main_v156 : FVec F S12x2048x1 .f32 := broadcastInDim S12x2048x1 ![0, 1] bcast_S12x2048_S12x2048x1_0_1 main_v155
  let main_v157 : FVec F S12x2048x2048 .f32 := broadcastInDim S12x2048x2048 ![0, 1, 2] bcast_S12x2048x1_S12x2048x2048_0_1_2 main_v156
  let main_v158 : FVec F S12x2048x2048 .f32 := Host.divf main_v154 main_v157
  let main_v159 : FVec F S12x64x2048 .f32 := (fun l r => Host.dotGeneral dot_S2048x12x64_S12x2048x2048_S12x64x2048_0_2_2_1_1_0 none l r) main_v106 main_v158
  let main_v160 : FVec F S2048x12x64 .f32 := (transpose S2048x12x64 [2, 0, 1] · transposes_S12x64x2048_S2048x12x64_2_0_1) main_v159
  let main_v161 : FVec F S2 .f32 := Host.exp main_v58
  let main_cst_19 : FVec F S_ .f32 := constant S_ .f32 0x00000000#32
  let main_v162 : FVec F S_ .f32 := (fun x v => Host.reduceAdd x v reducesTo_S2_S_d0 h_S_) main_v161 main_cst_19
  let main_v163 : FVec F S1 .f32 := (extractStridedSlice S1 ![0] · slices_S2_S1_0) main_v161
  let main_v164 : FVec F S_ .f32 := shapeCast S_ main_v163 shapeCasts_S1_S_
  let main_v165 : FVec F S_ .f32 := Host.divf main_v164 main_v162
  let main_v166 : FVec F S2048x12x64 .f32 := broadcastInDim S2048x12x64 ![] bcast_S_S2048x12x64 main_v165
  let main_v167 : FVec F S2048x12x64 .f32 := mulf main_v166 main_v120
  fn_part8 (F := F) main_arg0 main_arg1 main_arg2 main_arg3 main_arg4 main_arg5 main_arg6 main_arg7 main_arg8 main_arg9 main_arg10 main_arg11 main_arg12 main_arg13 main_arg14 main_arg15 main_v0 main_v35 main_v42 main_v60 main_v62 main_v64 main_v66 main_v68 main_v70 main_v72 main_v74 main_v160 main_v161 main_v162 main_v167

def fn_part6 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v35 : FVec F S2048x12x64 .f32) (main_v42 : FVec F S2048x12x64 .f32) (main_v58 : FVec F S2 .f32) (main_v60 : FVec F S768x768 .f32) (main_v62 : FVec F S768 .f32) (main_v64 : FVec F S768 .f32) (main_v66 : FVec F S768 .f32) (main_v68 : FVec F S768x3072 .f32) (main_v70 : FVec F S3072 .f32) (main_v72 : FVec F S3072x768 .f32) (main_v74 : FVec F S768 .f32) (main_v106 : FVec F S2048x12x64 .f32) (main_v109 : FVec F S12x2048x2048 .f32) (main_v120 : FVec F S2048x12x64 .f32) (main_indices : IVec S12x2048x99 32) (main_v122 : IVec S12x1x1 32) (main_v124 : IVec S1x2048x1 32) (main_v125 : FVec F S12x2048x2048 .f32) (main_v127 : IVec S12x1x1 1) (main_c_11 : IVec S_ 32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v128 : IVec S12x1x1 32 := broadcastInDim S12x1x1 ![] bcast_S_S12x1x1 main_c_11
  let main_v129 : IVec S12x1x1 32 := addi main_v122 main_v128
  let main_v130 : IVec S12x1x1 32 := select main_v127 main_v129 main_v122
  let main_c_12 : IVec S_ 32 := constantI S_ 32 0#32
  let main_v131 : IVec S1x2048x1 32 := broadcastInDim S1x2048x1 ![] bcast_S_S1x2048x1 main_c_12
  let main_v132 : IVec S1x2048x1 1 := cmpi .slt main_v124 main_v131
  let main_c_13 : IVec S_ 32 := constantI S_ 32 2048#32
  let main_v133 : IVec S1x2048x1 32 := broadcastInDim S1x2048x1 ![] bcast_S_S1x2048x1 main_c_13
  let main_v134 : IVec S1x2048x1 32 := addi main_v124 main_v133
  let main_v135 : IVec S1x2048x1 32 := select main_v132 main_v134 main_v124
  let main_c_14 : IVec S_ 32 := constantI S_ 32 0#32
  let main_v136 : IVec S12x2048x99 32 := broadcastInDim S12x2048x99 ![] bcast_S_S12x2048x99 main_c_14
  let main_v137 : IVec S12x2048x99 1 := cmpi .slt main_indices main_v136
  let main_c_15 : IVec S_ 32 := constantI S_ 32 2048#32
  let main_v138 : IVec S12x2048x99 32 := broadcastInDim S12x2048x99 ![] bcast_S_S12x2048x99 main_c_15
  let main_v139 : IVec S12x2048x99 32 := addi main_indices main_v138
  let main_v140 : IVec S12x2048x99 32 := select main_v137 main_v139 main_indices
  let main_v141 : IVec S12x2048x99 32 := broadcastInDim S12x2048x99 ![0, 1, 2] bcast_S12x1x1_S12x2048x99_0_1_2 main_v130
  let main_v142 : IVec S12x2048x99 32 := broadcastInDim S12x2048x99 ![0, 1, 2] bcast_S1x2048x1_S12x2048x99_0_1_2 main_v135
  let main_v143 : IVec S12x2048x99x1 32 := broadcastInDim S12x2048x99x1 ![0, 1, 2] bcast_S12x2048x99_S12x2048x99x1_0_1_2 main_v141
  let main_v144 : IVec S12x2048x99x1 32 := broadcastInDim S12x2048x99x1 ![0, 1, 2] bcast_S12x2048x99_S12x2048x99x1_0_1_2 main_v142
  let main_v145 : IVec S12x2048x99x1 32 := broadcastInDim S12x2048x99x1 ![0, 1, 2] bcast_S12x2048x99_S12x2048x99x1_0_1_2 main_v140
  let main_v146 : IVec S12x2048x99x3 32 := concatenate S12x2048x99x3 3 [⟨S12x2048x99x1, main_v143⟩, ⟨S12x2048x99x1, main_v144⟩, ⟨S12x2048x99x1, main_v145⟩] concatenates_S12x2048x99x1_S12x2048x99x1_S12x2048x99x1_S12x2048x99x3_d3
  let main_cst_16 : FVec F S_ .f32 := constant S_ .f32 0x00000000#32
  fn_part7 (F := F) main_arg0 main_arg1 main_arg2 main_arg3 main_arg4 main_arg5 main_arg6 main_arg7 main_arg8 main_arg9 main_arg10 main_arg11 main_arg12 main_arg13 main_arg14 main_arg15 main_v0 main_v35 main_v42 main_v58 main_v60 main_v62 main_v64 main_v66 main_v68 main_v70 main_v72 main_v74 main_v106 main_v109 main_v120 main_v125 main_v146 main_cst_16

def fn_part5 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v35 : FVec F S2048x12x64 .f32) (main_v42 : FVec F S2048x12x64 .f32) (main_v58 : FVec F S2 .f32) (main_v60 : FVec F S768x768 .f32) (main_v62 : FVec F S768 .f32) (main_v64 : FVec F S768 .f32) (main_v66 : FVec F S768 .f32) (main_v68 : FVec F S768x3072 .f32) (main_v70 : FVec F S3072 .f32) (main_v72 : FVec F S3072x768 .f32) (main_v74 : FVec F S768 .f32) (main_v106 : FVec F S2048x12x64 .f32) (main_v109 : FVec F S12x2048x2048 .f32) (main_cst_7 : FVec F S_ .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v110 : FVec F S12x2048 .f32 := (fun x v => Host.reduce FloatOps.maximumf x v reducesTo_S12x2048x2048_S12x2048_d2 h_S_) main_v109 main_cst_7
  let main_v111 : FVec F S12x2048x1 .f32 := broadcastInDim S12x2048x1 ![0, 1] bcast_S12x2048_S12x2048x1_0_1 main_v110
  let main_v112 : FVec F S12x2048x2048 .f32 := broadcastInDim S12x2048x2048 ![0, 1, 2] bcast_S12x2048x1_S12x2048x2048_0_1_2 main_v111
  let main_v113 : FVec F S12x2048x2048 .f32 := subf main_v109 main_v112
  let main_v114 : FVec F S12x2048x2048 .f32 := Host.exp main_v113
  let main_cst_8 : FVec F S_ .f32 := constant S_ .f32 0x00000000#32
  let main_v115 : FVec F S12x2048 .f32 := (fun x v => Host.reduceAdd x v reducesTo_S12x2048x2048_S12x2048_d2 h_S_) main_v114 main_cst_8
  let main_v116 : FVec F S12x2048x1 .f32 := broadcastInDim S12x2048x1 ![0, 1] bcast_S12x2048_S12x2048x1_0_1 main_v115
  let main_v117 : FVec F S12x2048x2048 .f32 := broadcastInDim S12x2048x2048 ![0, 1, 2] bcast_S12x2048x1_S12x2048x2048_0_1_2 main_v116
  let main_v118 : FVec F S12x2048x2048 .f32 := Host.divf main_v114 main_v117
  let main_v119 : FVec F S12x64x2048 .f32 := (fun l r => Host.dotGeneral dot_S2048x12x64_S12x2048x2048_S12x64x2048_0_2_2_1_1_0 none l r) main_v106 main_v118
  let main_v120 : FVec F S2048x12x64 .f32 := (transpose S2048x12x64 [2, 0, 1] · transposes_S12x64x2048_S2048x12x64_2_0_1) main_v119
  let main_values : FVec F S12x2048x99 .f32 := (fun x => (Host.topK S12x2048x99 2 (FloatOps.cmpfTotal .gt) x sliceFits_S12x2048x2048_S12x2048x99).1) main_v109
  let main_indices : IVec S12x2048x99 32 := (fun x => (Host.topK S12x2048x99 2 (FloatOps.cmpfTotal .gt) x sliceFits_S12x2048x2048_S12x2048x99).2) main_v109
  let main_v121 : IVec S12 32 := iotaInDim S12 32 0
  let main_v122 : IVec S12x1x1 32 := broadcastInDim S12x1x1 ![0] bcast_S12_S12x1x1_0 main_v121
  let main_v123 : IVec S2048 32 := iotaInDim S2048 32 0
  let main_v124 : IVec S1x2048x1 32 := broadcastInDim S1x2048x1 ![1] bcast_S2048_S1x2048x1_1 main_v123
  let main_cst_9 : FVec F S_ .f32 := constant S_ .f32 0xFF800000#32
  let main_v125 : FVec F S12x2048x2048 .f32 := broadcastInDim S12x2048x2048 ![] bcast_S_S12x2048x2048 main_cst_9
  let main_c_10 : IVec S_ 32 := constantI S_ 32 0#32
  let main_v126 : IVec S12x1x1 32 := broadcastInDim S12x1x1 ![] bcast_S_S12x1x1 main_c_10
  let main_v127 : IVec S12x1x1 1 := cmpi .slt main_v122 main_v126
  let main_c_11 : IVec S_ 32 := constantI S_ 32 12#32
  fn_part6 (F := F) main_arg0 main_arg1 main_arg2 main_arg3 main_arg4 main_arg5 main_arg6 main_arg7 main_arg8 main_arg9 main_arg10 main_arg11 main_arg12 main_arg13 main_arg14 main_arg15 main_v0 main_v35 main_v42 main_v58 main_v60 main_v62 main_v64 main_v66 main_v68 main_v70 main_v72 main_v74 main_v106 main_v109 main_v120 main_indices main_v122 main_v124 main_v125 main_v127 main_c_11

def fn_part4 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v35 : FVec F S2048x12x64 .f32) (main_v42 : FVec F S2048x12x64 .f32) (main_v48 : FVec F S768 .f32) (main_v50 : FVec F S768x768 .f32) (main_v52 : FVec F S768 .f32) (main_v54 : FVec F S768x1536 .f32) (main_v56 : FVec F S1536 .f32) (main_v58 : FVec F S2 .f32) (main_v60 : FVec F S768x768 .f32) (main_v62 : FVec F S768 .f32) (main_v64 : FVec F S768 .f32) (main_v66 : FVec F S768 .f32) (main_v68 : FVec F S768x3072 .f32) (main_v70 : FVec F S3072 .f32) (main_v72 : FVec F S3072x768 .f32) (main_v74 : FVec F S768 .f32) (main_v86 : FVec F S2048x768 .f32) (main_v87 : FVec F S1x768 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v88 : FVec F S2048x768 .f32 := broadcastInDim S2048x768 ![0, 1] bcast_S1x768_S2048x768_0_1 main_v87
  let main_v89 : FVec F S2048x768 .f32 := mulf main_v86 main_v88
  let main_v90 : FVec F S1x768 .f32 := broadcastInDim S1x768 ![1] bcast_S768_S1x768_1 main_v48
  let main_v91 : FVec F S2048x768 .f32 := broadcastInDim S2048x768 ![0, 1] bcast_S1x768_S2048x768_0_1 main_v90
  let main_v92 : FVec F S2048x768 .f32 := addf main_v89 main_v91
  let main_v93 : FVec F S2048x768 .f32 := (fun l r => Host.dotGeneral dot_S2048x768_S768x768_S2048x768_1_0_0_1_n_n none l r) main_v92 main_v50
  let main_v94 : FVec F S1x768 .f32 := broadcastInDim S1x768 ![1] bcast_S768_S1x768_1 main_v52
  let main_v95 : FVec F S2048x768 .f32 := broadcastInDim S2048x768 ![0, 1] bcast_S1x768_S2048x768_0_1 main_v94
  let main_v96 : FVec F S2048x768 .f32 := addf main_v93 main_v95
  let main_v97 : FVec F S2048x12x64 .f32 := shapeCast S2048x12x64 main_v96 shapeCasts_S2048x768_S2048x12x64
  let main_v98 : FVec F S2048x1536 .f32 := (fun l r => Host.dotGeneral dot_S2048x768_S768x1536_S2048x1536_1_0_0_1_n_n none l r) main_v92 main_v54
  let main_v99 : FVec F S1x1536 .f32 := broadcastInDim S1x1536 ![1] bcast_S1536_S1x1536_1 main_v56
  let main_v100 : FVec F S2048x1536 .f32 := broadcastInDim S2048x1536 ![0, 1] bcast_S1x1536_S2048x1536_0_1 main_v99
  let main_v101 : FVec F S2048x1536 .f32 := addf main_v98 main_v100
  let main_v102 : FVec F S2048x2x12x64 .f32 := shapeCast S2048x2x12x64 main_v101 shapeCasts_S2048x1536_S2048x2x12x64
  let main_v103 : FVec F S2048x1x12x64 .f32 := (extractStridedSlice S2048x1x12x64 ![0, 0, 0, 0] · slices_S2048x2x12x64_S2048x1x12x64_0_0_0_0) main_v102
  let main_v104 : FVec F S2048x12x64 .f32 := shapeCast S2048x12x64 main_v103 shapeCasts_S2048x1x12x64_S2048x12x64
  let main_v105 : FVec F S2048x1x12x64 .f32 := (extractStridedSlice S2048x1x12x64 ![0, 1, 0, 0] · slices_S2048x2x12x64_S2048x1x12x64_0_1_0_0) main_v102
  let main_v106 : FVec F S2048x12x64 .f32 := shapeCast S2048x12x64 main_v105 shapeCasts_S2048x1x12x64_S2048x12x64
  let main_v107 : FVec F S12x2048x2048 .f32 := (fun l r => Host.dotGeneral dot_S2048x12x64_S2048x12x64_S12x2048x2048_2_2_0_0_1_1 none l r) main_v97 main_v104
  let main_cst_6 : FVec F S_ .f32 := constant S_ .f32 0x3E000000#32
  let main_v108 : FVec F S12x2048x2048 .f32 := broadcastInDim S12x2048x2048 ![] bcast_S_S12x2048x2048 main_cst_6
  let main_v109 : FVec F S12x2048x2048 .f32 := mulf main_v107 main_v108
  let main_cst_7 : FVec F S_ .f32 := constant S_ .f32 0xFF800000#32
  fn_part5 (F := F) main_arg0 main_arg1 main_arg2 main_arg3 main_arg4 main_arg5 main_arg6 main_arg7 main_arg8 main_arg9 main_arg10 main_arg11 main_arg12 main_arg13 main_arg14 main_arg15 main_v0 main_v35 main_v42 main_v58 main_v60 main_v62 main_v64 main_v66 main_v68 main_v70 main_v72 main_v74 main_v106 main_v109 main_cst_7

def fn_part3 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v35 : FVec F S2048x12x64 .f32) (main_v42 : FVec F S2048x12x64 .f32) (main_v46 : FVec F S768 .f32) (main_v48 : FVec F S768 .f32) (main_v50 : FVec F S768x768 .f32) (main_v52 : FVec F S768 .f32) (main_v54 : FVec F S768x1536 .f32) (main_v56 : FVec F S1536 .f32) (main_v58 : FVec F S2 .f32) (main_v60 : FVec F S768x768 .f32) (main_v62 : FVec F S768 .f32) (main_v64 : FVec F S768 .f32) (main_v66 : FVec F S768 .f32) (main_v67 : FVec F S1x768x3072 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v68 : FVec F S768x3072 .f32 := shapeCast S768x3072 main_v67 shapeCasts_S1x768x3072_S768x3072
  let main_v69 : FVec F S1x3072 .f32 := (extractStridedSlice S1x3072 ![0, 0] · slices_S2x3072_S1x3072_0_0) main_arg13
  let main_v70 : FVec F S3072 .f32 := shapeCast S3072 main_v69 shapeCasts_S1x3072_S3072
  let main_v71 : FVec F S1x3072x768 .f32 := (extractStridedSlice S1x3072x768 ![0, 0, 0] · slices_S2x3072x768_S1x3072x768_0_0_0) main_arg14
  let main_v72 : FVec F S3072x768 .f32 := shapeCast S3072x768 main_v71 shapeCasts_S1x3072x768_S3072x768
  let main_v73 : FVec F S1x768 .f32 := (extractStridedSlice S1x768 ![0, 0] · slices_S2x768_S1x768_0_0) main_arg15
  let main_v74 : FVec F S768 .f32 := shapeCast S768 main_v73 shapeCasts_S1x768_S768
  let main_cst_2 : FVec F S_ .f32 := constant S_ .f32 0x00000000#32
  let main_v75 : FVec F S2048 .f32 := (fun x v => Host.reduceAdd x v reducesTo_S2048x768_S2048_d1 h_S_) main_v0 main_cst_2
  let main_v76 : FVec F S2048x1 .f32 := broadcastInDim S2048x1 ![0] bcast_S2048_S2048x1_0 main_v75
  let main_cst_3 : FVec F S_ .f32 := constant S_ .f32 0x44400000#32
  let main_v77 : FVec F S2048x1 .f32 := broadcastInDim S2048x1 ![] bcast_S_S2048x1 main_cst_3
  let main_v78 : FVec F S2048x1 .f32 := Host.divf main_v76 main_v77
  let main_c_4 : IVec S_ 32 := constantI S_ 32 0#32
  let main_v79 : FVec F S2048x1 .f32 := fn_var (F := F) main_v0 main_c_4
  let main_v80 : FVec F S2048x768 .f32 := broadcastInDim S2048x768 ![0, 1] bcast_S2048x1_S2048x768_0_1 main_v78
  let main_v81 : FVec F S2048x768 .f32 := subf main_v0 main_v80
  let main_cst_5 : FVec F S_ .f32 := constant S_ .f32 0x3727C5AC#32
  let main_v82 : FVec F S2048x1 .f32 := broadcastInDim S2048x1 ![] bcast_S_S2048x1 main_cst_5
  let main_v83 : FVec F S2048x1 .f32 := addf main_v79 main_v82
  let main_v84 : FVec F S2048x1 .f32 := Host.sqrt main_v83
  let main_v85 : FVec F S2048x768 .f32 := broadcastInDim S2048x768 ![0, 1] bcast_S2048x1_S2048x768_0_1 main_v84
  let main_v86 : FVec F S2048x768 .f32 := Host.divf main_v81 main_v85
  let main_v87 : FVec F S1x768 .f32 := broadcastInDim S1x768 ![1] bcast_S768_S1x768_1 main_v46
  fn_part4 (F := F) main_arg0 main_arg1 main_arg2 main_arg3 main_arg4 main_arg5 main_arg6 main_arg7 main_arg8 main_arg9 main_arg10 main_arg11 main_arg12 main_arg13 main_arg14 main_arg15 main_v0 main_v35 main_v42 main_v48 main_v50 main_v52 main_v54 main_v56 main_v58 main_v60 main_v62 main_v64 main_v66 main_v68 main_v70 main_v72 main_v74 main_v86 main_v87

def fn_part2 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v35 : FVec F S2048x12x64 .f32) (main_v42 : FVec F S2048x12x64 .f32) (main_v43 : FVec F S2048x1x12x64 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v44 : FVec F S2048x12x64 .f32 := shapeCast S2048x12x64 main_v43 shapeCasts_S2048x1x12x64_S2048x12x64
  let main_v45 : FVec F S1x768 .f32 := (extractStridedSlice S1x768 ![0, 0] · slices_S2x768_S1x768_0_0) main_arg1
  let main_v46 : FVec F S768 .f32 := shapeCast S768 main_v45 shapeCasts_S1x768_S768
  let main_v47 : FVec F S1x768 .f32 := (extractStridedSlice S1x768 ![0, 0] · slices_S2x768_S1x768_0_0) main_arg2
  let main_v48 : FVec F S768 .f32 := shapeCast S768 main_v47 shapeCasts_S1x768_S768
  let main_v49 : FVec F S1x768x768 .f32 := (extractStridedSlice S1x768x768 ![0, 0, 0] · slices_S2x768x768_S1x768x768_0_0_0) main_arg3
  let main_v50 : FVec F S768x768 .f32 := shapeCast S768x768 main_v49 shapeCasts_S1x768x768_S768x768
  let main_v51 : FVec F S1x768 .f32 := (extractStridedSlice S1x768 ![0, 0] · slices_S2x768_S1x768_0_0) main_arg4
  let main_v52 : FVec F S768 .f32 := shapeCast S768 main_v51 shapeCasts_S1x768_S768
  let main_v53 : FVec F S1x768x1536 .f32 := (extractStridedSlice S1x768x1536 ![0, 0, 0] · slices_S2x768x1536_S1x768x1536_0_0_0) main_arg5
  let main_v54 : FVec F S768x1536 .f32 := shapeCast S768x1536 main_v53 shapeCasts_S1x768x1536_S768x1536
  let main_v55 : FVec F S1x1536 .f32 := (extractStridedSlice S1x1536 ![0, 0] · slices_S2x1536_S1x1536_0_0) main_arg6
  let main_v56 : FVec F S1536 .f32 := shapeCast S1536 main_v55 shapeCasts_S1x1536_S1536
  let main_v57 : FVec F S1x2 .f32 := (extractStridedSlice S1x2 ![0, 0] · slices_S2x2_S1x2_0_0) main_arg7
  let main_v58 : FVec F S2 .f32 := shapeCast S2 main_v57 shapeCasts_S1x2_S2
  let main_v59 : FVec F S1x768x768 .f32 := (extractStridedSlice S1x768x768 ![0, 0, 0] · slices_S2x768x768_S1x768x768_0_0_0) main_arg8
  let main_v60 : FVec F S768x768 .f32 := shapeCast S768x768 main_v59 shapeCasts_S1x768x768_S768x768
  let main_v61 : FVec F S1x768 .f32 := (extractStridedSlice S1x768 ![0, 0] · slices_S2x768_S1x768_0_0) main_arg9
  let main_v62 : FVec F S768 .f32 := shapeCast S768 main_v61 shapeCasts_S1x768_S768
  let main_v63 : FVec F S1x768 .f32 := (extractStridedSlice S1x768 ![0, 0] · slices_S2x768_S1x768_0_0) main_arg10
  let main_v64 : FVec F S768 .f32 := shapeCast S768 main_v63 shapeCasts_S1x768_S768
  let main_v65 : FVec F S1x768 .f32 := (extractStridedSlice S1x768 ![0, 0] · slices_S2x768_S1x768_0_0) main_arg11
  let main_v66 : FVec F S768 .f32 := shapeCast S768 main_v65 shapeCasts_S1x768_S768
  let main_v67 : FVec F S1x768x3072 .f32 := (extractStridedSlice S1x768x3072 ![0, 0, 0] · slices_S2x768x3072_S1x768x3072_0_0_0) main_arg12
  fn_part3 (F := F) main_arg0 main_arg1 main_arg2 main_arg3 main_arg4 main_arg5 main_arg6 main_arg7 main_arg8 main_arg9 main_arg10 main_arg11 main_arg12 main_arg13 main_arg14 main_arg15 main_v0 main_v35 main_v42 main_v46 main_v48 main_v50 main_v52 main_v54 main_v56 main_v58 main_v60 main_v62 main_v64 main_v66 main_v67

def fn_part1 {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) (main_v0 : FVec F S2048x768 .f32) (main_v2 : FVec F S768 .f32) (main_v4 : FVec F S768 .f32) (main_v6 : FVec F S768x768 .f32) (main_v8 : FVec F S768 .f32) (main_v10 : FVec F S768x1536 .f32) (main_v12 : FVec F S1536 .f32) (main_v17 : FVec F S2048x1 .f32) (main_v19 : FVec F S2048x768 .f32) (main_cst_1 : FVec F S_ .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v20 : FVec F S2048x1 .f32 := broadcastInDim S2048x1 ![] bcast_S_S2048x1 main_cst_1
  let main_v21 : FVec F S2048x1 .f32 := addf main_v17 main_v20
  let main_v22 : FVec F S2048x1 .f32 := Host.sqrt main_v21
  let main_v23 : FVec F S2048x768 .f32 := broadcastInDim S2048x768 ![0, 1] bcast_S2048x1_S2048x768_0_1 main_v22
  let main_v24 : FVec F S2048x768 .f32 := Host.divf main_v19 main_v23
  let main_v25 : FVec F S1x768 .f32 := broadcastInDim S1x768 ![1] bcast_S768_S1x768_1 main_v2
  let main_v26 : FVec F S2048x768 .f32 := broadcastInDim S2048x768 ![0, 1] bcast_S1x768_S2048x768_0_1 main_v25
  let main_v27 : FVec F S2048x768 .f32 := mulf main_v24 main_v26
  let main_v28 : FVec F S1x768 .f32 := broadcastInDim S1x768 ![1] bcast_S768_S1x768_1 main_v4
  let main_v29 : FVec F S2048x768 .f32 := broadcastInDim S2048x768 ![0, 1] bcast_S1x768_S2048x768_0_1 main_v28
  let main_v30 : FVec F S2048x768 .f32 := addf main_v27 main_v29
  let main_v31 : FVec F S2048x768 .f32 := (fun l r => Host.dotGeneral dot_S2048x768_S768x768_S2048x768_1_0_0_1_n_n none l r) main_v30 main_v6
  let main_v32 : FVec F S1x768 .f32 := broadcastInDim S1x768 ![1] bcast_S768_S1x768_1 main_v8
  let main_v33 : FVec F S2048x768 .f32 := broadcastInDim S2048x768 ![0, 1] bcast_S1x768_S2048x768_0_1 main_v32
  let main_v34 : FVec F S2048x768 .f32 := addf main_v31 main_v33
  let main_v35 : FVec F S2048x12x64 .f32 := shapeCast S2048x12x64 main_v34 shapeCasts_S2048x768_S2048x12x64
  let main_v36 : FVec F S2048x1536 .f32 := (fun l r => Host.dotGeneral dot_S2048x768_S768x1536_S2048x1536_1_0_0_1_n_n none l r) main_v30 main_v10
  let main_v37 : FVec F S1x1536 .f32 := broadcastInDim S1x1536 ![1] bcast_S1536_S1x1536_1 main_v12
  let main_v38 : FVec F S2048x1536 .f32 := broadcastInDim S2048x1536 ![0, 1] bcast_S1x1536_S2048x1536_0_1 main_v37
  let main_v39 : FVec F S2048x1536 .f32 := addf main_v36 main_v38
  let main_v40 : FVec F S2048x2x12x64 .f32 := shapeCast S2048x2x12x64 main_v39 shapeCasts_S2048x1536_S2048x2x12x64
  let main_v41 : FVec F S2048x1x12x64 .f32 := (extractStridedSlice S2048x1x12x64 ![0, 0, 0, 0] · slices_S2048x2x12x64_S2048x1x12x64_0_0_0_0) main_v40
  let main_v42 : FVec F S2048x12x64 .f32 := shapeCast S2048x12x64 main_v41 shapeCasts_S2048x1x12x64_S2048x12x64
  let main_v43 : FVec F S2048x1x12x64 .f32 := (extractStridedSlice S2048x1x12x64 ![0, 1, 0, 0] · slices_S2048x2x12x64_S2048x1x12x64_0_1_0_0) main_v40
  fn_part2 (F := F) main_arg0 main_arg1 main_arg2 main_arg3 main_arg4 main_arg5 main_arg6 main_arg7 main_arg8 main_arg9 main_arg10 main_arg11 main_arg12 main_arg13 main_arg14 main_arg15 main_v0 main_v35 main_v42 main_v43

def fn {F : FTy → Type} [FloatOps F] (main_arg0 : FVec F S1x2048x768 .f32) (main_arg1 : FVec F S2x768 .f32) (main_arg2 : FVec F S2x768 .f32) (main_arg3 : FVec F S2x768x768 .f32) (main_arg4 : FVec F S2x768 .f32) (main_arg5 : FVec F S2x768x1536 .f32) (main_arg6 : FVec F S2x1536 .f32) (main_arg7 : FVec F S2x2 .f32) (main_arg8 : FVec F S2x768x768 .f32) (main_arg9 : FVec F S2x768 .f32) (main_arg10 : FVec F S2x768 .f32) (main_arg11 : FVec F S2x768 .f32) (main_arg12 : FVec F S2x768x3072 .f32) (main_arg13 : FVec F S2x3072 .f32) (main_arg14 : FVec F S2x3072x768 .f32) (main_arg15 : FVec F S2x768 .f32) : IVec S1x2048x768 1 × IVec S2x768 1 × IVec S2x768 1 × IVec S2x768x768 1 × IVec S2x768 1 × IVec S2x768x1536 1 × IVec S2x1536 1 × IVec S2x2 1 × IVec S2x768x768 1 × IVec S2x768 1 × IVec S2x768 1 × IVec S2x768 1 × IVec S2x768x3072 1 × IVec S2x3072 1 × IVec S2x3072x768 1 × IVec S2x768 1 × IVec S12x2048x1 1 × IVec S12x2048x1 1 :=
  let main_v0 : FVec F S2048x768 .f32 := shapeCast S2048x768 main_arg0 shapeCasts_S1x2048x768_S2048x768
  let main_v1 : FVec F S1x768 .f32 := (extractStridedSlice S1x768 ![0, 0] · slices_S2x768_S1x768_0_0) main_arg1
  let main_v2 : FVec F S768 .f32 := shapeCast S768 main_v1 shapeCasts_S1x768_S768
  let main_v3 : FVec F S1x768 .f32 := (extractStridedSlice S1x768 ![0, 0] · slices_S2x768_S1x768_0_0) main_arg2
  let main_v4 : FVec F S768 .f32 := shapeCast S768 main_v3 shapeCasts_S1x768_S768
  let main_v5 : FVec F S1x768x768 .f32 := (extractStridedSlice S1x768x768 ![0, 0, 0] · slices_S2x768x768_S1x768x768_0_0_0) main_arg3
  let main_v6 : FVec F S768x768 .f32 := shapeCast S768x768 main_v5 shapeCasts_S1x768x768_S768x768
  let main_v7 : FVec F S1x768 .f32 := (extractStridedSlice S1x768 ![0, 0] · slices_S2x768_S1x768_0_0) main_arg4
  let main_v8 : FVec F S768 .f32 := shapeCast S768 main_v7 shapeCasts_S1x768_S768
  let main_v9 : FVec F S1x768x1536 .f32 := (extractStridedSlice S1x768x1536 ![0, 0, 0] · slices_S2x768x1536_S1x768x1536_0_0_0) main_arg5
  let main_v10 : FVec F S768x1536 .f32 := shapeCast S768x1536 main_v9 shapeCasts_S1x768x1536_S768x1536
  let main_v11 : FVec F S1x1536 .f32 := (extractStridedSlice S1x1536 ![0, 0] · slices_S2x1536_S1x1536_0_0) main_arg6
  let main_v12 : FVec F S1536 .f32 := shapeCast S1536 main_v11 shapeCasts_S1x1536_S1536
  let main_cst : FVec F S_ .f32 := constant S_ .f32 0x00000000#32
  let main_v13 : FVec F S2048 .f32 := (fun x v => Host.reduceAdd x v reducesTo_S2048x768_S2048_d1 h_S_) main_v0 main_cst
  let main_v14 : FVec F S2048x1 .f32 := broadcastInDim S2048x1 ![0] bcast_S2048_S2048x1_0 main_v13
  let main_cst_0 : FVec F S_ .f32 := constant S_ .f32 0x44400000#32
  let main_v15 : FVec F S2048x1 .f32 := broadcastInDim S2048x1 ![] bcast_S_S2048x1 main_cst_0
  let main_v16 : FVec F S2048x1 .f32 := Host.divf main_v14 main_v15
  let main_c : IVec S_ 32 := constantI S_ 32 0#32
  let main_v17 : FVec F S2048x1 .f32 := fn_var (F := F) main_v0 main_c
  let main_v18 : FVec F S2048x768 .f32 := broadcastInDim S2048x768 ![0, 1] bcast_S2048x1_S2048x768_0_1 main_v16
  let main_v19 : FVec F S2048x768 .f32 := subf main_v0 main_v18
  let main_cst_1 : FVec F S_ .f32 := constant S_ .f32 0x3727C5AC#32
  fn_part1 (F := F) main_arg0 main_arg1 main_arg2 main_arg3 main_arg4 main_arg5 main_arg6 main_arg7 main_arg8 main_arg9 main_arg10 main_arg11 main_arg12 main_arg13 main_arg14 main_arg15 main_v0 main_v2 main_v4 main_v6 main_v8 main_v10 main_v12 main_v17 main_v19 main_cst_1
-- ==== Kernel.lean ====
abbrev S1x2048x768 : Shape := ⟨3, ![1, 2048, 768]⟩
abbrev S2x768 : Shape := ⟨2, ![2, 768]⟩
abbrev S2x768x768 : Shape := ⟨3, ![2, 768, 768]⟩
abbrev S2x768x1536 : Shape := ⟨3, ![2, 768, 1536]⟩
abbrev S2x1536 : Shape := ⟨2, ![2, 1536]⟩
abbrev S2x2 : Shape := ⟨2, ![2, 2]⟩
abbrev S2x768x3072 : Shape := ⟨3, ![2, 768, 3072]⟩
abbrev S2x3072 : Shape := ⟨2, ![2, 3072]⟩
abbrev S2x3072x768 : Shape := ⟨3, ![2, 3072, 768]⟩
abbrev S2048x768 : Shape := ⟨2, ![2048, 768]⟩
abbrev S768x2048 : Shape := ⟨2, ![768, 2048]⟩
abbrev S1x768 : Shape := ⟨2, ![1, 768]⟩
abbrev S768 : Shape := ⟨1, ![768]⟩
abbrev S1x768x768 : Shape := ⟨3, ![1, 768, 768]⟩
abbrev S768x768 : Shape := ⟨2, ![768, 768]⟩
abbrev S1x768x1536 : Shape := ⟨3, ![1, 768, 1536]⟩
abbrev S768x1536 : Shape := ⟨2, ![768, 1536]⟩
abbrev S1x1536 : Shape := ⟨2, ![1, 1536]⟩
abbrev S1536 : Shape := ⟨1, ![1536]⟩
abbrev S1x2 : Shape := ⟨2, ![1, 2]⟩
abbrev S2 : Shape := ⟨1, ![2]⟩
abbrev S1x768x3072 : Shape := ⟨3, ![1, 768, 3072]⟩
abbrev S768x3072 : Shape := ⟨2, ![768, 3072]⟩
abbrev S1x3072 : Shape := ⟨2, ![1, 3072]⟩
abbrev S3072 : Shape := ⟨1, ![3072]⟩
abbrev S1x3072x768 : Shape := ⟨3, ![1, 3072, 768]⟩
abbrev S3072x768 : Shape := ⟨2, ![3072, 768]⟩
abbrev S768x1 : Shape := ⟨2, ![768, 1]⟩
abbrev S1536x1 : Shape := ⟨2, ![1536, 1]⟩
abbrev S1536x2048 : Shape := ⟨2, ![1536, 2048]⟩
abbrev S768x512 : Shape := ⟨2, ![768, 512]⟩
abbrev S1536x512 : Shape := ⟨2, ![1536, 512]⟩
abbrev S512 : Shape := ⟨1, ![512]⟩
abbrev S1x512 : Shape := ⟨2, ![1, 512]⟩
abbrev S12x64x2048 : Shape := ⟨3, ![12, 64, 2048]⟩
abbrev S1x64x1024 : Shape := ⟨3, ![1, 64, 1024]⟩
abbrev S1x64x2048 : Shape := ⟨3, ![1, 64, 2048]⟩
abbrev S64x1024 : Shape := ⟨2, ![64, 1024]⟩
abbrev S64x2048 : Shape := ⟨2, ![64, 2048]⟩
abbrev S2048x1024 : Shape := ⟨2, ![2048, 1024]⟩
abbrev S8x256x1024 : Shape := ⟨3, ![8, 256, 1024]⟩
abbrev S1024 : Shape := ⟨1, ![1024]⟩
abbrev S1x1024 : Shape := ⟨2, ![1, 1024]⟩
abbrev S1x1x1024 : Shape := ⟨3, ![1, 1, 1024]⟩
abbrev S8x1024 : Shape := ⟨2, ![8, 1024]⟩
abbrev S1x2048 : Shape := ⟨2, ![1, 2048]⟩
abbrev S65x2048 : Shape := ⟨2, ![65, 2048]⟩
abbrev S65x1024 : Shape := ⟨2, ![65, 1024]⟩
abbrev S1 : Shape := ⟨1, ![1]⟩
abbrev S3072x1 : Shape := ⟨2, ![3072, 1]⟩
abbrev S3072x512 : Shape := ⟨2, ![3072, 512]⟩

abbrev nBuf : Space → Nat
  | .hbm => 128
  | .vmem => 68
  | .smem => 2
  | _ => 0

abbrev bufTy : (tb : Table) → Fin (tcTables nBuf tb) → BufTy
  | .hbm, ⟨0, _⟩ => ⟨S1x2048x768, .f32⟩
  | .hbm, ⟨1, _⟩ => ⟨S2x768, .f32⟩
  | .hbm, ⟨2, _⟩ => ⟨S2x768, .f32⟩
  | .hbm, ⟨3, _⟩ => ⟨S2x768x768, .f32⟩
  | .hbm, ⟨4, _⟩ => ⟨S2x768, .f32⟩
  | .hbm, ⟨5, _⟩ => ⟨S2x768x1536, .f32⟩
  | .hbm, ⟨6, _⟩ => ⟨S2x1536, .f32⟩
  | .hbm, ⟨7, _⟩ => ⟨S2x2, .f32⟩
  | .hbm, ⟨8, _⟩ => ⟨S2x768x768, .f32⟩
  | .hbm, ⟨9, _⟩ => ⟨S2x768, .f32⟩
  | .hbm, ⟨10, _⟩ => ⟨S2x768, .f32⟩
  | .hbm, ⟨11, _⟩ => ⟨S2x768, .f32⟩
  | .hbm, ⟨12, _⟩ => ⟨S2x768x3072, .f32⟩
  | .hbm, ⟨13, _⟩ => ⟨S2x3072, .f32⟩
  | .hbm, ⟨14, _⟩ => ⟨S2x3072x768, .f32⟩
  | .hbm, ⟨15, _⟩ => ⟨S2x768, .f32⟩
  | .hbm, ⟨16, _⟩ => ⟨S2048x768, .f32⟩
  | .hbm, ⟨17, _⟩ => ⟨S768x2048, .f32⟩
  | .hbm, ⟨18, _⟩ => ⟨S1x768, .f32⟩
  | .hbm, ⟨19, _⟩ => ⟨S768, .f32⟩
  | .hbm, ⟨20, _⟩ => ⟨S1x768, .f32⟩
  | .hbm, ⟨21, _⟩ => ⟨S768, .f32⟩
  | .hbm, ⟨22, _⟩ => ⟨S1x768x768, .f32⟩
  | .hbm, ⟨23, _⟩ => ⟨S768x768, .f32⟩
  | .hbm, ⟨24, _⟩ => ⟨S1x768, .f32⟩
  | .hbm, ⟨25, _⟩ => ⟨S768, .f32⟩
  | .hbm, ⟨26, _⟩ => ⟨S1x768x1536, .f32⟩
  | .hbm, ⟨27, _⟩ => ⟨S768x1536, .f32⟩
  | .hbm, ⟨28, _⟩ => ⟨S1x1536, .f32⟩
  | .hbm, ⟨29, _⟩ => ⟨S1536, .f32⟩
  | .hbm, ⟨30, _⟩ => ⟨S1x2, .f32⟩
  | .hbm, ⟨31, _⟩ => ⟨S2, .f32⟩
  | .hbm, ⟨32, _⟩ => ⟨S1x768x768, .f32⟩
  | .hbm, ⟨33, _⟩ => ⟨S768x768, .f32⟩
  | .hbm, ⟨34, _⟩ => ⟨S1x768, .f32⟩
  | .hbm, ⟨35, _⟩ => ⟨S768, .f32⟩
  | .hbm, ⟨36, _⟩ => ⟨S1x768, .f32⟩
  | .hbm, ⟨37, _⟩ => ⟨S768, .f32⟩
  | .hbm, ⟨38, _⟩ => ⟨S1x768, .f32⟩
  | .hbm, ⟨39, _⟩ => ⟨S768, .f32⟩
  | .hbm, ⟨40, _⟩ => ⟨S1x768x3072, .f32⟩
  | .hbm, ⟨41, _⟩ => ⟨S768x3072, .f32⟩
  | .hbm, ⟨42, _⟩ => ⟨S1x3072, .f32⟩
  | .hbm, ⟨43, _⟩ => ⟨S3072, .f32⟩
  | .hbm, ⟨44, _⟩ => ⟨S1x3072x768, .f32⟩
  | .hbm, ⟨45, _⟩ => ⟨S3072x768, .f32⟩
  | .hbm, ⟨46, _⟩ => ⟨S1x768, .f32⟩
  | .hbm, ⟨47, _⟩ => ⟨S768, .f32⟩
  | .hbm, ⟨48, _⟩ => ⟨S768x1, .f32⟩
  | .hbm, ⟨49, _⟩ => ⟨S768x1, .f32⟩
  | .hbm, ⟨50, _⟩ => ⟨S768x768, .bf16⟩
  | .hbm, ⟨51, _⟩ => ⟨S768x1, .f32⟩
  | .hbm, ⟨52, _⟩ => ⟨S768x1536, .bf16⟩
  | .hbm, ⟨53, _⟩ => ⟨S1536x1, .f32⟩
  | .hbm, ⟨54, _⟩ => ⟨S768x2048, .bf16⟩
  | .hbm, ⟨55, _⟩ => ⟨S1536x2048, .bf16⟩
  | .hbm, ⟨56, _⟩ => ⟨S12x64x2048, .bf16⟩
  | .hbm, ⟨57, _⟩ => ⟨S768x2048, .bf16⟩
  | .hbm, ⟨58, _⟩ => ⟨S12x64x2048, .bf16⟩
  | .hbm, ⟨59, _⟩ => ⟨S768x2048, .bf16⟩
  | .hbm, ⟨60, _⟩ => ⟨S12x64x2048, .bf16⟩
  | .hbm, ⟨61, _⟩ => ⟨S12x64x2048, .bf16⟩
  | .hbm, ⟨62, _⟩ => ⟨S768x2048, .bf16⟩
  | .hbm, ⟨63, _⟩ => ⟨S768x768, .bf16⟩
  | .hbm, ⟨64, _⟩ => ⟨S768x1, .f32⟩
  | .hbm, ⟨65, _⟩ => ⟨S768x1, .f32⟩
  | .hbm, ⟨66, _⟩ => ⟨S768x1, .f32⟩
  | .hbm, ⟨67, _⟩ => ⟨S768x3072, .bf16⟩
  | .hbm, ⟨68, _⟩ => ⟨S3072x1, .f32⟩
  | .hbm, ⟨69, _⟩ => ⟨S3072x768, .bf16⟩
  | .hbm, ⟨70, _⟩ => ⟨S768x1, .f32⟩
  | .hbm, ⟨71, _⟩ => ⟨S768x2048, .f32⟩
  | .hbm, ⟨72, _⟩ => ⟨S1x768, .f32⟩
  | .hbm, ⟨73, _⟩ => ⟨S768, .f32⟩
  | .hbm, ⟨74, _⟩ => ⟨S1x768, .f32⟩
  | .hbm, ⟨75, _⟩ => ⟨S768, .f32⟩
  | .hbm, ⟨76, _⟩ => ⟨S1x768x768, .f32⟩
  | .hbm, ⟨77, _⟩ => ⟨S768x768, .f32⟩
  | .hbm, ⟨78, _⟩ => ⟨S1x768, .f32⟩
  | .hbm, ⟨79, _⟩ => ⟨S768, .f32⟩
  | .hbm, ⟨80, _⟩ => ⟨S1x768x1536, .f32⟩
  | .hbm, ⟨81, _⟩ => ⟨S768x1536, .f32⟩
  | .hbm, ⟨82, _⟩ => ⟨S1x1536, .f32⟩
  | .hbm, ⟨83, _⟩ => ⟨S1536, .f32⟩
  | .hbm, ⟨84, _⟩ => ⟨S1x2, .f32⟩
  | .hbm, ⟨85, _⟩ => ⟨S2, .f32⟩
  | .hbm, ⟨86, _⟩ => ⟨S1x768x768, .f32⟩
  | .hbm, ⟨87, _⟩ => ⟨S768x768, .f32⟩
  | .hbm, ⟨88, _⟩ => ⟨S1x768, .f32⟩
  | .hbm, ⟨89, _⟩ => ⟨S768, .f32⟩
  | .hbm, ⟨90, _⟩ => ⟨S1x768, .f32⟩
  | .hbm, ⟨91, _⟩ => ⟨S768, .f32⟩
  | .hbm, ⟨92, _⟩ => ⟨S1x768, .f32⟩
  | .hbm, ⟨93, _⟩ => ⟨S768, .f32⟩
  | .hbm, ⟨94, _⟩ => ⟨S1x768x3072, .f32⟩
  | .hbm, ⟨95, _⟩ => ⟨S768x3072, .f32⟩
  | .hbm, ⟨96, _⟩ => ⟨S1x3072, .f32⟩
  | .hbm, ⟨97, _⟩ => ⟨S3072, .f32⟩
  | .hbm, ⟨98, _⟩ => ⟨S1x3072x768, .f32⟩
  | .hbm, ⟨99, _⟩ => ⟨S3072x768, .f32⟩
  | .hbm, ⟨100, _⟩ => ⟨S1x768, .f32⟩
  | .hbm, ⟨101, _⟩ => ⟨S768, .f32⟩
  | .hbm, ⟨102, _⟩ => ⟨S768x1, .f32⟩
  | .hbm, ⟨103, _⟩ => ⟨S768x1, .f32⟩
  | .hbm, ⟨104, _⟩ => ⟨S768x768, .bf16⟩
  | .hbm, ⟨105, _⟩ => ⟨S768x1, .f32⟩
  | .hbm, ⟨106, _⟩ => ⟨S768x1536, .bf16⟩
  | .hbm, ⟨107, _⟩ => ⟨S1536x1, .f32⟩
  | .hbm, ⟨108, _⟩ => ⟨S768x2048, .bf16⟩
  | .hbm, ⟨109, _⟩ => ⟨S1536x2048, .bf16⟩
  | .hbm, ⟨110, _⟩ => ⟨S12x64x2048, .bf16⟩
  | .hbm, ⟨111, _⟩ => ⟨S768x2048, .bf16⟩
  | .hbm, ⟨112, _⟩ => ⟨S12x64x2048, .bf16⟩
  | .hbm, ⟨113, _⟩ => ⟨S768x2048, .bf16⟩
  | .hbm, ⟨114, _⟩ => ⟨S12x64x2048, .bf16⟩
  | .hbm, ⟨115, _⟩ => ⟨S12x64x2048, .bf16⟩
  | .hbm, ⟨116, _⟩ => ⟨S768x2048, .bf16⟩
  | .hbm, ⟨117, _⟩ => ⟨S768x768, .bf16⟩
  | .hbm, ⟨118, _⟩ => ⟨S768x1, .f32⟩
  | .hbm, ⟨119, _⟩ => ⟨S768x1, .f32⟩
  | .hbm, ⟨120, _⟩ => ⟨S768x1, .f32⟩
  | .hbm, ⟨121, _⟩ => ⟨S768x3072, .bf16⟩
  | .hbm, ⟨122, _⟩ => ⟨S3072x1, .f32⟩
  | .hbm, ⟨123, _⟩ => ⟨S3072x768, .bf16⟩
  | .hbm, ⟨124, _⟩ => ⟨S768x1, .f32⟩
  | .hbm, ⟨125, _⟩ => ⟨S768x2048, .f32⟩
  | .hbm, ⟨126, _⟩ => ⟨S2048x768, .f32⟩
  | .hbm, ⟨127, _⟩ => ⟨S1x2048x768, .f32⟩
  | .local _ .vmem, ⟨0, _⟩ => ⟨S768x512, .f32⟩
  | .local _ .vmem, ⟨1, _⟩ => ⟨S768x512, .f32⟩
  | .local _ .vmem, ⟨2, _⟩ => ⟨S768x1, .f32⟩
  | .local _ .vmem, ⟨3, _⟩ => ⟨S768x1, .f32⟩
  | .local _ .vmem, ⟨4, _⟩ => ⟨S768x768, .bf16⟩
  | .local _ .vmem, ⟨5, _⟩ => ⟨S768x1, .f32⟩
  | .local _ .vmem, ⟨6, _⟩ => ⟨S768x1536, .bf16⟩
  | .local _ .vmem, ⟨7, _⟩ => ⟨S1536x1, .f32⟩
  | .local _ .vmem, ⟨8, _⟩ => ⟨S768x512, .bf16⟩
  | .local _ .vmem, ⟨9, _⟩ => ⟨S768x512, .bf16⟩
  | .local _ .vmem, ⟨10, _⟩ => ⟨S1536x512, .bf16⟩
  | .local _ .vmem, ⟨11, _⟩ => ⟨S1536x512, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x64x2048, .bf16⟩
  | .local _ .vmem, ⟨15, _⟩ => ⟨S1x64x2048, .bf16⟩
  | .local _ .vmem, ⟨16, _⟩ => ⟨S1x64x2048, .bf16⟩
  | .local _ .vmem, ⟨17, _⟩ => ⟨S1x64x2048, .bf16⟩
  | .local _ .vmem, ⟨18, _⟩ => ⟨S1x64x1024, .bf16⟩
  | .local _ .vmem, ⟨19, _⟩ => ⟨S1x64x1024, .bf16⟩
  | .local _ .vmem, ⟨20, _⟩ => ⟨S768x512, .bf16⟩
  | .local _ .vmem, ⟨21, _⟩ => ⟨S768x512, .bf16⟩
  | .local _ .vmem, ⟨22, _⟩ => ⟨S768x512, .f32⟩
  | .local _ .vmem, ⟨23, _⟩ => ⟨S768x512, .f32⟩
  | .local _ .vmem, ⟨24, _⟩ => ⟨S768x768, .bf16⟩
  | .local _ .vmem, ⟨25, _⟩ => ⟨S768x1, .f32⟩
  | .local _ .vmem, ⟨26, _⟩ => ⟨S768x1, .f32⟩
  | .local _ .vmem, ⟨27, _⟩ => ⟨S768x1, .f32⟩
  | .local _ .vmem, ⟨28, _⟩ => ⟨S768x3072, .bf16⟩
  | .local _ .vmem, ⟨29, _⟩ => ⟨S3072x1, .f32⟩
  | .local _ .vmem, ⟨30, _⟩ => ⟨S3072x768, .bf16⟩
  | .local _ .vmem, ⟨31, _⟩ => ⟨S768x1, .f32⟩
  | .local _ .vmem, ⟨32, _⟩ => ⟨S768x512, .f32⟩
  | .local _ .vmem, ⟨33, _⟩ => ⟨S768x512, .f32⟩
  | .local _ .vmem, ⟨34, _⟩ => ⟨S768x512, .f32⟩
  | .local _ .vmem, ⟨35, _⟩ => ⟨S768x512, .f32⟩
  | .local _ .vmem, ⟨36, _⟩ => ⟨S768x1, .f32⟩
  | .local _ .vmem, ⟨37, _⟩ => ⟨S768x1, .f32⟩
  | .local _ .vmem, ⟨38, _⟩ => ⟨S768x768, .bf16⟩
  | .local _ .vmem, ⟨39, _⟩ => ⟨S768x1, .f32⟩
  | .local _ .vmem, ⟨40, _⟩ => ⟨S768x1536, .bf16⟩
  | .local _ .vmem, ⟨41, _⟩ => ⟨S1536x1, .f32⟩
  | .local _ .vmem, ⟨42, _⟩ => ⟨S768x512, .bf16⟩
  | .local _ .vmem, ⟨43, _⟩ => ⟨S768x512, .bf16⟩
  | .local _ .vmem, ⟨44, _⟩ => ⟨S1536x512, .bf16⟩
  | .local _ .vmem, ⟨45, _⟩ => ⟨S1536x512, .bf16⟩
  | .local _ .vmem, ⟨46, _⟩ => ⟨S1x64x1024, .bf16⟩
  | .local _ .vmem, ⟨47, _⟩ => ⟨S1x64x1024, .bf16⟩
  | .local _ .vmem, ⟨48, _⟩ => ⟨S1x64x2048, .bf16⟩
  | .local _ .vmem, ⟨49, _⟩ => ⟨S1x64x2048, .bf16⟩
  | .local _ .vmem, ⟨50, _⟩ => ⟨S1x64x2048, .bf16⟩
  | .local _ .vmem, ⟨51, _⟩ => ⟨S1x64x2048, .bf16⟩
  | .local _ .vmem, ⟨52, _⟩ => ⟨S1x64x1024, .bf16⟩
  | .local _ .vmem, ⟨53, _⟩ => ⟨S1x64x1024, .bf16⟩
  | .local _ .vmem, ⟨54, _⟩ => ⟨S768x512, .bf16⟩
  | .local _ .vmem, ⟨55, _⟩ => ⟨S768x512, .bf16⟩
  | .local _ .vmem, ⟨56, _⟩ => ⟨S768x512, .f32⟩
  | .local _ .vmem, ⟨57, _⟩ => ⟨S768x512, .f32⟩
  | .local _ .vmem, ⟨58, _⟩ => ⟨S768x768, .bf16⟩
  | .local _ .vmem, ⟨59, _⟩ => ⟨S768x1, .f32⟩
  | .local _ .vmem, ⟨60, _⟩ => ⟨S768x1, .f32⟩
  | .local _ .vmem, ⟨61, _⟩ => ⟨S768x1, .f32⟩
  | .local _ .vmem, ⟨62, _⟩ => ⟨S768x3072, .bf16⟩
  | .local _ .vmem, ⟨63, _⟩ => ⟨S3072x1, .f32⟩
  | .local _ .vmem, ⟨64, _⟩ => ⟨S3072x768, .bf16⟩
  | .local _ .vmem, ⟨65, _⟩ => ⟨S768x1, .f32⟩
  | .local _ .vmem, ⟨66, _⟩ => ⟨S768x512, .f32⟩
  | .local _ .vmem, ⟨67, _⟩ => ⟨S768x512, .f32⟩
  | .local _ .smem, ⟨0, _⟩ => ⟨S2, .f32⟩
  | .local _ .smem, ⟨1, _⟩ => ⟨S2, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91_0 : Ref sig .tc := ⟨.hbm, 108, rfl⟩
abbrev main_v91_1 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg8_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg7_0 : Ref sig .tc := ⟨.vmem, 63, rfl⟩
abbrev cc5_stg8_0 : Ref sig .tc := ⟨.vmem, 64, rfl⟩
abbrev cc5_stg9_0 : Ref sig .tc := ⟨.vmem, 65, rfl⟩
abbrev cc5_stg10_0 : Ref sig .tc := ⟨.vmem, 66, rfl⟩
abbrev cc5_stg10_1 : Ref sig .tc := ⟨.vmem, 67, rfl⟩
abbrev cc1_stg0_0 : Ref sig .tc := ⟨.smem, 0, rfl⟩
abbrev cc4_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem10_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44
abbrev cc3_sem8_0 : DmaSem sig := 45
abbrev cc3_sem8_1 : DmaSem sig := 46
abbrev cc4_sem0_0 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem4_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem8_0 : DmaSem sig := 66
abbrev cc5_sem9_0 : DmaSem sig := 67
abbrev cc5_sem10_0 : DmaSem sig := 68
abbrev cc5_sem10_1 : DmaSem sig := 69

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![12, 2], ![false, false]⟩

@[reducible] def k1_t1_loop : Scf.Loop 32 :=
  let c0_i32 : BitVec 32 := 0#32
  let c8_i32 : BitVec 32 := 8#32
  let v26 : BitVec 32 := Scalar.addi c0_i32 c8_i32
  let c1_i32 : BitVec 32 := 1#32
  ⟨c0_i32, v26, c1_i32⟩
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S768x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S768x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S768x3072 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3072x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S3072x768 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S768x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S768x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S768x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S768x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S768x768 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S768x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S768x1536 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1536x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S768x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1536x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨2, ![12, 2], ![false, false]⟩

@[reducible] def k4_t1_loop : Scf.Loop 32 :=
  let c0_i32 : BitVec 32 := 0#32
  let c8_i32 : BitVec 32 := 8#32
  let v26 : BitVec 32 := Scalar.addi c0_i32 c8_i32
  let c1_i32 : BitVec 32 := 1#32
  ⟨c0_i32, v26, c1_i32⟩
def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 1 → Memref sig .tc .smem S2 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1x64x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x64x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x64x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x64x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S768x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S768x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S768x768 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S768x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S768x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S768x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S768x3072 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S3072x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S3072x768 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S768x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S768x512 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]
-- ==== KernelIdeal.lean ====
variable {F : FTy → Type} [FloatOps F]
-- ==== ReferenceIdeal.lean ====
abbrev S1x2048x768 : Shape := ⟨3, ![1, 2048, 768]⟩
abbrev S2x768 : Shape := ⟨2, ![2, 768]⟩
abbrev S2x768x768 : Shape := ⟨3, ![2, 768, 768]⟩
abbrev S2x768x1536 : Shape := ⟨3, ![2, 768, 1536]⟩
abbrev S2x1536 : Shape := ⟨2, ![2, 1536]⟩
abbrev S2x2 : Shape := ⟨2, ![2, 2]⟩
abbrev S2x768x3072 : Shape := ⟨3, ![2, 768, 3072]⟩
abbrev S2x3072 : Shape := ⟨2, ![2, 3072]⟩
abbrev S2x3072x768 : Shape := ⟨3, ![2, 3072, 768]⟩
abbrev S2048x768 : Shape := ⟨2, ![2048, 768]⟩
abbrev S1x768 : Shape := ⟨2, ![1, 768]⟩
abbrev S768 : Shape := ⟨1, ![768]⟩
abbrev S1x768x768 : Shape := ⟨3, ![1, 768, 768]⟩
abbrev S768x768 : Shape := ⟨2, ![768, 768]⟩
abbrev S1x768x1536 : Shape := ⟨3, ![1, 768, 1536]⟩
abbrev S768x1536 : Shape := ⟨2, ![768, 1536]⟩
abbrev S1x1536 : Shape := ⟨2, ![1, 1536]⟩
abbrev S1536 : Shape := ⟨1, ![1536]⟩
abbrev S1x2 : Shape := ⟨2, ![1, 2]⟩
abbrev S2 : Shape := ⟨1, ![2]⟩
abbrev S1x768x3072 : Shape := ⟨3, ![1, 768, 3072]⟩
abbrev S768x3072 : Shape := ⟨2, ![768, 3072]⟩
abbrev S1x3072 : Shape := ⟨2, ![1, 3072]⟩
abbrev S3072 : Shape := ⟨1, ![3072]⟩
abbrev S1x3072x768 : Shape := ⟨3, ![1, 3072, 768]⟩
abbrev S3072x768 : Shape := ⟨2, ![3072, 768]⟩
abbrev S_ : Shape := ⟨0, ![]⟩
abbrev S2048 : Shape := ⟨1, ![2048]⟩
abbrev S2048x1 : Shape := ⟨2, ![2048, 1]⟩
abbrev S2048x12x64 : Shape := ⟨3, ![2048, 12, 64]⟩
abbrev S2048x1536 : Shape := ⟨2, ![2048, 1536]⟩
abbrev S2048x2x12x64 : Shape := ⟨4, ![2048, 2, 12, 64]⟩
abbrev S2048x1x12x64 : Shape := ⟨4, ![2048, 1, 12, 64]⟩
abbrev S12x2048x2048 : Shape := ⟨3, ![12, 2048, 2048]⟩
abbrev S12x2048 : Shape := ⟨2, ![12, 2048]⟩
abbrev S12x2048x1 : Shape := ⟨3, ![12, 2048, 1]⟩
abbrev S12x64x2048 : Shape := ⟨3, ![12, 64, 2048]⟩
abbrev S12x2048x99 : Shape := ⟨3, ![12, 2048, 99]⟩
abbrev S12 : Shape := ⟨1, ![12]⟩
abbrev S12x1x1 : Shape := ⟨3, ![12, 1, 1]⟩
abbrev S1x2048x1 : Shape := ⟨3, ![1, 2048, 1]⟩
abbrev S12x2048x99x1 : Shape := ⟨4, ![12, 2048, 99, 1]⟩
abbrev S12x2048x99x3 : Shape := ⟨4, ![12, 2048, 99, 3]⟩
abbrev S1 : Shape := ⟨1, ![1]⟩
abbrev S2048x3072 : Shape := ⟨2, ![2048, 3072]⟩

abbrev nBuf : Space → Nat
  | .hbm => 582
  | .vmem => 0
  | .smem => 0
  | _ => 0

abbrev hbmTy0_0 (i : Nat) : BufTy := match i % 128 with
  | 0 => ⟨S1x2048x768, .f32⟩
  | 1 => ⟨S2x768, .f32⟩
  | 2 => ⟨S2x768, .f32⟩
  | 3 => ⟨S2x768x768, .f32⟩
  | 4 => ⟨S2x768, .f32⟩
  | 5 => ⟨S2x768x1536, .f32⟩
  | 6 => ⟨S2x1536, .f32⟩
  | 7 => ⟨S2x2, .f32⟩
  | 8 => ⟨S2x768x768, .f32⟩
  | 9 => ⟨S2x768, .f32⟩
  | 10 => ⟨S2x768, .f32⟩
  | 11 => ⟨S2x768, .f32⟩
  | 12 => ⟨S2x768x3072, .f32⟩
  | 13 => ⟨S2x3072, .f32⟩
  | 14 => ⟨S2x3072x768, .f32⟩
  | 15 => ⟨S2x768, .f32⟩
  | 16 => ⟨S2048x768, .f32⟩
  | 17 => ⟨S1x768, .f32⟩
  | 18 => ⟨S768, .f32⟩
  | 19 => ⟨S1x768, .f32⟩
  | 20 => ⟨S768, .f32⟩
  | 21 => ⟨S1x768x768, .f32⟩
  | 22 => ⟨S768x768, .f32⟩
  | 23 => ⟨S1x768, .f32⟩
  | 24 => ⟨S768, .f32⟩
  | 25 => ⟨S1x768x1536, .f32⟩
  | 26 => ⟨S768x1536, .f32⟩
  | 27 => ⟨S1x1536, .f32⟩
  | 28 => ⟨S1536, .f32⟩
  | 29 => ⟨S1x2, .f32⟩
  | 30 => ⟨S2, .f32⟩
  | 31 => ⟨S1x768x768, .f32⟩
  | 32 => ⟨S768x768, .f32⟩
  | 33 => ⟨S1x768, .f32⟩
  | 34 => ⟨S768, .f32⟩
  | 35 => ⟨S1x768, .f32⟩
  | 36 => ⟨S768, .f32⟩
  | 37 => ⟨S1x768, .f32⟩
  | 38 => ⟨S768, .f32⟩
  | 39 => ⟨S1x768x3072, .f32⟩
  | 40 => ⟨S768x3072, .f32⟩
  | 41 => ⟨S1x3072, .f32⟩
  | 42 => ⟨S3072, .f32⟩
  | 43 => ⟨S1x3072x768, .f32⟩
  | 44 => ⟨S3072x768, .f32⟩
  | 45 => ⟨S1x768, .f32⟩
  | 46 => ⟨S768, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .i32⟩
  | 54 => ⟨S_, .f32⟩
  | 55 => ⟨S2048, .f32⟩
  | 56 => ⟨S2048x1, .f32⟩
  | 57 => ⟨S_, .f32⟩
  | 58 => ⟨S2048x1, .f32⟩
  | 59 => ⟨S2048x1, .f32⟩
  | 60 => ⟨S2048x768, .f32⟩
  | 61 => ⟨S2048x768, .f32⟩
  | 62 => ⟨S2048x768, .f32⟩
  | 63 => ⟨S_, .f32⟩
  | 64 => ⟨S_, .f32⟩
  | 65 => ⟨S_, .f32⟩
  | 66 => ⟨S_, .f32⟩
  | 67 => ⟨S2048, .f32⟩
  | 68 => ⟨S2048x1, .f32⟩
  | 69 => ⟨S2048x1, .f32⟩
  | 70 => ⟨S2048x1, .f32⟩
  | 71 => ⟨S_, .f32⟩
  | 72 => ⟨S_, .i1⟩
  | 73 => ⟨S_, .f32⟩
  | 74 => ⟨S_, .f32⟩
  | 75 => ⟨S2048x1, .f32⟩
  | 76 => ⟨S2048x1, .f32⟩
  | 77 => ⟨S2048x768, .f32⟩
  | 78 => ⟨S2048x768, .f32⟩
  | 79 => ⟨S_, .f32⟩
  | 80 => ⟨S2048x1, .f32⟩
  | 81 => ⟨S2048x1, .f32⟩
  | 82 => ⟨S2048x1, .f32⟩
  | 83 => ⟨S2048x768, .f32⟩
  | 84 => ⟨S2048x768, .f32⟩
  | 85 => ⟨S1x768, .f32⟩
  | 86 => ⟨S2048x768, .f32⟩
  | 87 => ⟨S2048x768, .f32⟩
  | 88 => ⟨S1x768, .f32⟩
  | 89 => ⟨S2048x768, .f32⟩
  | 90 => ⟨S2048x768, .f32⟩
  | 91 => ⟨S2048x768, .f32⟩
  | 92 => ⟨S1x768, .f32⟩
  | 93 => ⟨S2048x768, .f32⟩
  | 94 => ⟨S2048x768, .f32⟩
  | 95 => ⟨S2048x12x64, .f32⟩
  | 96 => ⟨S2048x1536, .f32⟩
  | 97 => ⟨S1x1536, .f32⟩
  | 98 => ⟨S2048x1536, .f32⟩
  | 99 => ⟨S2048x1536, .f32⟩
  | 100 => ⟨S2048x2x12x64, .f32⟩
  | 101 => ⟨S2048x1x12x64, .f32⟩
  | 102 => ⟨S2048x12x64, .f32⟩
  | 103 => ⟨S2048x1x12x64, .f32⟩
  | 104 => ⟨S2048x12x64, .f32⟩
  | 105 => ⟨S12x2048x2048, .f32⟩
  | 106 => ⟨S_, .f32⟩
  | 107 => ⟨S12x2048x2048, .f32⟩
  | 108 => ⟨S12x2048x2048, .f32⟩
  | 109 => ⟨S_, .f32⟩
  | 110 => ⟨S12x2048, .f32⟩
  | 111 => ⟨S12x2048x1, .f32⟩
  | 112 => ⟨S12x2048x2048, .f32⟩
  | 113 => ⟨S12x2048x2048, .f32⟩
  | 114 => ⟨S12x2048x2048, .f32⟩
  | 115 => ⟨S_, .f32⟩
  | 116 => ⟨S12x2048, .f32⟩
  | 117 => ⟨S12x2048x1, .f32⟩
  | 118 => ⟨S12x2048x2048, .f32⟩
  | 119 => ⟨S12x2048x2048, .f32⟩
  | 120 => ⟨S12x64x2048, .f32⟩
  | 121 => ⟨S2048x12x64, .f32⟩
  | 122 => ⟨S12x2048x99, .f32⟩
  | 123 => ⟨S12x2048x99, .i32⟩
  | 124 => ⟨S12, .i32⟩
  | 125 => ⟨S12x1x1, .i32⟩
  | 126 => ⟨S2048, .i32⟩
  | 127 => ⟨S1x2048x1, .i32⟩
  | _ => ⟨S1x2048x768, .f32⟩

abbrev hbmTy0_1 (i : Nat) : BufTy := match i % 128 with
  | 0 => ⟨S_, .f32⟩
  | 1 => ⟨S12x2048x2048, .f32⟩
  | 2 => ⟨S_, .i32⟩
  | 3 => ⟨S12x1x1, .i32⟩
  | 4 => ⟨S12x1x1, .i1⟩
  | 5 => ⟨S_, .i32⟩
  | 6 => ⟨S12x1x1, .i32⟩
  | 7 => ⟨S12x1x1, .i32⟩
  | 8 => ⟨S12x1x1, .i32⟩
  | 9 => ⟨S_, .i32⟩
  | 10 => ⟨S1x2048x1, .i32⟩
  | 11 => ⟨S1x2048x1, .i1⟩
  | 12 => ⟨S_, .i32⟩
  | 13 => ⟨S1x2048x1, .i32⟩
  | 14 => ⟨S1x2048x1, .i32⟩
  | 15 => ⟨S1x2048x1, .i32⟩
  | 16 => ⟨S_, .i32⟩
  | 17 => ⟨S12x2048x99, .i32⟩
  | 18 => ⟨S12x2048x99, .i1⟩
  | 19 => ⟨S_, .i32⟩
  | 20 => ⟨S12x2048x99, .i32⟩
  | 21 => ⟨S12x2048x99, .i32⟩
  | 22 => ⟨S12x2048x99, .i32⟩
  | 23 => ⟨S12x2048x99, .i32⟩
  | 24 => ⟨S12x2048x99, .i32⟩
  | 25 => ⟨S12x2048x99x1, .i32⟩
  | 26 => ⟨S12x2048x99x1, .i32⟩
  | 27 => ⟨S12x2048x99x1, .i32⟩
  | 28 => ⟨S12x2048x99x3, .i32⟩
  | 29 => ⟨S_, .f32⟩
  | 30 => ⟨S12x2048x99, .f32⟩
  | 31 => ⟨S12x2048x2048, .f32⟩
  | 32 => ⟨S12x2048x2048, .f32⟩
  | 33 => ⟨S_, .f32⟩
  | 34 => ⟨S12x2048, .f32⟩
  | 35 => ⟨S12x2048x1, .f32⟩
  | 36 => ⟨S12x2048x2048, .f32⟩
  | 37 => ⟨S12x2048x2048, .f32⟩
  | 38 => ⟨S12x2048x2048, .f32⟩
  | 39 => ⟨S_, .f32⟩
  | 40 => ⟨S12x2048, .f32⟩
  | 41 => ⟨S12x2048x1, .f32⟩
  | 42 => ⟨S12x2048x2048, .f32⟩
  | 43 => ⟨S12x2048x2048, .f32⟩
  | 44 => ⟨S12x64x2048, .f32⟩
  | 45 => ⟨S2048x12x64, .f32⟩
  | 46 => ⟨S2, .f32⟩
  | 47 => ⟨S_, .f32⟩
  | 48 => ⟨S_, .f32⟩
  | 49 => ⟨S1, .f32⟩
  | 50 => ⟨S_, .f32⟩
  | 51 => ⟨S_, .f32⟩
  | 52 => ⟨S2048x12x64, .f32⟩
  | 53 => ⟨S2048x12x64, .f32⟩
  | 54 => ⟨S1, .f32⟩
  | 55 => ⟨S_, .f32⟩
  | 56 => ⟨S_, .f32⟩
  | 57 => ⟨S2048x12x64, .f32⟩
  | 58 => ⟨S2048x12x64, .f32⟩
  | 59 => ⟨S2048x12x64, .f32⟩
  | 60 => ⟨S2048x768, .f32⟩
  | 61 => ⟨S2048x768, .f32⟩
  | 62 => ⟨S1x768, .f32⟩
  | 63 => ⟨S2048x768, .f32⟩
  | 64 => ⟨S2048x768, .f32⟩
  | 65 => ⟨S2048x768, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S_, .i32⟩
  | 73 => ⟨S_, .f32⟩
  | 74 => ⟨S2048, .f32⟩
  | 75 => ⟨S2048x1, .f32⟩
  | 76 => ⟨S_, .f32⟩
  | 77 => ⟨S2048x1, .f32⟩
  | 78 => ⟨S2048x1, .f32⟩
  | 79 => ⟨S2048x768, .f32⟩
  | 80 => ⟨S2048x768, .f32⟩
  | 81 => ⟨S2048x768, .f32⟩
  | 82 => ⟨S_, .f32⟩
  | 83 => ⟨S_, .f32⟩
  | 84 => ⟨S_, .f32⟩
  | 85 => ⟨S_, .f32⟩
  | 86 => ⟨S2048, .f32⟩
  | 87 => ⟨S2048x1, .f32⟩
  | 88 => ⟨S2048x1, .f32⟩
  | 89 => ⟨S2048x1, .f32⟩
  | 90 => ⟨S_, .f32⟩
  | 91 => ⟨S_, .i1⟩
  | 92 => ⟨S_, .f32⟩
  | 93 => ⟨S_, .f32⟩
  | 94 => ⟨S2048x1, .f32⟩
  | 95 => ⟨S2048x1, .f32⟩
  | 96 => ⟨S2048x768, .f32⟩
  | 97 => ⟨S2048x768, .f32⟩
  | 98 => ⟨S_, .f32⟩
  | 99 => ⟨S2048x1, .f32⟩
  | 100 => ⟨S2048x1, .f32⟩
  | 101 => ⟨S2048x1, .f32⟩
  | 102 => ⟨S2048x768, .f32⟩
  | 103 => ⟨S2048x768, .f32⟩
  | 104 => ⟨S1x768, .f32⟩
  | 105 => ⟨S2048x768, .f32⟩
  | 106 => ⟨S2048x768, .f32⟩
  | 107 => ⟨S1x768, .f32⟩
  | 108 => ⟨S2048x768, .f32⟩
  | 109 => ⟨S2048x768, .f32⟩
  | 110 => ⟨S2048x3072, .f32⟩
  | 111 => ⟨S1x3072, .f32⟩
  | 112 => ⟨S2048x3072, .f32⟩
  | 113 => ⟨S2048x3072, .f32⟩
  | 114 => ⟨S_, .f32⟩
  | 115 => ⟨S2048x3072, .f32⟩
  | 116 => ⟨S2048x3072, .f32⟩
  | 117 => ⟨S_, .f32⟩
  | 118 => ⟨S2048x3072, .f32⟩
  | 119 => ⟨S2048x3072, .f32⟩
  | 120 => ⟨S2048x3072, .f32⟩
  | 121 => ⟨S_, .f32⟩
  | 122 => ⟨S2048x3072, .f32⟩
  | 123 => ⟨S2048x3072, .f32⟩
  | 124 => ⟨S_, .f32⟩
  | 125 => ⟨S2048x3072, .f32⟩
  | 126 => ⟨S2048x3072, .f32⟩
  | 127 => ⟨S_, .f32⟩
  | _ => ⟨S1x2048x768, .f32⟩

abbrev hbmTy0_2 (i : Nat) : BufTy := match i % 128 with
  | 0 => ⟨S2048x3072, .f32⟩
  | 1 => ⟨S2048x3072, .f32⟩
  | 2 => ⟨S2048x3072, .f32⟩
  | 3 => ⟨S2048x3072, .f32⟩
  | 4 => ⟨S_, .f32⟩
  | 5 => ⟨S2048x3072, .f32⟩
  | 6 => ⟨S2048x3072, .f32⟩
  | 7 => ⟨S_, .f32⟩
  | 8 => ⟨S2048x3072, .f32⟩
  | 9 => ⟨S2048x3072, .f32⟩
  | 10 => ⟨S2048x3072, .f32⟩
  | 11 => ⟨S_, .f32⟩
  | 12 => ⟨S2048x3072, .f32⟩
  | 13 => ⟨S2048x3072, .f32⟩
  | 14 => ⟨S2048x3072, .f32⟩
  | 15 => ⟨S2048x3072, .f32⟩
  | 16 => ⟨S_, .f32⟩
  | 17 => ⟨S2048x3072, .f32⟩
  | 18 => ⟨S2048x3072, .f32⟩
  | 19 => ⟨S2048x3072, .f32⟩
  | 20 => ⟨S2048x3072, .f32⟩
  | 21 => ⟨S_, .f32⟩
  | 22 => ⟨S2048x3072, .f32⟩
  | 23 => ⟨S2048x3072, .f32⟩
  | 24 => ⟨S2048x3072, .f32⟩
  | 25 => ⟨S2048x3072, .f32⟩
  | 26 => ⟨S2048x3072, .f32⟩
  | 27 => ⟨S2048x3072, .f32⟩
  | 28 => ⟨S2048x3072, .f32⟩
  | 29 => ⟨S2048x3072, .f32⟩
  | 30 => ⟨S_, .f32⟩
  | 31 => ⟨S2048x3072, .f32⟩
  | 32 => ⟨S2048x3072, .f32⟩
  | 33 => ⟨S2048x3072, .f32⟩
  | 34 => ⟨S_, .f32⟩
  | 35 => ⟨S2048x3072, .f32⟩
  | 36 => ⟨S2048x3072, .f32⟩
  | 37 => ⟨S2048x3072, .f32⟩
  | 38 => ⟨S2048x768, .f32⟩
  | 39 => ⟨S1x768, .f32⟩
  | 40 => ⟨S2048x768, .f32⟩
  | 41 => ⟨S2048x768, .f32⟩
  | 42 => ⟨S2048x768, .f32⟩
  | 43 => ⟨S1x768, .f32⟩
  | 44 => ⟨S768, .f32⟩
  | 45 => ⟨S1x768, .f32⟩
  | 46 => ⟨S768, .f32⟩
  | 47 => ⟨S1x768x768, .f32⟩
  | 48 => ⟨S768x768, .f32⟩
  | 49 => ⟨S1x768, .f32⟩
  | 50 => ⟨S768, .f32⟩
  | 51 => ⟨S1x768x1536, .f32⟩
  | 52 => ⟨S768x1536, .f32⟩
  | 53 => ⟨S1x1536, .f32⟩
  | 54 => ⟨S1536, .f32⟩
  | 55 => ⟨S1x2, .f32⟩
  | 56 => ⟨S2, .f32⟩
  | 57 => ⟨S1x768x768, .f32⟩
  | 58 => ⟨S768x768, .f32⟩
  | 59 => ⟨S1x768, .f32⟩
  | 60 => ⟨S768, .f32⟩
  | 61 => ⟨S1x768, .f32⟩
  | 62 => ⟨S768, .f32⟩
  | 63 => ⟨S1x768, .f32⟩
  | 64 => ⟨S768, .f32⟩
  | 65 => ⟨S1x768x3072, .f32⟩
  | 66 => ⟨S768x3072, .f32⟩
  | 67 => ⟨S1x3072, .f32⟩
  | 68 => ⟨S3072, .f32⟩
  | 69 => ⟨S1x3072x768, .f32⟩
  | 70 => ⟨S3072x768, .f32⟩
  | 71 => ⟨S1x768, .f32⟩
  | 72 => ⟨S768, .f32⟩
  | 73 => ⟨S_, .f32⟩
  | 74 => ⟨S2048, .f32⟩
  | 75 => ⟨S2048x1, .f32⟩
  | 76 => ⟨S_, .f32⟩
  | 77 => ⟨S2048x1, .f32⟩
  | 78 => ⟨S2048x1, .f32⟩
  | 79 => ⟨S_, .i32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S2048x768, .f32⟩
  | 87 => ⟨S2048x768, .f32⟩
  | 88 => ⟨S2048x768, .f32⟩
  | 89 => ⟨S_, .f32⟩
  | 90 => ⟨S_, .f32⟩
  | 91 => ⟨S_, .f32⟩
  | 92 => ⟨S_, .f32⟩
  | 93 => ⟨S2048, .f32⟩
  | 94 => ⟨S2048x1, .f32⟩
  | 95 => ⟨S2048x1, .f32⟩
  | 96 => ⟨S2048x1, .f32⟩
  | 97 => ⟨S_, .f32⟩
  | 98 => ⟨S_, .i1⟩
  | 99 => ⟨S_, .f32⟩
  | 100 => ⟨S_, .f32⟩
  | 101 => ⟨S2048x1, .f32⟩
  | 102 => ⟨S2048x1, .f32⟩
  | 103 => ⟨S2048x768, .f32⟩
  | 104 => ⟨S2048x768, .f32⟩
  | 105 => ⟨S_, .f32⟩
  | 106 => ⟨S2048x1, .f32⟩
  | 107 => ⟨S2048x1, .f32⟩
  | 108 => ⟨S2048x1, .f32⟩
  | 109 => ⟨S2048x768, .f32⟩
  | 110 => ⟨S2048x768, .f32⟩
  | 111 => ⟨S1x768, .f32⟩
  | 112 => ⟨S2048x768, .f32⟩
  | 113 => ⟨S2048x768, .f32⟩
  | 114 => ⟨S1x768, .f32⟩
  | 115 => ⟨S2048x768, .f32⟩
  | 116 => ⟨S2048x768, .f32⟩
  | 117 => ⟨S2048x768, .f32⟩
  | 118 => ⟨S1x768, .f32⟩
  | 119 => ⟨S2048x768, .f32⟩
  | 120 => ⟨S2048x768, .f32⟩
  | 121 => ⟨S2048x12x64, .f32⟩
  | 122 => ⟨S2048x1536, .f32⟩
  | 123 => ⟨S1x1536, .f32⟩
  | 124 => ⟨S2048x1536, .f32⟩
  | 125 => ⟨S2048x1536, .f32⟩
  | 126 => ⟨S2048x2x12x64, .f32⟩
  | 127 => ⟨S2048x1x12x64, .f32⟩
  | _ => ⟨S1x2048x768, .f32⟩

abbrev hbmTy0_3 (i : Nat) : BufTy := match i % 128 with
  | 0 => ⟨S2048x12x64, .f32⟩
  | 1 => ⟨S2048x1x12x64, .f32⟩
  | 2 => ⟨S2048x12x64, .f32⟩
  | 3 => ⟨S12x2048x2048, .f32⟩
  | 4 => ⟨S_, .f32⟩
  | 5 => ⟨S12x2048x2048, .f32⟩
  | 6 => ⟨S12x2048x2048, .f32⟩
  | 7 => ⟨S_, .f32⟩
  | 8 => ⟨S12x2048, .f32⟩
  | 9 => ⟨S12x2048x1, .f32⟩
  | 10 => ⟨S12x2048x2048, .f32⟩
  | 11 => ⟨S12x2048x2048, .f32⟩
  | 12 => ⟨S12x2048x2048, .f32⟩
  | 13 => ⟨S_, .f32⟩
  | 14 => ⟨S12x2048, .f32⟩
  | 15 => ⟨S12x2048x1, .f32⟩
  | 16 => ⟨S12x2048x2048, .f32⟩
  | 17 => ⟨S12x2048x2048, .f32⟩
  | 18 => ⟨S12x64x2048, .f32⟩
  | 19 => ⟨S2048x12x64, .f32⟩
  | 20 => ⟨S12x2048x99, .f32⟩
  | 21 => ⟨S12x2048x99, .i32⟩
  | 22 => ⟨S12, .i32⟩
  | 23 => ⟨S12x1x1, .i32⟩
  | 24 => ⟨S2048, .i32⟩
  | 25 => ⟨S1x2048x1, .i32⟩
  | 26 => ⟨S_, .f32⟩
  | 27 => ⟨S12x2048x2048, .f32⟩
  | 28 => ⟨S_, .i32⟩
  | 29 => ⟨S12x1x1, .i32⟩
  | 30 => ⟨S12x1x1, .i1⟩
  | 31 => ⟨S_, .i32⟩
  | 32 => ⟨S12x1x1, .i32⟩
  | 33 => ⟨S12x1x1, .i32⟩
  | 34 => ⟨S12x1x1, .i32⟩
  | 35 => ⟨S_, .i32⟩
  | 36 => ⟨S1x2048x1, .i32⟩
  | 37 => ⟨S1x2048x1, .i1⟩
  | 38 => ⟨S_, .i32⟩
  | 39 => ⟨S1x2048x1, .i32⟩
  | 40 => ⟨S1x2048x1, .i32⟩
  | 41 => ⟨S1x2048x1, .i32⟩
  | 42 => ⟨S_, .i32⟩
  | 43 => ⟨S12x2048x99, .i32⟩
  | 44 => ⟨S12x2048x99, .i1⟩
  | 45 => ⟨S_, .i32⟩
  | 46 => ⟨S12x2048x99, .i32⟩
  | 47 => ⟨S12x2048x99, .i32⟩
  | 48 => ⟨S12x2048x99, .i32⟩
  | 49 => ⟨S12x2048x99, .i32⟩
  | 50 => ⟨S12x2048x99, .i32⟩
  | 51 => ⟨S12x2048x99x1, .i32⟩
  | 52 => ⟨S12x2048x99x1, .i32⟩
  | 53 => ⟨S12x2048x99x1, .i32⟩
  | 54 => ⟨S12x2048x99x3, .i32⟩
  | 55 => ⟨S_, .f32⟩
  | 56 => ⟨S12x2048x99, .f32⟩
  | 57 => ⟨S12x2048x2048, .f32⟩
  | 58 => ⟨S12x2048x2048, .f32⟩
  | 59 => ⟨S_, .f32⟩
  | 60 => ⟨S12x2048, .f32⟩
  | 61 => ⟨S12x2048x1, .f32⟩
  | 62 => ⟨S12x2048x2048, .f32⟩
  | 63 => ⟨S12x2048x2048, .f32⟩
  | 64 => ⟨S12x2048x2048, .f32⟩
  | 65 => ⟨S_, .f32⟩
  | 66 => ⟨S12x2048, .f32⟩
  | 67 => ⟨S12x2048x1, .f32⟩
  | 68 => ⟨S12x2048x2048, .f32⟩
  | 69 => ⟨S12x2048x2048, .f32⟩
  | 70 => ⟨S12x64x2048, .f32⟩
  | 71 => ⟨S2048x12x64, .f32⟩
  | 72 => ⟨S2, .f32⟩
  | 73 => ⟨S_, .f32⟩
  | 74 => ⟨S_, .f32⟩
  | 75 => ⟨S1, .f32⟩
  | 76 => ⟨S_, .f32⟩
  | 77 => ⟨S_, .f32⟩
  | 78 => ⟨S2048x12x64, .f32⟩
  | 79 => ⟨S2048x12x64, .f32⟩
  | 80 => ⟨S1, .f32⟩
  | 81 => ⟨S_, .f32⟩
  | 82 => ⟨S_, .f32⟩
  | 83 => ⟨S2048x12x64, .f32⟩
  | 84 => ⟨S2048x12x64, .f32⟩
  | 85 => ⟨S2048x12x64, .f32⟩
  | 86 => ⟨S2048x768, .f32⟩
  | 87 => ⟨S2048x768, .f32⟩
  | 88 => ⟨S1x768, .f32⟩
  | 89 => ⟨S2048x768, .f32⟩
  | 90 => ⟨S2048x768, .f32⟩
  | 91 => ⟨S2048x768, .f32⟩
  | 92 => ⟨S_, .f32⟩
  | 93 => ⟨S2048, .f32⟩
  | 94 => ⟨S2048x1, .f32⟩
  | 95 => ⟨S_, .f32⟩
  | 96 => ⟨S2048x1, .f32⟩
  | 97 => ⟨S2048x1, .f32⟩
  | 98 => ⟨S_, .i32⟩
  | 99 => ⟨S_, .f32⟩
  | 100 => ⟨S2048, .f32⟩
  | 101 => ⟨S2048x1, .f32⟩
  | 102 => ⟨S_, .f32⟩
  | 103 => ⟨S2048x1, .f32⟩
  | 104 => ⟨S2048x1, .f32⟩
  | 105 => ⟨S2048x768, .f32⟩
  | 106 => ⟨S2048x768, .f32⟩
  | 107 => ⟨S2048x768, .f32⟩
  | 108 => ⟨S_, .f32⟩
  | 109 => ⟨S_, .f32⟩
  | 110 => ⟨S_, .f32⟩
  | 111 => ⟨S_, .f32⟩
  | 112 => ⟨S2048, .f32⟩
  | 113 => ⟨S2048x1, .f32⟩
  | 114 => ⟨S2048x1, .f32⟩
  | 115 => ⟨S2048x1, .f32⟩
  | 116 => ⟨S_, .f32⟩
  | 117 => ⟨S_, .i1⟩
  | 118 => ⟨S_, .f32⟩
  | 119 => ⟨S_, .f32⟩
  | 120 => ⟨S2048x1, .f32⟩
  | 121 => ⟨S2048x1, .f32⟩
  | 122 => ⟨S2048x768, .f32⟩
  | 123 => ⟨S2048x768, .f32⟩
  | 124 => ⟨S_, .f32⟩
  | 125 => ⟨S2048x1, .f32⟩
  | 126 => ⟨S2048x1, .f32⟩
  | 127 => ⟨S2048x1, .f32⟩
  | _ => ⟨S1x2048x768, .f32⟩

abbrev hbmTy0_4 (i : Nat) : BufTy := match i % 128 with
  | 0 => ⟨S2048x768, .f32⟩
  | 1 => ⟨S2048x768, .f32⟩
  | 2 => ⟨S1x768, .f32⟩
  | 3 => ⟨S2048x768, .f32⟩
  | 4 => ⟨S2048x768, .f32⟩
  | 5 => ⟨S1x768, .f32⟩
  | 6 => ⟨S2048x768, .f32⟩
  | 7 => ⟨S2048x768, .f32⟩
  | 8 => ⟨S2048x3072, .f32⟩
  | 9 => ⟨S1x3072, .f32⟩
  | 10 => ⟨S2048x3072, .f32⟩
  | 11 => ⟨S2048x3072, .f32⟩
  | 12 => ⟨S_, .f32⟩
  | 13 => ⟨S2048x3072, .f32⟩
  | 14 => ⟨S2048x3072, .f32⟩
  | 15 => ⟨S_, .f32⟩
  | 16 => ⟨S2048x3072, .f32⟩
  | 17 => ⟨S2048x3072, .f32⟩
  | 18 => ⟨S2048x3072, .f32⟩
  | 19 => ⟨S_, .f32⟩
  | 20 => ⟨S2048x3072, .f32⟩
  | 21 => ⟨S2048x3072, .f32⟩
  | 22 => ⟨S_, .f32⟩
  | 23 => ⟨S2048x3072, .f32⟩
  | 24 => ⟨S2048x3072, .f32⟩
  | 25 => ⟨S_, .f32⟩
  | 26 => ⟨S2048x3072, .f32⟩
  | 27 => ⟨S2048x3072, .f32⟩
  | 28 => ⟨S2048x3072, .f32⟩
  | 29 => ⟨S2048x3072, .f32⟩
  | 30 => ⟨S_, .f32⟩
  | 31 => ⟨S2048x3072, .f32⟩
  | 32 => ⟨S2048x3072, .f32⟩
  | 33 => ⟨S_, .f32⟩
  | 34 => ⟨S2048x3072, .f32⟩
  | 35 => ⟨S2048x3072, .f32⟩
  | 36 => ⟨S2048x3072, .f32⟩
  | 37 => ⟨S_, .f32⟩
  | 38 => ⟨S2048x3072, .f32⟩
  | 39 => ⟨S2048x3072, .f32⟩
  | 40 => ⟨S2048x3072, .f32⟩
  | 41 => ⟨S2048x3072, .f32⟩
  | 42 => ⟨S_, .f32⟩
  | 43 => ⟨S2048x3072, .f32⟩
  | 44 => ⟨S2048x3072, .f32⟩
  | 45 => ⟨S2048x3072, .f32⟩
  | 46 => ⟨S2048x3072, .f32⟩
  | 47 => ⟨S_, .f32⟩
  | 48 => ⟨S2048x3072, .f32⟩
  | 49 => ⟨S2048x3072, .f32⟩
  | 50 => ⟨S2048x3072, .f32⟩
  | 51 => ⟨S2048x3072, .f32⟩
  | 52 => ⟨S2048x3072, .f32⟩
  | 53 => ⟨S2048x3072, .f32⟩
  | 54 => ⟨S2048x3072, .f32⟩
  | 55 => ⟨S2048x3072, .f32⟩
  | 56 => ⟨S_, .f32⟩
  | 57 => ⟨S2048x3072, .f32⟩
  | 58 => ⟨S2048x3072, .f32⟩
  | 59 => ⟨S2048x3072, .f32⟩
  | 60 => ⟨S_, .f32⟩
  | 61 => ⟨S2048x3072, .f32⟩
  | 62 => ⟨S2048x3072, .f32⟩
  | 63 => ⟨S2048x3072, .f32⟩
  | 64 => ⟨S2048x768, .f32⟩
  | 65 => ⟨S1x768, .f32⟩
  | 66 => ⟨S2048x768, .f32⟩
  | 67 => ⟨S2048x768, .f32⟩
  | 68 => ⟨S2048x768, .f32⟩
  | 69 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_cst_3 : Ref sig .tc := ⟨.hbm, 71, rfl⟩
abbrev main_call0_v13 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_1 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_2 : Ref sig .tc := ⟨.hbm, 106, rfl⟩
abbrev main_v64 : Ref sig .tc := ⟨.hbm, 107, rfl⟩
abbrev main_v65 : Ref sig .tc := ⟨.hbm, 108, rfl⟩
abbrev main_cst_3 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_4 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_values : Ref sig .tc := ⟨.hbm, 122, rfl⟩
abbrev main_indices : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_5 : Ref sig .tc := ⟨.hbm, 128, rfl⟩
abbrev main_v81 : Ref sig .tc := ⟨.hbm, 129, rfl⟩
abbrev main_c_6 : Ref sig .tc := ⟨.hbm, 130, rfl⟩
abbrev main_v82 : Ref sig .tc := ⟨.hbm, 131, rfl⟩
abbrev main_v83 : Ref sig .tc := ⟨.hbm, 132, rfl⟩
abbrev main_c_7 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_8 : Ref sig .tc := ⟨.hbm, 137, rfl⟩
abbrev main_v87 : Ref sig .tc := ⟨.hbm, 138, rfl⟩
abbrev main_v88 : Ref sig .tc := ⟨.hbm, 139, rfl⟩
abbrev main_c_9 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_10 : Ref sig .tc := ⟨.hbm, 144, rfl⟩
abbrev main_v92 : Ref sig .tc := ⟨.hbm, 145, rfl⟩
abbrev main_v93 : Ref sig .tc := ⟨.hbm, 146, rfl⟩
abbrev main_c_11 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_12 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_13 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_14 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_15 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_16 : Ref sig .tc := ⟨.hbm, 194, rfl⟩
abbrev main_v136 : Ref sig .tc := ⟨.hbm, 195, rfl⟩
abbrev main_v137 : Ref sig .tc := ⟨.hbm, 196, rfl⟩
abbrev main_cst_17 : Ref sig .tc := ⟨.hbm, 197, rfl⟩
abbrev main_v138 : Ref sig .tc := ⟨.hbm, 198, rfl⟩
abbrev main_v139 : Ref sig .tc := ⟨.hbm, 199, rfl⟩
abbrev main_c_18 : Ref sig .tc := ⟨.hbm, 200, rfl⟩
abbrev main_call1_cst : Ref sig .tc := ⟨.hbm, 201, rfl⟩
abbrev main_call1_v0 : Ref sig .tc := ⟨.hbm, 202, rfl⟩
abbrev main_call1_v1 : Ref sig .tc := ⟨.hbm, 203, rfl⟩
abbrev main_call1_cst_0 : Ref sig .tc := ⟨.hbm, 204, rfl⟩
abbrev main_call1_v2 : Ref sig .tc := ⟨.hbm, 205, rfl⟩
abbrev main_call1_v3 : Ref sig .tc := ⟨.hbm, 206, rfl⟩
abbrev main_call1_v4 : Ref sig .tc := ⟨.hbm, 207, rfl⟩
abbrev main_call1_v5 : Ref sig .tc := ⟨.hbm, 208, rfl⟩
abbrev main_call1_v6 : Ref sig .tc := ⟨.hbm, 209, rfl⟩
abbrev main_call1_v7 : Ref sig .tc := ⟨.hbm, 210, rfl⟩
abbrev main_call1_cst_1 : Ref sig .tc := ⟨.hbm, 211, rfl⟩
abbrev main_call1_v8 : Ref sig .tc := ⟨.hbm, 212, rfl⟩
abbrev main_call1_cst_2 : Ref sig .tc := ⟨.hbm, 213, rfl⟩
abbrev main_call1_v9 : Ref sig .tc := ⟨.hbm, 214, rfl⟩
abbrev main_call1_v10 : Ref sig .tc := ⟨.hbm, 215, rfl⟩
abbrev main_call1_v11 : Ref sig .tc := ⟨.hbm, 216, rfl⟩
abbrev main_call1_v12 : Ref sig .tc := ⟨.hbm, 217, rfl⟩
abbrev main_call1_cst_3 : Ref sig .tc := ⟨.hbm, 218, rfl⟩
abbrev main_call1_v13 : Ref sig .tc := ⟨.hbm, 219, rfl⟩
abbrev main_call1_cst_4 : Ref sig .tc := ⟨.hbm, 220, rfl⟩
abbrev main_call1_call0_v0 : Ref sig .tc := ⟨.hbm, 221, rfl⟩
abbrev main_call1_call0_v1 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_cst_19 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_cst_20 : Ref sig .tc := ⟨.hbm, 242, rfl⟩
abbrev main_v158 : Ref sig .tc := ⟨.hbm, 243, rfl⟩
abbrev main_v159 : Ref sig .tc := ⟨.hbm, 244, rfl⟩
abbrev main_cst_21 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_cst_22 : Ref sig .tc := ⟨.hbm, 249, rfl⟩
abbrev main_v163 : Ref sig .tc := ⟨.hbm, 250, rfl⟩
abbrev main_v164 : Ref sig .tc := ⟨.hbm, 251, rfl⟩
abbrev main_cst_23 : Ref sig .tc := ⟨.hbm, 252, rfl⟩
abbrev main_v165 : Ref sig .tc := ⟨.hbm, 253, rfl⟩
abbrev main_v166 : Ref sig .tc := ⟨.hbm, 254, rfl⟩
abbrev main_cst_24 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_cst_25 : Ref sig .tc := ⟨.hbm, 260, rfl⟩
abbrev main_v171 : Ref sig .tc := ⟨.hbm, 261, rfl⟩
abbrev main_v172 : Ref sig .tc := ⟨.hbm, 262, rfl⟩
abbrev main_cst_26 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_cst_27 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_cst_28 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_cst_29 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_30 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_cst_31 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_cst_32 : Ref sig .tc := ⟨.hbm, 329, rfl⟩
abbrev main_v233 : Ref sig .tc := ⟨.hbm, 330, rfl⟩
abbrev main_v234 : Ref sig .tc := ⟨.hbm, 331, rfl⟩
abbrev main_cst_33 : Ref sig .tc := ⟨.hbm, 332, rfl⟩
abbrev main_v235 : Ref sig .tc := ⟨.hbm, 333, rfl⟩
abbrev main_v236 : Ref sig .tc := ⟨.hbm, 334, rfl⟩
abbrev main_c_34 : Ref sig .tc := ⟨.hbm, 335, rfl⟩
abbrev main_call2_cst : Ref sig .tc := ⟨.hbm, 336, rfl⟩
abbrev main_call2_v0 : Ref sig .tc := ⟨.hbm, 337, rfl⟩
abbrev main_call2_v1 : Ref sig .tc := ⟨.hbm, 338, rfl⟩
abbrev main_call2_cst_0 : Ref sig .tc := ⟨.hbm, 339, rfl⟩
abbrev main_call2_v2 : Ref sig .tc := ⟨.hbm, 340, rfl⟩
abbrev main_call2_v3 : Ref sig .tc := ⟨.hbm, 341, rfl⟩
abbrev main_call2_v4 : Ref sig .tc := ⟨.hbm, 342, rfl⟩
abbrev main_call2_v5 : Ref sig .tc := ⟨.hbm, 343, rfl⟩
abbrev main_call2_v6 : Ref sig .tc := ⟨.hbm, 344, rfl⟩
abbrev main_call2_v7 : Ref sig .tc := ⟨.hbm, 345, rfl⟩
abbrev main_call2_cst_1 : Ref sig .tc := ⟨.hbm, 346, rfl⟩
abbrev main_call2_v8 : Ref sig .tc := ⟨.hbm, 347, rfl⟩
abbrev main_call2_cst_2 : Ref sig .tc := ⟨.hbm, 348, rfl⟩
abbrev main_call2_v9 : Ref sig .tc := ⟨.hbm, 349, rfl⟩
abbrev main_call2_v10 : Ref sig .tc := ⟨.hbm, 350, rfl⟩
abbrev main_call2_v11 : Ref sig .tc := ⟨.hbm, 351, rfl⟩
abbrev main_call2_v12 : Ref sig .tc := ⟨.hbm, 352, rfl⟩
abbrev main_call2_cst_3 : Ref sig .tc := ⟨.hbm, 353, rfl⟩
abbrev main_call2_v13 : Ref sig .tc := ⟨.hbm, 354, rfl⟩
abbrev main_call2_cst_4 : Ref sig .tc := ⟨.hbm, 355, rfl⟩
abbrev main_call2_call0_v0 : Ref sig .tc := ⟨.hbm, 356, rfl⟩
abbrev main_call2_call0_v1 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_cst_35 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_v252 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_v259 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_cst_36 : Ref sig .tc := ⟨.hbm, 388, rfl⟩
abbrev main_v266 : Ref sig .tc := ⟨.hbm, 389, rfl⟩
abbrev main_v267 : Ref sig .tc := ⟨.hbm, 390, rfl⟩
abbrev main_cst_37 : Ref sig .tc := ⟨.hbm, 391, rfl⟩
abbrev main_v268 : Ref sig .tc := ⟨.hbm, 392, rfl⟩
abbrev main_v269 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_cst_38 : Ref sig .tc := ⟨.hbm, 397, rfl⟩
abbrev main_v273 : Ref sig .tc := ⟨.hbm, 398, rfl⟩
abbrev main_v274 : Ref sig .tc := ⟨.hbm, 399, rfl⟩
abbrev main_v275 : Ref sig .tc := ⟨.hbm, 400, rfl⟩
abbrev main_v276 : Ref sig .tc := ⟨.hbm, 401, rfl⟩
abbrev main_v277 : Ref sig .tc := ⟨.hbm, 402, rfl⟩
abbrev main_v278 : Ref sig .tc := ⟨.hbm, 403, rfl⟩
abbrev main_values_39 : Ref sig .tc := ⟨.hbm, 404, rfl⟩
abbrev main_indices_40 : Ref sig .tc := ⟨.hbm, 405, rfl⟩
abbrev main_v279 : Ref sig .tc := ⟨.hbm, 406, rfl⟩
abbrev main_v280 : Ref sig .tc := ⟨.hbm, 407, rfl⟩
abbrev main_v281 : Ref sig .tc := ⟨.hbm, 408, rfl⟩
abbrev main_v282 : Ref sig .tc := ⟨.hbm, 409, rfl⟩
abbrev main_cst_41 : Ref sig .tc := ⟨.hbm, 410, rfl⟩
abbrev main_v283 : Ref sig .tc := ⟨.hbm, 411, rfl⟩
abbrev main_c_42 : Ref sig .tc := ⟨.hbm, 412, rfl⟩
abbrev main_v284 : Ref sig .tc := ⟨.hbm, 413, rfl⟩
abbrev main_v285 : Ref sig .tc := ⟨.hbm, 414, rfl⟩
abbrev main_c_43 : Ref sig .tc := ⟨.hbm, 415, rfl⟩
abbrev main_v286 : Ref sig .tc := ⟨.hbm, 416, rfl⟩
abbrev main_v287 : Ref sig .tc := ⟨.hbm, 417, rfl⟩
abbrev main_v288 : Ref sig .tc := ⟨.hbm, 418, rfl⟩
abbrev main_c_44 : Ref sig .tc := ⟨.hbm, 419, rfl⟩
abbrev main_v289 : Ref sig .tc := ⟨.hbm, 420, rfl⟩
abbrev main_v290 : Ref sig .tc := ⟨.hbm, 421, rfl⟩
abbrev main_c_45 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_c_46 : Ref sig .tc := ⟨.hbm, 426, rfl⟩
abbrev main_v294 : Ref sig .tc := ⟨.hbm, 427, rfl⟩
abbrev main_v295 : Ref sig .tc := ⟨.hbm, 428, rfl⟩
abbrev main_c_47 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_v301 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_cst_48 : Ref sig .tc := ⟨.hbm, 439, rfl⟩
abbrev main_v305 : Ref sig .tc := ⟨.hbm, 440, rfl⟩
abbrev main_v306 : Ref sig .tc := ⟨.hbm, 441, rfl⟩
abbrev main_v307 : Ref sig .tc := ⟨.hbm, 442, rfl⟩
abbrev main_cst_49 : Ref sig .tc := ⟨.hbm, 443, rfl⟩
abbrev main_v308 : Ref sig .tc := ⟨.hbm, 444, rfl⟩
abbrev main_v309 : Ref sig .tc := ⟨.hbm, 445, rfl⟩
abbrev main_v310 : Ref sig .tc := ⟨.hbm, 446, rfl⟩
abbrev main_v311 : Ref sig .tc := ⟨.hbm, 447, rfl⟩
abbrev main_v312 : Ref sig .tc := ⟨.hbm, 448, rfl⟩
abbrev main_cst_50 : Ref sig .tc := ⟨.hbm, 449, rfl⟩
abbrev main_v313 : Ref sig .tc := ⟨.hbm, 450, rfl⟩
abbrev main_v314 : Ref sig .tc := ⟨.hbm, 451, rfl⟩
abbrev main_v315 : Ref sig .tc := ⟨.hbm, 452, rfl⟩
abbrev main_v316 : Ref sig .tc := ⟨.hbm, 453, rfl⟩
abbrev main_v317 : Ref sig .tc := ⟨.hbm, 454, rfl⟩
abbrev main_v318 : Ref sig .tc := ⟨.hbm, 455, rfl⟩
abbrev main_v319 : Ref sig .tc := ⟨.hbm, 456, rfl⟩
abbrev main_cst_51 : Ref sig .tc := ⟨.hbm, 457, rfl⟩
abbrev main_v320 : Ref sig .tc := ⟨.hbm, 458, rfl⟩
abbrev main_v321 : Ref sig .tc := ⟨.hbm, 459, rfl⟩
abbrev main_v322 : Ref sig .tc := ⟨.hbm, 460, rfl⟩
abbrev main_v323 : Ref sig .tc := ⟨.hbm, 461, rfl⟩
abbrev main_v324 : Ref sig .tc := ⟨.hbm, 462, rfl⟩
abbrev main_v325 : Ref sig .tc := ⟨.hbm, 463, rfl⟩
abbrev main_v326 : Ref sig .tc := ⟨.hbm, 464, rfl⟩
abbrev main_v327 : Ref sig .tc := ⟨.hbm, 465, rfl⟩
abbrev main_v328 : Ref sig .tc := ⟨.hbm, 466, rfl⟩
abbrev main_v329 : Ref sig .tc := ⟨.hbm, 467, rfl⟩
abbrev main_v330 : Ref sig .tc := ⟨.hbm, 468, rfl⟩
abbrev main_v331 : Ref sig .tc := ⟨.hbm, 469, rfl⟩
abbrev main_v332 : Ref sig .tc := ⟨.hbm, 470, rfl⟩
abbrev main_v333 : Ref sig .tc := ⟨.hbm, 471, rfl⟩
abbrev main_v334 : Ref sig .tc := ⟨.hbm, 472, rfl⟩
abbrev main_v335 : Ref sig .tc := ⟨.hbm, 473, rfl⟩
abbrev main_v336 : Ref sig .tc := ⟨.hbm, 474, rfl⟩
abbrev main_v337 : Ref sig .tc := ⟨.hbm, 475, rfl⟩
abbrev main_cst_52 : Ref sig .tc := ⟨.hbm, 476, rfl⟩
abbrev main_v338 : Ref sig .tc := ⟨.hbm, 477, rfl⟩
abbrev main_v339 : Ref sig .tc := ⟨.hbm, 478, rfl⟩
abbrev main_cst_53 : Ref sig .tc := ⟨.hbm, 479, rfl⟩
abbrev main_v340 : Ref sig .tc := ⟨.hbm, 480, rfl⟩
abbrev main_v341 : Ref sig .tc := ⟨.hbm, 481, rfl⟩
abbrev main_c_54 : Ref sig .tc := ⟨.hbm, 482, rfl⟩
abbrev main_call3_cst : Ref sig .tc := ⟨.hbm, 483, rfl⟩
abbrev main_call3_v0 : Ref sig .tc := ⟨.hbm, 484, rfl⟩
abbrev main_call3_v1 : Ref sig .tc := ⟨.hbm, 485, rfl⟩
abbrev main_call3_cst_0 : Ref sig .tc := ⟨.hbm, 486, rfl⟩
abbrev main_call3_v2 : Ref sig .tc := ⟨.hbm, 487, rfl⟩
abbrev main_call3_v3 : Ref sig .tc := ⟨.hbm, 488, rfl⟩
abbrev main_call3_v4 : Ref sig .tc := ⟨.hbm, 489, rfl⟩
abbrev main_call3_v5 : Ref sig .tc := ⟨.hbm, 490, rfl⟩
abbrev main_call3_v6 : Ref sig .tc := ⟨.hbm, 491, rfl⟩
abbrev main_call3_v7 : Ref sig .tc := ⟨.hbm, 492, rfl⟩
abbrev main_call3_cst_1 : Ref sig .tc := ⟨.hbm, 493, rfl⟩
abbrev main_call3_v8 : Ref sig .tc := ⟨.hbm, 494, rfl⟩
abbrev main_call3_cst_2 : Ref sig .tc := ⟨.hbm, 495, rfl⟩
abbrev main_call3_v9 : Ref sig .tc := ⟨.hbm, 496, rfl⟩
abbrev main_call3_v10 : Ref sig .tc := ⟨.hbm, 497, rfl⟩
abbrev main_call3_v11 : Ref sig .tc := ⟨.hbm, 498, rfl⟩
abbrev main_call3_v12 : Ref sig .tc := ⟨.hbm, 499, rfl⟩
abbrev main_call3_cst_3 : Ref sig .tc := ⟨.hbm, 500, rfl⟩
abbrev main_call3_v13 : Ref sig .tc := ⟨.hbm, 501, rfl⟩
abbrev main_call3_cst_4 : Ref sig .tc := ⟨.hbm, 502, rfl⟩
abbrev main_call3_call0_v0 : Ref sig .tc := ⟨.hbm, 503, rfl⟩
abbrev main_call3_call0_v1 : Ref sig .tc := ⟨.hbm, 504, rfl⟩
abbrev main_v342 : Ref sig .tc := ⟨.hbm, 505, rfl⟩
abbrev main_v343 : Ref sig .tc := ⟨.hbm, 506, rfl⟩
abbrev main_v344 : Ref sig .tc := ⟨.hbm, 507, rfl⟩
abbrev main_cst_55 : Ref sig .tc := ⟨.hbm, 508, rfl⟩
abbrev main_v345 : Ref sig .tc := ⟨.hbm, 509, rfl⟩
abbrev main_v346 : Ref sig .tc := ⟨.hbm, 510, rfl⟩
abbrev main_v347 : Ref sig .tc := ⟨.hbm, 511, rfl⟩
abbrev main_v348 : Ref sig .tc := ⟨.hbm, 512, rfl⟩
abbrev main_v349 : Ref sig .tc := ⟨.hbm, 513, rfl⟩
abbrev main_v350 : Ref sig .tc := ⟨.hbm, 514, rfl⟩
abbrev main_v351 : Ref sig .tc := ⟨.hbm, 515, rfl⟩
abbrev main_v352 : Ref sig .tc := ⟨.hbm, 516, rfl⟩
abbrev main_v353 : Ref sig .tc := ⟨.hbm, 517, rfl⟩
abbrev main_v354 : Ref sig .tc := ⟨.hbm, 518, rfl⟩
abbrev main_v355 : Ref sig .tc := ⟨.hbm, 519, rfl⟩
abbrev main_v356 : Ref sig .tc := ⟨.hbm, 520, rfl⟩
abbrev main_v357 : Ref sig .tc := ⟨.hbm, 521, rfl⟩
abbrev main_v358 : Ref sig .tc := ⟨.hbm, 522, rfl⟩
abbrev main_v359 : Ref sig .tc := ⟨.hbm, 523, rfl⟩
abbrev main_cst_56 : Ref sig .tc := ⟨.hbm, 524, rfl⟩
abbrev main_v360 : Ref sig .tc := ⟨.hbm, 525, rfl⟩
abbrev main_v361 : Ref sig .tc := ⟨.hbm, 526, rfl⟩
abbrev main_cst_57 : Ref sig .tc := ⟨.hbm, 527, rfl⟩
abbrev main_v362 : Ref sig .tc := ⟨.hbm, 528, rfl⟩
abbrev main_v363 : Ref sig .tc := ⟨.hbm, 529, rfl⟩
abbrev main_v364 : Ref sig .tc := ⟨.hbm, 530, rfl⟩
abbrev main_cst_58 : Ref sig .tc := ⟨.hbm, 531, rfl⟩
abbrev main_v365 : Ref sig .tc := ⟨.hbm, 532, rfl⟩
abbrev main_v366 : Ref sig .tc := ⟨.hbm, 533, rfl⟩
abbrev main_cst_59 : Ref sig .tc := ⟨.hbm, 534, rfl⟩
abbrev main_v367 : Ref sig .tc := ⟨.hbm, 535, rfl⟩
abbrev main_v368 : Ref sig .tc := ⟨.hbm, 536, rfl⟩
abbrev main_cst_60 : Ref sig .tc := ⟨.hbm, 537, rfl⟩
abbrev main_v369 : Ref sig .tc := ⟨.hbm, 538, rfl⟩
abbrev main_v370 : Ref sig .tc := ⟨.hbm, 539, rfl⟩
abbrev main_v371 : Ref sig .tc := ⟨.hbm, 540, rfl⟩
abbrev main_v372 : Ref sig .tc := ⟨.hbm, 541, rfl⟩
abbrev main_cst_61 : Ref sig .tc := ⟨.hbm, 542, rfl⟩
abbrev main_v373 : Ref sig .tc := ⟨.hbm, 543, rfl⟩
abbrev main_v374 : Ref sig .tc := ⟨.hbm, 544, rfl⟩
abbrev main_cst_62 : Ref sig .tc := ⟨.hbm, 545, rfl⟩
abbrev main_v375 : Ref sig .tc := ⟨.hbm, 546, rfl⟩
abbrev main_v376 : Ref sig .tc := ⟨.hbm, 547, rfl⟩
abbrev main_v377 : Ref sig .tc := ⟨.hbm, 548, rfl⟩
abbrev main_cst_63 : Ref sig .tc := ⟨.hbm, 549, rfl⟩
abbrev main_v378 : Ref sig .tc := ⟨.hbm, 550, rfl⟩
abbrev main_v379 : Ref sig .tc := ⟨.hbm, 551, rfl⟩
abbrev main_v380 : Ref sig .tc := ⟨.hbm, 552, rfl⟩
abbrev main_v381 : Ref sig .tc := ⟨.hbm, 553, rfl⟩
abbrev main_cst_64 : Ref sig .tc := ⟨.hbm, 554, rfl⟩
abbrev main_v382 : Ref sig .tc := ⟨.hbm, 555, rfl⟩
abbrev main_v383 : Ref sig .tc := ⟨.hbm, 556, rfl⟩
abbrev main_v384 : Ref sig .tc := ⟨.hbm, 557, rfl⟩
abbrev main_v385 : Ref sig .tc := ⟨.hbm, 558, rfl⟩
abbrev main_cst_65 : Ref sig .tc := ⟨.hbm, 559, rfl⟩
abbrev main_v386 : Ref sig .tc := ⟨.hbm, 560, rfl⟩
abbrev main_v387 : Ref sig .tc := ⟨.hbm, 561, rfl⟩
abbrev main_v388 : Ref sig .tc := ⟨.hbm, 562, rfl⟩
abbrev main_v389 : Ref sig .tc := ⟨.hbm, 563, rfl⟩
abbrev main_v390 : Ref sig .tc := ⟨.hbm, 564, rfl⟩
abbrev main_v391 : Ref sig .tc := ⟨.hbm, 565, rfl⟩
abbrev main_v392 : Ref sig .tc := ⟨.hbm, 566, rfl⟩
abbrev main_v393 : Ref sig .tc := ⟨.hbm, 567, rfl⟩
abbrev main_cst_66 : Ref sig .tc := ⟨.hbm, 568, rfl⟩
abbrev main_v394 : Ref sig .tc := ⟨.hbm, 569, rfl⟩
abbrev main_v395 : Ref sig .tc := ⟨.hbm, 570, rfl⟩
abbrev main_v396 : Ref sig .tc := ⟨.hbm, 571, rfl⟩
abbrev main_cst_67 : Ref sig .tc := ⟨.hbm, 572, rfl⟩
abbrev main_v397 : Ref sig .tc := ⟨.hbm, 573, rfl⟩
abbrev main_v398 : Ref sig .tc := ⟨.hbm, 574, rfl⟩
abbrev main_v399 : Ref sig .tc := ⟨.hbm, 575, rfl⟩
abbrev main_v400 : Ref sig .tc := ⟨.hbm, 576, rfl⟩
abbrev main_v401 : Ref sig .tc := ⟨.hbm, 577, rfl⟩
abbrev main_v402 : Ref sig .tc := ⟨.hbm, 578, rfl⟩
abbrev main_v403 : Ref sig .tc := ⟨.hbm, 579, rfl⟩
abbrev main_v404 : Ref sig .tc := ⟨.hbm, 580, rfl⟩
abbrev main_v405 : Ref sig .tc := ⟨.hbm, 581, rfl⟩

abbrev nD : Nat := 1
abbrev τ : Topo := Topo.v7x

variable {F : FTy → Type} [FloatOps F]
-- ==== GridIdeal.lean ====
abbrev S1x2048x768 : Shape := ⟨3, ![1, 2048, 768]⟩
abbrev S2x768 : Shape := ⟨2, ![2, 768]⟩
abbrev S2x768x768 : Shape := ⟨3, ![2, 768, 768]⟩
abbrev S2x768x1536 : Shape := ⟨3, ![2, 768, 1536]⟩
abbrev S2x1536 : Shape := ⟨2, ![2, 1536]⟩
abbrev S2x2 : Shape := ⟨2, ![2, 2]⟩
abbrev S2x768x3072 : Shape := ⟨3, ![2, 768, 3072]⟩
abbrev S2x3072 : Shape := ⟨2, ![2, 3072]⟩
abbrev S2x3072x768 : Shape := ⟨3, ![2, 3072, 768]⟩
abbrev S2048x768 : Shape := ⟨2, ![2048, 768]⟩
abbrev S1x768 : Shape := ⟨2, ![1, 768]⟩
abbrev S768 : Shape := ⟨1, ![768]⟩
abbrev S1x768x768 : Shape := ⟨3, ![1, 768, 768]⟩
abbrev S768x768 : Shape := ⟨2, ![768, 768]⟩
abbrev S1x768x1536 : Shape := ⟨3, ![1, 768, 1536]⟩
abbrev S768x1536 : Shape := ⟨2, ![768, 1536]⟩
abbrev S1x1536 : Shape := ⟨2, ![1, 1536]⟩
abbrev S1536 : Shape := ⟨1, ![1536]⟩
abbrev S1x2 : Shape := ⟨2, ![1, 2]⟩
abbrev S2 : Shape := ⟨1, ![2]⟩
abbrev S1x768x3072 : Shape := ⟨3, ![1, 768, 3072]⟩
abbrev S768x3072 : Shape := ⟨2, ![768, 3072]⟩
abbrev S1x3072 : Shape := ⟨2, ![1, 3072]⟩
abbrev S3072 : Shape := ⟨1, ![3072]⟩
abbrev S1x3072x768 : Shape := ⟨3, ![1, 3072, 768]⟩
abbrev S3072x768 : Shape := ⟨2, ![3072, 768]⟩
abbrev S_ : Shape := ⟨0, ![]⟩
abbrev S2048 : Shape := ⟨1, ![2048]⟩
abbrev S2048x1 : Shape := ⟨2, ![2048, 1]⟩
abbrev S2048x12x64 : Shape := ⟨3, ![2048, 12, 64]⟩
abbrev S2048x1536 : Shape := ⟨2, ![2048, 1536]⟩
abbrev S2048x2x12x64 : Shape := ⟨4, ![2048, 2, 12, 64]⟩
abbrev S2048x1x12x64 : Shape := ⟨4, ![2048, 1, 12, 64]⟩
abbrev S12x2048x2048 : Shape := ⟨3, ![12, 2048, 2048]⟩
abbrev S12x2048 : Shape := ⟨2, ![12, 2048]⟩
abbrev S12x2048x1 : Shape := ⟨3, ![12, 2048, 1]⟩
abbrev S12x64x2048 : Shape := ⟨3, ![12, 64, 2048]⟩
abbrev S12x2048x99 : Shape := ⟨3, ![12, 2048, 99]⟩
abbrev S1 : Shape := ⟨1, ![1]⟩
abbrev S2048x3072 : Shape := ⟨2, ![2048, 3072]⟩

abbrev nBuf : Space → Nat
  | .hbm => 580
  | .vmem => 0
  | .smem => 0
  | _ => 0

abbrev hbmTy0_0 (i : Nat) : BufTy := match i % 128 with
  | 0 => ⟨S1x2048x768, .f32⟩
  | 1 => ⟨S2x768, .f32⟩
  | 2 => ⟨S2x768, .f32⟩
  | 3 => ⟨S2x768x768, .f32⟩
  | 4 => ⟨S2x768, .f32⟩
  | 5 => ⟨S2x768x1536, .f32⟩
  | 6 => ⟨S2x1536, .f32⟩
  | 7 => ⟨S2x2, .f32⟩
  | 8 => ⟨S2x768x768, .f32⟩
  | 9 => ⟨S2x768, .f32⟩
  | 10 => ⟨S2x768, .f32⟩
  | 11 => ⟨S2x768, .f32⟩
  | 12 => ⟨S2x768x3072, .f32⟩
  | 13 => ⟨S2x3072, .f32⟩
  | 14 => ⟨S2x3072x768, .f32⟩
  | 15 => ⟨S2x768, .f32⟩
  | 16 => ⟨S2048x768, .f32⟩
  | 17 => ⟨S1x768, .f32⟩
  | 18 => ⟨S768, .f32⟩
  | 19 => ⟨S1x768, .f32⟩
  | 20 => ⟨S768, .f32⟩
  | 21 => ⟨S1x768x768, .f32⟩
  | 22 => ⟨S768x768, .f32⟩
  | 23 => ⟨S1x768, .f32⟩
  | 24 => ⟨S768, .f32⟩
  | 25 => ⟨S1x768x1536, .f32⟩
  | 26 => ⟨S768x1536, .f32⟩
  | 27 => ⟨S1x1536, .f32⟩
  | 28 => ⟨S1536, .f32⟩
  | 29 => ⟨S1x2, .f32⟩
  | 30 => ⟨S2, .f32⟩
  | 31 => ⟨S1x768x768, .f32⟩
  | 32 => ⟨S768x768, .f32⟩
  | 33 => ⟨S1x768, .f32⟩
  | 34 => ⟨S768, .f32⟩
  | 35 => ⟨S1x768, .f32⟩
  | 36 => ⟨S768, .f32⟩
  | 37 => ⟨S1x768, .f32⟩
  | 38 => ⟨S768, .f32⟩
  | 39 => ⟨S1x768x3072, .f32⟩
  | 40 => ⟨S768x3072, .f32⟩
  | 41 => ⟨S1x3072, .f32⟩
  | 42 => ⟨S3072, .f32⟩
  | 43 => ⟨S1x3072x768, .f32⟩
  | 44 => ⟨S3072x768, .f32⟩
  | 45 => ⟨S1x768, .f32⟩
  | 46 => ⟨S768, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .i32⟩
  | 54 => ⟨S_, .f32⟩
  | 55 => ⟨S2048, .f32⟩
  | 56 => ⟨S2048x1, .f32⟩
  | 57 => ⟨S_, .f32⟩
  | 58 => ⟨S2048x1, .f32⟩
  | 59 => ⟨S2048x1, .f32⟩
  | 60 => ⟨S2048x768, .f32⟩
  | 61 => ⟨S2048x768, .f32⟩
  | 62 => ⟨S2048x768, .f32⟩
  | 63 => ⟨S_, .f32⟩
  | 64 => ⟨S_, .f32⟩
  | 65 => ⟨S_, .f32⟩
  | 66 => ⟨S_, .f32⟩
  | 67 => ⟨S2048, .f32⟩
  | 68 => ⟨S2048x1, .f32⟩
  | 69 => ⟨S2048x1, .f32⟩
  | 70 => ⟨S2048x1, .f32⟩
  | 71 => ⟨S_, .f32⟩
  | 72 => ⟨S_, .i1⟩
  | 73 => ⟨S_, .f32⟩
  | 74 => ⟨S_, .f32⟩
  | 75 => ⟨S2048x1, .f32⟩
  | 76 => ⟨S2048x1, .f32⟩
  | 77 => ⟨S2048x768, .f32⟩
  | 78 => ⟨S2048x768, .f32⟩
  | 79 => ⟨S_, .f32⟩
  | 80 => ⟨S2048x1, .f32⟩
  | 81 => ⟨S2048x1, .f32⟩
  | 82 => ⟨S2048x1, .f32⟩
  | 83 => ⟨S2048x768, .f32⟩
  | 84 => ⟨S2048x768, .f32⟩
  | 85 => ⟨S1x768, .f32⟩
  | 86 => ⟨S2048x768, .f32⟩
  | 87 => ⟨S2048x768, .f32⟩
  | 88 => ⟨S1x768, .f32⟩
  | 89 => ⟨S2048x768, .f32⟩
  | 90 => ⟨S2048x768, .f32⟩
  | 91 => ⟨S2048x768, .f32⟩
  | 92 => ⟨S1x768, .f32⟩
  | 93 => ⟨S2048x768, .f32⟩
  | 94 => ⟨S2048x768, .f32⟩
  | 95 => ⟨S2048x12x64, .f32⟩
  | 96 => ⟨S2048x1536, .f32⟩
  | 97 => ⟨S1x1536, .f32⟩
  | 98 => ⟨S2048x1536, .f32⟩
  | 99 => ⟨S2048x1536, .f32⟩
  | 100 => ⟨S2048x2x12x64, .f32⟩
  | 101 => ⟨S2048x1x12x64, .f32⟩
  | 102 => ⟨S2048x12x64, .f32⟩
  | 103 => ⟨S2048x1x12x64, .f32⟩
  | 104 => ⟨S2048x12x64, .f32⟩
  | 105 => ⟨S12x2048x2048, .f32⟩
  | 106 => ⟨S_, .f32⟩
  | 107 => ⟨S12x2048x2048, .f32⟩
  | 108 => ⟨S12x2048x2048, .f32⟩
  | 109 => ⟨S_, .f32⟩
  | 110 => ⟨S12x2048, .f32⟩
  | 111 => ⟨S12x2048x1, .f32⟩
  | 112 => ⟨S12x2048x2048, .f32⟩
  | 113 => ⟨S12x2048x2048, .f32⟩
  | 114 => ⟨S12x2048x2048, .f32⟩
  | 115 => ⟨S_, .f32⟩
  | 116 => ⟨S12x2048, .f32⟩
  | 117 => ⟨S12x2048x1, .f32⟩
  | 118 => ⟨S12x2048x2048, .f32⟩
  | 119 => ⟨S12x2048x2048, .f32⟩
  | 120 => ⟨S12x64x2048, .f32⟩
  | 121 => ⟨S2048x12x64, .f32⟩
  | 122 => ⟨S12x2048x99, .f32⟩
  | 123 => ⟨S12x2048x99, .i32⟩
  | 124 => ⟨S12x2048x1, .f32⟩
  | 125 => ⟨S_, .f32⟩
  | 126 => ⟨S12x2048, .f32⟩
  | 127 => ⟨S12x2048x1, .f32⟩
  | _ => ⟨S1x2048x768, .f32⟩

abbrev hbmTy0_1 (i : Nat) : BufTy := match i % 128 with
  | 0 => ⟨S12x2048x1, .f32⟩
  | 1 => ⟨S_, .f32⟩
  | 2 => ⟨S12x2048x1, .f32⟩
  | 3 => ⟨S12x2048x1, .f32⟩
  | 4 => ⟨S12x2048x1, .f32⟩
  | 5 => ⟨S_, .f32⟩
  | 6 => ⟨S12x2048x1, .f32⟩
  | 7 => ⟨S12x2048x1, .f32⟩
  | 8 => ⟨S_, .f32⟩
  | 9 => ⟨S12x2048, .f32⟩
  | 10 => ⟨S12x2048x1, .f32⟩
  | 11 => ⟨S_, .f32⟩
  | 12 => ⟨S12x2048x1, .f32⟩
  | 13 => ⟨S12x2048x1, .f32⟩
  | 14 => ⟨S12x2048x1, .f32⟩
  | 15 => ⟨S_, .f32⟩
  | 16 => ⟨S12x2048x1, .f32⟩
  | 17 => ⟨S12x2048x1, .f32⟩
  | 18 => ⟨S12x2048x1, .f32⟩
  | 19 => ⟨S12x2048x1, .f32⟩
  | 20 => ⟨S12x2048x1, .f32⟩
  | 21 => ⟨S12x2048x1, .f32⟩
  | 22 => ⟨S12x2048x1, .f32⟩
  | 23 => ⟨S12x2048x2048, .f32⟩
  | 24 => ⟨S12x2048x2048, .i1⟩
  | 25 => ⟨S_, .f32⟩
  | 26 => ⟨S_, .f32⟩
  | 27 => ⟨S12x2048x2048, .f32⟩
  | 28 => ⟨S12x2048x2048, .f32⟩
  | 29 => ⟨S12x2048x2048, .f32⟩
  | 30 => ⟨S12x2048x2048, .f32⟩
  | 31 => ⟨S12x2048x2048, .f32⟩
  | 32 => ⟨S_, .f32⟩
  | 33 => ⟨S12x2048, .f32⟩
  | 34 => ⟨S12x2048x1, .f32⟩
  | 35 => ⟨S12x2048x2048, .f32⟩
  | 36 => ⟨S12x2048x2048, .f32⟩
  | 37 => ⟨S12x2048x2048, .f32⟩
  | 38 => ⟨S_, .f32⟩
  | 39 => ⟨S12x2048, .f32⟩
  | 40 => ⟨S12x2048x1, .f32⟩
  | 41 => ⟨S12x2048x2048, .f32⟩
  | 42 => ⟨S12x2048x2048, .f32⟩
  | 43 => ⟨S12x64x2048, .f32⟩
  | 44 => ⟨S2048x12x64, .f32⟩
  | 45 => ⟨S2, .f32⟩
  | 46 => ⟨S_, .f32⟩
  | 47 => ⟨S_, .f32⟩
  | 48 => ⟨S1, .f32⟩
  | 49 => ⟨S_, .f32⟩
  | 50 => ⟨S_, .f32⟩
  | 51 => ⟨S2048x12x64, .f32⟩
  | 52 => ⟨S2048x12x64, .f32⟩
  | 53 => ⟨S1, .f32⟩
  | 54 => ⟨S_, .f32⟩
  | 55 => ⟨S_, .f32⟩
  | 56 => ⟨S2048x12x64, .f32⟩
  | 57 => ⟨S2048x12x64, .f32⟩
  | 58 => ⟨S2048x12x64, .f32⟩
  | 59 => ⟨S2048x768, .f32⟩
  | 60 => ⟨S2048x768, .f32⟩
  | 61 => ⟨S1x768, .f32⟩
  | 62 => ⟨S2048x768, .f32⟩
  | 63 => ⟨S2048x768, .f32⟩
  | 64 => ⟨S2048x768, .f32⟩
  | 65 => ⟨S_, .f32⟩
  | 66 => ⟨S2048, .f32⟩
  | 67 => ⟨S2048x1, .f32⟩
  | 68 => ⟨S_, .f32⟩
  | 69 => ⟨S2048x1, .f32⟩
  | 70 => ⟨S2048x1, .f32⟩
  | 71 => ⟨S_, .i32⟩
  | 72 => ⟨S_, .f32⟩
  | 73 => ⟨S2048, .f32⟩
  | 74 => ⟨S2048x1, .f32⟩
  | 75 => ⟨S_, .f32⟩
  | 76 => ⟨S2048x1, .f32⟩
  | 77 => ⟨S2048x1, .f32⟩
  | 78 => ⟨S2048x768, .f32⟩
  | 79 => ⟨S2048x768, .f32⟩
  | 80 => ⟨S2048x768, .f32⟩
  | 81 => ⟨S_, .f32⟩
  | 82 => ⟨S_, .f32⟩
  | 83 => ⟨S_, .f32⟩
  | 84 => ⟨S_, .f32⟩
  | 85 => ⟨S2048, .f32⟩
  | 86 => ⟨S2048x1, .f32⟩
  | 87 => ⟨S2048x1, .f32⟩
  | 88 => ⟨S2048x1, .f32⟩
  | 89 => ⟨S_, .f32⟩
  | 90 => ⟨S_, .i1⟩
  | 91 => ⟨S_, .f32⟩
  | 92 => ⟨S_, .f32⟩
  | 93 => ⟨S2048x1, .f32⟩
  | 94 => ⟨S2048x1, .f32⟩
  | 95 => ⟨S2048x768, .f32⟩
  | 96 => ⟨S2048x768, .f32⟩
  | 97 => ⟨S_, .f32⟩
  | 98 => ⟨S2048x1, .f32⟩
  | 99 => ⟨S2048x1, .f32⟩
  | 100 => ⟨S2048x1, .f32⟩
  | 101 => ⟨S2048x768, .f32⟩
  | 102 => ⟨S2048x768, .f32⟩
  | 103 => ⟨S1x768, .f32⟩
  | 104 => ⟨S2048x768, .f32⟩
  | 105 => ⟨S2048x768, .f32⟩
  | 106 => ⟨S1x768, .f32⟩
  | 107 => ⟨S2048x768, .f32⟩
  | 108 => ⟨S2048x768, .f32⟩
  | 109 => ⟨S2048x3072, .f32⟩
  | 110 => ⟨S1x3072, .f32⟩
  | 111 => ⟨S2048x3072, .f32⟩
  | 112 => ⟨S2048x3072, .f32⟩
  | 113 => ⟨S_, .f32⟩
  | 114 => ⟨S2048x3072, .f32⟩
  | 115 => ⟨S2048x3072, .f32⟩
  | 116 => ⟨S_, .f32⟩
  | 117 => ⟨S2048x3072, .f32⟩
  | 118 => ⟨S2048x3072, .f32⟩
  | 119 => ⟨S2048x3072, .f32⟩
  | 120 => ⟨S_, .f32⟩
  | 121 => ⟨S2048x3072, .f32⟩
  | 122 => ⟨S2048x3072, .f32⟩
  | 123 => ⟨S_, .f32⟩
  | 124 => ⟨S2048x3072, .f32⟩
  | 125 => ⟨S2048x3072, .f32⟩
  | 126 => ⟨S_, .f32⟩
  | 127 => ⟨S2048x3072, .f32⟩
  | _ => ⟨S1x2048x768, .f32⟩

abbrev hbmTy0_2 (i : Nat) : BufTy := match i % 128 with
  | 0 => ⟨S2048x3072, .f32⟩
  | 1 => ⟨S2048x3072, .f32⟩
  | 2 => ⟨S2048x3072, .f32⟩
  | 3 => ⟨S_, .f32⟩
  | 4 => ⟨S2048x3072, .f32⟩
  | 5 => ⟨S2048x3072, .f32⟩
  | 6 => ⟨S_, .f32⟩
  | 7 => ⟨S2048x3072, .f32⟩
  | 8 => ⟨S2048x3072, .f32⟩
  | 9 => ⟨S2048x3072, .f32⟩
  | 10 => ⟨S_, .f32⟩
  | 11 => ⟨S2048x3072, .f32⟩
  | 12 => ⟨S2048x3072, .f32⟩
  | 13 => ⟨S2048x3072, .f32⟩
  | 14 => ⟨S2048x3072, .f32⟩
  | 15 => ⟨S_, .f32⟩
  | 16 => ⟨S2048x3072, .f32⟩
  | 17 => ⟨S2048x3072, .f32⟩
  | 18 => ⟨S2048x3072, .f32⟩
  | 19 => ⟨S2048x3072, .f32⟩
  | 20 => ⟨S_, .f32⟩
  | 21 => ⟨S2048x3072, .f32⟩
  | 22 => ⟨S2048x3072, .f32⟩
  | 23 => ⟨S2048x3072, .f32⟩
  | 24 => ⟨S2048x3072, .f32⟩
  | 25 => ⟨S2048x3072, .f32⟩
  | 26 => ⟨S2048x3072, .f32⟩
  | 27 => ⟨S2048x3072, .f32⟩
  | 28 => ⟨S2048x3072, .f32⟩
  | 29 => ⟨S_, .f32⟩
  | 30 => ⟨S2048x3072, .f32⟩
  | 31 => ⟨S2048x3072, .f32⟩
  | 32 => ⟨S2048x3072, .f32⟩
  | 33 => ⟨S_, .f32⟩
  | 34 => ⟨S2048x3072, .f32⟩
  | 35 => ⟨S2048x3072, .f32⟩
  | 36 => ⟨S2048x3072, .f32⟩
  | 37 => ⟨S2048x768, .f32⟩
  | 38 => ⟨S1x768, .f32⟩
  | 39 => ⟨S2048x768, .f32⟩
  | 40 => ⟨S2048x768, .f32⟩
  | 41 => ⟨S2048x768, .f32⟩
  | 42 => ⟨S1x768, .f32⟩
  | 43 => ⟨S768, .f32⟩
  | 44 => ⟨S1x768, .f32⟩
  | 45 => ⟨S768, .f32⟩
  | 46 => ⟨S1x768x768, .f32⟩
  | 47 => ⟨S768x768, .f32⟩
  | 48 => ⟨S1x768, .f32⟩
  | 49 => ⟨S768, .f32⟩
  | 50 => ⟨S1x768x1536, .f32⟩
  | 51 => ⟨S768x1536, .f32⟩
  | 52 => ⟨S1x1536, .f32⟩
  | 53 => ⟨S1536, .f32⟩
  | 54 => ⟨S1x2, .f32⟩
  | 55 => ⟨S2, .f32⟩
  | 56 => ⟨S1x768x768, .f32⟩
  | 57 => ⟨S768x768, .f32⟩
  | 58 => ⟨S1x768, .f32⟩
  | 59 => ⟨S768, .f32⟩
  | 60 => ⟨S1x768, .f32⟩
  | 61 => ⟨S768, .f32⟩
  | 62 => ⟨S1x768, .f32⟩
  | 63 => ⟨S768, .f32⟩
  | 64 => ⟨S1x768x3072, .f32⟩
  | 65 => ⟨S768x3072, .f32⟩
  | 66 => ⟨S1x3072, .f32⟩
  | 67 => ⟨S3072, .f32⟩
  | 68 => ⟨S1x3072x768, .f32⟩
  | 69 => ⟨S3072x768, .f32⟩
  | 70 => ⟨S1x768, .f32⟩
  | 71 => ⟨S768, .f32⟩
  | 72 => ⟨S_, .f32⟩
  | 73 => ⟨S2048, .f32⟩
  | 74 => ⟨S2048x1, .f32⟩
  | 75 => ⟨S_, .f32⟩
  | 76 => ⟨S2048x1, .f32⟩
  | 77 => ⟨S2048x1, .f32⟩
  | 78 => ⟨S_, .i32⟩
  | 79 => ⟨S_, .f32⟩
  | 80 => ⟨S2048, .f32⟩
  | 81 => ⟨S2048x1, .f32⟩
  | 82 => ⟨S_, .f32⟩
  | 83 => ⟨S2048x1, .f32⟩
  | 84 => ⟨S2048x1, .f32⟩
  | 85 => ⟨S2048x768, .f32⟩
  | 86 => ⟨S2048x768, .f32⟩
  | 87 => ⟨S2048x768, .f32⟩
  | 88 => ⟨S_, .f32⟩
  | 89 => ⟨S_, .f32⟩
  | 90 => ⟨S_, .f32⟩
  | 91 => ⟨S_, .f32⟩
  | 92 => ⟨S2048, .f32⟩
  | 93 => ⟨S2048x1, .f32⟩
  | 94 => ⟨S2048x1, .f32⟩
  | 95 => ⟨S2048x1, .f32⟩
  | 96 => ⟨S_, .f32⟩
  | 97 => ⟨S_, .i1⟩
  | 98 => ⟨S_, .f32⟩
  | 99 => ⟨S_, .f32⟩
  | 100 => ⟨S2048x1, .f32⟩
  | 101 => ⟨S2048x1, .f32⟩
  | 102 => ⟨S2048x768, .f32⟩
  | 103 => ⟨S2048x768, .f32⟩
  | 104 => ⟨S_, .f32⟩
  | 105 => ⟨S2048x1, .f32⟩
  | 106 => ⟨S2048x1, .f32⟩
  | 107 => ⟨S2048x1, .f32⟩
  | 108 => ⟨S2048x768, .f32⟩
  | 109 => ⟨S2048x768, .f32⟩
  | 110 => ⟨S1x768, .f32⟩
  | 111 => ⟨S2048x768, .f32⟩
  | 112 => ⟨S2048x768, .f32⟩
  | 113 => ⟨S1x768, .f32⟩
  | 114 => ⟨S2048x768, .f32⟩
  | 115 => ⟨S2048x768, .f32⟩
  | 116 => ⟨S2048x768, .f32⟩
  | 117 => ⟨S1x768, .f32⟩
  | 118 => ⟨S2048x768, .f32⟩
  | 119 => ⟨S2048x768, .f32⟩
  | 120 => ⟨S2048x12x64, .f32⟩
  | 121 => ⟨S2048x1536, .f32⟩
  | 122 => ⟨S1x1536, .f32⟩
  | 123 => ⟨S2048x1536, .f32⟩
  | 124 => ⟨S2048x1536, .f32⟩
  | 125 => ⟨S2048x2x12x64, .f32⟩
  | 126 => ⟨S2048x1x12x64, .f32⟩
  | 127 => ⟨S2048x12x64, .f32⟩
  | _ => ⟨S1x2048x768, .f32⟩

abbrev hbmTy0_3 (i : Nat) : BufTy := match i % 128 with
  | 0 => ⟨S2048x1x12x64, .f32⟩
  | 1 => ⟨S2048x12x64, .f32⟩
  | 2 => ⟨S12x2048x2048, .f32⟩
  | 3 => ⟨S_, .f32⟩
  | 4 => ⟨S12x2048x2048, .f32⟩
  | 5 => ⟨S12x2048x2048, .f32⟩
  | 6 => ⟨S_, .f32⟩
  | 7 => ⟨S12x2048, .f32⟩
  | 8 => ⟨S12x2048x1, .f32⟩
  | 9 => ⟨S12x2048x2048, .f32⟩
  | 10 => ⟨S12x2048x2048, .f32⟩
  | 11 => ⟨S12x2048x2048, .f32⟩
  | 12 => ⟨S_, .f32⟩
  | 13 => ⟨S12x2048, .f32⟩
  | 14 => ⟨S12x2048x1, .f32⟩
  | 15 => ⟨S12x2048x2048, .f32⟩
  | 16 => ⟨S12x2048x2048, .f32⟩
  | 17 => ⟨S12x64x2048, .f32⟩
  | 18 => ⟨S2048x12x64, .f32⟩
  | 19 => ⟨S12x2048x99, .f32⟩
  | 20 => ⟨S12x2048x99, .i32⟩
  | 21 => ⟨S12x2048x1, .f32⟩
  | 22 => ⟨S_, .f32⟩
  | 23 => ⟨S12x2048, .f32⟩
  | 24 => ⟨S12x2048x1, .f32⟩
  | 25 => ⟨S12x2048x1, .f32⟩
  | 26 => ⟨S_, .f32⟩
  | 27 => ⟨S12x2048x1, .f32⟩
  | 28 => ⟨S12x2048x1, .f32⟩
  | 29 => ⟨S12x2048x1, .f32⟩
  | 30 => ⟨S_, .f32⟩
  | 31 => ⟨S12x2048x1, .f32⟩
  | 32 => ⟨S12x2048x1, .f32⟩
  | 33 => ⟨S_, .f32⟩
  | 34 => ⟨S12x2048, .f32⟩
  | 35 => ⟨S12x2048x1, .f32⟩
  | 36 => ⟨S_, .f32⟩
  | 37 => ⟨S12x2048x1, .f32⟩
  | 38 => ⟨S12x2048x1, .f32⟩
  | 39 => ⟨S12x2048x1, .f32⟩
  | 40 => ⟨S_, .f32⟩
  | 41 => ⟨S12x2048x1, .f32⟩
  | 42 => ⟨S12x2048x1, .f32⟩
  | 43 => ⟨S12x2048x1, .f32⟩
  | 44 => ⟨S12x2048x1, .f32⟩
  | 45 => ⟨S12x2048x1, .f32⟩
  | 46 => ⟨S12x2048x1, .f32⟩
  | 47 => ⟨S12x2048x1, .f32⟩
  | 48 => ⟨S12x2048x2048, .f32⟩
  | 49 => ⟨S12x2048x2048, .i1⟩
  | 50 => ⟨S_, .f32⟩
  | 51 => ⟨S_, .f32⟩
  | 52 => ⟨S12x2048x2048, .f32⟩
  | 53 => ⟨S12x2048x2048, .f32⟩
  | 54 => ⟨S12x2048x2048, .f32⟩
  | 55 => ⟨S12x2048x2048, .f32⟩
  | 56 => ⟨S12x2048x2048, .f32⟩
  | 57 => ⟨S_, .f32⟩
  | 58 => ⟨S12x2048, .f32⟩
  | 59 => ⟨S12x2048x1, .f32⟩
  | 60 => ⟨S12x2048x2048, .f32⟩
  | 61 => ⟨S12x2048x2048, .f32⟩
  | 62 => ⟨S12x2048x2048, .f32⟩
  | 63 => ⟨S_, .f32⟩
  | 64 => ⟨S12x2048, .f32⟩
  | 65 => ⟨S12x2048x1, .f32⟩
  | 66 => ⟨S12x2048x2048, .f32⟩
  | 67 => ⟨S12x2048x2048, .f32⟩
  | 68 => ⟨S12x64x2048, .f32⟩
  | 69 => ⟨S2048x12x64, .f32⟩
  | 70 => ⟨S2, .f32⟩
  | 71 => ⟨S_, .f32⟩
  | 72 => ⟨S_, .f32⟩
  | 73 => ⟨S1, .f32⟩
  | 74 => ⟨S_, .f32⟩
  | 75 => ⟨S_, .f32⟩
  | 76 => ⟨S2048x12x64, .f32⟩
  | 77 => ⟨S2048x12x64, .f32⟩
  | 78 => ⟨S1, .f32⟩
  | 79 => ⟨S_, .f32⟩
  | 80 => ⟨S_, .f32⟩
  | 81 => ⟨S2048x12x64, .f32⟩
  | 82 => ⟨S2048x12x64, .f32⟩
  | 83 => ⟨S2048x12x64, .f32⟩
  | 84 => ⟨S2048x768, .f32⟩
  | 85 => ⟨S2048x768, .f32⟩
  | 86 => ⟨S1x768, .f32⟩
  | 87 => ⟨S2048x768, .f32⟩
  | 88 => ⟨S2048x768, .f32⟩
  | 89 => ⟨S2048x768, .f32⟩
  | 90 => ⟨S_, .f32⟩
  | 91 => ⟨S2048, .f32⟩
  | 92 => ⟨S2048x1, .f32⟩
  | 93 => ⟨S_, .f32⟩
  | 94 => ⟨S2048x1, .f32⟩
  | 95 => ⟨S2048x1, .f32⟩
  | 96 => ⟨S_, .i32⟩
  | 97 => ⟨S_, .f32⟩
  | 98 => ⟨S2048, .f32⟩
  | 99 => ⟨S2048x1, .f32⟩
  | 100 => ⟨S_, .f32⟩
  | 101 => ⟨S2048x1, .f32⟩
  | 102 => ⟨S2048x1, .f32⟩
  | 103 => ⟨S2048x768, .f32⟩
  | 104 => ⟨S2048x768, .f32⟩
  | 105 => ⟨S2048x768, .f32⟩
  | 106 => ⟨S_, .f32⟩
  | 107 => ⟨S_, .f32⟩
  | 108 => ⟨S_, .f32⟩
  | 109 => ⟨S_, .f32⟩
  | 110 => ⟨S2048, .f32⟩
  | 111 => ⟨S2048x1, .f32⟩
  | 112 => ⟨S2048x1, .f32⟩
  | 113 => ⟨S2048x1, .f32⟩
  | 114 => ⟨S_, .f32⟩
  | 115 => ⟨S_, .i1⟩
  | 116 => ⟨S_, .f32⟩
  | 117 => ⟨S_, .f32⟩
  | 118 => ⟨S2048x1, .f32⟩
  | 119 => ⟨S2048x1, .f32⟩
  | 120 => ⟨S2048x768, .f32⟩
  | 121 => ⟨S2048x768, .f32⟩
  | 122 => ⟨S_, .f32⟩
  | 123 => ⟨S2048x1, .f32⟩
  | 124 => ⟨S2048x1, .f32⟩
  | 125 => ⟨S2048x1, .f32⟩
  | 126 => ⟨S2048x768, .f32⟩
  | 127 => ⟨S2048x768, .f32⟩
  | _ => ⟨S1x2048x768, .f32⟩

abbrev hbmTy0_4 (i : Nat) : BufTy := match i % 128 with
  | 0 => ⟨S1x768, .f32⟩
  | 1 => ⟨S2048x768, .f32⟩
  | 2 => ⟨S2048x768, .f32⟩
  | 3 => ⟨S1x768, .f32⟩
  | 4 => ⟨S2048x768, .f32⟩
  | 5 => ⟨S2048x768, .f32⟩
  | 6 => ⟨S2048x3072, .f32⟩
  | 7 => ⟨S1x3072, .f32⟩
  | 8 => ⟨S2048x3072, .f32⟩
  | 9 => ⟨S2048x3072, .f32⟩
  | 10 => ⟨S_, .f32⟩
  | 11 => ⟨S2048x3072, .f32⟩
  | 12 => ⟨S2048x3072, .f32⟩
  | 13 => ⟨S_, .f32⟩
  | 14 => ⟨S2048x3072, .f32⟩
  | 15 => ⟨S2048x3072, .f32⟩
  | 16 => ⟨S2048x3072, .f32⟩
  | 17 => ⟨S_, .f32⟩
  | 18 => ⟨S2048x3072, .f32⟩
  | 19 => ⟨S2048x3072, .f32⟩
  | 20 => ⟨S_, .f32⟩
  | 21 => ⟨S2048x3072, .f32⟩
  | 22 => ⟨S2048x3072, .f32⟩
  | 23 => ⟨S_, .f32⟩
  | 24 => ⟨S2048x3072, .f32⟩
  | 25 => ⟨S2048x3072, .f32⟩
  | 26 => ⟨S2048x3072, .f32⟩
  | 27 => ⟨S2048x3072, .f32⟩
  | 28 => ⟨S_, .f32⟩
  | 29 => ⟨S2048x3072, .f32⟩
  | 30 => ⟨S2048x3072, .f32⟩
  | 31 => ⟨S_, .f32⟩
  | 32 => ⟨S2048x3072, .f32⟩
  | 33 => ⟨S2048x3072, .f32⟩
  | 34 => ⟨S2048x3072, .f32⟩
  | 35 => ⟨S_, .f32⟩
  | 36 => ⟨S2048x3072, .f32⟩
  | 37 => ⟨S2048x3072, .f32⟩
  | 38 => ⟨S2048x3072, .f32⟩
  | 39 => ⟨S2048x3072, .f32⟩
  | 40 => ⟨S_, .f32⟩
  | 41 => ⟨S2048x3072, .f32⟩
  | 42 => ⟨S2048x3072, .f32⟩
  | 43 => ⟨S2048x3072, .f32⟩
  | 44 => ⟨S2048x3072, .f32⟩
  | 45 => ⟨S_, .f32⟩
  | 46 => ⟨S2048x3072, .f32⟩
  | 47 => ⟨S2048x3072, .f32⟩
  | 48 => ⟨S2048x3072, .f32⟩
  | 49 => ⟨S2048x3072, .f32⟩
  | 50 => ⟨S2048x3072, .f32⟩
  | 51 => ⟨S2048x3072, .f32⟩
  | 52 => ⟨S2048x3072, .f32⟩
  | 53 => ⟨S2048x3072, .f32⟩
  | 54 => ⟨S_, .f32⟩
  | 55 => ⟨S2048x3072, .f32⟩
  | 56 => ⟨S2048x3072, .f32⟩
  | 57 => ⟨S2048x3072, .f32⟩
  | 58 => ⟨S_, .f32⟩
  | 59 => ⟨S2048x3072, .f32⟩
  | 60 => ⟨S2048x3072, .f32⟩
  | 61 => ⟨S2048x3072, .f32⟩
  | 62 => ⟨S2048x768, .f32⟩
  | 63 => ⟨S1x768, .f32⟩
  | 64 => ⟨S2048x768, .f32⟩
  | 65 => ⟨S2048x768, .f32⟩
  | 66 => ⟨S2048x768, .f32⟩
  | 67 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_cst_3 : Ref sig .tc := ⟨.hbm, 71, rfl⟩
abbrev main_call0_v13 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_1 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_2 : Ref sig .tc := ⟨.hbm, 106, rfl⟩
abbrev main_v64 : Ref sig .tc := ⟨.hbm, 107, rfl⟩
abbrev main_v65 : Ref sig .tc := ⟨.hbm, 108, rfl⟩
abbrev main_cst_3 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_4 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_values : Ref sig .tc := ⟨.hbm, 122, rfl⟩
abbrev main_indices : Ref sig .tc := ⟨.hbm, 123, rfl⟩
abbrev main_v77 : Ref sig .tc := ⟨.hbm, 124, rfl⟩
abbrev main_cst_5 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_6 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_7 : Ref sig .tc := ⟨.hbm, 133, rfl⟩
abbrev main_v84 : Ref sig .tc := ⟨.hbm, 134, rfl⟩
abbrev main_v85 : Ref sig .tc := ⟨.hbm, 135, rfl⟩
abbrev main_cst_8 : Ref sig .tc := ⟨.hbm, 136, rfl⟩
abbrev main_v86 : Ref sig .tc := ⟨.hbm, 137, rfl⟩
abbrev main_v87 : Ref sig .tc := ⟨.hbm, 138, rfl⟩
abbrev main_cst_9 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_10 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_11 : Ref sig .tc := ⟨.hbm, 153, rfl⟩
abbrev main_cst_12 : Ref sig .tc := ⟨.hbm, 154, rfl⟩
abbrev main_call1_v0 : Ref sig .tc := ⟨.hbm, 155, rfl⟩
abbrev main_call1_v1 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_13 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_14 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_15 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_16 : Ref sig .tc := ⟨.hbm, 193, rfl⟩
abbrev main_v133 : Ref sig .tc := ⟨.hbm, 194, rfl⟩
abbrev main_v134 : Ref sig .tc := ⟨.hbm, 195, rfl⟩
abbrev main_cst_17 : Ref sig .tc := ⟨.hbm, 196, rfl⟩
abbrev main_v135 : Ref sig .tc := ⟨.hbm, 197, rfl⟩
abbrev main_v136 : Ref sig .tc := ⟨.hbm, 198, rfl⟩
abbrev main_c_18 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_cst_0 : Ref sig .tc := ⟨.hbm, 203, rfl⟩
abbrev main_call2_v2 : Ref sig .tc := ⟨.hbm, 204, rfl⟩
abbrev main_call2_v3 : Ref sig .tc := ⟨.hbm, 205, rfl⟩
abbrev main_call2_v4 : Ref sig .tc := ⟨.hbm, 206, rfl⟩
abbrev main_call2_v5 : Ref sig .tc := ⟨.hbm, 207, rfl⟩
abbrev main_call2_v6 : Ref sig .tc := ⟨.hbm, 208, rfl⟩
abbrev main_call2_v7 : Ref sig .tc := ⟨.hbm, 209, rfl⟩
abbrev main_call2_cst_1 : Ref sig .tc := ⟨.hbm, 210, rfl⟩
abbrev main_call2_v8 : Ref sig .tc := ⟨.hbm, 211, rfl⟩
abbrev main_call2_cst_2 : Ref sig .tc := ⟨.hbm, 212, rfl⟩
abbrev main_call2_v9 : Ref sig .tc := ⟨.hbm, 213, rfl⟩
abbrev main_call2_v10 : Ref sig .tc := ⟨.hbm, 214, rfl⟩
abbrev main_call2_v11 : Ref sig .tc := ⟨.hbm, 215, rfl⟩
abbrev main_call2_v12 : Ref sig .tc := ⟨.hbm, 216, rfl⟩
abbrev main_call2_cst_3 : Ref sig .tc := ⟨.hbm, 217, rfl⟩
abbrev main_call2_v13 : Ref sig .tc := ⟨.hbm, 218, rfl⟩
abbrev main_call2_cst_4 : Ref sig .tc := ⟨.hbm, 219, rfl⟩
abbrev main_call2_call0_v0 : Ref sig .tc := ⟨.hbm, 220, rfl⟩
abbrev main_call2_call0_v1 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_cst_19 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_20 : Ref sig .tc := ⟨.hbm, 241, rfl⟩
abbrev main_v155 : Ref sig .tc := ⟨.hbm, 242, rfl⟩
abbrev main_v156 : Ref sig .tc := ⟨.hbm, 243, rfl⟩
abbrev main_cst_21 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_22 : Ref sig .tc := ⟨.hbm, 248, rfl⟩
abbrev main_v160 : Ref sig .tc := ⟨.hbm, 249, rfl⟩
abbrev main_v161 : Ref sig .tc := ⟨.hbm, 250, rfl⟩
abbrev main_cst_23 : Ref sig .tc := ⟨.hbm, 251, rfl⟩
abbrev main_v162 : Ref sig .tc := ⟨.hbm, 252, rfl⟩
abbrev main_v163 : Ref sig .tc := ⟨.hbm, 253, rfl⟩
abbrev main_cst_24 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_cst_25 : Ref sig .tc := ⟨.hbm, 259, rfl⟩
abbrev main_v168 : Ref sig .tc := ⟨.hbm, 260, rfl⟩
abbrev main_v169 : Ref sig .tc := ⟨.hbm, 261, rfl⟩
abbrev main_cst_26 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_cst_27 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_cst_28 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_cst_29 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_cst_30 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_cst_31 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_cst_32 : Ref sig .tc := ⟨.hbm, 328, rfl⟩
abbrev main_v230 : Ref sig .tc := ⟨.hbm, 329, rfl⟩
abbrev main_v231 : Ref sig .tc := ⟨.hbm, 330, rfl⟩
abbrev main_cst_33 : Ref sig .tc := ⟨.hbm, 331, rfl⟩
abbrev main_v232 : Ref sig .tc := ⟨.hbm, 332, rfl⟩
abbrev main_v233 : Ref sig .tc := ⟨.hbm, 333, rfl⟩
abbrev main_c_34 : Ref sig .tc := ⟨.hbm, 334, rfl⟩
abbrev main_call3_cst : Ref sig .tc := ⟨.hbm, 335, rfl⟩
abbrev main_call3_v0 : Ref sig .tc := ⟨.hbm, 336, rfl⟩
abbrev main_call3_v1 : Ref sig .tc := ⟨.hbm, 337, rfl⟩
abbrev main_call3_cst_0 : Ref sig .tc := ⟨.hbm, 338, rfl⟩
abbrev main_call3_v2 : Ref sig .tc := ⟨.hbm, 339, rfl⟩
abbrev main_call3_v3 : Ref sig .tc := ⟨.hbm, 340, rfl⟩
abbrev main_call3_v4 : Ref sig .tc := ⟨.hbm, 341, rfl⟩
abbrev main_call3_v5 : Ref sig .tc := ⟨.hbm, 342, rfl⟩
abbrev main_call3_v6 : Ref sig .tc := ⟨.hbm, 343, rfl⟩
abbrev main_call3_v7 : Ref sig .tc := ⟨.hbm, 344, rfl⟩
abbrev main_call3_cst_1 : Ref sig .tc := ⟨.hbm, 345, rfl⟩
abbrev main_call3_v8 : Ref sig .tc := ⟨.hbm, 346, rfl⟩
abbrev main_call3_cst_2 : Ref sig .tc := ⟨.hbm, 347, rfl⟩
abbrev main_call3_v9 : Ref sig .tc := ⟨.hbm, 348, rfl⟩
abbrev main_call3_v10 : Ref sig .tc := ⟨.hbm, 349, rfl⟩
abbrev main_call3_v11 : Ref sig .tc := ⟨.hbm, 350, rfl⟩
abbrev main_call3_v12 : Ref sig .tc := ⟨.hbm, 351, rfl⟩
abbrev main_call3_cst_3 : Ref sig .tc := ⟨.hbm, 352, rfl⟩
abbrev main_call3_v13 : Ref sig .tc := ⟨.hbm, 353, rfl⟩
abbrev main_call3_cst_4 : Ref sig .tc := ⟨.hbm, 354, rfl⟩
abbrev main_call3_call0_v0 : Ref sig .tc := ⟨.hbm, 355, rfl⟩
abbrev main_call3_call0_v1 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_cst_35 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_cst_36 : Ref sig .tc := ⟨.hbm, 387, rfl⟩
abbrev main_v263 : Ref sig .tc := ⟨.hbm, 388, rfl⟩
abbrev main_v264 : Ref sig .tc := ⟨.hbm, 389, rfl⟩
abbrev main_cst_37 : Ref sig .tc := ⟨.hbm, 390, rfl⟩
abbrev main_v265 : Ref sig .tc := ⟨.hbm, 391, rfl⟩
abbrev main_v266 : Ref sig .tc := ⟨.hbm, 392, rfl⟩
abbrev main_v267 : Ref sig .tc := ⟨.hbm, 393, rfl⟩
abbrev main_v268 : Ref sig .tc := ⟨.hbm, 394, rfl⟩
abbrev main_v269 : Ref sig .tc := ⟨.hbm, 395, rfl⟩
abbrev main_cst_38 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_v273 : Ref sig .tc := ⟨.hbm, 400, rfl⟩
abbrev main_v274 : Ref sig .tc := ⟨.hbm, 401, rfl⟩
abbrev main_v275 : Ref sig .tc := ⟨.hbm, 402, rfl⟩
abbrev main_values_39 : Ref sig .tc := ⟨.hbm, 403, rfl⟩
abbrev main_indices_40 : Ref sig .tc := ⟨.hbm, 404, rfl⟩
abbrev main_v276 : Ref sig .tc := ⟨.hbm, 405, rfl⟩
abbrev main_cst_41 : Ref sig .tc := ⟨.hbm, 406, rfl⟩
abbrev main_v277 : Ref sig .tc := ⟨.hbm, 407, rfl⟩
abbrev main_v278 : Ref sig .tc := ⟨.hbm, 408, rfl⟩
abbrev main_v279 : Ref sig .tc := ⟨.hbm, 409, rfl⟩
abbrev main_cst_42 : Ref sig .tc := ⟨.hbm, 410, rfl⟩
abbrev main_v280 : Ref sig .tc := ⟨.hbm, 411, rfl⟩
abbrev main_v281 : Ref sig .tc := ⟨.hbm, 412, rfl⟩
abbrev main_v282 : Ref sig .tc := ⟨.hbm, 413, rfl⟩
abbrev main_cst_43 : Ref sig .tc := ⟨.hbm, 414, rfl⟩
abbrev main_v283 : Ref sig .tc := ⟨.hbm, 415, rfl⟩
abbrev main_v284 : Ref sig .tc := ⟨.hbm, 416, rfl⟩
abbrev main_cst_44 : Ref sig .tc := ⟨.hbm, 417, rfl⟩
abbrev main_v285 : Ref sig .tc := ⟨.hbm, 418, rfl⟩
abbrev main_v286 : Ref sig .tc := ⟨.hbm, 419, rfl⟩
abbrev main_cst_45 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_cst_46 : Ref sig .tc := ⟨.hbm, 424, rfl⟩
abbrev main_v290 : Ref sig .tc := ⟨.hbm, 425, rfl⟩
abbrev main_v291 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_v295 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_cst_47 : Ref sig .tc := ⟨.hbm, 434, rfl⟩
abbrev main_cst_48 : Ref sig .tc := ⟨.hbm, 435, rfl⟩
abbrev main_call4_v0 : Ref sig .tc := ⟨.hbm, 436, rfl⟩
abbrev main_call4_v1 : Ref sig .tc := ⟨.hbm, 437, rfl⟩
abbrev main_v299 : Ref sig .tc := ⟨.hbm, 438, rfl⟩
abbrev main_v300 : Ref sig .tc := ⟨.hbm, 439, rfl⟩
abbrev main_v301 : Ref sig .tc := ⟨.hbm, 440, rfl⟩
abbrev main_cst_49 : Ref sig .tc := ⟨.hbm, 441, rfl⟩
abbrev main_v302 : Ref sig .tc := ⟨.hbm, 442, rfl⟩
abbrev main_v303 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_cst_50 : Ref sig .tc := ⟨.hbm, 447, rfl⟩
abbrev main_v307 : Ref sig .tc := ⟨.hbm, 448, rfl⟩
abbrev main_v308 : Ref sig .tc := ⟨.hbm, 449, rfl⟩
abbrev main_v309 : Ref sig .tc := ⟨.hbm, 450, rfl⟩
abbrev main_v310 : Ref sig .tc := ⟨.hbm, 451, rfl⟩
abbrev main_v311 : Ref sig .tc := ⟨.hbm, 452, rfl⟩
abbrev main_v312 : Ref sig .tc := ⟨.hbm, 453, rfl⟩
abbrev main_v313 : Ref sig .tc := ⟨.hbm, 454, rfl⟩
abbrev main_cst_51 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_v317 : Ref sig .tc := ⟨.hbm, 459, rfl⟩
abbrev main_v318 : Ref sig .tc := ⟨.hbm, 460, rfl⟩
abbrev main_v319 : Ref sig .tc := ⟨.hbm, 461, rfl⟩
abbrev main_v320 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩
abbrev main_v325 : Ref sig .tc := ⟨.hbm, 467, rfl⟩
abbrev main_v326 : Ref sig .tc := ⟨.hbm, 468, rfl⟩
abbrev main_v327 : Ref sig .tc := ⟨.hbm, 469, rfl⟩
abbrev main_v328 : Ref sig .tc := ⟨.hbm, 470, rfl⟩
abbrev main_v329 : Ref sig .tc := ⟨.hbm, 471, rfl⟩
abbrev main_v330 : Ref sig .tc := ⟨.hbm, 472, rfl⟩
abbrev main_v331 : Ref sig .tc := ⟨.hbm, 473, rfl⟩
abbrev main_cst_52 : Ref sig .tc := ⟨.hbm, 474, rfl⟩
abbrev main_v332 : Ref sig .tc := ⟨.hbm, 475, rfl⟩
abbrev main_v333 : Ref sig .tc := ⟨.hbm, 476, rfl⟩
abbrev main_cst_53 : Ref sig .tc := ⟨.hbm, 477, rfl⟩
abbrev main_v334 : Ref sig .tc := ⟨.hbm, 478, rfl⟩
abbrev main_v335 : Ref sig .tc := ⟨.hbm, 479, rfl⟩
abbrev main_c_54 : Ref sig .tc := ⟨.hbm, 480, rfl⟩
abbrev main_call5_cst : Ref sig .tc := ⟨.hbm, 481, rfl⟩
abbrev main_call5_v0 : Ref sig .tc := ⟨.hbm, 482, rfl⟩
abbrev main_call5_v1 : Ref sig .tc := ⟨.hbm, 483, rfl⟩
abbrev main_call5_cst_0 : Ref sig .tc := ⟨.hbm, 484, rfl⟩
abbrev main_call5_v2 : Ref sig .tc := ⟨.hbm, 485, rfl⟩
abbrev main_call5_v3 : Ref sig .tc := ⟨.hbm, 486, rfl⟩
abbrev main_call5_v4 : Ref sig .tc := ⟨.hbm, 487, rfl⟩
abbrev main_call5_v5 : Ref sig .tc := ⟨.hbm, 488, rfl⟩
abbrev main_call5_v6 : Ref sig .tc := ⟨.hbm, 489, rfl⟩
abbrev main_call5_v7 : Ref sig .tc := ⟨.hbm, 490, rfl⟩
abbrev main_call5_cst_1 : Ref sig .tc := ⟨.hbm, 491, rfl⟩
abbrev main_call5_v8 : Ref sig .tc := ⟨.hbm, 492, rfl⟩
abbrev main_call5_cst_2 : Ref sig .tc := ⟨.hbm, 493, rfl⟩
abbrev main_call5_v9 : Ref sig .tc := ⟨.hbm, 494, rfl⟩
abbrev main_call5_v10 : Ref sig .tc := ⟨.hbm, 495, rfl⟩
abbrev main_call5_v11 : Ref sig .tc := ⟨.hbm, 496, rfl⟩
abbrev main_call5_v12 : Ref sig .tc := ⟨.hbm, 497, rfl⟩
abbrev main_call5_cst_3 : Ref sig .tc := ⟨.hbm, 498, rfl⟩
abbrev main_call5_v13 : Ref sig .tc := ⟨.hbm, 499, rfl⟩
abbrev main_call5_cst_4 : Ref sig .tc := ⟨.hbm, 500, rfl⟩
abbrev main_call5_call0_v0 : Ref sig .tc := ⟨.hbm, 501, rfl⟩
abbrev main_call5_call0_v1 : Ref sig .tc := ⟨.hbm, 502, rfl⟩
abbrev main_v336 : Ref sig .tc := ⟨.hbm, 503, rfl⟩
abbrev main_v337 : Ref sig .tc := ⟨.hbm, 504, rfl⟩
abbrev main_v338 : Ref sig .tc := ⟨.hbm, 505, rfl⟩
abbrev main_cst_55 : Ref sig .tc := ⟨.hbm, 506, rfl⟩
abbrev main_v339 : Ref sig .tc := ⟨.hbm, 507, rfl⟩
abbrev main_v340 : Ref sig .tc := ⟨.hbm, 508, rfl⟩
abbrev main_v341 : Ref sig .tc := ⟨.hbm, 509, rfl⟩
abbrev main_v342 : Ref sig .tc := ⟨.hbm, 510, rfl⟩
abbrev main_v343 : Ref sig .tc := ⟨.hbm, 511, rfl⟩
abbrev main_v344 : Ref sig .tc := ⟨.hbm, 512, rfl⟩
abbrev main_v345 : Ref sig .tc := ⟨.hbm, 513, rfl⟩
abbrev main_v346 : Ref sig .tc := ⟨.hbm, 514, rfl⟩
abbrev main_v347 : Ref sig .tc := ⟨.hbm, 515, rfl⟩
abbrev main_v348 : Ref sig .tc := ⟨.hbm, 516, rfl⟩
abbrev main_v349 : Ref sig .tc := ⟨.hbm, 517, rfl⟩
abbrev main_v350 : Ref sig .tc := ⟨.hbm, 518, rfl⟩
abbrev main_v351 : Ref sig .tc := ⟨.hbm, 519, rfl⟩
abbrev main_v352 : Ref sig .tc := ⟨.hbm, 520, rfl⟩
abbrev main_v353 : Ref sig .tc := ⟨.hbm, 521, rfl⟩
abbrev main_cst_56 : Ref sig .tc := ⟨.hbm, 522, rfl⟩
abbrev main_v354 : Ref sig .tc := ⟨.hbm, 523, rfl⟩
abbrev main_v355 : Ref sig .tc := ⟨.hbm, 524, rfl⟩
abbrev main_cst_57 : Ref sig .tc := ⟨.hbm, 525, rfl⟩
abbrev main_v356 : Ref sig .tc := ⟨.hbm, 526, rfl⟩
abbrev main_v357 : Ref sig .tc := ⟨.hbm, 527, rfl⟩
abbrev main_v358 : Ref sig .tc := ⟨.hbm, 528, rfl⟩
abbrev main_cst_58 : Ref sig .tc := ⟨.hbm, 529, rfl⟩
abbrev main_v359 : Ref sig .tc := ⟨.hbm, 530, rfl⟩
abbrev main_v360 : Ref sig .tc := ⟨.hbm, 531, rfl⟩
abbrev main_cst_59 : Ref sig .tc := ⟨.hbm, 532, rfl⟩
abbrev main_v361 : Ref sig .tc := ⟨.hbm, 533, rfl⟩
abbrev main_v362 : Ref sig .tc := ⟨.hbm, 534, rfl⟩
abbrev main_cst_60 : Ref sig .tc := ⟨.hbm, 535, rfl⟩
abbrev main_v363 : Ref sig .tc := ⟨.hbm, 536, rfl⟩
abbrev main_v364 : Ref sig .tc := ⟨.hbm, 537, rfl⟩
abbrev main_v365 : Ref sig .tc := ⟨.hbm, 538, rfl⟩
abbrev main_v366 : Ref sig .tc := ⟨.hbm, 539, rfl⟩
abbrev main_cst_61 : Ref sig .tc := ⟨.hbm, 540, rfl⟩
abbrev main_v367 : Ref sig .tc := ⟨.hbm, 541, rfl⟩
abbrev main_v368 : Ref sig .tc := ⟨.hbm, 542, rfl⟩
abbrev main_cst_62 : Ref sig .tc := ⟨.hbm, 543, rfl⟩
abbrev main_v369 : Ref sig .tc := ⟨.hbm, 544, rfl⟩
abbrev main_v370 : Ref sig .tc := ⟨.hbm, 545, rfl⟩
abbrev main_v371 : Ref sig .tc := ⟨.hbm, 546, rfl⟩
abbrev main_cst_63 : Ref sig .tc := ⟨.hbm, 547, rfl⟩
abbrev main_v372 : Ref sig .tc := ⟨.hbm, 548, rfl⟩
abbrev main_v373 : Ref sig .tc := ⟨.hbm, 549, rfl⟩
abbrev main_v374 : Ref sig .tc := ⟨.hbm, 550, rfl⟩
abbrev main_v375 : Ref sig .tc := ⟨.hbm, 551, rfl⟩
abbrev main_cst_64 : Ref sig .tc := ⟨.hbm, 552, rfl⟩
abbrev main_v376 : Ref sig .tc := ⟨.hbm, 553, rfl⟩
abbrev main_v377 : Ref sig .tc := ⟨.hbm, 554, rfl⟩
abbrev main_v378 : Ref sig .tc := ⟨.hbm, 555, rfl⟩
abbrev main_v379 : Ref sig .tc := ⟨.hbm, 556, rfl⟩
abbrev main_cst_65 : Ref sig .tc := ⟨.hbm, 557, rfl⟩
abbrev main_v380 : Ref sig .tc := ⟨.hbm, 558, rfl⟩
abbrev main_v381 : Ref sig .tc := ⟨.hbm, 559, rfl⟩
abbrev main_v382 : Ref sig .tc := ⟨.hbm, 560, rfl⟩
abbrev main_v383 : Ref sig .tc := ⟨.hbm, 561, rfl⟩
abbrev main_v384 : Ref sig .tc := ⟨.hbm, 562, rfl⟩
abbrev main_v385 : Ref sig .tc := ⟨.hbm, 563, rfl⟩
abbrev main_v386 : Ref sig .tc := ⟨.hbm, 564, rfl⟩
abbrev main_v387 : Ref sig .tc := ⟨.hbm, 565, rfl⟩
abbrev main_cst_66 : Ref sig .tc := ⟨.hbm, 566, rfl⟩
abbrev main_v388 : Ref sig .tc := ⟨.hbm, 567, rfl⟩
abbrev main_v389 : Ref sig .tc := ⟨.hbm, 568, rfl⟩
abbrev main_v390 : Ref sig .tc := ⟨.hbm, 569, rfl⟩
abbrev main_cst_67 : Ref sig .tc := ⟨.hbm, 570, rfl⟩
abbrev main_v391 : Ref sig .tc := ⟨.hbm, 571, rfl⟩
abbrev main_v392 : Ref sig .tc := ⟨.hbm, 572, rfl⟩
abbrev main_v393 : Ref sig .tc := ⟨.hbm, 573, rfl⟩
abbrev main_v394 : Ref sig .tc := ⟨.hbm, 574, rfl⟩
abbrev main_v395 : Ref sig .tc := ⟨.hbm, 575, rfl⟩
abbrev main_v396 : Ref sig .tc := ⟨.hbm, 576, rfl⟩
abbrev main_v397 : Ref sig .tc := ⟨.hbm, 577, rfl⟩
abbrev main_v398 : Ref sig .tc := ⟨.hbm, 578, rfl⟩
abbrev main_v399 : Ref sig .tc := ⟨.hbm, 579, rfl⟩

abbrev nD : Nat := 1
abbrev τ : Topo := Topo.v7x

variable {F : FTy → Type} [FloatOps F]
-- ==== Proof.Frames.lean ====
/- The frames of the kernel, of its idealized program and of both references, and the one rewritten site. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.GridIdeal.Run
public import Idealize.ShloMosaic.PureOps.IdealRules

@[expose] public section

noncomputable section

namespace Cert.Block.Frames

open Idealize.ShloMosaic Idealize.SL.Sem

/-- The bit-exact program runs, leaves its arguments alone and its counters at zero. -/
theorem kernel : Cert.quiescent_Kernel := fun m ρ _ => Cert.Kernel.Gen.frame m ρ

/-- The idealized kernel runs, leaves its arguments alone and its counters at zero. -/
theorem kernelIdeal : Cert.quiescent_KernelIdeal := fun m ρ _ => Cert.KernelIdeal.Gen.frame m ρ

/-- The reference with the exact top 99 runs. -/
theorem reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference with the threshold rounded down to the grid runs. -/
theorem grid : Cert.quiescent_GridIdeal := fun m ρ _ =>
  (θ_run Cert.GridIdeal.defs _ _).mono
    (fun r h => ⟨fun c => (h c).2, Idealize.ShloMosaic.sem_eq_zero_of_no_sems (by decide) r.2⟩)
    (Cert.GridIdeal.Value.run (F := Ideal) m ρ)

/-- The one rewritten site: the unit with the argument's sign. -/
theorem preserves : Cert.preserves_Kernel_KernelIdeal :=
  IdealRules.sign_bit.statement Cert.KernelIdeal.S3072x512 .f32

end Cert.Block.Frames

end
-- ==== Proof.FactsFinite.lean ====
/- The side conditions of the test of finiteness. -/
module

public import proofs.«01_k».proof.Pre_finite

@[expose] public section

set_option maxRecDepth 16384

namespace Cert.Pre_finite.Gen

open Idealize.ShloMosaic

instance facts : Cert.Pre_finite.Facts where
  bcast_S_S1x2048x768 := by decide
  bcast_S_S2x768 := by decide
  bcast_S_S2x768x768 := by decide
  bcast_S_S2x768x1536 := by decide
  bcast_S_S2x1536 := by decide
  bcast_S_S2x2 := by decide
  bcast_S_S2x768x3072 := by decide
  bcast_S_S2x3072 := by decide
  bcast_S_S2x3072x768 := by decide

end Cert.Pre_finite.Gen
-- ==== Proof.FactsSeparated.lean ====
/- The side conditions of the test of separation. -/
module

public import proofs.«01_k».proof.Pre_separated

@[expose] public section

set_option maxRecDepth 16384

namespace Cert.Pre_separated.Gen

open Idealize.ShloMosaic

instance facts : Cert.Pre_separated.Facts where
  shapeCasts_S1x2048x768_S2048x768 := by decide
  slices_S2x768_S1x768_0_0 := by decide
  shapeCasts_S1x768_S768 := by decide
  slices_S2x768x768_S1x768x768_0_0_0 := by decide
  shapeCasts_S1x768x768_S768x768 := by decide
  slices_S2x768x1536_S1x768x1536_0_0_0 := by decide
  shapeCasts_S1x768x1536_S768x1536 := by decide
  slices_S2x1536_S1x1536_0_0 := by decide
  shapeCasts_S1x1536_S1536 := by decide
  reducesTo_S2048x768_S2048_d1 := by decide
  h_S_ := by decide
  bcast_S2048_S2048x1_0 := by decide
  bcast_S_S2048x1 := by decide
  bcast_S2048x1_S2048x768_0_1 := by decide
  bcast_S768_S1x768_1 := by decide
  bcast_S1x768_S2048x768_0_1 := by decide
  shapeCasts_S2048x768_S2048x12x64 := by decide
  bcast_S1536_S1x1536_1 := by decide
  bcast_S1x1536_S2048x1536_0_1 := by decide
  shapeCasts_S2048x1536_S2048x2x12x64 := by decide
  slices_S2048x2x12x64_S2048x1x12x64_0_0_0_0 := by decide
  shapeCasts_S2048x1x12x64_S2048x12x64 := by decide
  slices_S2048x2x12x64_S2048x1x12x64_0_1_0_0 := by decide
  slices_S2x2_S1x2_0_0 := by decide
  shapeCasts_S1x2_S2 := by decide
  slices_S2x768x3072_S1x768x3072_0_0_0 := by decide
  shapeCasts_S1x768x3072_S768x3072 := by decide
  slices_S2x3072_S1x3072_0_0 := by decide
  shapeCasts_S1x3072_S3072 := by decide
  slices_S2x3072x768_S1x3072x768_0_0_0 := by decide
  shapeCasts_S1x3072x768_S3072x768 := by decide
  bcast_S_S12x2048x2048 := by decide
  reducesTo_S12x2048x2048_S12x2048_d2 := by decide
  bcast_S12x2048_S12x2048x1_0_1 := by decide
  bcast_S12x2048x1_S12x2048x2048_0_1_2 := by decide
  transposes_S12x64x2048_S2048x12x64_2_0_1 := by decide
  sliceFits_S12x2048x2048_S12x2048x99 := by decide
  bcast_S12_S12x1x1_0 := by decide
  bcast_S2048_S1x2048x1_1 := by decide
  bcast_S_S12x1x1 := by decide
  bcast_S_S1x2048x1 := by decide
  bcast_S_S12x2048x99 := by decide
  bcast_S12x1x1_S12x2048x99_0_1_2 := by decide
  bcast_S1x2048x1_S12x2048x99_0_1_2 := by decide
  bcast_S12x2048x99_S12x2048x99x1_0_1_2 := by decide
  concatenates_S12x2048x99x1_S12x2048x99x1_S12x2048x99x1_S12x2048x99x3_d3 := by decide
  reducesTo_S2_S_d0 := by decide
  slices_S2_S1_0 := by decide
  shapeCasts_S1_S_ := by decide
  bcast_S_S2048x12x64 := by decide
  slices_S2_S1_1 := by decide
  shapeCasts_S2048x12x64_S2048x768 := by decide
  bcast_S3072_S1x3072_1 := by decide
  bcast_S1x3072_S2048x3072_0_1 := by decide
  bcast_S_S2048x3072 := by decide
  slices_S2x768_S1x768_1_0 := by decide
  slices_S2x768x768_S1x768x768_1_0_0 := by decide
  slices_S2x768x1536_S1x768x1536_1_0_0 := by decide
  slices_S2x1536_S1x1536_1_0 := by decide
  bcast_S_S1x2048x768 := by decide
  bcast_S_S2x768 := by decide
  bcast_S_S2x768x768 := by decide
  bcast_S_S2x768x1536 := by decide
  bcast_S_S2x1536 := by decide
  bcast_S_S2x2 := by decide
  bcast_S_S2x768x3072 := by decide
  bcast_S_S2x3072 := by decide
  bcast_S_S2x3072x768 := by decide
  sliceFits_S12x2048x2048_S12x2048x100 := by decide
  slices_S12x2048x100_S12x2048x1_0_0_99 := by decide
  slices_S12x2048x99_S12x2048x1_0_0_98 := by decide
  bcast_S_S12x2048x1 := by decide
  dot_S2048x768_S768x768_S2048x768_1_0_0_1_n_n_wf := by decide
  dot_S2048x768_S768x1536_S2048x1536_1_0_0_1_n_n_wf := by decide
  dot_S2048x12x64_S2048x12x64_S12x2048x2048_2_2_0_0_1_1_wf := by decide
  dot_S2048x12x64_S12x2048x2048_S12x64x2048_0_2_2_1_1_0_wf := by decide
  scatter_S12x2048x2048_S12x2048x99x3_S12x2048x99_n_012_012_3_wf := by decide
  dot_S2048x768_S768x3072_S2048x3072_1_0_0_1_n_n_wf := by decide
  dot_S2048x3072_S3072x768_S2048x768_1_0_0_1_n_n_wf := by decide

end Cert.Pre_separated.Gen
-- ==== Proof.Spec.lean ====
/- The block over the reals: layer norm, projections, logits, the two softmax averages, the feed-forward part. -/
module

public import Idealize.ShloMosaic.PureOps.Ideal

@[expose] public section

noncomputable section

namespace Cert.Block

open Idealize.ShloMosaic

/-- The real number that a single-precision constant denotes. -/
def cst (b : BitVec 32) : ℝ := (show EReal from Ideal.ofBits .f32 b).toReal

/-- The mean of 768 numbers. -/
def mean (x : Fin 768 → ℝ) : ℝ := (∑ c, x c) / 768

/-- The mean squared distance from the mean. -/
def var (x : Fin 768 → ℝ) : ℝ := mean fun c => (x c - mean x) * (x c - mean x)

/-- The layer norm of one token. -/
def lnorm (x g b : Fin 768 → ℝ) (c : Fin 768) : ℝ :=
  (x c - mean x) / Real.sqrt (var x + cst 0x3727C5AC#32) * g c + b c

/-- A linear map with a bias. -/
def lin {K J : ℕ} (w : Fin K → Fin J → ℝ) (b : Fin J → ℝ) (y : Fin K → ℝ) (j : Fin J) : ℝ := (∑ c, w c j * y c) + b j

/-- A scaled inner product. -/
def logit (q k : Fin 64 → ℝ) : ℝ := (∑ d, k d * q d) * cst 0x3E000000#32

/-- The least and the greatest of a row. -/
def least (L : Fin 2048 → ℝ) : ℝ := Finset.univ.inf' ⟨0, Finset.mem_univ _⟩ L
def most (L : Fin 2048 → ℝ) : ℝ := Finset.univ.sup' ⟨0, Finset.mem_univ _⟩ L

/-- The ends of the interval that the search starts from. -/
def lo0 (L : Fin 2048 → ℝ) : ℝ := least L - cst 0x3C23D70A#32 * |least L| - cst 0x358637BD#32
def hi0 (L : Fin 2048 → ℝ) : ℝ := most L + 1

/-- How many of a row reach `a`. -/
def reach (L : Fin 2048 → ℝ) (a : ℝ) : ℕ := open Classical in (Finset.univ.filter fun m => a ≤ L m).card

/-- One halving of the interval. -/
def halve (L : Fin 2048 → ℝ) (I : ℝ × ℝ) : ℝ × ℝ :=
  if 99 ≤ reach L (1 / 2 * (I.1 + I.2)) then (1 / 2 * (I.1 + I.2), I.2) else (I.1, 1 / 2 * (I.1 + I.2))

/-- The lower end after eight halvings. -/
def cut (L : Fin 2048 → ℝ) : ℝ := ((halve L)^[8] (lo0 L, hi0 L)).1

/-- The average of `v` with the weights `exp L` over the keys in `S`. -/
def avg (S : Fin 2048 → Prop) (L v : Fin 2048 → ℝ) : ℝ :=
  open Classical in
  (∑ m, v m * (if S m then Real.exp (L m) else 0)) / ∑ m, (if S m then Real.exp (L m) else 0)

/-- The two averages, over all keys and over the selected ones, mixed with the softmax of two weights. -/
def mix (w : Fin 2 → ℝ) (S : Fin 2048 → Prop) (L v : Fin 2048 → ℝ) : ℝ :=
  Real.exp (w 0) / (Real.exp (w 0) + Real.exp (w 1)) * avg (fun _ => True) L v
    + Real.exp (w 1) / (Real.exp (w 0) + Real.exp (w 1)) * avg S L v

/-- Formula 7.1.26 of Abramowitz and Stegun for the error function. -/
def erfAS (s : ℝ) : ℝ :=
  let t := 1 / (1 + cst 0x3EA7BA05#32 * |s|)
  SignType.sign s * (1 - t * (cst 0x3E827906#32 + t * (cst 0xBE91A98E#32 + t * (cst 0x3FB5F0E3#32
    + t * (cst 0xBFBA00E3#32 + t * cst 0x3F87DC22#32)))) * Real.exp (-(|s| * |s|)))

/-- The activation of the feed-forward part. -/
def act (z : ℝ) : ℝ := cst 0x3F000000#32 * z * (1 + erfAS (z * cst 0x3F3504F3#32))

/-- One layer's arguments. -/
structure Layer where
  g1 : Fin 768 → ℝ
  b1 : Fin 768 → ℝ
  wq : Fin 768 → Fin 768 → ℝ
  bq : Fin 768 → ℝ
  wkv : Fin 768 → Fin 1536 → ℝ
  bkv : Fin 1536 → ℝ
  wc : Fin 2 → ℝ
  pw : Fin 768 → Fin 768 → ℝ
  pb : Fin 768 → ℝ
  g2 : Fin 768 → ℝ
  b2 : Fin 768 → ℝ
  f1w : Fin 768 → Fin 3072 → ℝ
  f1b : Fin 3072 → ℝ
  f2w : Fin 3072 → Fin 768 → ℝ
  f2b : Fin 768 → ℝ

/-- Channel `d` of head `h`. -/
def chan (h : Fin 12) (d : Fin 64) : Fin 768 := ⟨h * 64 + d, by omega⟩

/-- Its place among the keys, and among the values, of the joint projection. -/
def chanK (h : Fin 12) (d : Fin 64) : Fin 1536 := ⟨h * 64 + d, by omega⟩
def chanV (h : Fin 12) (d : Fin 64) : Fin 1536 := ⟨768 + (h * 64 + d), by omega⟩

namespace Layer

variable (p : Layer)

def q (x : Fin 768 → ℝ) : Fin 768 → ℝ := lin p.wq p.bq (lnorm x p.g1 p.b1)
def kv (x : Fin 768 → ℝ) : Fin 1536 → ℝ := lin p.wkv p.bkv (lnorm x p.g1 p.b1)

/-- The logit of query `n` and key `m` in head `h`. -/
def logits (x : Fin 2048 → Fin 768 → ℝ) (h : Fin 12) (n m : Fin 2048) : ℝ :=
  logit (fun d => p.q (x n) (chan h d)) (fun d => p.kv (x m) (chanK h d))

/-- The mixed attention, `sel` naming the selected keys of a row of logits. -/
def attn (sel : (Fin 2048 → ℝ) → Fin 2048 → Prop) (x : Fin 2048 → Fin 768 → ℝ) (h : Fin 12) (d : Fin 64) (n : Fin 2048) : ℝ :=
  mix p.wc (sel (p.logits x h n)) (p.logits x h n) fun m => p.kv (x m) (chanV h d)

/-- The projection of the attention, added to the token. -/
def proj (a x : Fin 768 → ℝ) (c : Fin 768) : ℝ := lin p.pw p.pb a c + x c

/-- The hidden units of the feed-forward part. -/
def hid (x1 : Fin 768 → ℝ) : Fin 3072 → ℝ := lin p.f1w p.f1b (lnorm x1 p.g2 p.b2)

/-- The feed-forward part, added to the token. -/
def post (x1 : Fin 768 → ℝ) (c : Fin 768) : ℝ := x1 c + lin p.f2w p.f2b (fun f => act (p.hid x1 f)) c

def head (c : Fin 768) : Fin 12 := ⟨c / 64, by omega⟩
def lane (c : Fin 768) : Fin 64 := ⟨c % 64, by omega⟩

/-- One layer. -/
def out (sel : (Fin 2048 → ℝ) → Fin 2048 → Prop) (x : Fin 2048 → Fin 768 → ℝ) (n : Fin 2048) : Fin 768 → ℝ :=
  p.post (p.proj (fun c => p.attn sel x (head c) (lane c) n) (x n))

end Layer

end Cert.Block

end
-- ==== Proof.Coe.lean ====
/- The operations at real arguments, and the constants as real numbers. -/
module

public import proofs.«01_k».proof.Proof.Spec
public import Idealize.ShloMosaic.PureOps.Ideal.Laws
public import Idealize.ShloMosaic.Lib.IdealHost
public import Idealize.ShloMosaic.Lib.Pointwise.Sums

@[expose] public section

noncomputable section

namespace Cert.Block

open Idealize.ShloMosaic

/-- A finite constant is the real number it denotes. -/
theorem ofBits_eq_cst (b : BitVec 32) (r : ℝ) (h : Ideal.ofBits .f32 b = ((r : ℝ) : EReal)) : cst b = r := by
  unfold cst; exact (congrArg EReal.toReal h).trans (EReal.toReal_coe r)

theorem ofBits_coe (b : BitVec 32) (h : ((b.extractLsb' 23 8).toNat ≠ 255)) :
    Ideal.ofBits .f32 b = ((cst b : ℝ) : EReal) := by
  have : ∃ r : ℝ, Ideal.ofBits .f32 b = ((r : ℝ) : EReal) := by
    show ∃ r : ℝ, Ideal.ieee 8 23 b = ((r : ℝ) : EReal)
    unfold Ideal.ieee
    simp only
    rw [if_neg (by simpa using h)]
    split
    · exact ⟨_, rfl⟩
    · exact ⟨_, rfl⟩
  obtain ⟨r, hr⟩ := this
  rw [ofBits_eq_cst b r hr]; exact hr

theorem c768 : Ideal.ofBits .f32 0x44400000#32 = ((768 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c99 : Ideal.ofBits .f32 0x42C60000#32 = ((99 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cInf : Ideal.ofBits .f32 0x7F800000#32 = ⊤ := by
  simp [Ideal.ofBits, Ideal.ieee]
theorem cNegInf : Ideal.ofBits .f32 0xFF800000#32 = ⊥ := by
  simp [Ideal.ofBits, Ideal.ieee]
theorem cInf16 : Ideal.ofBits .bf16 0x7F80#16 = ⊤ := by
  simp [Ideal.ofBits, Ideal.ieee]
theorem cNegInf16 : Ideal.ofBits .bf16 0xFF80#16 = ⊥ := by
  simp [Ideal.ofBits, Ideal.ieee]

theorem cEps : Ideal.ofBits .f32 0x3727C5AC#32 = ((cst 0x3727C5AC#32 : ℝ) : EReal) := ofBits_coe _ (by decide)
theorem cScale : Ideal.ofBits .f32 0x3E000000#32 = ((cst 0x3E000000#32 : ℝ) : EReal) := ofBits_coe _ (by decide)
theorem cP : Ideal.ofBits .f32 0x3EA7BA05#32 = ((cst 0x3EA7BA05#32 : ℝ) : EReal) := ofBits_coe _ (by decide)
theorem cA1 : Ideal.ofBits .f32 0x3E827906#32 = ((cst 0x3E827906#32 : ℝ) : EReal) := ofBits_coe _ (by decide)
theorem cA2 : Ideal.ofBits .f32 0xBE91A98E#32 = ((cst 0xBE91A98E#32 : ℝ) : EReal) := ofBits_coe _ (by decide)
theorem cA3 : Ideal.ofBits .f32 0x3FB5F0E3#32 = ((cst 0x3FB5F0E3#32 : ℝ) : EReal) := ofBits_coe _ (by decide)
theorem cA4 : Ideal.ofBits .f32 0xBFBA00E3#32 = ((cst 0xBFBA00E3#32 : ℝ) : EReal) := ofBits_coe _ (by decide)
theorem cA5 : Ideal.ofBits .f32 0x3F87DC22#32 = ((cst 0x3F87DC22#32 : ℝ) : EReal) := ofBits_coe _ (by decide)
theorem cRt : Ideal.ofBits .f32 0x3F3504F3#32 = ((cst 0x3F3504F3#32 : ℝ) : EReal) := ofBits_coe _ (by decide)
theorem cLo1 : Ideal.ofBits .f32 0x3C23D70A#32 = ((cst 0x3C23D70A#32 : ℝ) : EReal) := ofBits_coe _ (by decide)
theorem cLo2 : Ideal.ofBits .f32 0x358637BD#32 = ((cst 0x358637BD#32 : ℝ) : EReal) := ofBits_coe _ (by decide)

theorem cst_half : cst 0x3F000000#32 = 1 / 2 := ofBits_eq_cst _ _ cHalf

theorem eps_pos : 0 < cst 0x3727C5AC#32 := by
  have : Ideal.ofBits .f32 0x3727C5AC#32 = ((10995116 * (2 : ℝ) ^ (-40 : ℤ) : ℝ) : EReal) := by
    simp [Ideal.ofBits, Ideal.ieee, -EReal.coe_mul]
  rw [ofBits_eq_cst _ _ this]; positivity

theorem p_pos : 0 < cst 0x3EA7BA05#32 := by
  have : Ideal.ofBits .f32 0x3EA7BA05#32 = ((10992133 * (2 : ℝ) ^ (-25 : ℤ) : ℝ) : EReal) := by
    simp [Ideal.ofBits, Ideal.ieee, -EReal.coe_mul]
  rw [ofBits_eq_cst _ _ this]; positivity

theorem lo1_nonneg : 0 ≤ cst 0x3C23D70A#32 := by
  have : Ideal.ofBits .f32 0x3C23D70A#32 = ((10737418 * (2 : ℝ) ^ (-30 : ℤ) : ℝ) : EReal) := by
    simp [Ideal.ofBits, Ideal.ieee, -EReal.coe_mul]
  rw [ofBits_eq_cst _ _ this]; positivity

theorem lo2_pos : 0 < cst 0x358637BD#32 := by
  have : Ideal.ofBits .f32 0x358637BD#32 = ((8796093 * (2 : ℝ) ^ (-43 : ℤ) : ℝ) : EReal) := by
    simp [Ideal.ofBits, Ideal.ieee, -EReal.coe_mul]
  rw [ofBits_eq_cst _ _ this]; positivity

/-- A finite sum of reals is real. -/
theorem sum_coe {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

theorem div_coe_coe {a b : ℝ} (hb : b ≠ 0) : Ideal.div (a : EReal) (b : EReal) = ((a / b : ℝ) : EReal) := by
  rw [Ideal.div_coe hb, ← EReal.coe_mul]; congr 1; ring

theorem sqrt_coe_pos {a : ℝ} (h : 0 ≤ a) : Ideal.sqrt (a : EReal) = ((Real.sqrt a : ℝ) : EReal) := by
  rw [Ideal.sqrt_coe, if_neg (not_lt.2 h)]

theorem abs_coe (a : ℝ) : max (a : EReal) (-(a : EReal)) = ((|a| : ℝ) : EReal) := by
  rw [← EReal.coe_neg, abs_eq_max_neg]
  exact (EReal.coe_strictMono.monotone.map_max).symm

theorem var_nonneg (x : Fin 768 → ℝ) : 0 ≤ var x := by
  unfold var mean
  exact div_nonneg (Finset.sum_nonneg fun c _ => mul_self_nonneg _) (by norm_num)

theorem sd_pos (x : Fin 768 → ℝ) : 0 < Real.sqrt (var x + cst 0x3727C5AC#32) :=
  Real.sqrt_pos.2 (add_pos_of_nonneg_of_pos (var_nonneg x) eps_pos)

theorem mean_coe (x : Fin 768 → ℝ) : Ideal.div (∑ c, ((x c : ℝ) : EReal)) ((768 : ℝ) : EReal) = ((mean x : ℝ) : EReal) := by
  rw [sum_coe, div_coe_coe (by norm_num)]; rfl

/-- The layer norm at real arguments. -/
theorem lnorm_coe (x g b : Fin 768 → ℝ) (c : Fin 768) :
    Ideal.div ((x c : EReal) - ((mean x : ℝ) : EReal))
        (Ideal.sqrt (Ideal.div (∑ c, ((x c : EReal) - ((mean x : ℝ) : EReal)) * ((x c : EReal) - ((mean x : ℝ) : EReal)))
          ((768 : ℝ) : EReal) + ((cst 0x3727C5AC#32 : ℝ) : EReal))) * (g c : EReal) + (b c : EReal)
      = ((lnorm x g b c : ℝ) : EReal) := by
  simp only [← EReal.coe_sub, ← EReal.coe_mul]
  rw [mean_coe (fun c => (x c - mean x) * (x c - mean x)), ← EReal.coe_add,
    show (mean fun c => (x c - mean x) * (x c - mean x)) = var x from rfl,
    sqrt_coe_pos (add_nonneg (var_nonneg x) eps_pos.le), div_coe_coe (sd_pos x).ne']
  simp only [← EReal.coe_add, ← EReal.coe_mul]
  rfl

theorem absf_coe (s : ℝ) : (FloatOps.absf (F := Ideal) (φ := .f32) (s : EReal) : EReal) = ((|s| : ℝ) : EReal) := abs_coe s

theorem cNegOne : Ideal.ofBits .f32 0xBF800000#32 = ((-1 : ℝ) : EReal) := by
  simp [Ideal.ofBits, Ideal.ieee, -EReal.coe_mul, -EReal.coe_neg]; norm_num

/-- The sign as the kernel spells it. -/
theorem sign_coe (s : ℝ) :
    (if (0 : EReal) < ((|s| : ℝ) : EReal) then (if (s : EReal) < 0 then ((-1 : ℝ) : EReal) else 1) else (s : EReal))
      = (((SignType.sign s : SignType) : ℝ) : EReal) := by
  rcases lt_trichotomy s 0 with h | h | h
  · rw [if_pos (by exact_mod_cast abs_pos.2 h.ne), if_pos (by exact_mod_cast h), sign_neg h]; rfl
  · subst h; simp
  · rw [if_pos (by exact_mod_cast abs_pos.2 h.ne'), if_neg (by exact_mod_cast h.le.not_gt), sign_pos h]; rfl

/-- Formula 7.1.26 at a real argument, in Horner's form. -/
theorem erfAS_coe (s : ℝ) (t : EReal) (ht : t = ((1 / (1 + cst 0x3EA7BA05#32 * |s|) : ℝ) : EReal)) :
    (((SignType.sign s : SignType) : ℝ) : EReal) * (1 - t * (((cst 0x3E827906#32 : ℝ) : EReal)
      + t * (((cst 0xBE91A98E#32 : ℝ) : EReal) + t * (((cst 0x3FB5F0E3#32 : ℝ) : EReal)
      + t * (((cst 0xBFBA00E3#32 : ℝ) : EReal) + t * ((cst 0x3F87DC22#32 : ℝ) : EReal)))))
      * Ideal.exp ((0 - ((|s| : ℝ) : EReal)) * ((|s| : ℝ) : EReal))) = ((erfAS s : ℝ) : EReal) := by
  subst ht
  rw [show (0 : EReal) = ((0 : ℝ) : EReal) from rfl, show (1 : EReal) = ((1 : ℝ) : EReal) from rfl]
  simp only [← EReal.coe_mul, ← EReal.coe_add, ← EReal.coe_sub, Ideal.exp_coe]
  congr 1
  unfold erfAS
  rw [show (0 - |s|) * |s| = -(|s| * |s|) by ring]

theorem inv_coe (s : ℝ) : Ideal.div 1 (1 + ((cst 0x3EA7BA05#32 : ℝ) : EReal) * ((|s| : ℝ) : EReal))
    = ((1 / (1 + cst 0x3EA7BA05#32 * |s|) : ℝ) : EReal) := by
  have h : (0 : ℝ) < 1 + cst 0x3EA7BA05#32 * |s| := by
    have := mul_nonneg p_pos.le (abs_nonneg s)
    linarith
  rw [show (1 : EReal) = ((1 : ℝ) : EReal) from rfl, ← EReal.coe_mul, ← EReal.coe_add, div_coe_coe h.ne']

/-- The activation at a real argument. -/
theorem act_coe (z : ℝ) : Ideal.ofBits .f32 0x3F000000#32 * (z : EReal) * (1 + ((erfAS (z * cst 0x3F3504F3#32) : ℝ) : EReal))
    = ((act z : ℝ) : EReal) := by
  rw [ofBits_coe 0x3F000000#32 (by decide), show (1 : EReal) = ((1 : ℝ) : EReal) from rfl]
  simp only [← EReal.coe_mul, ← EReal.coe_add]
  rfl

theorem fold_min_coe (L : Fin 2048 → ℝ) : (Finset.univ : Finset (Fin 2048)).fold min (⊤ : EReal) (fun m => ((L m : ℝ) : EReal))
    = ((least L : ℝ) : EReal) := by
  apply le_antisymm
  · obtain ⟨m, _, hm⟩ := Finset.exists_mem_eq_inf' (s := (Finset.univ : Finset (Fin 2048))) ⟨0, Finset.mem_univ _⟩ L
    rw [show least L = L m from hm]
    exact (Finset.fold_min_le _).2 (.inr ⟨m, Finset.mem_univ _, le_rfl⟩)
  · exact (Finset.le_fold_min _).2 ⟨le_top, fun m _ => EReal.coe_le_coe_iff.2 (Finset.inf'_le _ (Finset.mem_univ m))⟩

theorem fold_max_coe (L : Fin 2048 → ℝ) : (Finset.univ : Finset (Fin 2048)).fold max (⊥ : EReal) (fun m => ((L m : ℝ) : EReal))
    = ((most L : ℝ) : EReal) := by
  apply le_antisymm
  · exact (Finset.fold_max_le _).2 ⟨bot_le, fun m _ => EReal.coe_le_coe_iff.2 (Finset.le_sup' _ (Finset.mem_univ m))⟩
  · obtain ⟨m, _, hm⟩ := Finset.exists_mem_eq_sup' (s := (Finset.univ : Finset (Fin 2048))) ⟨0, Finset.mem_univ _⟩ L
    rw [show most L = L m from hm]
    exact (Finset.le_fold_max _).2 (.inr ⟨m, Finset.mem_univ _, le_rfl⟩)

/-- A one-bit word widened and read as a number. -/
theorem bit_coe (p : Prop) [Decidable p] : (FloatOps.sitofp (F := Ideal) .f32 (BitVec.setWidth 32 (BitVec.ofBool (decide p))) : EReal)
    = (((if p then 1 else 0 : ℝ)) : EReal) := by
  by_cases h : p
  · simp only [h, decide_true, if_true]
    show (((BitVec.setWidth 32 (BitVec.ofBool true)).toInt : ℝ) : EReal) = _
    rw [show (BitVec.setWidth 32 (BitVec.ofBool true)).toInt = 1 by decide]; norm_num
  · simp only [h, decide_false, if_false]
    show (((BitVec.setWidth 32 (BitVec.ofBool false)).toInt : ℝ) : EReal) = _
    rw [show (BitVec.setWidth 32 (BitVec.ofBool false)).toInt = 0 by decide]; norm_num

/-- The count of a row's entries that reach `a`, taken 256 at a time. -/
theorem count_coe (L : Fin 2048 → ℝ) (a : ℝ) :
    (∑ x : Fin 8, ∑ y : Fin 256, (FloatOps.sitofp (F := Ideal) .f32 (BitVec.setWidth 32 (BitVec.ofBool
      (decide ((a : EReal) ≤ ((L ⟨x * 256 + y, by omega⟩ : ℝ) : EReal)))))) : EReal) = (((reach L a : ℕ) : ℝ) : EReal) := by
  simp only [bit_coe, EReal.coe_le_coe_iff]
  rw [← Fin.sum_univ_tiles 8 256 rfl (fun m : Fin 2048 => (((if a ≤ L m then 1 else 0 : ℝ)) : EReal)), sum_coe]
  congr 1
  unfold reach
  rw [Finset.card_filter]
  push_cast
  exact Finset.sum_congr rfl fun m _ => by congr

/-- The mixed averages at real arguments. -/
theorem mix_coe (w0 w1 : ℝ) (v e s : Fin 2048 → ℝ) (pe : ∑ m, e m ≠ 0) (ps : ∑ m, s m ≠ 0) :
    Ideal.div (Ideal.exp (w0 : EReal)) (Ideal.exp (w0 : EReal) + Ideal.exp (w1 : EReal))
        * Ideal.div (∑ m, (v m : EReal) * (e m : EReal)) (∑ m, (e m : EReal))
      + Ideal.div (Ideal.exp (w1 : EReal)) (Ideal.exp (w0 : EReal) + Ideal.exp (w1 : EReal))
        * Ideal.div (∑ m, (v m : EReal) * (s m : EReal)) (∑ m, (s m : EReal))
      = ((Real.exp w0 / (Real.exp w0 + Real.exp w1) * ((∑ m, v m * e m) / ∑ m, e m)
          + Real.exp w1 / (Real.exp w0 + Real.exp w1) * ((∑ m, v m * s m) / ∑ m, s m) : ℝ) : EReal) := by
  have hp : Real.exp w0 + Real.exp w1 ≠ 0 := (add_pos (Real.exp_pos _) (Real.exp_pos _)).ne'
  simp only [Ideal.exp_coe, ← EReal.coe_mul, ← EReal.coe_add, sum_coe]
  rw [div_coe_coe hp, div_coe_coe hp, div_coe_coe pe, div_coe_coe ps]
  simp only [← EReal.coe_mul, ← EReal.coe_add]

/-- The linear map at real arguments. -/
theorem lin_coe {K J : ℕ} (w : Fin K → Fin J → ℝ) (b : Fin J → ℝ) (y : Fin K → ℝ) (j : Fin J) :
    (∑ c, (w c j : EReal) * (y c : EReal)) + (b j : EReal) = ((lin w b y j : ℝ) : EReal) := by
  simp only [← EReal.coe_mul]
  rw [sum_coe, ← EReal.coe_add]; rfl

end Cert.Block

end
-- ==== Proof.Cut.lean ====
/- The threshold that the bisection finds: the grid point next below the 99th greatest of the row. -/
module

public import proofs.«01_k».proof.Proof.Coe

@[expose] public section

noncomputable section

namespace Cert.Block

variable (L : Fin 2048 → ℝ)

theorem least_le (m : Fin 2048) : least L ≤ L m := Finset.inf'_le _ (Finset.mem_univ m)
theorem le_most (m : Fin 2048) : L m ≤ most L := Finset.le_sup' _ (Finset.mem_univ m)

theorem lo0_le (m : Fin 2048) : lo0 L ≤ L m := by
  have h := least_le L m
  have h1 := mul_nonneg lo1_nonneg (abs_nonneg (least L))
  have h2 := lo2_pos
  unfold lo0
  linarith

theorem lt_hi0 (m : Fin 2048) : L m < hi0 L := by
  have h := le_most L m
  unfold hi0
  linarith

theorem lo0_lt_hi0 : lo0 L < hi0 L := (lo0_le L 0).trans_lt (lt_hi0 L 0)

theorem reach_lo0 : 99 ≤ reach L (lo0 L) := by
  unfold reach
  rw [Finset.filter_true_of_mem fun m _ => lo0_le L m, Finset.card_univ, Fintype.card_fin]
  decide

theorem reach_hi0 : ¬ 99 ≤ reach L (hi0 L) := by
  unfold reach
  rw [Finset.filter_false_of_mem fun m _ => not_le.2 (lt_hi0 L m)]
  decide

theorem iterate_inv {σ : Type} (f : σ → σ) (Inv : ℕ → σ → Prop) (hf : ∀ j a, Inv j a → Inv (j + 1) (f a)) {a : σ} (h : Inv 0 a) :
    ∀ n, Inv n (f^[n] a)
  | 0 => h
  | n + 1 => by rw [Function.iterate_succ_apply']; exact hf n _ (iterate_inv f Inv hf h n)

theorem reach_cut : 99 ≤ reach L (cut L) :=
  iterate_inv (halve L) (fun _ I => 99 ≤ reach L I.1) (fun _ I h => by
    unfold halve
    split
    · assumption
    · exact h) (reach_lo0 L) 8

/-- Some key reaches the threshold. -/
theorem exists_reach {a : ℝ} (h : 99 ≤ reach L a) : ∃ m, a ≤ L m := by
  by_contra hn
  push Not at hn
  unfold reach at h
  rw [Finset.filter_false_of_mem fun m _ => not_le.2 (hn m)] at h
  exact absurd h (by decide)

theorem sel_sum_pos {S : Fin 2048 → Prop} (h : ∃ m, S m) : 0 < ∑ m, (open Classical in if S m then Real.exp (L m) else 0) := by
  classical
  obtain ⟨m, hm⟩ := h
  refine Finset.sum_pos' (fun i _ => ?_) ⟨m, Finset.mem_univ m, ?_⟩
  · split
    · exact (Real.exp_pos _).le
    · exact le_rfl
  · rw [if_pos hm]; exact Real.exp_pos _

theorem cut_sum_pos : 0 < ∑ m, (open Classical in if cut L ≤ L m then Real.exp (L m) else 0) :=
  sel_sum_pos L (exists_reach L (reach_cut L))

/-- The width of the grid. -/
def step (L : Fin 2048 → ℝ) : ℝ := (hi0 L - lo0 L) / 256

/-- The grid point next below `v`. -/
def below (L : Fin 2048 → ℝ) (v : ℝ) : ℝ := lo0 L + (⌊(v - lo0 L) / step L⌋ : ℝ) * step L

theorem step_pos : 0 < step L := div_pos (sub_pos.2 (lo0_lt_hi0 L)) (by norm_num)

theorem below_le (v : ℝ) : below L v ≤ v := by
  have h := mul_le_mul_of_nonneg_right (Int.floor_le ((v - lo0 L) / step L)) (step_pos L).le
  rw [div_mul_cancel₀ _ (step_pos L).ne'] at h
  unfold below
  linarith

/-- `v` being the 99th greatest of the row, the bisection finds the grid point next below it. -/
theorem cut_eq {v : ℝ} (hv : ∀ a, 99 ≤ reach L a ↔ a ≤ v) : cut L = below L v := by
  have h := iterate_inv (halve L) (fun k I => ∃ j : ℤ, I.1 = lo0 L + j * ((hi0 L - lo0 L) / 2 ^ k)
      ∧ I.2 = I.1 + (hi0 L - lo0 L) / 2 ^ k ∧ I.1 ≤ v ∧ v < I.2) (fun k I h => by
    obtain ⟨j, h1, h2, h3, h4⟩ := h
    have hm : 1 / 2 * (I.1 + I.2) = I.1 + (hi0 L - lo0 L) / 2 ^ (k + 1) := by rw [h2, pow_succ]; ring
    unfold halve
    split
    · rename_i hr
      rw [hv] at hr
      refine ⟨2 * j + 1, ?_, ?_, hr, h4⟩
      · rw [hm, h1, pow_succ]; push_cast; ring
      · dsimp only; rw [hm, h2, pow_succ]; ring
    · rename_i hr
      rw [hv, not_le] at hr
      refine ⟨2 * j, ?_, hm, h3, hr⟩
      dsimp only
      rw [h1, pow_succ]; push_cast; ring) (a := (lo0 L, hi0 L))
    ⟨0, by simp, by simp, (hv _).1 (reach_lo0 L), not_le.1 (mt (hv _).2 (reach_hi0 L))⟩ 8
  obtain ⟨j, h1, h2, h3, h4⟩ := h
  have e : (hi0 L - lo0 L) / 2 ^ 8 = step L := by unfold step; norm_num
  rw [e] at h1 h2
  change cut L = _ at h1
  change cut L ≤ v at h3
  rw [h2] at h4
  change v < cut L + _ at h4
  have hf : ⌊(v - lo0 L) / step L⌋ = j := by
    rw [Int.floor_eq_iff, le_div_iff₀ (step_pos L), div_lt_iff₀ (step_pos L)]
    constructor
    · linarith
    · linarith
  unfold below
  rw [hf, h1]

/-! ## Rows in descending order -/

section Sorted

variable {σ : Fin 2048 → Fin 2048} (hi : Function.Injective σ) (hs : ∀ i j, i ≤ j → L (σ j) ≤ L (σ i))

include hi hs

theorem reach_iff (a : ℝ) : 99 ≤ reach L a ↔ a ≤ L (σ 98) := by
  classical
  unfold reach
  constructor
  · intro h
    by_contra hn
    rw [not_le] at hn
    have hsub : (Finset.univ.filter fun m => a ≤ L m) ⊆ (Finset.univ.filter fun i : Fin 2048 => i < 98).image σ := by
      intro m hm
      obtain ⟨i, rfl⟩ := (Finite.injective_iff_surjective.1 hi) m
      refine Finset.mem_image_of_mem _ (Finset.mem_filter.2 ⟨Finset.mem_univ _, ?_⟩)
      by_contra hi98
      exact absurd (((Finset.mem_filter.1 hm).2.trans (hs 98 i (not_lt.1 hi98)))) (not_le.2 hn)
    have hc := (Finset.card_le_card hsub).trans Finset.card_image_le
    have h98 : (Finset.univ.filter fun i : Fin 2048 => i < 98).card = 98 := by
      rw [Finset.filter_gt_eq_Iio, Fin.card_Iio]; rfl
    convert_to 99 ≤ (Finset.univ.filter fun m => a ≤ L m).card at h
    omega
  · intro h
    have hsub : (Finset.univ.filter fun i : Fin 2048 => i ≤ 98).image σ ⊆ (Finset.univ.filter fun m => a ≤ L m) := by
      intro m hm
      obtain ⟨i, hi', rfl⟩ := Finset.mem_image.1 hm
      exact Finset.mem_filter.2 ⟨Finset.mem_univ _, h.trans (hs i 98 (Finset.mem_filter.1 hi').2)⟩
    have hc := Finset.card_le_card hsub
    rw [Finset.card_image_of_injective _ hi] at hc
    have h98 : (Finset.univ.filter fun i : Fin 2048 => i ≤ 98).card = 99 := by
      rw [Finset.filter_ge_eq_Iic, Fin.card_Iic]; rfl
    convert_to 99 ≤ (Finset.univ.filter fun m => a ≤ L m).card
    omega

theorem cut_sorted : cut L = below L (L (σ 98)) := cut_eq L (reach_iff L hi hs)

/-- When the next in order stays below the threshold, the first 99 are the keys that reach it. -/
theorem sel_sorted (h : L (σ 99) < cut L) (m : Fin 2048) : cut L ≤ L m ↔ ∃ i : Fin 99, σ ⟨i, by omega⟩ = m := by
  constructor
  · intro hm
    obtain ⟨i, rfl⟩ := (Finite.injective_iff_surjective.1 hi) m
    have : i < 99 := by
      by_contra hn
      exact absurd (hm.trans (hs 99 i (not_lt.1 hn))) (not_le.2 h)
    exact ⟨⟨i, this⟩, rfl⟩
  · rintro ⟨i, rfl⟩
    rw [cut_sorted L hi hs]
    refine (below_le L _).trans (hs _ _ ?_)
    have := i.isLt
    rw [Fin.le_def]
    show i.val ≤ 98
    omega

end Sorted

end Cert.Block

end
-- ==== Proof.Args.lean ====
/- The arguments as arrays of reals. -/
module

public import proofs.«01_k».proof.Proof.Cut
public import proofs.«01_k».proof.Proof.Gen.KernelIdeal
public import Idealize.ShloMosaic.Lib.Pointwise

@[expose] public section

noncomputable section

namespace Cert.Block

open Idealize.ShloMosaic Idealize.ShloMosaic.TcCoe Idealize.SL.Sem
open Cert.KernelIdeal

/-- The sixteen arguments are these reals: the tokens `x`, and the parameters `p 0` and `p 1` of the two layers. -/
structure Real16 (a0 : FVec Ideal S1x2048x768 .f32) (a1 : FVec Ideal S2x768 .f32) (a2 : FVec Ideal S2x768 .f32) (a3 : FVec Ideal S2x768x768 .f32) (a4 : FVec Ideal S2x768 .f32) (a5 : FVec Ideal S2x768x1536 .f32) (a6 : FVec Ideal S2x1536 .f32) (a7 : FVec Ideal S2x2 .f32) (a8 : FVec Ideal S2x768x768 .f32) (a9 : FVec Ideal S2x768 .f32) (a10 : FVec Ideal S2x768 .f32) (a11 : FVec Ideal S2x768 .f32) (a12 : FVec Ideal S2x768x3072 .f32) (a13 : FVec Ideal S2x3072 .f32) (a14 : FVec Ideal S2x3072x768 .f32) (a15 : FVec Ideal S2x768 .f32)
    (x : Fin 2048 → Fin 768 → ℝ) (p : Fin 2 → Layer) : Prop where
  x : ∀ n a, a0 (ix3 0 n a) = ((x n a : ℝ) : EReal)
  g1 : ∀ l a, a1 (ix2 l a) = (((p l).g1 a : ℝ) : EReal)
  b1 : ∀ l a, a2 (ix2 l a) = (((p l).b1 a : ℝ) : EReal)
  wq : ∀ l a j, a3 (ix3 l a j) = (((p l).wq a j : ℝ) : EReal)
  bq : ∀ l a, a4 (ix2 l a) = (((p l).bq a : ℝ) : EReal)
  wkv : ∀ l a j, a5 (ix3 l a j) = (((p l).wkv a j : ℝ) : EReal)
  bkv : ∀ l a, a6 (ix2 l a) = (((p l).bkv a : ℝ) : EReal)
  wc : ∀ l a, a7 (ix2 l a) = (((p l).wc a : ℝ) : EReal)
  pw : ∀ l a j, a8 (ix3 l a j) = (((p l).pw a j : ℝ) : EReal)
  pb : ∀ l a, a9 (ix2 l a) = (((p l).pb a : ℝ) : EReal)
  g2 : ∀ l a, a10 (ix2 l a) = (((p l).g2 a : ℝ) : EReal)
  b2 : ∀ l a, a11 (ix2 l a) = (((p l).b2 a : ℝ) : EReal)
  f1w : ∀ l a j, a12 (ix3 l a j) = (((p l).f1w a j : ℝ) : EReal)
  f1b : ∀ l a, a13 (ix2 l a) = (((p l).f1b a : ℝ) : EReal)
  f2w : ∀ l a j, a14 (ix3 l a j) = (((p l).f2w a j : ℝ) : EReal)
  f2b : ∀ l a, a15 (ix2 l a) = (((p l).f2b a : ℝ) : EReal)

/-- The selection of the kernel: the keys that reach the threshold of the bisection. -/
def selCut (L : Fin 2048 → ℝ) (m : Fin 2048) : Prop := cut L ≤ L m

/-- The two layers. -/
def block (p : Fin 2 → Layer) (x : Fin 2048 → Fin 768 → ℝ) : Fin 2048 → Fin 768 → ℝ :=
  (p 1).out selCut ((p 0).out selCut x)

/-- The block's result as an array. -/
def blockArray (p : Fin 2 → Layer) (x : Fin 2048 → Fin 768 → ℝ) : FVec Ideal S1x2048x768 .f32 :=
  fun i => ((block p x (i 1) (i 2) : ℝ) : EReal)

end Cert.Block

end
-- ==== Proof.Host.lean ====
/- What the host operations between the kernels leave, read at an index. -/
module

public import proofs.«01_k».proof.Proof.Spec
public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.Block

open Idealize.ShloMosaic Idealize.ShloMosaic.TcCoe Idealize.SL.Sem
open Cert.KernelIdeal Cert.KernelIdeal.Gen

variable (X : Valuation τ sig (Elt Ideal))

theorem host0_x (a : Fin 768) (n : Fin 2048) :
    (StableHlo.after hostOps0 X (Proc.devRef .tc main_v1) : FVec Ideal S768x2048 .f32) (ix2 a n)
      = (X (Proc.devRef .tc main_arg0) : FVec Ideal S1x2048x768 .f32) (ix3 0 n a) := by
  after_reads_at

theorem host0_v32 (a : Fin 768) :
    (StableHlo.after hostOps0 X (Proc.devRef .tc main_v32) : FVec Ideal S768x1 .f32) (ix2 a 0)
      = (X (Proc.devRef .tc main_arg1) : FVec Ideal S2x768 .f32) (ix2 0 a) := by
  after_reads_at

theorem host0_v33 (a : Fin 768) :
    (StableHlo.after hostOps0 X (Proc.devRef .tc main_v33) : FVec Ideal S768x1 .f32) (ix2 a 0)
      = (X (Proc.devRef .tc main_arg2) : FVec Ideal S2x768 .f32) (ix2 0 a) := by
  after_reads_at

theorem host0_v34 (a j : Fin 768) :
    (StableHlo.after hostOps0 X (Proc.devRef .tc main_v34) : FVec Ideal S768x768 .bf16) (ix2 a j)
      = (X (Proc.devRef .tc main_arg3) : FVec Ideal S2x768x768 .f32) (ix3 0 a j) := by
  after_reads_at

theorem host0_v35 (a : Fin 768) :
    (StableHlo.after hostOps0 X (Proc.devRef .tc main_v35) : FVec Ideal S768x1 .f32) (ix2 a 0)
      = (X (Proc.devRef .tc main_arg4) : FVec Ideal S2x768 .f32) (ix2 0 a) := by
  after_reads_at

theorem host0_v36 (a : Fin 768) (j : Fin 1536) :
    (StableHlo.after hostOps0 X (Proc.devRef .tc main_v36) : FVec Ideal S768x1536 .bf16) (ix2 a j)
      = (X (Proc.devRef .tc main_arg5) : FVec Ideal S2x768x1536 .f32) (ix3 0 a j) := by
  after_reads_at

theorem host0_v37 (a : Fin 1536) :
    (StableHlo.after hostOps0 X (Proc.devRef .tc main_v37) : FVec Ideal S1536x1 .f32) (ix2 a 0)
      = (X (Proc.devRef .tc main_arg6) : FVec Ideal S2x1536 .f32) (ix2 0 a) := by
  after_reads_at

theorem host0_v15 (a : Fin 2) :
    (StableHlo.after hostOps0 X (Proc.devRef .tc main_v15) : FVec Ideal S2 .f32) (ix1 a)
      = (X (Proc.devRef .tc main_arg7) : FVec Ideal S2x2 .f32) (ix2 0 a) := by
  after_reads_at

theorem host0_v17 (a j : Fin 768) :
    (StableHlo.after hostOps0 X (Proc.devRef .tc main_v17) : FVec Ideal S768x768 .f32) (ix2 a j)
      = (X (Proc.devRef .tc main_arg8) : FVec Ideal S2x768x768 .f32) (ix3 0 a j) := by
  after_reads_at

theorem host0_v19 (a : Fin 768) :
    (StableHlo.after hostOps0 X (Proc.devRef .tc main_v19) : FVec Ideal S768 .f32) (ix1 a)
      = (X (Proc.devRef .tc main_arg9) : FVec Ideal S2x768 .f32) (ix2 0 a) := by
  after_reads_at

theorem host0_v21 (a : Fin 768) :
    (StableHlo.after hostOps0 X (Proc.devRef .tc main_v21) : FVec Ideal S768 .f32) (ix1 a)
      = (X (Proc.devRef .tc main_arg10) : FVec Ideal S2x768 .f32) (ix2 0 a) := by
  after_reads_at

theorem host0_v23 (a : Fin 768) :
    (StableHlo.after hostOps0 X (Proc.devRef .tc main_v23) : FVec Ideal S768 .f32) (ix1 a)
      = (X (Proc.devRef .tc main_arg11) : FVec Ideal S2x768 .f32) (ix2 0 a) := by
  after_reads_at

theorem host0_v25 (a : Fin 768) (j : Fin 3072) :
    (StableHlo.after hostOps0 X (Proc.devRef .tc main_v25) : FVec Ideal S768x3072 .f32) (ix2 a j)
      = (X (Proc.devRef .tc main_arg12) : FVec Ideal S2x768x3072 .f32) (ix3 0 a j) := by
  after_reads_at

theorem host0_v27 (a : Fin 3072) :
    (StableHlo.after hostOps0 X (Proc.devRef .tc main_v27) : FVec Ideal S3072 .f32) (ix1 a)
      = (X (Proc.devRef .tc main_arg13) : FVec Ideal S2x3072 .f32) (ix2 0 a) := by
  after_reads_at

theorem host0_v29 (a : Fin 3072) (j : Fin 768) :
    (StableHlo.after hostOps0 X (Proc.devRef .tc main_v29) : FVec Ideal S3072x768 .f32) (ix2 a j)
      = (X (Proc.devRef .tc main_arg14) : FVec Ideal S2x3072x768 .f32) (ix3 0 a j) := by
  after_reads_at

theorem host0_v31 (a : Fin 768) :
    (StableHlo.after hostOps0 X (Proc.devRef .tc main_v31) : FVec Ideal S768 .f32) (ix1 a)
      = (X (Proc.devRef .tc main_arg15) : FVec Ideal S2x768 .f32) (ix2 0 a) := by
  after_reads_at

theorem host3_v85 (a : Fin 768) :
    (StableHlo.after hostOps3 X (Proc.devRef .tc main_v85) : FVec Ideal S768x1 .f32) (ix2 a 0)
      = (X (Proc.devRef .tc main_arg1) : FVec Ideal S2x768 .f32) (ix2 1 a) := by
  after_reads_at

theorem host3_v86 (a : Fin 768) :
    (StableHlo.after hostOps3 X (Proc.devRef .tc main_v86) : FVec Ideal S768x1 .f32) (ix2 a 0)
      = (X (Proc.devRef .tc main_arg2) : FVec Ideal S2x768 .f32) (ix2 1 a) := by
  after_reads_at

theorem host3_v87 (a j : Fin 768) :
    (StableHlo.after hostOps3 X (Proc.devRef .tc main_v87) : FVec Ideal S768x768 .bf16) (ix2 a j)
      = (X (Proc.devRef .tc main_arg3) : FVec Ideal S2x768x768 .f32) (ix3 1 a j) := by
  after_reads_at

theorem host3_v88 (a : Fin 768) :
    (StableHlo.after hostOps3 X (Proc.devRef .tc main_v88) : FVec Ideal S768x1 .f32) (ix2 a 0)
      = (X (Proc.devRef .tc main_arg4) : FVec Ideal S2x768 .f32) (ix2 1 a) := by
  after_reads_at

theorem host3_v89 (a : Fin 768) (j : Fin 1536) :
    (StableHlo.after hostOps3 X (Proc.devRef .tc main_v89) : FVec Ideal S768x1536 .bf16) (ix2 a j)
      = (X (Proc.devRef .tc main_arg5) : FVec Ideal S2x768x1536 .f32) (ix3 1 a j) := by
  after_reads_at

theorem host3_v90 (a : Fin 1536) :
    (StableHlo.after hostOps3 X (Proc.devRef .tc main_v90) : FVec Ideal S1536x1 .f32) (ix2 a 0)
      = (X (Proc.devRef .tc main_arg6) : FVec Ideal S2x1536 .f32) (ix2 1 a) := by
  after_reads_at

theorem host3_v68 (a : Fin 2) :
    (StableHlo.after hostOps3 X (Proc.devRef .tc main_v68) : FVec Ideal S2 .f32) (ix1 a)
      = (X (Proc.devRef .tc main_arg7) : FVec Ideal S2x2 .f32) (ix2 1 a) := by
  after_reads_at

theorem host3_v70 (a j : Fin 768) :
    (StableHlo.after hostOps3 X (Proc.devRef .tc main_v70) : FVec Ideal S768x768 .f32) (ix2 a j)
      = (X (Proc.devRef .tc main_arg8) : FVec Ideal S2x768x768 .f32) (ix3 1 a j) := by
  after_reads_at

theorem host3_v72 (a : Fin 768) :
    (StableHlo.after hostOps3 X (Proc.devRef .tc main_v72) : FVec Ideal S768 .f32) (ix1 a)
      = (X (Proc.devRef .tc main_arg9) : FVec Ideal S2x768 .f32) (ix2 1 a) := by
  after_reads_at

theorem host3_v74 (a : Fin 768) :
    (StableHlo.after hostOps3 X (Proc.devRef .tc main_v74) : FVec Ideal S768 .f32) (ix1 a)
      = (X (Proc.devRef .tc main_arg10) : FVec Ideal S2x768 .f32) (ix2 1 a) := by
  after_reads_at

theorem host3_v76 (a : Fin 768) :
    (StableHlo.after hostOps3 X (Proc.devRef .tc main_v76) : FVec Ideal S768 .f32) (ix1 a)
      = (X (Proc.devRef .tc main_arg11) : FVec Ideal S2x768 .f32) (ix2 1 a) := by
  after_reads_at

theorem host3_v78 (a : Fin 768) (j : Fin 3072) :
    (StableHlo.after hostOps3 X (Proc.devRef .tc main_v78) : FVec Ideal S768x3072 .f32) (ix2 a j)
      = (X (Proc.devRef .tc main_arg12) : FVec Ideal S2x768x3072 .f32) (ix3 1 a j) := by
  after_reads_at

theorem host3_v80 (a : Fin 3072) :
    (StableHlo.after hostOps3 X (Proc.devRef .tc main_v80) : FVec Ideal S3072 .f32) (ix1 a)
      = (X (Proc.devRef .tc main_arg13) : FVec Ideal S2x3072 .f32) (ix2 1 a) := by
  after_reads_at

theorem host3_v82 (a : Fin 3072) (j : Fin 768) :
    (StableHlo.after hostOps3 X (Proc.devRef .tc main_v82) : FVec Ideal S3072x768 .f32) (ix2 a j)
      = (X (Proc.devRef .tc main_arg14) : FVec Ideal S2x3072x768 .f32) (ix3 1 a j) := by
  after_reads_at

theorem host3_v84 (a : Fin 768) :
    (StableHlo.after hostOps3 X (Proc.devRef .tc main_v84) : FVec Ideal S768 .f32) (ix1 a)
      = (X (Proc.devRef .tc main_arg15) : FVec Ideal S2x768 .f32) (ix2 1 a) := by
  after_reads_at

theorem host1_q (h : Fin 12) (d : Fin 64) (n : Fin 2048) :
    (StableHlo.after hostOps1 X (Proc.devRef .tc main_v39) : FVec Ideal S12x64x2048 .bf16) (ix3 h d n)
      = (X (Proc.devRef .tc main_v38_0) : FVec Ideal S768x2048 .bf16) (ix2 (chan h d) n) := by
  after_reads_at
  rfl

theorem host1_k (h : Fin 12) (d : Fin 64) (n : Fin 2048) :
    (StableHlo.after hostOps1 X (Proc.devRef .tc main_v41) : FVec Ideal S12x64x2048 .bf16) (ix3 h d n)
      = (X (Proc.devRef .tc main_v38_1) : FVec Ideal S1536x2048 .bf16) (ix2 (chanK h d) n) := by
  after_reads_at
  rfl

theorem host1_v (h : Fin 12) (d : Fin 64) (n : Fin 2048) :
    (StableHlo.after hostOps1 X (Proc.devRef .tc main_v43) : FVec Ideal S12x64x2048 .bf16) (ix3 h d n)
      = (X (Proc.devRef .tc main_v38_1) : FVec Ideal S1536x2048 .bf16) (ix2 (chanV h d) n) := by
  after_reads_at
  rfl

theorem host4_q (h : Fin 12) (d : Fin 64) (n : Fin 2048) :
    (StableHlo.after hostOps4 X (Proc.devRef .tc main_v92) : FVec Ideal S12x64x2048 .bf16) (ix3 h d n)
      = (X (Proc.devRef .tc main_v91_0) : FVec Ideal S768x2048 .bf16) (ix2 (chan h d) n) := by
  after_reads_at
  rfl

theorem host4_k (h : Fin 12) (d : Fin 64) (n : Fin 2048) :
    (StableHlo.after hostOps4 X (Proc.devRef .tc main_v94) : FVec Ideal S12x64x2048 .bf16) (ix3 h d n)
      = (X (Proc.devRef .tc main_v91_1) : FVec Ideal S1536x2048 .bf16) (ix2 (chanK h d) n) := by
  after_reads_at
  rfl

theorem host4_v (h : Fin 12) (d : Fin 64) (n : Fin 2048) :
    (StableHlo.after hostOps4 X (Proc.devRef .tc main_v96) : FVec Ideal S12x64x2048 .bf16) (ix3 h d n)
      = (X (Proc.devRef .tc main_v91_1) : FVec Ideal S1536x2048 .bf16) (ix2 (chanV h d) n) := by
  after_reads_at
  rfl

theorem host2_a (a : Fin 768) (n : Fin 2048) :
    (StableHlo.after hostOps2 X (Proc.devRef .tc main_v45) : FVec Ideal S768x2048 .bf16) (ix2 a n)
      = (X (Proc.devRef .tc main_v44) : FVec Ideal S12x64x2048 .bf16) (ix3 (Layer.head a) (Layer.lane a) n) := by
  after_reads_at
  rfl

theorem host2_v46 (a j : Fin 768) :
    (StableHlo.after hostOps2 X (Proc.devRef .tc main_v46) : FVec Ideal S768x768 .bf16) (ix2 a j)
      = (X (Proc.devRef .tc main_v17) : FVec Ideal S768x768 .f32) (ix2 a j) := by
  after_reads_at

theorem host2_v47 (a : Fin 768) :
    (StableHlo.after hostOps2 X (Proc.devRef .tc main_v47) : FVec Ideal S768x1 .f32) (ix2 a 0)
      = (X (Proc.devRef .tc main_v19) : FVec Ideal S768 .f32) (ix1 a) := by
  after_reads_at

theorem host2_v48 (a : Fin 768) :
    (StableHlo.after hostOps2 X (Proc.devRef .tc main_v48) : FVec Ideal S768x1 .f32) (ix2 a 0)
      = (X (Proc.devRef .tc main_v21) : FVec Ideal S768 .f32) (ix1 a) := by
  after_reads_at

theorem host2_v49 (a : Fin 768) :
    (StableHlo.after hostOps2 X (Proc.devRef .tc main_v49) : FVec Ideal S768x1 .f32) (ix2 a 0)
      = (X (Proc.devRef .tc main_v23) : FVec Ideal S768 .f32) (ix1 a) := by
  after_reads_at

theorem host2_v50 (a : Fin 768) (j : Fin 3072) :
    (StableHlo.after hostOps2 X (Proc.devRef .tc main_v50) : FVec Ideal S768x3072 .bf16) (ix2 a j)
      = (X (Proc.devRef .tc main_v25) : FVec Ideal S768x3072 .f32) (ix2 a j) := by
  after_reads_at

theorem host2_v51 (a : Fin 3072) :
    (StableHlo.after hostOps2 X (Proc.devRef .tc main_v51) : FVec Ideal S3072x1 .f32) (ix2 a 0)
      = (X (Proc.devRef .tc main_v27) : FVec Ideal S3072 .f32) (ix1 a) := by
  after_reads_at

theorem host2_v52 (a : Fin 3072) (j : Fin 768) :
    (StableHlo.after hostOps2 X (Proc.devRef .tc main_v52) : FVec Ideal S3072x768 .bf16) (ix2 a j)
      = (X (Proc.devRef .tc main_v29) : FVec Ideal S3072x768 .f32) (ix2 a j) := by
  after_reads_at

theorem host2_v53 (a : Fin 768) :
    (StableHlo.after hostOps2 X (Proc.devRef .tc main_v53) : FVec Ideal S768x1 .f32) (ix2 a 0)
      = (X (Proc.devRef .tc main_v31) : FVec Ideal S768 .f32) (ix1 a) := by
  after_reads_at

theorem host5_a (a : Fin 768) (n : Fin 2048) :
    (StableHlo.after hostOps5 X (Proc.devRef .tc main_v98) : FVec Ideal S768x2048 .bf16) (ix2 a n)
      = (X (Proc.devRef .tc main_v97) : FVec Ideal S12x64x2048 .bf16) (ix3 (Layer.head a) (Layer.lane a) n) := by
  after_reads_at
  rfl

theorem host5_v99 (a j : Fin 768) :
    (StableHlo.after hostOps5 X (Proc.devRef .tc main_v99) : FVec Ideal S768x768 .bf16) (ix2 a j)
      = (X (Proc.devRef .tc main_v70) : FVec Ideal S768x768 .f32) (ix2 a j) := by
  after_reads_at

theorem host5_v100 (a : Fin 768) :
    (StableHlo.after hostOps5 X (Proc.devRef .tc main_v100) : FVec Ideal S768x1 .f32) (ix2 a 0)
      = (X (Proc.devRef .tc main_v72) : FVec Ideal S768 .f32) (ix1 a) := by
  after_reads_at

theorem host5_v101 (a : Fin 768) :
    (StableHlo.after hostOps5 X (Proc.devRef .tc main_v101) : FVec Ideal S768x1 .f32) (ix2 a 0)
      = (X (Proc.devRef .tc main_v74) : FVec Ideal S768 .f32) (ix1 a) := by
  after_reads_at

theorem host5_v102 (a : Fin 768) :
    (StableHlo.after hostOps5 X (Proc.devRef .tc main_v102) : FVec Ideal S768x1 .f32) (ix2 a 0)
      = (X (Proc.devRef .tc main_v76) : FVec Ideal S768 .f32) (ix1 a) := by
  after_reads_at

theorem host5_v103 (a : Fin 768) (j : Fin 3072) :
    (StableHlo.after hostOps5 X (Proc.devRef .tc main_v103) : FVec Ideal S768x3072 .bf16) (ix2 a j)
      = (X (Proc.devRef .tc main_v78) : FVec Ideal S768x3072 .f32) (ix2 a j) := by
  after_reads_at

theorem host5_v104 (a : Fin 3072) :
    (StableHlo.after hostOps5 X (Proc.devRef .tc main_v104) : FVec Ideal S3072x1 .f32) (ix2 a 0)
      = (X (Proc.devRef .tc main_v80) : FVec Ideal S3072 .f32) (ix1 a) := by
  after_reads_at

theorem host5_v105 (a : Fin 3072) (j : Fin 768) :
    (StableHlo.after hostOps5 X (Proc.devRef .tc main_v105) : FVec Ideal S3072x768 .bf16) (ix2 a j)
      = (X (Proc.devRef .tc main_v82) : FVec Ideal S3072x768 .f32) (ix2 a j) := by
  after_reads_at

theorem host5_v106 (a : Fin 768) :
    (StableHlo.after hostOps5 X (Proc.devRef .tc main_v106) : FVec Ideal S768x1 .f32) (ix2 a 0)
      = (X (Proc.devRef .tc main_v84) : FVec Ideal S768 .f32) (ix1 a) := by
  after_reads_at

theorem host6_out (n : Fin 2048) (a : Fin 768) :
    (StableHlo.after hostOps6 X (Proc.devRef .tc main_v109) : FVec Ideal S1x2048x768 .f32) (ix3 0 n a)
      = (X (Proc.devRef .tc main_v107) : FVec Ideal S768x2048 .f32) (ix2 a n) := by
  after_reads_at

end Cert.Block

end
-- ==== Proof.Pay0.lean ====
/- What the projection kernels store, at real arguments. -/
module

public import proofs.«01_k».proof.Proof.Coe
public import proofs.«01_k».proof.Proof.Gen.KernelIdeal.Skeleton
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen

variable {xr : Fin 512 → Fin 768 → ℝ} {gr br : Fin 768 → ℝ}

theorem pay_ln (x : FVec Ideal S768x512 .f32) (g b : FVec Ideal S768x1 .f32)
    (hx : ∀ c n, x (ix2 c n) = ((xr n c : ℝ) : EReal)) (hg : ∀ c, g (ix2 c 0) = ((gr c : ℝ) : EReal))
    (hb : ∀ c, b (ix2 c 0) = ((br c : ℝ) : EReal)) (c : Fin 768) (n : Fin 512) :
    k0_pay2 (F := Ideal) x g b (ix2 c n) = ((lnorm (xr n) gr br c : ℝ) : EReal) := by
  pointwise [k0_pay2, hx, hg, hb, c768, cEps, mean_coe]
  exact lnorm_coe (xr n) gr br c

theorem pay_q (x : FVec Ideal S768x512 .f32) (g b : FVec Ideal S768x1 .f32) (w : FVec Ideal S768x768 .bf16)
    (bq : FVec Ideal S768x1 .f32) {wr : Fin 768 → Fin 768 → ℝ} {bqr : Fin 768 → ℝ}
    (hx : ∀ c n, x (ix2 c n) = ((xr n c : ℝ) : EReal)) (hg : ∀ c, g (ix2 c 0) = ((gr c : ℝ) : EReal))
    (hb : ∀ c, b (ix2 c 0) = ((br c : ℝ) : EReal)) (hw : ∀ c j, w (ix2 c j) = ((wr c j : ℝ) : EReal))
    (hq : ∀ c, bq (ix2 c 0) = ((bqr c : ℝ) : EReal)) (c : Fin 768) (n : Fin 512) :
    k0_pay3 (F := Ideal) x g b w bq (ix2 c n) = ((lin wr bqr (lnorm (xr n) gr br) c : ℝ) : EReal) := by
  pointwise [k0_pay3, hw, hq, pay_ln x g b hx hg hb]
  exact lin_coe wr bqr (lnorm (xr n) gr br) c

theorem pay_kv (y : FVec Ideal S768x512 .bf16) (w : FVec Ideal S768x1536 .bf16) (bk : FVec Ideal S1536x1 .f32)
    {yr : Fin 512 → Fin 768 → ℝ} {wr : Fin 768 → Fin 1536 → ℝ} {bkr : Fin 1536 → ℝ}
    (hy : ∀ c n, y (ix2 c n) = ((yr n c : ℝ) : EReal)) (hw : ∀ c j, w (ix2 c j) = ((wr c j : ℝ) : EReal))
    (hq : ∀ c, bk (ix2 c 0) = ((bkr c : ℝ) : EReal)) (c : Fin 1536) (n : Fin 512) :
    k0_pay1 (F := Ideal) y w bk (ix2 c n) = ((lin wr bkr (yr n) c : ℝ) : EReal) := by
  pointwise [k0_pay1, hw, hq, hy]
  exact lin_coe wr bkr (yr n) c

theorem k3_pay1_eq : @k3_pay1 Ideal _ = k0_pay1 := rfl
theorem k3_pay2_eq : @k3_pay2 Ideal _ = k0_pay2 := rfl
theorem k3_pay3_eq : @k3_pay3 Ideal _ = k0_pay3 := rfl

end Cert.Block

end
-- ==== Proof.Reg0.lean ====
/- The projection regions: the arrays they leave, when the arrays they find are real. -/
module

public import proofs.«01_k».proof.Proof.Pay0
public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen

section R0

theorem idx0 : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, t.val] ∧ win0_8.index t = ![0, t.val] :=
  (by decide +kernel : ∀ t : Fin grid0.N, _)

/-- The token that column `n` of the block at point `t` holds. -/
def tok0 (t : Fin cfg0.N) (n : Fin 512) : Fin 2048 := ⟨t.val * 512 + n, by
  have h : t.val < 4 := t.isLt
  omega⟩

variable (V : (c : Dev nD) → (b : Ref sig .tc) → Buf (Elt Ideal) ((c : Thread nD τ).loc b)) (c : Dev nD)
  {xr : Fin 2048 → Fin 768 → ℝ} (p : Layer)

/-- The arrays the region reads are these reals. -/
structure Found0 : Prop where
  x : ∀ a n, (V c main_v1 : FVec Ideal S768x2048 .f32) (ix2 a n) = ((xr n a : ℝ) : EReal)
  g : ∀ a, (V c main_v32 : FVec Ideal S768x1 .f32) (ix2 a 0) = ((p.g1 a : ℝ) : EReal)
  b : ∀ a, (V c main_v33 : FVec Ideal S768x1 .f32) (ix2 a 0) = ((p.b1 a : ℝ) : EReal)
  wq : ∀ a j, (V c main_v34 : FVec Ideal S768x768 .bf16) (ix2 a j) = ((p.wq a j : ℝ) : EReal)
  bq : ∀ a, (V c main_v35 : FVec Ideal S768x1 .f32) (ix2 a 0) = ((p.bq a : ℝ) : EReal)
  wkv : ∀ a j, (V c main_v36 : FVec Ideal S768x1536 .bf16) (ix2 a j) = ((p.wkv a j : ℝ) : EReal)
  bkv : ∀ a, (V c main_v37 : FVec Ideal S1536x1 .f32) (ix2 a 0) = ((p.bkv a : ℝ) : EReal)

variable {V c p}

theorem Found0.x_blk (h : Found0 V c (xr := xr) p) (t : Fin cfg0.N) (a : Fin 768) (n : Fin 512) :
    iblk0 V c 0 t (ix2 a n) = ((xr (tok0 t n) a : ℝ) : EReal) := by
  rw [← h.x]; blk_ext [iblk0, tok0, idx0 t]
theorem Found0.g_blk (h : Found0 V c (xr := xr) p) (t : Fin cfg0.N) (a : Fin 768) :
    iblk0 V c 1 t (ix2 a 0) = ((p.g1 a : ℝ) : EReal) := by
  rw [← h.g]; blk_ext [iblk0, idx0 t]
theorem Found0.b_blk (h : Found0 V c (xr := xr) p) (t : Fin cfg0.N) (a : Fin 768) :
    iblk0 V c 2 t (ix2 a 0) = ((p.b1 a : ℝ) : EReal) := by
  rw [← h.b]; blk_ext [iblk0, idx0 t]
theorem Found0.wq_blk (h : Found0 V c (xr := xr) p) (t : Fin cfg0.N) (a j : Fin 768) :
    iblk0 V c 3 t (ix2 a j) = ((p.wq a j : ℝ) : EReal) := by
  rw [← h.wq]; blk_ext [iblk0, idx0 t]
theorem Found0.bq_blk (h : Found0 V c (xr := xr) p) (t : Fin cfg0.N) (a : Fin 768) :
    iblk0 V c 4 t (ix2 a 0) = ((p.bq a : ℝ) : EReal) := by
  rw [← h.bq]; blk_ext [iblk0, idx0 t]
theorem Found0.wkv_blk (h : Found0 V c (xr := xr) p) (t : Fin cfg0.N) (a : Fin 768) (j : Fin 1536) :
    iblk0 V c 5 t (ix2 a j) = ((p.wkv a j : ℝ) : EReal) := by
  rw [← h.wkv]; blk_ext [iblk0, idx0 t]
theorem Found0.bkv_blk (h : Found0 V c (xr := xr) p) (t : Fin cfg0.N) (a : Fin 1536) :
    iblk0 V c 6 t (ix2 a 0) = ((p.bkv a : ℝ) : EReal) := by
  rw [← h.bkv]; blk_ext [iblk0, idx0 t]

theorem emb0_7 (t : Fin cfg0.N) (a : Fin 768) (n : Fin 512) :
    ((cfg0.win 7).blk t).view.emb (ix2 a n) = (ix2 a (tok0 t n) : S768x2048.Idx) := by
  blk_ext [tok0, idx0 t]
theorem emb0_8 (t : Fin cfg0.N) (a : Fin 1536) (n : Fin 512) :
    ((cfg0.win 8).blk t).view.emb (ix2 a n) = (ix2 a (tok0 t n) : S1536x2048.Idx) := by
  blk_ext [tok0, idx0 t]

/-- The queries. -/
theorem q_array0 (h : Found0 V c (xr := xr) p) :
    (dat0 V c).arrAt 7 cfg0.N = fun i => ((p.q (xr (i 1)) (i 0) : ℝ) : EReal) := by
  refine (dat0 V c).arrAt_eq_of_covers 7 _ (by decide +kernel) fun t _ y => ?_
  blk_simp
  rw [after0_7]
  frame_out
  idx_vars y
  refine Eq.trans ?_ (congrArg (fun i : S768x2048.Idx => ((p.q (xr (i 1)) (i 0) : ℝ) : EReal)) (emb0_7 t y0 y1)).symm
  exact pay_q _ _ _ _ _ (h.x_blk t) (h.g_blk t) (h.b_blk t) (h.wq_blk t) (h.bq_blk t) y0 y1

/-- The keys and the values. -/
theorem kv_array0 (h : Found0 V c (xr := xr) p) :
    (dat0 V c).arrAt 8 cfg0.N = fun i => ((p.kv (xr (i 1)) (i 0) : ℝ) : EReal) := by
  refine (dat0 V c).arrAt_eq_of_covers 8 _ (by decide +kernel) fun t _ y => ?_
  blk_simp
  rw [after0_8]
  frame_out
  idx_vars y
  refine Eq.trans ?_ (congrArg (fun i : S1536x2048.Idx => ((p.kv (xr (i 1)) (i 0) : ℝ) : EReal)) (emb0_8 t y0 y1)).symm
  exact pay_kv _ _ _ (pay_ln _ _ _ (h.x_blk t) (h.g_blk t) (h.b_blk t)) (h.wkv_blk t) (h.bkv_blk t) y0 y1

end R0

end Cert.Block

end
-- ==== Proof.Pay1.lean ====
/- What the attention kernels compute, at real arguments. -/
module

public import proofs.«01_k».proof.Proof.Coe
public import proofs.«01_k».proof.Proof.Gen.KernelIdeal.Skeleton
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen

variable {qr : Fin 1024 → Fin 64 → ℝ} {kr : Fin 2048 → Fin 64 → ℝ}

theorem pay_logits (q : FVec Ideal S1x64x1024 .bf16) (k : FVec Ideal S1x64x2048 .bf16)
    (hq : ∀ d n, q (ix3 0 d n) = ((qr n d : ℝ) : EReal)) (hk : ∀ d m, k (ix3 0 d m) = ((kr m d : ℝ) : EReal))
    (m : Fin 2048) (n : Fin 1024) :
    k1_pay2 (F := Ideal) q k (ix2 m n) = ((logit (qr n) (kr m) : ℝ) : EReal) := by
  pointwise [k1_pay2, hq, hk, cScale]
  simp only [← EReal.coe_mul]
  rw [sum_coe, ← EReal.coe_mul]; rfl

/-- A column's entry. -/
theorem lift_col (h : S2048x1024.Reduces [0] S1024) (j : S1024.Idx) (m : Fin 2048) : h.lift j m = ix2 m (j 0) := by
  funext a; apply Fin.ext; fin_cases a <;> rfl

theorem col_min (src : FVec Ideal S2048x1024 .bf16) (h : S2048x1024.Reduces [0] S1024) (hφ hacc) (j : S1024.Idx) :
    multiReduction .minimumf [0] S1024 src 0x7F80#16 h hφ hacc j
      = (Finset.univ : Finset (Fin 2048)).fold min (Ideal.ofBits .bf16 0x7F80#16) fun m => src (ix2 m (j 0)) := by
  rw [multiReduction_minimumf_eq_fold]
  refine (h.fold_filter_drop_single _ _ src j).trans ?_
  exact congrArg (Finset.fold min _ · _) (funext fun m => congrArg src (lift_col h j m))

theorem col_max (src : FVec Ideal S2048x1024 .bf16) (h : S2048x1024.Reduces [0] S1024) (hφ hacc) (j : S1024.Idx) :
    multiReduction .maximumf [0] S1024 src 0xFF80#16 h hφ hacc j
      = (Finset.univ : Finset (Fin 2048)).fold max (Ideal.ofBits .bf16 0xFF80#16) fun m => src (ix2 m (j 0)) := by
  rw [Ideal.multiReduction_maximumf_single]
  exact congrArg (Finset.fold max _ · _) (funext fun m => congrArg src (lift_col h j m))

/-- The lower end of the search from the least logit. -/
def loOf (v15 : FVec Ideal S1024 .bf16) : FVec Ideal S1x1024 .f32 :=
  subf (subf (extf .f32 (shapeCast S1x1024 v15 shapeCasts_S1024_S1x1024) bitsLt_bf16_f32)
    (mulf (broadcast S1x1024 (Scalar.ofBits .f32 0x3C23D70A#32))
      (absf (extf .f32 (shapeCast S1x1024 v15 shapeCasts_S1024_S1x1024) bitsLt_bf16_f32))))
    (broadcast S1x1024 (Scalar.ofBits .f32 0x358637BD#32))

/-- The upper end of the search from the greatest logit. -/
def hiOf (v12 : FVec Ideal S1024 .bf16) : FVec Ideal S1x1024 .f32 :=
  addf (extf .f32 (shapeCast S1x1024 v12 shapeCasts_S1024_S1x1024) bitsLt_bf16_f32)
    (broadcast S1x1024 (Scalar.ofBits .f32 0x3F800000#32))

theorem loOf_at (v : FVec Ideal S1024 .bf16) (n : Fin 1024) {r : ℝ} (h : v (ix1 n) = ((r : ℝ) : EReal)) :
    loOf v (ix2 0 n) = ((r - cst 0x3C23D70A#32 * |r| - cst 0x358637BD#32 : ℝ) : EReal) := by
  pointwise [loOf, h, cLo1, cLo2]
  rw [absf_coe]
  simp only [← EReal.coe_mul, ← EReal.coe_sub]

theorem hiOf_at (v : FVec Ideal S1024 .bf16) (n : Fin 1024) {r : ℝ} (h : v (ix1 n) = ((r : ℝ) : EReal)) :
    hiOf v (ix2 0 n) = ((r + 1 : ℝ) : EReal) := by
  pointwise [hiOf, h]
  rfl

variable (q : FVec Ideal S1x64x1024 .bf16) (k : FVec Ideal S1x64x2048 .bf16) {L : Fin 1024 → Fin 2048 → ℝ}
  (hL : ∀ m n, k1_pay2 (F := Ideal) q k (ix2 m n) = ((L n m : ℝ) : EReal))

theorem pay3_eq : k1_pay3 (F := Ideal) q k = k1_pay2 (F := Ideal) q k := rfl

include hL

theorem pay_lo (n : Fin 1024) : k1_pay4 (F := Ideal) q k (ix2 0 n) = ((lo0 (L n) : ℝ) : EReal) := by
  refine loOf_at (multiReduction .minimumf [0] S1024 (k1_pay3 q k) 0x7F80#16 reduces_S2048x1024_S1024 (.inr rfl) rfl) n ?_
  refine (col_min _ _ _ _ _).trans ?_
  rw [cInf16, pay3_eq]
  exact (congrArg (Finset.fold min _ · _) (funext fun m => hL m n)).trans (fold_min_coe (L n))

theorem pay_hi (n : Fin 1024) : k1_pay5 (F := Ideal) q k (ix2 0 n) = ((hi0 (L n) : ℝ) : EReal) := by
  refine hiOf_at (multiReduction .maximumf [0] S1024 (k1_pay3 q k) 0xFF80#16 reduces_S2048x1024_S1024 (.inr rfl) rfl) n ?_
  refine (col_max _ _ _ _ _).trans ?_
  rw [cNegInf16, pay3_eq]
  exact (congrArg (Finset.fold max _ · _) (funext fun m => hL m n)).trans (fold_max_coe (L n))

variable (a b : FVec Ideal S1x1024 .f32) {ar br : Fin 1024 → ℝ} (ha : ∀ n, a (ix2 0 n) = ((ar n : ℝ) : EReal))
    (hb : ∀ n, b (ix2 0 n) = ((br n : ℝ) : EReal))

include ha hb

/-- The kernel's count of a row's logits that reach the middle. -/
theorem pay_count (n : Fin 1024) :
    k1_pay7 (F := Ideal) q k a b (ix2 0 n) = BitVec.ofBool (decide (99 ≤ reach (L n) (1 / 2 * (ar n + br n)))) := by
  pointwise [k1_pay7, k1_pay6, k1_pay3, hL, ha, hb, c99, cHalf]
  rw [← EReal.coe_add, ← EReal.coe_mul]
  refine congrArg BitVec.ofBool (decide_eq_decide.2 ?_)
  refine (iff_of_eq (congrArg (((99 : ℝ) : EReal) ≤ ·) (count_coe (L n) (1 / 2 * (ar n + br n))))).trans ?_
  rw [EReal.coe_le_coe_iff, show (99 : ℝ) = ((99 : ℕ) : ℝ) by norm_num, Nat.cast_le]

theorem pay_lo' (n : Fin 1024) :
    k1_pay8 (F := Ideal) q k a b (ix2 0 n) = (((halve (L n) (ar n, br n)).1 : ℝ) : EReal) := by
  pointwise [k1_pay8, k1_pay6, ha, hb, cHalf, pay_count q k hL a b ha hb]
  rw [← EReal.coe_add, ← EReal.coe_mul]
  unfold halve
  dsimp only
  split <;> rfl

theorem pay_hi' (n : Fin 1024) :
    k1_pay9 (F := Ideal) q k a b (ix2 0 n) = (((halve (L n) (ar n, br n)).2 : ℝ) : EReal) := by
  pointwise [k1_pay9, k1_pay6, ha, hb, cHalf, pay_count q k hL a b ha hb]
  rw [← EReal.coe_add, ← EReal.coe_mul]
  unfold halve
  dsimp only
  split <;> rfl

omit ha hb

theorem pay_exp (m : Fin 2048) (n : Fin 1024) : k1_pay11 (F := Ideal) q k (ix2 m n) = ((Real.exp (L n m) : ℝ) : EReal) := by
  pointwise [k1_pay11, hL]
  rfl

theorem pay_sel (a : FVec Ideal S1x1024 .f32) {ar : Fin 1024 → ℝ} (ha : ∀ n, a (ix2 0 n) = ((ar n : ℝ) : EReal))
    (m : Fin 2048) (n : Fin 1024) : k1_pay12 (F := Ideal) q k a (ix2 m n)
      = (((open Classical in if ar n ≤ L n m then Real.exp (L n m) else 0) : ℝ) : EReal) := by
  pointwise [k1_pay12, k1_pay3, pay_exp q k hL, hL, ha]
  by_cases h : ar n ≤ L n m
  · rw [if_pos h, if_pos (EReal.coe_le_coe_iff.2 h)]
  · rw [if_neg h, if_neg (mt EReal.coe_le_coe_iff.1 h)]; rfl

omit hL

theorem pay_mix (v : FVec Ideal S1x64x2048 .bf16) (e s : FVec Ideal S2048x1024 .bf16) (w0 w1 : Ideal .f32)
    {vr er sr : Fin 2048 → ℝ} {w : Fin 2 → ℝ} (d : Fin 64) (n : Fin 1024)
    (hv : ∀ m, v (ix3 0 d m) = ((vr m : ℝ) : EReal)) (he : ∀ m, e (ix2 m n) = ((er m : ℝ) : EReal))
    (pe : ∑ m, er m ≠ 0) (ps : ∑ m, sr m ≠ 0)
    (hs : ∀ m, s (ix2 m n) = ((sr m : ℝ) : EReal)) (h0 : w0 = ((w 0 : ℝ) : EReal)) (h1 : w1 = ((w 1 : ℝ) : EReal)) :
    k1_pay1 (F := Ideal) (k1_pay10 v) e s (constant S65x1024 .f32 0x00000000#32) w0 w1 (ix3 0 d n)
      = ((Real.exp (w 0) / (Real.exp (w 0) + Real.exp (w 1)) * ((∑ m, vr m * er m) / ∑ m, er m)
          + Real.exp (w 1) / (Real.exp (w 0) + Real.exp (w 1)) * ((∑ m, vr m * sr m) / ∑ m, sr m) : ℝ) : EReal) := by
  subst h0 h1
  pointwise [k1_pay1, k1_pay10, hv, he, hs]
  exact mix_coe (w 0) (w 1) vr er sr pe ps

end Cert.Block

end
-- ==== Proof.Reg1.lean ====
/- The attention regions: the array they leave, when the arrays they find are real. -/
module

public import proofs.«01_k».proof.Proof.Pay1
public import proofs.«01_k».proof.Proof.Cut
public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen

theorem foldl_inv {σ τ : Type} (g : τ → σ → σ) (Inv : ℕ → σ → Prop) (hg : ∀ k j a, Inv j a → Inv (j + 1) (g k a)) :
    ∀ (ks : List τ) (j : ℕ) (a : σ), Inv j a → Inv (j + ks.length) (ks.foldl (fun a k => g k a) a)
  | [], _, _, h => h
  | k :: ks, j, a, h => by
    have := foldl_inv g Inv hg ks (j + 1) (g k a) (hg k j a h)
    rwa [Nat.add_assoc, Nat.add_comm 1] at this

section Rows

variable (q : FVec Ideal S1x64x1024 .bf16) (k : FVec Ideal S1x64x2048 .bf16) {L : Fin 1024 → Fin 2048 → ℝ}
  (hL : ∀ m n, k1_pay2 (F := Ideal) q k (ix2 m n) = ((L n m : ℝ) : EReal))

include hL in
theorem fold_cut {n8 : ℕ} (hn : n8 = 8) (n : Fin 1024) :
    (Scf.fold (n := n8) (fun (_ : Fin n8) (a : FVec Ideal S1x1024 .f32 × FVec Ideal S1x1024 .f32) => (k1_pay8 q k a.1 a.2, k1_pay9 q k a.1 a.2))
      (k1_pay4 q k, k1_pay5 q k)).1 (ix2 0 n) = ((cut (L n) : ℝ) : EReal) := by
  subst hn
  rw [Scf.fold_eq]
  have h := foldl_inv (τ := Fin 8) (fun _ (a : FVec Ideal S1x1024 .f32 × FVec Ideal S1x1024 .f32) => (k1_pay8 q k a.1 a.2, k1_pay9 q k a.1 a.2))
    (fun j a => ∀ n, a.1 (ix2 0 n) = ((((halve (L n))^[j] (lo0 (L n), hi0 (L n))).1 : ℝ) : EReal)
      ∧ a.2 (ix2 0 n) = ((((halve (L n))^[j] (lo0 (L n), hi0 (L n))).2 : ℝ) : EReal))
    (fun _ j a ha n => by
      rw [Function.iterate_succ_apply']
      exact ⟨pay_lo' q k hL a.1 a.2 (fun n => (ha n).1) (fun n => (ha n).2) n,
        pay_hi' q k hL a.1 a.2 (fun n => (ha n).1) (fun n => (ha n).2) n⟩)
    (List.finRange 8) 0 (k1_pay4 q k, k1_pay5 q k) (fun n => ⟨pay_lo q k hL n, pay_hi q k hL n⟩)
  rw [List.length_finRange] at h
  exact (h n).1

include hL in
/-- What the attention kernel stores at a row, the selection being the keys that reach the row's threshold. -/
theorem pay_attn (a : FVec Ideal S1x1024 .f32) (ha : ∀ n, a (ix2 0 n) = ((cut (L n) : ℝ) : EReal))
    (v : FVec Ideal S1x64x2048 .bf16) (w0 w1 : Ideal .f32) {vr : Fin 2048 → Fin 64 → ℝ} {w : Fin 2 → ℝ}
    (hv : ∀ d m, v (ix3 0 d m) = ((vr m d : ℝ) : EReal)) (h0 : w0 = ((w 0 : ℝ) : EReal)) (h1 : w1 = ((w 1 : ℝ) : EReal))
    (d : Fin 64) (n : Fin 1024) :
    k1_pay1 (F := Ideal) (k1_pay10 v) (k1_pay11 q k) (k1_pay12 q k a) (constant S65x1024 .f32 0x00000000#32) w0 w1 (ix3 0 d n)
      = ((mix w (fun m => cut (L n) ≤ L n m) (L n) (fun m => vr m d) : ℝ) : EReal) := by
  refine (pay_mix v _ _ w0 w1 d n (hv d) (fun m => pay_exp q k hL m n) (Finset.sum_pos (fun m _ => Real.exp_pos _) Finset.univ_nonempty).ne'
    (cut_sum_pos (L n)).ne' (fun m => pay_sel q k hL a ha m n) h0 h1).trans ?_
  refine congrArg (fun r : ℝ => (r : EReal)) ?_
  unfold mix avg
  simp only [if_true]

end Rows

theorem z3_1 : (![0, 0, 0] : Fin 3 → ℕ) = fun _ => 0 := by funext i; fin_cases i <;> rfl

theorem trips1 : k1_t1_loop.trips = 8 := by decide

theorem out1_eq (c : Dev nD) (i : grid1.Coords) (arg2 : Memref sig .tc .smem S2 .f32) (harg2 : arg2.IsWhole) (arg3 : Memref sig .tc .vmem S1x64x1024 .bf16) (harg3 : arg3.IsWhole) (arg4 : Memref sig .tc .vmem S1x64x2048 .bf16) (harg4 : arg4.IsWhole) (arg5 : Memref sig .tc .vmem S1x64x2048 .bf16) (harg5 : arg5.IsWhole) (arg6 : Memref sig .tc .vmem S1x64x1024 .bf16) (harg6 : arg6.IsWhole)
    (x0 : Vec Ideal S2 .f32) (x1 : Vec Ideal S1x64x1024 .bf16) (x2 : Vec Ideal S1x64x2048 .bf16) (x3 : Vec Ideal S1x64x2048 .bf16) :
    out1_A_4 c i arg2 harg2 arg3 harg3 arg4 harg4 arg5 harg5 arg6 harg6 x0 x1 x2 x3
      = k1_pay1 (k1_pay10 x3) (k1_pay11 x1 x2) (k1_pay12 x1 x2
          (Scf.fold (n := k1_t1_loop.trips) (fun _ (a : FVec Ideal S1x1024 .f32 × FVec Ideal S1x1024 .f32) => (k1_pay8 x1 x2 a.1 a.2, k1_pay9 x1 x2 a.1 a.2)) (k1_pay4 x1 x2, k1_pay5 x1 x2)).1)
          (constant S65x1024 .f32 0x00000000#32) (x0 (ix1 0)) (x0 (ix1 1)) := by
  unfold out1_A_4
  rw [View.read_writes_eq_canon _ _ _ (cover1_A_4 c i arg2 harg2 arg3 harg3 arg4 harg4 arg5 harg5 arg6 harg6 x0 x1 x2 x3)]
  unfold kernelRun1_A
  dsimp only
  sl_unfold_words
  rw [View.canon_unit_zero z3_1]
  simp only [View.readAt_eq_ld, harg2.read_unread, harg3.read_unread, harg4.read_unread, harg5.read_unread, View.ld_unit_zero (S := S1x64x1024) z3_1, View.ld_unit_zero (S := S1x64x2048) z3_1]
  refine congrArg₂ (k1_pay1 _ _ _ _) ?_ ?_
  · refine congrArg x0 ?_
    decide
  · refine congrArg x0 ?_
    decide

theorem idx1 : ∀ t : Fin cfg1.N, win1_0.index t = ![0] ∧ win1_1.index t = ![t.val / 2, 0, t.val % 2] ∧ win1_2.index t = ![t.val / 2, 0, 0]
    ∧ win1_3.index t = ![t.val / 2, 0, 0] ∧ win1_4.index t = ![t.val / 2, 0, t.val % 2] :=
  (by decide +kernel : ∀ t : Fin grid1.N, _)

/-- The head at point `t`. -/
def head1 (t : Fin cfg1.N) : Fin 12 := ⟨t.val / 2, by
  have h : t.val < 24 := t.isLt
  omega⟩

/-- The query that column `n` of the block at point `t` holds. -/
def tok1 (t : Fin cfg1.N) (n : Fin 1024) : Fin 2048 := ⟨t.val % 2 * 1024 + n, by omega⟩

section R1

variable (V : (c : Dev nD) → (b : Ref sig .tc) → Buf (Elt Ideal) ((c : Thread nD τ).loc b)) (c : Dev nD)
  (w : Fin 2 → ℝ) (qr kr vr : Fin 12 → Fin 2048 → Fin 64 → ℝ)

/-- The arrays the region reads are these reals. -/
structure Found1 : Prop where
  w : ∀ j, (V c main_v15 : FVec Ideal S2 .f32) (ix1 j) = ((w j : ℝ) : EReal)
  q : ∀ h d n, (V c main_v39 : FVec Ideal S12x64x2048 .bf16) (ix3 h d n) = ((qr h n d : ℝ) : EReal)
  k : ∀ h d n, (V c main_v41 : FVec Ideal S12x64x2048 .bf16) (ix3 h d n) = ((kr h n d : ℝ) : EReal)
  v : ∀ h d n, (V c main_v43 : FVec Ideal S12x64x2048 .bf16) (ix3 h d n) = ((vr h n d : ℝ) : EReal)

variable {V c w qr kr vr}

theorem Found1.w_blk (h : Found1 V c w qr kr vr) (t : Fin cfg1.N) (j : Fin 2) :
    iblk1 V c 0 t (ix1 j) = ((w j : ℝ) : EReal) := by
  rw [← h.w]; blk_ext [iblk1, idx1 t]
theorem Found1.q_blk (h : Found1 V c w qr kr vr) (t : Fin cfg1.N) (d : Fin 64) (n : Fin 1024) :
    iblk1 V c 1 t (ix3 0 d n) = ((qr (head1 t) (tok1 t n) d : ℝ) : EReal) := by
  rw [← h.q]; blk_ext [iblk1, head1, tok1, idx1 t]
theorem Found1.k_blk (h : Found1 V c w qr kr vr) (t : Fin cfg1.N) (d : Fin 64) (n : Fin 2048) :
    iblk1 V c 2 t (ix3 0 d n) = ((kr (head1 t) n d : ℝ) : EReal) := by
  rw [← h.k]; blk_ext [iblk1, head1, idx1 t]
theorem Found1.v_blk (h : Found1 V c w qr kr vr) (t : Fin cfg1.N) (d : Fin 64) (n : Fin 2048) :
    iblk1 V c 3 t (ix3 0 d n) = ((vr (head1 t) n d : ℝ) : EReal) := by
  rw [← h.v]; blk_ext [iblk1, head1, idx1 t]

theorem emb1_4 (t : Fin cfg1.N) (z : Fin 1) (d : Fin 64) (n : Fin 1024) :
    ((cfg1.win 4).blk t).view.emb (ix3 z d n) = (ix3 (head1 t) d (tok1 t n) : S12x64x2048.Idx) := by
  blk_ext [head1, tok1, idx1 t]

/-- The mixed attention of the queries, keys and values. -/
def mixed1 (w : Fin 2 → ℝ) (qr kr vr : Fin 12 → Fin 2048 → Fin 64 → ℝ) (h : Fin 12) (d : Fin 64) (n : Fin 2048) : ℝ :=
  mix w (fun m => cut (fun m => logit (qr h n) (kr h m)) ≤ logit (qr h n) (kr h m)) (fun m => logit (qr h n) (kr h m)) (fun m => vr h m d)

theorem out1_at (h : Found1 V c w qr kr vr) (t : Fin cfg1.N) (d : Fin 64) (n : Fin 1024) :
    k1_pay1 (F := Ideal) (k1_pay10 (iblk1 V c 3 t)) (k1_pay11 (iblk1 V c 1 t) (iblk1 V c 2 t)) (k1_pay12 (iblk1 V c 1 t) (iblk1 V c 2 t)
          (Scf.fold (n := k1_t1_loop.trips) (fun _ (a : FVec Ideal S1x1024 .f32 × FVec Ideal S1x1024 .f32) => (k1_pay8 (iblk1 V c 1 t) (iblk1 V c 2 t) a.1 a.2, k1_pay9 (iblk1 V c 1 t) (iblk1 V c 2 t) a.1 a.2)) (k1_pay4 (iblk1 V c 1 t) (iblk1 V c 2 t), k1_pay5 (iblk1 V c 1 t) (iblk1 V c 2 t))).1)
          (constant S65x1024 .f32 0x00000000#32) (iblk1 V c 0 t (ix1 0)) (iblk1 V c 0 t (ix1 1)) (ix3 0 d n)
      = ((mixed1 w qr kr vr (head1 t) d (tok1 t n) : ℝ) : EReal) := by
  have hL := pay_logits _ _ (h.q_blk t) (h.k_blk t)
  exact pay_attn _ _ hL _ (fun n => fold_cut _ _ hL trips1 n) _ _ _ (h.v_blk t) (h.w_blk t 0) (h.w_blk t 1) d n

theorem attn_array1 (h : Found1 V c w qr kr vr) :
    (dat1 V c).arrAt 4 cfg1.N = fun i => ((mixed1 w qr kr vr (i 0) (i 1) (i 2) : ℝ) : EReal) := by
  refine (dat1 V c).arrAt_eq_of_covers 4 _ (by decide +kernel) fun t _ y => ?_
  blk_simp
  rw [after1_4]
  unfold outsAt1
  rw [out1_eq]
  idx_vars y
  refine Eq.trans ?_ (congrArg (fun i : S12x64x2048.Idx => ((mixed1 w qr kr vr (i 0) (i 1) (i 2) : ℝ) : EReal)) (emb1_4 t y0 y1 y2)).symm
  obtain rfl : y0 = 0 := Subsingleton.elim _ _
  exact out1_at h t y1 y2

end R1

end Cert.Block

end
-- ==== Proof.Pay2.lean ====
/- What the projection-and-feed-forward kernels store, at real arguments. -/
module

public import proofs.«01_k».proof.Proof.Coe
public import proofs.«01_k».proof.Proof.Gen.KernelIdeal.Skeleton
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen

/-- The attention projected and added to the token. -/
theorem pay_proj (w : FVec Ideal S768x768 .bf16) (a : FVec Ideal S768x512 .bf16) (pb : FVec Ideal S768x1 .f32)
    (x : FVec Ideal S768x512 .f32) {wr : Fin 768 → Fin 768 → ℝ} {pbr : Fin 768 → ℝ} {ar xr : Fin 512 → Fin 768 → ℝ}
    (hw : ∀ c j, w (ix2 c j) = ((wr c j : ℝ) : EReal)) (ha : ∀ c n, a (ix2 c n) = ((ar n c : ℝ) : EReal))
    (hp : ∀ c, pb (ix2 c 0) = ((pbr c : ℝ) : EReal)) (hx : ∀ c n, x (ix2 c n) = ((xr n c : ℝ) : EReal))
    (c : Fin 768) (n : Fin 512) :
    k2_pay2 (F := Ideal) w a pb x (ix2 c n) = ((lin wr pbr (ar n) c + xr n c : ℝ) : EReal) := by
  pointwise [k2_pay2, hw, ha, hp, hx]
  rw [lin_coe wr pbr (ar n) c, ← EReal.coe_add]

/-- Its layer norm. -/
theorem pay_ln2 (w : FVec Ideal S768x768 .bf16) (a : FVec Ideal S768x512 .bf16) (pb : FVec Ideal S768x1 .f32)
    (x : FVec Ideal S768x512 .f32) (g b : FVec Ideal S768x1 .f32) {gr br : Fin 768 → ℝ} {x1 : Fin 512 → Fin 768 → ℝ}
    (h1 : ∀ c n, k2_pay2 (F := Ideal) w a pb x (ix2 c n) = ((x1 n c : ℝ) : EReal))
    (hg : ∀ c, g (ix2 c 0) = ((gr c : ℝ) : EReal)) (hb : ∀ c, b (ix2 c 0) = ((br c : ℝ) : EReal))
    (c : Fin 768) (n : Fin 512) :
    k2_pay3 (F := Ideal) w a pb x g b (ix2 c n) = ((lnorm (x1 n) gr br c : ℝ) : EReal) := by
  pointwise [k2_pay3, h1, hg, hb, c768, cEps, mean_coe]
  exact lnorm_coe (x1 n) gr br c

variable {yr : Fin 512 → Fin 768 → ℝ} {wr : Fin 768 → Fin 3072 → ℝ} {br : Fin 3072 → ℝ}

/-- The hidden units. -/
theorem pay_hid (y : FVec Ideal S768x512 .f32) (w : FVec Ideal S768x3072 .bf16) (b : FVec Ideal S3072x1 .f32)
    (hy : ∀ c n, y (ix2 c n) = ((yr n c : ℝ) : EReal)) (hw : ∀ c j, w (ix2 c j) = ((wr c j : ℝ) : EReal))
    (hb : ∀ c, b (ix2 c 0) = ((br c : ℝ) : EReal)) (c : Fin 3072) (n : Fin 512) :
    k2_pay4 (F := Ideal) y w b (ix2 c n) = ((lin wr br (yr n) c : ℝ) : EReal) := by
  pointwise [k2_pay4, hw, hy, hb]
  exact lin_coe wr br (yr n) c

/-- The feed-forward part added to the token. -/
theorem pay_post (x1 : FVec Ideal S768x512 .f32) (y : FVec Ideal S768x512 .f32) (w : FVec Ideal S768x3072 .bf16)
    (b : FVec Ideal S3072x1 .f32) (w2 : FVec Ideal S3072x768 .bf16) (b2 : FVec Ideal S768x1 .f32)
    {x1r : Fin 512 → Fin 768 → ℝ} {hr : Fin 512 → Fin 3072 → ℝ} {w2r : Fin 3072 → Fin 768 → ℝ} {b2r : Fin 768 → ℝ}
    (h1 : ∀ c n, x1 (ix2 c n) = ((x1r n c : ℝ) : EReal))
    (hh : ∀ c n, k2_pay4 (F := Ideal) y w b (ix2 c n) = ((hr n c : ℝ) : EReal))
    (hw2 : ∀ c j, w2 (ix2 c j) = ((w2r c j : ℝ) : EReal))
    (hb2 : ∀ c, b2 (ix2 c 0) = ((b2r c : ℝ) : EReal)) (c : Fin 768) (n : Fin 512) :
    k2_pay1 (F := Ideal) x1 (k2_pay5 y w b) (k2_pay7 y w b) (k2_pay8 y w b) (k2_pay9 y w b) (k2_pay10 y w b) w2 b2 (ix2 c n)
      = ((x1r n c + lin w2r b2r (fun f => act (hr n f)) c : ℝ) : EReal) := by
  pointwise [k2_pay1, k2_pay5, k2_pay6, k2_pay7, k2_pay8, k2_pay9, k2_pay10, h1, hh, hw2, hb2]
  simp only [cRt, ← EReal.coe_mul, absf_coe, cNegOne, sign_coe, cP, cA1, cA2, cA3, cA4, cA5]
  simp only [EReal.coe_mul _ |_|, inv_coe, erfAS_coe _ _ rfl, act_coe]
  rw [add_assoc, lin_coe w2r b2r (fun f => act (hr n f)) c, ← EReal.coe_add]

theorem k5_pay1_eq : @k5_pay1 Ideal _ = k2_pay1 := rfl
theorem k5_pay2_eq : @k5_pay2 Ideal _ = k2_pay2 := rfl
theorem k5_pay3_eq : @k5_pay3 Ideal _ = k2_pay3 := rfl
theorem k5_pay5_eq : @k5_pay5 Ideal _ = k2_pay5 := rfl
theorem k5_pay7_eq : @k5_pay7 Ideal _ = k2_pay7 := rfl
theorem k5_pay8_eq : @k5_pay8 Ideal _ = k2_pay8 := rfl
theorem k5_pay9_eq : @k5_pay9 Ideal _ = k2_pay9 := rfl
theorem k5_pay10_eq : @k5_pay10 Ideal _ = k2_pay10 := rfl

end Cert.Block

end
-- ==== Proof.Reg2.lean ====
/- The second half of a layer: the array the region leaves, when the arrays it finds are real. -/
module

public import proofs.«01_k».proof.Proof.Pay2
public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen

theorem idx2 : ∀ t : Fin cfg2.N, win2_0.index t = ![0, t.val] ∧ win2_1.index t = ![0, t.val] ∧ win2_2.index t = ![0, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_9.index t = ![0, 0] ∧ win2_10.index t = ![0, t.val] :=
  (by decide +kernel : ∀ t : Fin grid2.N, _)

/-- The token that column `n` of the block at point `t` holds. -/
def tok2 (t : Fin cfg2.N) (n : Fin 512) : Fin 2048 := ⟨t.val * 512 + n, by
  have h : t.val < 4 := t.isLt
  omega⟩

section R2

variable (V : (c : Dev nD) → (b : Ref sig .tc) → Buf (Elt Ideal) ((c : Thread nD τ).loc b)) (c : Dev nD)
  {ar xr : Fin 2048 → Fin 768 → ℝ} (p : Layer)

/-- The arrays the region reads are these reals. -/
structure Found2 : Prop where
  a : ∀ j n, (V c main_v45 : FVec Ideal S768x2048 .bf16) (ix2 j n) = ((ar n j : ℝ) : EReal)
  x : ∀ j n, (V c main_v1 : FVec Ideal S768x2048 .f32) (ix2 j n) = ((xr n j : ℝ) : EReal)
  pw : ∀ i j, (V c main_v46 : FVec Ideal S768x768 .bf16) (ix2 i j) = ((p.pw i j : ℝ) : EReal)
  pb : ∀ j, (V c main_v47 : FVec Ideal S768x1 .f32) (ix2 j 0) = ((p.pb j : ℝ) : EReal)
  g : ∀ j, (V c main_v48 : FVec Ideal S768x1 .f32) (ix2 j 0) = ((p.g2 j : ℝ) : EReal)
  b : ∀ j, (V c main_v49 : FVec Ideal S768x1 .f32) (ix2 j 0) = ((p.b2 j : ℝ) : EReal)
  f1w : ∀ i j, (V c main_v50 : FVec Ideal S768x3072 .bf16) (ix2 i j) = ((p.f1w i j : ℝ) : EReal)
  f1b : ∀ j, (V c main_v51 : FVec Ideal S3072x1 .f32) (ix2 j 0) = ((p.f1b j : ℝ) : EReal)
  f2w : ∀ i j, (V c main_v52 : FVec Ideal S3072x768 .bf16) (ix2 i j) = ((p.f2w i j : ℝ) : EReal)
  f2b : ∀ j, (V c main_v53 : FVec Ideal S768x1 .f32) (ix2 j 0) = ((p.f2b j : ℝ) : EReal)

variable {V c p}

theorem Found2.a_blk (h : Found2 V c (ar := ar) (xr := xr) p) (t : Fin cfg2.N) (j : Fin 768) (n : Fin 512) :
    iblk2 V c 0 t (ix2 j n) = ((ar (tok2 t n) j : ℝ) : EReal) := by
  rw [← h.a]; blk_ext [iblk2, tok2, idx2 t]
theorem Found2.x_blk (h : Found2 V c (ar := ar) (xr := xr) p) (t : Fin cfg2.N) (j : Fin 768) (n : Fin 512) :
    iblk2 V c 1 t (ix2 j n) = ((xr (tok2 t n) j : ℝ) : EReal) := by
  rw [← h.x]; blk_ext [iblk2, tok2, idx2 t]
theorem Found2.pw_blk (h : Found2 V c (ar := ar) (xr := xr) p) (t : Fin cfg2.N) (i j : Fin 768) :
    iblk2 V c 2 t (ix2 i j) = ((p.pw i j : ℝ) : EReal) := by
  rw [← h.pw]; blk_ext [iblk2, idx2 t]
theorem Found2.pb_blk (h : Found2 V c (ar := ar) (xr := xr) p) (t : Fin cfg2.N) (j : Fin 768) :
    iblk2 V c 3 t (ix2 j 0) = ((p.pb j : ℝ) : EReal) := by
  rw [← h.pb]; blk_ext [iblk2, idx2 t]
theorem Found2.g_blk (h : Found2 V c (ar := ar) (xr := xr) p) (t : Fin cfg2.N) (j : Fin 768) :
    iblk2 V c 4 t (ix2 j 0) = ((p.g2 j : ℝ) : EReal) := by
  rw [← h.g]; blk_ext [iblk2, idx2 t]
theorem Found2.b_blk (h : Found2 V c (ar := ar) (xr := xr) p) (t : Fin cfg2.N) (j : Fin 768) :
    iblk2 V c 5 t (ix2 j 0) = ((p.b2 j : ℝ) : EReal) := by
  rw [← h.b]; blk_ext [iblk2, idx2 t]
theorem Found2.f1w_blk (h : Found2 V c (ar := ar) (xr := xr) p) (t : Fin cfg2.N) (i : Fin 768) (j : Fin 3072) :
    iblk2 V c 6 t (ix2 i j) = ((p.f1w i j : ℝ) : EReal) := by
  rw [← h.f1w]; blk_ext [iblk2, idx2 t]
theorem Found2.f1b_blk (h : Found2 V c (ar := ar) (xr := xr) p) (t : Fin cfg2.N) (j : Fin 3072) :
    iblk2 V c 7 t (ix2 j 0) = ((p.f1b j : ℝ) : EReal) := by
  rw [← h.f1b]; blk_ext [iblk2, idx2 t]
theorem Found2.f2w_blk (h : Found2 V c (ar := ar) (xr := xr) p) (t : Fin cfg2.N) (i : Fin 3072) (j : Fin 768) :
    iblk2 V c 8 t (ix2 i j) = ((p.f2w i j : ℝ) : EReal) := by
  rw [← h.f2w]; blk_ext [iblk2, idx2 t]
theorem Found2.f2b_blk (h : Found2 V c (ar := ar) (xr := xr) p) (t : Fin cfg2.N) (j : Fin 768) :
    iblk2 V c 9 t (ix2 j 0) = ((p.f2b j : ℝ) : EReal) := by
  rw [← h.f2b]; blk_ext [iblk2, idx2 t]

theorem k2_pay11_eq (x0 : Vec Ideal S768x512 .bf16) (x1 : Vec Ideal S768x512 .f32) (x2 : Vec Ideal S768x768 .bf16) (x3 x4 x5 : Vec Ideal S768x1 .f32)
    (x6 : Vec Ideal S768x3072 .bf16) (x7 : Vec Ideal S3072x1 .f32) (x8 : Vec Ideal S3072x768 .bf16) (x9 : Vec Ideal S768x1 .f32) :
    k2_pay11 x0 x1 x2 x3 x4 x5 x6 x7 x8 x9 = k2_pay3 x2 x0 x3 x1 x4 x5 := by
  unfold k2_pay11; frame_out

theorem emb2_10 (t : Fin cfg2.N) (j : Fin 768) (n : Fin 512) :
    ((cfg2.win 10).blk t).view.emb (ix2 j n) = (ix2 j (tok2 t n) : S768x2048.Idx) := by
  blk_ext [tok2, idx2 t]

theorem post_array2 (h : Found2 V c (ar := ar) (xr := xr) p) :
    (dat2 V c).arrAt 10 cfg2.N = fun i => ((p.post (p.proj (ar (i 1)) (xr (i 1))) (i 0) : ℝ) : EReal) := by
  refine (dat2 V c).arrAt_eq_of_covers 10 _ (by decide +kernel) fun t _ y => ?_
  blk_simp
  rw [after2_10]
  frame_out
  rw [k2_pay11_eq]
  idx_vars y
  refine Eq.trans ?_ (congrArg (fun i : S768x2048.Idx => ((p.post (p.proj (ar (i 1)) (xr (i 1))) (i 0) : ℝ) : EReal)) (emb2_10 t y0 y1)).symm
  have h1 := pay_proj _ _ _ _ (h.pw_blk t) (h.a_blk t) (h.pb_blk t) (h.x_blk t)
  exact pay_post _ _ _ _ _ _ h1 (pay_hid _ _ _ (pay_ln2 _ _ _ _ _ _ h1 (h.g_blk t) (h.b_blk t)) (h.f1w_blk t) (h.f1b_blk t))
    (h.f2w_blk t) (h.f2b_blk t) y0 y1

end R2

end Cert.Block

end
-- ==== Proof.Reg3.lean ====
/- The projection region of the second layer: the arrays they leave, when the arrays they find are real. -/
module

public import proofs.«01_k».proof.Proof.Pay0
public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen

section R3

theorem idx3 : ∀ t : Fin cfg3.N, win3_0.index t = ![0, t.val] ∧ win3_1.index t = ![0, 0] ∧ win3_2.index t = ![0, 0]
    ∧ win3_3.index t = ![0, 0] ∧ win3_4.index t = ![0, 0] ∧ win3_5.index t = ![0, 0] ∧ win3_6.index t = ![0, 0]
    ∧ win3_7.index t = ![0, t.val] ∧ win3_8.index t = ![0, t.val] :=
  (by decide +kernel : ∀ t : Fin grid3.N, _)

/-- The token that column `n` of the block at point `t` holds. -/
def tok3 (t : Fin cfg3.N) (n : Fin 512) : Fin 2048 := ⟨t.val * 512 + n, by
  have h : t.val < 4 := t.isLt
  omega⟩

variable (V : (c : Dev nD) → (b : Ref sig .tc) → Buf (Elt Ideal) ((c : Thread nD τ).loc b)) (c : Dev nD)
  {xr : Fin 2048 → Fin 768 → ℝ} (p : Layer)

/-- The arrays the region reads are these reals. -/
structure Found3 : Prop where
  x : ∀ a n, (V c main_v54 : FVec Ideal S768x2048 .f32) (ix2 a n) = ((xr n a : ℝ) : EReal)
  g : ∀ a, (V c main_v85 : FVec Ideal S768x1 .f32) (ix2 a 0) = ((p.g1 a : ℝ) : EReal)
  b : ∀ a, (V c main_v86 : FVec Ideal S768x1 .f32) (ix2 a 0) = ((p.b1 a : ℝ) : EReal)
  wq : ∀ a j, (V c main_v87 : FVec Ideal S768x768 .bf16) (ix2 a j) = ((p.wq a j : ℝ) : EReal)
  bq : ∀ a, (V c main_v88 : FVec Ideal S768x1 .f32) (ix2 a 0) = ((p.bq a : ℝ) : EReal)
  wkv : ∀ a j, (V c main_v89 : FVec Ideal S768x1536 .bf16) (ix2 a j) = ((p.wkv a j : ℝ) : EReal)
  bkv : ∀ a, (V c main_v90 : FVec Ideal S1536x1 .f32) (ix2 a 0) = ((p.bkv a : ℝ) : EReal)

variable {V c p}

theorem Found3.x_blk (h : Found3 V c (xr := xr) p) (t : Fin cfg3.N) (a : Fin 768) (n : Fin 512) :
    iblk3 V c 0 t (ix2 a n) = ((xr (tok3 t n) a : ℝ) : EReal) := by
  rw [← h.x]; blk_ext [iblk3, tok3, idx3 t]
theorem Found3.g_blk (h : Found3 V c (xr := xr) p) (t : Fin cfg3.N) (a : Fin 768) :
    iblk3 V c 1 t (ix2 a 0) = ((p.g1 a : ℝ) : EReal) := by
  rw [← h.g]; blk_ext [iblk3, idx3 t]
theorem Found3.b_blk (h : Found3 V c (xr := xr) p) (t : Fin cfg3.N) (a : Fin 768) :
    iblk3 V c 2 t (ix2 a 0) = ((p.b1 a : ℝ) : EReal) := by
  rw [← h.b]; blk_ext [iblk3, idx3 t]
theorem Found3.wq_blk (h : Found3 V c (xr := xr) p) (t : Fin cfg3.N) (a j : Fin 768) :
    iblk3 V c 3 t (ix2 a j) = ((p.wq a j : ℝ) : EReal) := by
  rw [← h.wq]; blk_ext [iblk3, idx3 t]
theorem Found3.bq_blk (h : Found3 V c (xr := xr) p) (t : Fin cfg3.N) (a : Fin 768) :
    iblk3 V c 4 t (ix2 a 0) = ((p.bq a : ℝ) : EReal) := by
  rw [← h.bq]; blk_ext [iblk3, idx3 t]
theorem Found3.wkv_blk (h : Found3 V c (xr := xr) p) (t : Fin cfg3.N) (a : Fin 768) (j : Fin 1536) :
    iblk3 V c 5 t (ix2 a j) = ((p.wkv a j : ℝ) : EReal) := by
  rw [← h.wkv]; blk_ext [iblk3, idx3 t]
theorem Found3.bkv_blk (h : Found3 V c (xr := xr) p) (t : Fin cfg3.N) (a : Fin 1536) :
    iblk3 V c 6 t (ix2 a 0) = ((p.bkv a : ℝ) : EReal) := by
  rw [← h.bkv]; blk_ext [iblk3, idx3 t]

theorem emb3_7 (t : Fin cfg3.N) (a : Fin 768) (n : Fin 512) :
    ((cfg3.win 7).blk t).view.emb (ix2 a n) = (ix2 a (tok3 t n) : S768x2048.Idx) := by
  blk_ext [tok3, idx3 t]
theorem emb3_8 (t : Fin cfg3.N) (a : Fin 1536) (n : Fin 512) :
    ((cfg3.win 8).blk t).view.emb (ix2 a n) = (ix2 a (tok3 t n) : S1536x2048.Idx) := by
  blk_ext [tok3, idx3 t]

/-- The queries. -/
theorem q_array3 (h : Found3 V c (xr := xr) p) :
    (dat3 V c).arrAt 7 cfg3.N = fun i => ((p.q (xr (i 1)) (i 0) : ℝ) : EReal) := by
  refine (dat3 V c).arrAt_eq_of_covers 7 _ (by decide +kernel) fun t _ y => ?_
  blk_simp
  rw [after3_7]
  frame_out
  idx_vars y
  refine Eq.trans ?_ (congrArg (fun i : S768x2048.Idx => ((p.q (xr (i 1)) (i 0) : ℝ) : EReal)) (emb3_7 t y0 y1)).symm
  rw [k3_pay3_eq]
  exact pay_q _ _ _ _ _ (h.x_blk t) (h.g_blk t) (h.b_blk t) (h.wq_blk t) (h.bq_blk t) y0 y1

/-- The keys and the values. -/
theorem kv_array3 (h : Found3 V c (xr := xr) p) :
    (dat3 V c).arrAt 8 cfg3.N = fun i => ((p.kv (xr (i 1)) (i 0) : ℝ) : EReal) := by
  refine (dat3 V c).arrAt_eq_of_covers 8 _ (by decide +kernel) fun t _ y => ?_
  blk_simp
  rw [after3_8]
  frame_out
  idx_vars y
  refine Eq.trans ?_ (congrArg (fun i : S1536x2048.Idx => ((p.kv (xr (i 1)) (i 0) : ℝ) : EReal)) (emb3_8 t y0 y1)).symm
  rw [k3_pay1_eq, k3_pay2_eq]
  exact pay_kv _ _ _ (pay_ln _ _ _ (h.x_blk t) (h.g_blk t) (h.b_blk t)) (h.wkv_blk t) (h.bkv_blk t) y0 y1

end R3

end Cert.Block

end
-- ==== Proof.Reg4.lean ====
/- The attention region of the second layer: the array they leave, when the arrays they find are real. -/
module

public import proofs.«01_k».proof.Proof.Reg1
public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen

theorem k4_pay1_eq : @k4_pay1 Ideal _ = k1_pay1 := rfl
theorem k4_pay4_eq : @k4_pay4 Ideal _ = k1_pay4 := rfl
theorem k4_pay5_eq : @k4_pay5 Ideal _ = k1_pay5 := rfl
theorem k4_pay8_eq : @k4_pay8 Ideal _ = k1_pay8 := rfl
theorem k4_pay9_eq : @k4_pay9 Ideal _ = k1_pay9 := rfl
theorem k4_pay10_eq : @k4_pay10 Ideal _ = k1_pay10 := rfl
theorem k4_pay11_eq : @k4_pay11 Ideal _ = k1_pay11 := rfl
theorem k4_pay12_eq : @k4_pay12 Ideal _ = k1_pay12 := rfl

theorem z3_4 : (![0, 0, 0] : Fin 3 → ℕ) = fun _ => 0 := by funext i; fin_cases i <;> rfl

theorem trips4 : k4_t1_loop.trips = 8 := by decide

theorem out4_eq (c : Dev nD) (i : grid4.Coords) (arg2 : Memref sig .tc .smem S2 .f32) (harg2 : arg2.IsWhole) (arg3 : Memref sig .tc .vmem S1x64x1024 .bf16) (harg3 : arg3.IsWhole) (arg4 : Memref sig .tc .vmem S1x64x2048 .bf16) (harg4 : arg4.IsWhole) (arg5 : Memref sig .tc .vmem S1x64x2048 .bf16) (harg5 : arg5.IsWhole) (arg6 : Memref sig .tc .vmem S1x64x1024 .bf16) (harg6 : arg6.IsWhole)
    (x0 : Vec Ideal S2 .f32) (x1 : Vec Ideal S1x64x1024 .bf16) (x2 : Vec Ideal S1x64x2048 .bf16) (x3 : Vec Ideal S1x64x2048 .bf16) :
    out4_A_4 c i arg2 harg2 arg3 harg3 arg4 harg4 arg5 harg5 arg6 harg6 x0 x1 x2 x3
      = k4_pay1 (k4_pay10 x3) (k4_pay11 x1 x2) (k4_pay12 x1 x2
          (Scf.fold (n := k4_t1_loop.trips) (fun _ (a : FVec Ideal S1x1024 .f32 × FVec Ideal S1x1024 .f32) => (k4_pay8 x1 x2 a.1 a.2, k4_pay9 x1 x2 a.1 a.2)) (k4_pay4 x1 x2, k4_pay5 x1 x2)).1)
          (constant S65x1024 .f32 0x00000000#32) (x0 (ix1 0)) (x0 (ix1 1)) := by
  unfold out4_A_4
  rw [View.read_writes_eq_canon _ _ _ (cover4_A_4 c i arg2 harg2 arg3 harg3 arg4 harg4 arg5 harg5 arg6 harg6 x0 x1 x2 x3)]
  unfold kernelRun4_A
  dsimp only
  sl_unfold_words
  rw [View.canon_unit_zero z3_4]
  simp only [View.readAt_eq_ld, harg2.read_unread, harg3.read_unread, harg4.read_unread, harg5.read_unread, View.ld_unit_zero (S := S1x64x1024) z3_4, View.ld_unit_zero (S := S1x64x2048) z3_4]
  refine congrArg₂ (k4_pay1 _ _ _ _) ?_ ?_
  · refine congrArg x0 ?_
    decide
  · refine congrArg x0 ?_
    decide

theorem pays4 (x0 x0' : Ideal .f32) (x1 : Vec Ideal S1x64x1024 .bf16) (x2 x3 : Vec Ideal S1x64x2048 .bf16) :
    k4_pay1 (k4_pay10 x3) (k4_pay11 x1 x2) (k4_pay12 x1 x2
          (Scf.fold (n := k4_t1_loop.trips) (fun _ (a : FVec Ideal S1x1024 .f32 × FVec Ideal S1x1024 .f32) => (k4_pay8 x1 x2 a.1 a.2, k4_pay9 x1 x2 a.1 a.2)) (k4_pay4 x1 x2, k4_pay5 x1 x2)).1)
          (constant S65x1024 .f32 0x00000000#32) x0 x0'
      = k1_pay1 (k1_pay10 x3) (k1_pay11 x1 x2) (k1_pay12 x1 x2
          (Scf.fold (n := k4_t1_loop.trips) (fun _ (a : FVec Ideal S1x1024 .f32 × FVec Ideal S1x1024 .f32) => (k1_pay8 x1 x2 a.1 a.2, k1_pay9 x1 x2 a.1 a.2)) (k1_pay4 x1 x2, k1_pay5 x1 x2)).1)
          (constant S65x1024 .f32 0x00000000#32) x0 x0' := by
  simp only [k4_pay1_eq, k4_pay4_eq, k4_pay5_eq, k4_pay8_eq, k4_pay9_eq, k4_pay10_eq, k4_pay11_eq, k4_pay12_eq]

theorem idx4 : ∀ t : Fin cfg4.N, win4_0.index t = ![0] ∧ win4_1.index t = ![t.val / 2, 0, t.val % 2] ∧ win4_2.index t = ![t.val / 2, 0, 0]
    ∧ win4_3.index t = ![t.val / 2, 0, 0] ∧ win4_4.index t = ![t.val / 2, 0, t.val % 2] :=
  (by decide +kernel : ∀ t : Fin grid4.N, _)

/-- The head at point `t`. -/
def head4 (t : Fin cfg4.N) : Fin 12 := ⟨t.val / 2, by
  have h : t.val < 24 := t.isLt
  omega⟩

/-- The query that column `n` of the block at point `t` holds. -/
def tok4 (t : Fin cfg4.N) (n : Fin 1024) : Fin 2048 := ⟨t.val % 2 * 1024 + n, by omega⟩

section R4

variable (V : (c : Dev nD) → (b : Ref sig .tc) → Buf (Elt Ideal) ((c : Thread nD τ).loc b)) (c : Dev nD)
  (w : Fin 2 → ℝ) (qr kr vr : Fin 12 → Fin 2048 → Fin 64 → ℝ)

/-- The arrays the region reads are these reals. -/
structure Found4 : Prop where
  w : ∀ j, (V c main_v68 : FVec Ideal S2 .f32) (ix1 j) = ((w j : ℝ) : EReal)
  q : ∀ h d n, (V c main_v92 : FVec Ideal S12x64x2048 .bf16) (ix3 h d n) = ((qr h n d : ℝ) : EReal)
  k : ∀ h d n, (V c main_v94 : FVec Ideal S12x64x2048 .bf16) (ix3 h d n) = ((kr h n d : ℝ) : EReal)
  v : ∀ h d n, (V c main_v96 : FVec Ideal S12x64x2048 .bf16) (ix3 h d n) = ((vr h n d : ℝ) : EReal)

variable {V c w qr kr vr}

theorem Found4.w_blk (h : Found4 V c w qr kr vr) (t : Fin cfg4.N) (j : Fin 2) :
    iblk4 V c 0 t (ix1 j) = ((w j : ℝ) : EReal) := by
  rw [← h.w]; blk_ext [iblk4, idx4 t]
theorem Found4.q_blk (h : Found4 V c w qr kr vr) (t : Fin cfg4.N) (d : Fin 64) (n : Fin 1024) :
    iblk4 V c 1 t (ix3 0 d n) = ((qr (head4 t) (tok4 t n) d : ℝ) : EReal) := by
  rw [← h.q]; blk_ext [iblk4, head4, tok4, idx4 t]
theorem Found4.k_blk (h : Found4 V c w qr kr vr) (t : Fin cfg4.N) (d : Fin 64) (n : Fin 2048) :
    iblk4 V c 2 t (ix3 0 d n) = ((kr (head4 t) n d : ℝ) : EReal) := by
  rw [← h.k]; blk_ext [iblk4, head4, idx4 t]
theorem Found4.v_blk (h : Found4 V c w qr kr vr) (t : Fin cfg4.N) (d : Fin 64) (n : Fin 2048) :
    iblk4 V c 3 t (ix3 0 d n) = ((vr (head4 t) n d : ℝ) : EReal) := by
  rw [← h.v]; blk_ext [iblk4, head4, idx4 t]

theorem emb4_4 (t : Fin cfg4.N) (z : Fin 1) (d : Fin 64) (n : Fin 1024) :
    ((cfg4.win 4).blk t).view.emb (ix3 z d n) = (ix3 (head4 t) d (tok4 t n) : S12x64x2048.Idx) := by
  blk_ext [head4, tok4, idx4 t]

theorem out4_at (h : Found4 V c w qr kr vr) (t : Fin cfg4.N) (d : Fin 64) (n : Fin 1024) :
    k1_pay1 (F := Ideal) (k1_pay10 (iblk4 V c 3 t)) (k1_pay11 (iblk4 V c 1 t) (iblk4 V c 2 t)) (k1_pay12 (iblk4 V c 1 t) (iblk4 V c 2 t)
          (Scf.fold (n := k4_t1_loop.trips) (fun _ (a : FVec Ideal S1x1024 .f32 × FVec Ideal S1x1024 .f32) => (k1_pay8 (iblk4 V c 1 t) (iblk4 V c 2 t) a.1 a.2, k1_pay9 (iblk4 V c 1 t) (iblk4 V c 2 t) a.1 a.2)) (k1_pay4 (iblk4 V c 1 t) (iblk4 V c 2 t), k1_pay5 (iblk4 V c 1 t) (iblk4 V c 2 t))).1)
          (constant S65x1024 .f32 0x00000000#32) (iblk4 V c 0 t (ix1 0)) (iblk4 V c 0 t (ix1 1)) (ix3 0 d n)
      = ((mixed1 w qr kr vr (head4 t) d (tok4 t n) : ℝ) : EReal) := by
  have hL := pay_logits _ _ (h.q_blk t) (h.k_blk t)
  exact pay_attn _ _ hL _ (fun n => fold_cut _ _ hL trips4 n) _ _ _ (h.v_blk t) (h.w_blk t 0) (h.w_blk t 1) d n

theorem attn_array4 (h : Found4 V c w qr kr vr) :
    (dat4 V c).arrAt 4 cfg4.N = fun i => ((mixed1 w qr kr vr (i 0) (i 1) (i 2) : ℝ) : EReal) := by
  refine (dat4 V c).arrAt_eq_of_covers 4 _ (by decide +kernel) fun t _ y => ?_
  blk_simp
  rw [after4_4]
  unfold outsAt4
  rw [out4_eq]
  rw [pays4]
  idx_vars y
  refine Eq.trans ?_ (congrArg (fun i : S12x64x2048.Idx => ((mixed1 w qr kr vr (i 0) (i 1) (i 2) : ℝ) : EReal)) (emb4_4 t y0 y1 y2)).symm
  obtain rfl : y0 = 0 := Subsingleton.elim _ _
  exact out4_at h t y1 y2

end R4

end Cert.Block

end
-- ==== Proof.Reg5.lean ====
/- The second half of the second layer: the array the region leaves, when the arrays it finds are real. -/
module

public import proofs.«01_k».proof.Proof.Pay2
public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen

theorem idx5 : ∀ t : Fin cfg5.N, win5_0.index t = ![0, t.val] ∧ win5_1.index t = ![0, t.val] ∧ win5_2.index t = ![0, 0]
    ∧ win5_3.index t = ![0, 0] ∧ win5_4.index t = ![0, 0] ∧ win5_5.index t = ![0, 0] ∧ win5_6.index t = ![0, 0]
    ∧ win5_7.index t = ![0, 0] ∧ win5_8.index t = ![0, 0] ∧ win5_9.index t = ![0, 0] ∧ win5_10.index t = ![0, t.val] :=
  (by decide +kernel : ∀ t : Fin grid5.N, _)

/-- The token that column `n` of the block at point `t` holds. -/
def tok5 (t : Fin cfg5.N) (n : Fin 512) : Fin 2048 := ⟨t.val * 512 + n, by
  have h : t.val < 4 := t.isLt
  omega⟩

section R5

variable (V : (c : Dev nD) → (b : Ref sig .tc) → Buf (Elt Ideal) ((c : Thread nD τ).loc b)) (c : Dev nD)
  {ar xr : Fin 2048 → Fin 768 → ℝ} (p : Layer)

/-- The arrays the region reads are these reals. -/
structure Found5 : Prop where
  a : ∀ j n, (V c main_v98 : FVec Ideal S768x2048 .bf16) (ix2 j n) = ((ar n j : ℝ) : EReal)
  x : ∀ j n, (V c main_v54 : FVec Ideal S768x2048 .f32) (ix2 j n) = ((xr n j : ℝ) : EReal)
  pw : ∀ i j, (V c main_v99 : FVec Ideal S768x768 .bf16) (ix2 i j) = ((p.pw i j : ℝ) : EReal)
  pb : ∀ j, (V c main_v100 : FVec Ideal S768x1 .f32) (ix2 j 0) = ((p.pb j : ℝ) : EReal)
  g : ∀ j, (V c main_v101 : FVec Ideal S768x1 .f32) (ix2 j 0) = ((p.g2 j : ℝ) : EReal)
  b : ∀ j, (V c main_v102 : FVec Ideal S768x1 .f32) (ix2 j 0) = ((p.b2 j : ℝ) : EReal)
  f1w : ∀ i j, (V c main_v103 : FVec Ideal S768x3072 .bf16) (ix2 i j) = ((p.f1w i j : ℝ) : EReal)
  f1b : ∀ j, (V c main_v104 : FVec Ideal S3072x1 .f32) (ix2 j 0) = ((p.f1b j : ℝ) : EReal)
  f2w : ∀ i j, (V c main_v105 : FVec Ideal S3072x768 .bf16) (ix2 i j) = ((p.f2w i j : ℝ) : EReal)
  f2b : ∀ j, (V c main_v106 : FVec Ideal S768x1 .f32) (ix2 j 0) = ((p.f2b j : ℝ) : EReal)

variable {V c p}

theorem Found5.a_blk (h : Found5 V c (ar := ar) (xr := xr) p) (t : Fin cfg5.N) (j : Fin 768) (n : Fin 512) :
    iblk5 V c 0 t (ix2 j n) = ((ar (tok5 t n) j : ℝ) : EReal) := by
  rw [← h.a]; blk_ext [iblk5, tok5, idx5 t]
theorem Found5.x_blk (h : Found5 V c (ar := ar) (xr := xr) p) (t : Fin cfg5.N) (j : Fin 768) (n : Fin 512) :
    iblk5 V c 1 t (ix2 j n) = ((xr (tok5 t n) j : ℝ) : EReal) := by
  rw [← h.x]; blk_ext [iblk5, tok5, idx5 t]
theorem Found5.pw_blk (h : Found5 V c (ar := ar) (xr := xr) p) (t : Fin cfg5.N) (i j : Fin 768) :
    iblk5 V c 2 t (ix2 i j) = ((p.pw i j : ℝ) : EReal) := by
  rw [← h.pw]; blk_ext [iblk5, idx5 t]
theorem Found5.pb_blk (h : Found5 V c (ar := ar) (xr := xr) p) (t : Fin cfg5.N) (j : Fin 768) :
    iblk5 V c 3 t (ix2 j 0) = ((p.pb j : ℝ) : EReal) := by
  rw [← h.pb]; blk_ext [iblk5, idx5 t]
theorem Found5.g_blk (h : Found5 V c (ar := ar) (xr := xr) p) (t : Fin cfg5.N) (j : Fin 768) :
    iblk5 V c 4 t (ix2 j 0) = ((p.g2 j : ℝ) : EReal) := by
  rw [← h.g]; blk_ext [iblk5, idx5 t]
theorem Found5.b_blk (h : Found5 V c (ar := ar) (xr := xr) p) (t : Fin cfg5.N) (j : Fin 768) :
    iblk5 V c 5 t (ix2 j 0) = ((p.b2 j : ℝ) : EReal) := by
  rw [← h.b]; blk_ext [iblk5, idx5 t]
theorem Found5.f1w_blk (h : Found5 V c (ar := ar) (xr := xr) p) (t : Fin cfg5.N) (i : Fin 768) (j : Fin 3072) :
    iblk5 V c 6 t (ix2 i j) = ((p.f1w i j : ℝ) : EReal) := by
  rw [← h.f1w]; blk_ext [iblk5, idx5 t]
theorem Found5.f1b_blk (h : Found5 V c (ar := ar) (xr := xr) p) (t : Fin cfg5.N) (j : Fin 3072) :
    iblk5 V c 7 t (ix2 j 0) = ((p.f1b j : ℝ) : EReal) := by
  rw [← h.f1b]; blk_ext [iblk5, idx5 t]
theorem Found5.f2w_blk (h : Found5 V c (ar := ar) (xr := xr) p) (t : Fin cfg5.N) (i : Fin 3072) (j : Fin 768) :
    iblk5 V c 8 t (ix2 i j) = ((p.f2w i j : ℝ) : EReal) := by
  rw [← h.f2w]; blk_ext [iblk5, idx5 t]
theorem Found5.f2b_blk (h : Found5 V c (ar := ar) (xr := xr) p) (t : Fin cfg5.N) (j : Fin 768) :
    iblk5 V c 9 t (ix2 j 0) = ((p.f2b j : ℝ) : EReal) := by
  rw [← h.f2b]; blk_ext [iblk5, idx5 t]

theorem k5_pay11_eq (x0 : Vec Ideal S768x512 .bf16) (x1 : Vec Ideal S768x512 .f32) (x2 : Vec Ideal S768x768 .bf16) (x3 x4 x5 : Vec Ideal S768x1 .f32)
    (x6 : Vec Ideal S768x3072 .bf16) (x7 : Vec Ideal S3072x1 .f32) (x8 : Vec Ideal S3072x768 .bf16) (x9 : Vec Ideal S768x1 .f32) :
    k5_pay11 x0 x1 x2 x3 x4 x5 x6 x7 x8 x9 = k5_pay3 x2 x0 x3 x1 x4 x5 := by
  unfold k5_pay11; frame_out

theorem pays5 (x0 : Vec Ideal S768x512 .bf16) (x1 : Vec Ideal S768x512 .f32) (x2 : Vec Ideal S768x768 .bf16) (x3 x4 x5 : Vec Ideal S768x1 .f32)
    (x6 : Vec Ideal S768x3072 .bf16) (x7 : Vec Ideal S3072x1 .f32) (x8 : Vec Ideal S3072x768 .bf16) (x9 : Vec Ideal S768x1 .f32) :
    k5_pay1 (k5_pay2 x2 x0 x3 x1) (k5_pay5 (k5_pay3 x2 x0 x3 x1 x4 x5) x6 x7) (k5_pay7 (k5_pay3 x2 x0 x3 x1 x4 x5) x6 x7)
        (k5_pay8 (k5_pay3 x2 x0 x3 x1 x4 x5) x6 x7) (k5_pay9 (k5_pay3 x2 x0 x3 x1 x4 x5) x6 x7) (k5_pay10 (k5_pay3 x2 x0 x3 x1 x4 x5) x6 x7) x8 x9
      = k2_pay1 (k2_pay2 x2 x0 x3 x1) (k2_pay5 (k2_pay3 x2 x0 x3 x1 x4 x5) x6 x7) (k2_pay7 (k2_pay3 x2 x0 x3 x1 x4 x5) x6 x7)
        (k2_pay8 (k2_pay3 x2 x0 x3 x1 x4 x5) x6 x7) (k2_pay9 (k2_pay3 x2 x0 x3 x1 x4 x5) x6 x7) (k2_pay10 (k2_pay3 x2 x0 x3 x1 x4 x5) x6 x7) x8 x9 := by
  simp only [k5_pay1_eq, k5_pay2_eq, k5_pay3_eq, k5_pay5_eq, k5_pay7_eq, k5_pay8_eq, k5_pay9_eq, k5_pay10_eq]

theorem emb5_10 (t : Fin cfg5.N) (j : Fin 768) (n : Fin 512) :
    ((cfg5.win 10).blk t).view.emb (ix2 j n) = (ix2 j (tok5 t n) : S768x2048.Idx) := by
  blk_ext [tok5, idx5 t]

set_option maxHeartbeats 1000000 in
theorem post_array5 (h : Found5 V c (ar := ar) (xr := xr) p) :
    (dat5 V c).arrAt 10 cfg5.N = fun i => ((p.post (p.proj (ar (i 1)) (xr (i 1))) (i 0) : ℝ) : EReal) := by
  refine (dat5 V c).arrAt_eq_of_covers 10 _ (by decide +kernel) fun t _ y => ?_
  blk_simp
  rw [after5_10]
  frame_out
  rw [k5_pay11_eq]
  idx_vars y
  rw [pays5]
  refine Eq.trans ?_ (congrArg (fun i : S768x2048.Idx => ((p.post (p.proj (ar (i 1)) (xr (i 1))) (i 0) : ℝ) : EReal)) (emb5_10 t y0 y1)).symm
  have h1 := pay_proj _ _ _ _ (h.pw_blk t) (h.a_blk t) (h.pb_blk t) (h.x_blk t)
  exact pay_post _ _ _ _ _ _ h1 (pay_hid _ _ _ (pay_ln2 _ _ _ _ _ _ h1 (h.g_blk t) (h.b_blk t)) (h.f1w_blk t) (h.f1b_blk t))
    (h.f2w_blk t) (h.f2b_blk t) y0 y1

end R5

end Cert.Block

end
-- ==== Proof.Chain.lean ====
/- The kernel's run: on real arguments its result is the two layers'. -/
module

public import proofs.«01_k».proof.Proof.Args
public import proofs.«01_k».proof.Proof.Host
public import proofs.«01_k».proof.Proof.Reg0
public import proofs.«01_k».proof.Proof.Reg1
public import proofs.«01_k».proof.Proof.Reg2
public import proofs.«01_k».proof.Proof.Reg3
public import proofs.«01_k».proof.Proof.Reg4
public import proofs.«01_k».proof.Proof.Reg5

@[expose] public section

set_option maxRecDepth 16384

noncomputable section

namespace Cert.Block

open Idealize.ShloMosaic Idealize.ShloMosaic.TcCoe Idealize.SL.Sem
open Cert.KernelIdeal Cert.KernelIdeal.Gen

variable {m : (ℓ : Loc nD τ sig) → Buf (Elt Ideal) ℓ} {ρ : Dev nD → PrngReg} {c : Dev nD}
  {x : Fin 2048 → Fin 768 → ℝ} {p : Fin 2 → Layer}

/-- The kernel's arguments on a core are these reals. -/
abbrev KArgs (m : (ℓ : Loc nD τ sig) → Buf (Elt Ideal) ℓ) (c : Dev nD) (x : Fin 2048 → Fin 768 → ℝ) (p : Fin 2 → Layer) : Prop :=
  Real16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) x p

theorem mixed_eq (p : Layer) (x : Fin 2048 → Fin 768 → ℝ) (h : Fin 12) (d : Fin 64) (n : Fin 2048) :
    mixed1 p.wc (fun h n d => p.q (x n) (chan h d)) (fun h n d => p.kv (x n) (chanK h d)) (fun h n d => p.kv (x n) (chanV h d)) h d n
      = p.attn selCut x h d n := by
  unfold mixed1 Layer.attn Layer.logits selCut
  rfl

theorem out_eq (p : Layer) (x : Fin 2048 → Fin 768 → ℝ) (n : Fin 2048) (a : Fin 768) :
    p.post (p.proj (fun j => p.attn selCut x (Layer.head j) (Layer.lane j) n) (x n)) a = p.out selCut x n a := rfl

theorem found0 (h : KArgs m c x p) : Found0 (V1 m ρ) c (xr := x) (p 0) where
  x := fun a n => (host0_x (W0 m ρ c) a n).trans (h.x n a)
  g := fun a => (host0_v32 (W0 m ρ c) a).trans (h.g1 0 a)
  b := fun a => (host0_v33 (W0 m ρ c) a).trans (h.b1 0 a)
  wq := fun a j => (host0_v34 (W0 m ρ c) a j).trans (h.wq 0 a j)
  bq := fun a => (host0_v35 (W0 m ρ c) a).trans (h.bq 0 a)
  wkv := fun a j => (host0_v36 (W0 m ρ c) a j).trans (h.wkv 0 a j)
  bkv := fun a => (host0_v37 (W0 m ρ c) a).trans (h.bkv 0 a)

theorem q_out0 (h : KArgs m c x p) : (W2 m ρ c (Proc.devRef .tc main_v38_0) : FVec Ideal S768x2048 .bf16)
    = fun i => (((p 0).q (x (i 1)) (i 0) : ℝ) : EReal) :=
  (W2_arr m ρ c 7).trans (q_array0 (found0 h))

theorem kv_out0 (h : KArgs m c x p) : (W2 m ρ c (Proc.devRef .tc main_v38_1) : FVec Ideal S1536x2048 .bf16)
    = fun i => (((p 0).kv (x (i 1)) (i 0) : ℝ) : EReal) :=
  (W2_arr m ρ c 8).trans (kv_array0 (found0 h))

/-- A buffer that the attention's operations leave alone. -/
theorem keep0 (r : Ref sig .tc) (h0 : ∀ w : Fin cfg0.W, Pipeline.arrRef spec0 w = r → (cfg0.win w).isOut = false)
    (h1 : r ∉ hostOps1_W) (h2 : ∀ w : Fin cfg1.W, Pipeline.arrRef spec1 w = r → (cfg1.win w).isOut = false) :
    W4 m ρ c (Proc.devRef .tc r) = W1 m ρ c (Proc.devRef .tc r) :=
  (W4_of m ρ c r h2).trans ((W3_of m ρ c r h1).trans (W2_of m ρ c r h0))

theorem found1 (h : KArgs m c x p) : Found1 (V3 m ρ) c (p 0).wc (fun h n d => (p 0).q (x n) (chan h d))
    (fun h n d => (p 0).kv (x n) (chanK h d)) (fun h n d => (p 0).kv (x n) (chanV h d)) where
  w := fun a => (congrFun ((W3_of m ρ c main_v15 (by decide)).trans (W2_of m ρ c main_v15 (by decide +kernel))) _).trans
    ((host0_v15 (W0 m ρ c) a).trans (h.wc 0 a))
  q := fun h' d n => (host1_q (W2 m ρ c) h' d n).trans (congrFun (q_out0 h) (ix2 (chan h' d) n))
  k := fun h' d n => (host1_k (W2 m ρ c) h' d n).trans (congrFun (kv_out0 h) (ix2 (chanK h' d) n))
  v := fun h' d n => (host1_v (W2 m ρ c) h' d n).trans (congrFun (kv_out0 h) (ix2 (chanV h' d) n))

theorem attn_out0 (h : KArgs m c x p) : (W4 m ρ c (Proc.devRef .tc main_v44) : FVec Ideal S12x64x2048 .bf16)
    = fun i => (((p 0).attn selCut x (i 0) (i 1) (i 2) : ℝ) : EReal) :=
  (W4_arr m ρ c 4).trans ((attn_array1 (found1 h)).trans (funext fun i => congrArg (fun r : ℝ => (r : EReal)) (mixed_eq (p 0) x (i 0) (i 1) (i 2))))

theorem found2 (h : KArgs m c x p) :
    Found2 (V5 m ρ) c (ar := fun n j => (p 0).attn selCut x (Layer.head j) (Layer.lane j) n) (xr := x) (p 0) where
  a := fun j n => (host2_a (W4 m ρ c) j n).trans (congrFun (attn_out0 h) (ix3 (Layer.head j) (Layer.lane j) n))
  x := fun j n => (congrFun ((W5_of m ρ c main_v1 (by decide)).trans (keep0 main_v1 (by decide +kernel) (by decide) (by decide +kernel))) _).trans
    ((found0 h).x j n)
  pw := fun a j => (host2_v46 (W4 m ρ c) a j).trans
    ((congrFun (keep0 main_v17 (by decide +kernel) (by decide) (by decide +kernel)) _).trans ((host0_v17 (W0 m ρ c) a j).trans (h.pw 0 a j)))
  pb := fun a => (host2_v47 (W4 m ρ c) a).trans
    ((congrFun (keep0 main_v19 (by decide +kernel) (by decide) (by decide +kernel)) _).trans ((host0_v19 (W0 m ρ c) a).trans (h.pb 0 a)))
  g := fun a => (host2_v48 (W4 m ρ c) a).trans
    ((congrFun (keep0 main_v21 (by decide +kernel) (by decide) (by decide +kernel)) _).trans ((host0_v21 (W0 m ρ c) a).trans (h.g2 0 a)))
  b := fun a => (host2_v49 (W4 m ρ c) a).trans
    ((congrFun (keep0 main_v23 (by decide +kernel) (by decide) (by decide +kernel)) _).trans ((host0_v23 (W0 m ρ c) a).trans (h.b2 0 a)))
  f1w := fun a j => (host2_v50 (W4 m ρ c) a j).trans
    ((congrFun (keep0 main_v25 (by decide +kernel) (by decide) (by decide +kernel)) _).trans ((host0_v25 (W0 m ρ c) a j).trans (h.f1w 0 a j)))
  f1b := fun a => (host2_v51 (W4 m ρ c) a).trans
    ((congrFun (keep0 main_v27 (by decide +kernel) (by decide) (by decide +kernel)) _).trans ((host0_v27 (W0 m ρ c) a).trans (h.f1b 0 a)))
  f2w := fun a j => (host2_v52 (W4 m ρ c) a j).trans
    ((congrFun (keep0 main_v29 (by decide +kernel) (by decide) (by decide +kernel)) _).trans ((host0_v29 (W0 m ρ c) a j).trans (h.f2w 0 a j)))
  f2b := fun a => (host2_v53 (W4 m ρ c) a).trans
    ((congrFun (keep0 main_v31 (by decide +kernel) (by decide) (by decide +kernel)) _).trans ((host0_v31 (W0 m ρ c) a).trans (h.f2b 0 a)))

theorem out_layer0 (h : KArgs m c x p) : (W6 m ρ c (Proc.devRef .tc main_v54) : FVec Ideal S768x2048 .f32)
    = fun i => (((p 0).out selCut x (i 1) (i 0) : ℝ) : EReal) :=
  (W6_arr m ρ c 10).trans ((post_array2 (found2 h)).trans (funext fun i => congrArg (fun r : ℝ => (r : EReal)) (out_eq (p 0) x (i 1) (i 0))))

theorem found3 (h : KArgs m c x p) : Found3 (V7 m ρ) c (xr := ((p 0).out selCut x)) (p 1) where
  x := fun a n => (congrFun (W7_of m ρ c main_v54 (by decide)) _).trans (congrFun (out_layer0 h) (ix2 a n))
  g := fun a => (host3_v85 (W6 m ρ c) a).trans ((congrFun (W6_args m ρ c main_arg1 (by decide)) _).trans (h.g1 1 a))
  b := fun a => (host3_v86 (W6 m ρ c) a).trans ((congrFun (W6_args m ρ c main_arg2 (by decide)) _).trans (h.b1 1 a))
  wq := fun a j => (host3_v87 (W6 m ρ c) a j).trans ((congrFun (W6_args m ρ c main_arg3 (by decide)) _).trans (h.wq 1 a j))
  bq := fun a => (host3_v88 (W6 m ρ c) a).trans ((congrFun (W6_args m ρ c main_arg4 (by decide)) _).trans (h.bq 1 a))
  wkv := fun a j => (host3_v89 (W6 m ρ c) a j).trans ((congrFun (W6_args m ρ c main_arg5 (by decide)) _).trans (h.wkv 1 a j))
  bkv := fun a => (host3_v90 (W6 m ρ c) a).trans ((congrFun (W6_args m ρ c main_arg6 (by decide)) _).trans (h.bkv 1 a))

theorem q_out3 (h : KArgs m c x p) : (W8 m ρ c (Proc.devRef .tc main_v91_0) : FVec Ideal S768x2048 .bf16)
    = fun i => (((p 1).q (((p 0).out selCut x) (i 1)) (i 0) : ℝ) : EReal) :=
  (W8_arr m ρ c 7).trans (q_array3 (found3 h))

theorem kv_out3 (h : KArgs m c x p) : (W8 m ρ c (Proc.devRef .tc main_v91_1) : FVec Ideal S1536x2048 .bf16)
    = fun i => (((p 1).kv (((p 0).out selCut x) (i 1)) (i 0) : ℝ) : EReal) :=
  (W8_arr m ρ c 8).trans (kv_array3 (found3 h))

/-- A buffer that the attention's operations leave alone. -/
theorem keep3 (r : Ref sig .tc) (h0 : ∀ w : Fin cfg3.W, Pipeline.arrRef spec3 w = r → (cfg3.win w).isOut = false)
    (h1 : r ∉ hostOps4_W) (h2 : ∀ w : Fin cfg4.W, Pipeline.arrRef spec4 w = r → (cfg4.win w).isOut = false) :
    W10 m ρ c (Proc.devRef .tc r) = W7 m ρ c (Proc.devRef .tc r) :=
  (W10_of m ρ c r h2).trans ((W9_of m ρ c r h1).trans (W8_of m ρ c r h0))

theorem found4 (h : KArgs m c x p) : Found4 (V9 m ρ) c (p 1).wc (fun h n d => (p 1).q (((p 0).out selCut x) n) (chan h d))
    (fun h n d => (p 1).kv (((p 0).out selCut x) n) (chanK h d)) (fun h n d => (p 1).kv (((p 0).out selCut x) n) (chanV h d)) where
  w := fun a => (congrFun ((W9_of m ρ c main_v68 (by decide)).trans (W8_of m ρ c main_v68 (by decide +kernel))) _).trans
    ((host3_v68 (W6 m ρ c) a).trans ((congrFun (W6_args m ρ c main_arg7 (by decide)) _).trans (h.wc 1 a)))
  q := fun h' d n => (host4_q (W8 m ρ c) h' d n).trans (congrFun (q_out3 h) (ix2 (chan h' d) n))
  k := fun h' d n => (host4_k (W8 m ρ c) h' d n).trans (congrFun (kv_out3 h) (ix2 (chanK h' d) n))
  v := fun h' d n => (host4_v (W8 m ρ c) h' d n).trans (congrFun (kv_out3 h) (ix2 (chanV h' d) n))

theorem attn_out3 (h : KArgs m c x p) : (W10 m ρ c (Proc.devRef .tc main_v97) : FVec Ideal S12x64x2048 .bf16)
    = fun i => (((p 1).attn selCut ((p 0).out selCut x) (i 0) (i 1) (i 2) : ℝ) : EReal) :=
  (W10_arr m ρ c 4).trans ((attn_array4 (found4 h)).trans (funext fun i => congrArg (fun r : ℝ => (r : EReal)) (mixed_eq (p 1) ((p 0).out selCut x) (i 0) (i 1) (i 2))))

theorem found5 (h : KArgs m c x p) :
    Found5 (V11 m ρ) c (ar := fun n j => (p 1).attn selCut ((p 0).out selCut x) (Layer.head j) (Layer.lane j) n) (xr := ((p 0).out selCut x)) (p 1) where
  a := fun j n => (host5_a (W10 m ρ c) j n).trans (congrFun (attn_out3 h) (ix3 (Layer.head j) (Layer.lane j) n))
  x := fun j n => (congrFun ((W11_of m ρ c main_v54 (by decide)).trans (keep3 main_v54 (by decide +kernel) (by decide) (by decide +kernel))) _).trans
    ((found3 h).x j n)
  pw := fun a j => (host5_v99 (W10 m ρ c) a j).trans
    ((congrFun (keep3 main_v70 (by decide +kernel) (by decide) (by decide +kernel)) _).trans ((host3_v70 (W6 m ρ c) a j).trans ((congrFun (W6_args m ρ c main_arg8 (by decide)) _).trans (h.pw 1 a j))))
  pb := fun a => (host5_v100 (W10 m ρ c) a).trans
    ((congrFun (keep3 main_v72 (by decide +kernel) (by decide) (by decide +kernel)) _).trans ((host3_v72 (W6 m ρ c) a).trans ((congrFun (W6_args m ρ c main_arg9 (by decide)) _).trans (h.pb 1 a))))
  g := fun a => (host5_v101 (W10 m ρ c) a).trans
    ((congrFun (keep3 main_v74 (by decide +kernel) (by decide) (by decide +kernel)) _).trans ((host3_v74 (W6 m ρ c) a).trans ((congrFun (W6_args m ρ c main_arg10 (by decide)) _).trans (h.g2 1 a))))
  b := fun a => (host5_v102 (W10 m ρ c) a).trans
    ((congrFun (keep3 main_v76 (by decide +kernel) (by decide) (by decide +kernel)) _).trans ((host3_v76 (W6 m ρ c) a).trans ((congrFun (W6_args m ρ c main_arg11 (by decide)) _).trans (h.b2 1 a))))
  f1w := fun a j => (host5_v103 (W10 m ρ c) a j).trans
    ((congrFun (keep3 main_v78 (by decide +kernel) (by decide) (by decide +kernel)) _).trans ((host3_v78 (W6 m ρ c) a j).trans ((congrFun (W6_args m ρ c main_arg12 (by decide)) _).trans (h.f1w 1 a j))))
  f1b := fun a => (host5_v104 (W10 m ρ c) a).trans
    ((congrFun (keep3 main_v80 (by decide +kernel) (by decide) (by decide +kernel)) _).trans ((host3_v80 (W6 m ρ c) a).trans ((congrFun (W6_args m ρ c main_arg13 (by decide)) _).trans (h.f1b 1 a))))
  f2w := fun a j => (host5_v105 (W10 m ρ c) a j).trans
    ((congrFun (keep3 main_v82 (by decide +kernel) (by decide) (by decide +kernel)) _).trans ((host3_v82 (W6 m ρ c) a j).trans ((congrFun (W6_args m ρ c main_arg14 (by decide)) _).trans (h.f2w 1 a j))))
  f2b := fun a => (host5_v106 (W10 m ρ c) a).trans
    ((congrFun (keep3 main_v84 (by decide +kernel) (by decide) (by decide +kernel)) _).trans ((host3_v84 (W6 m ρ c) a).trans ((congrFun (W6_args m ρ c main_arg15 (by decide)) _).trans (h.f2b 1 a))))

theorem out_layer1 (h : KArgs m c x p) : (W12 m ρ c (Proc.devRef .tc main_v107) : FVec Ideal S768x2048 .f32)
    = fun i => (((p 1).out selCut ((p 0).out selCut x) (i 1) (i 0) : ℝ) : EReal) :=
  (W12_arr m ρ c 10).trans ((post_array5 (found5 h)).trans (funext fun i => congrArg (fun r : ℝ => (r : EReal)) (out_eq (p 1) ((p 0).out selCut x) (i 1) (i 0))))

theorem result_at (h : KArgs m c x p) (n : Fin 2048) (a : Fin 768) :
    (W13 m ρ c (Proc.devRef .tc main_v109) : FVec Ideal S1x2048x768 .f32) (ix3 0 n a) = ((block p x n a : ℝ) : EReal) :=
  (host6_out (W12 m ρ c) n a).trans (congrFun (out_layer1 h) (ix2 a n))

end Cert.Block

end
-- ==== Proof.KRun.lean ====
/- The kernel's run ends with the two layers' result. -/
module

public import proofs.«01_k».proof.Proof.Chain

@[expose] public section

set_option maxRecDepth 16384

noncomputable section

namespace Cert.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-- The kernel's run, its result read off the contents after the last host operations. -/
theorem run_contents (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v109) = W13 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c =>
      ⟨h c _ (mem_uc main_v109 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

/-- The kernel's result array at real arguments. -/
theorem kernel_result {m : (ℓ : Loc nD τ sig) → Buf (Elt Ideal) ℓ} {ρ : Dev nD → PrngReg} {c : Dev nD}
    {x : Fin 2048 → Fin 768 → ℝ} {p : Fin 2 → Layer} (h : KArgs m c x p) :
    (W13 m ρ c (Proc.devRef .tc main_v109) : FVec Ideal S1x2048x768 .f32) = blockArray p x := by
  funext i
  idx_vars i
  obtain rfl : i0 = 0 := Subsingleton.elim _ _
  exact result_at h i1 i2

end Cert.Block

end
-- ==== Proof.RefOps.lean ====
/- What the references' sorted rows, row maxima and softmaxes are at real arguments. -/
module

public import proofs.«01_k».proof.Proof.Coe
public import proofs.«01_k».proof.Proof.Cut
public import Idealize.ShloMosaic.Lib.Pointwise
public import Idealize.ShloMosaic.Lib.SortFacts

@[expose] public section

set_option maxRecDepth 16384

noncomputable section

namespace Cert.Block

open Idealize.ShloMosaic Idealize.ShloMosaic.TcCoe Idealize.SL.Sem

/-- A row's keys from the greatest logit down, equal logits in the order of the keys. -/
def ord (L : Fin 2048 → ℝ) : Fin 2048 → Fin 2048 := sortedFrom fun k k' => decide (L k' < L k)

variable (L : Fin 2048 → ℝ)

theorem ord_injective : Function.Injective (ord L) := sortedFrom_injective _

theorem ord_desc (i j : Fin 2048) (h : i ≤ j) : L (ord L j) ≤ L (ord L i) := by
  rcases h.eq_or_lt with rfl | h
  · exact le_rfl
  have hn := sortedFrom_noInversion (fun k k' => decide (L k' < L k)) (fun k k' => decide (L k' < L k))
    (fun a b hab => decide_eq_false (lt_asymm (of_decide_eq_true hab))) (fun _ _ h => h)
    (fun a b c hab hbc => decide_eq_false (not_lt.2 ((not_lt.1 (of_decide_eq_false hab)).trans (not_lt.1 (of_decide_eq_false hbc))))) i j h
  exact not_lt.1 (of_decide_eq_false hn)

theorem cut_ord : cut L = below L (L (ord L 98)) := cut_sorted L (ord_injective L) (ord_desc L)

/-- The threshold from the logit that is ninety-ninth in order. -/
theorem cut_ord_first (i : Fin 99) (hi : i.val = 98) :
    lo0 L + ⌊(L (ord L ⟨i, by omega⟩) - lo0 L) / step L⌋ * step L = cut L := by
  rw [cut_ord, show (⟨i, by omega⟩ : Fin 2048) = 98 from Fin.ext hi]
  rfl

abbrev Rows : Shape := ⟨3, ![12, 2048, 2048]⟩
abbrev RowOf : Shape := ⟨2, ![12, 2048]⟩
abbrev Firsts : Shape := ⟨3, ![12, 2048, 99]⟩

/-- The comparison of the sort, at reals. -/
theorem gt_coe (a b : ℝ) : (FloatOps.cmpfTotal (F := Ideal) (φ := .f32) .gt ((a : ℝ) : EReal) ((b : ℝ) : EReal) == 1#1) = decide (b < a) := by
  rw [Ideal.cmpfTotal_def]
  by_cases h : b < a
  · simp [Ideal.cmp, CmpDirection.ordered, h]
  · simp [Ideal.cmp, CmpDirection.ordered, h]

variable (v : FVec Ideal Rows .f32) {R : Fin 12 → Fin 2048 → Fin 2048 → ℝ} (hv : ∀ h n m, v (ix3 h n m) = ((R h n m : ℝ) : EReal))

theorem along_row (h : Fin 12) (n m k : Fin 2048) : Shape.Idx.along (s := Rows) (ix3 h n m) 2 k = ix3 h n k := by
  funext a; fin_cases a <;> rfl

include hv in
theorem sort_row (h : Fin 12) (n m : Fin 2048) :
    (fun k k' : Fin 2048 => FloatOps.cmpfTotal (F := Ideal) (φ := .f32) .gt (v (Shape.Idx.along (s := Rows) (ix3 h n m) 2 k))
        (v (Shape.Idx.along (s := Rows) (ix3 h n m) 2 k')) == 1#1)
      = fun k k' => decide (R h n k' < R h n k) := by
  funext k k'
  refine (congrArg₂ (fun a b => FloatOps.cmpfTotal (F := Ideal) (φ := .f32) .gt a b == 1#1)
    ((congrArg v (along_row h n m k)).trans (hv h n k)) ((congrArg v (along_row h n m k')).trans (hv h n k'))).trans ?_
  exact gt_coe _ _

/-- The place that the cut to the first 99 reads. -/
theorem firsts_at (hs : Rows.Slices (fun _ => 0) Firsts) (u : IVec Rows 32) (h : Fin 12) (n : Fin 2048) (i : Fin 99) :
    extractStridedSlice Firsts (fun _ => 0) u hs (ix3 h n i) = u (ix3 h n ⟨i, by omega⟩) := by
  pointwise []

theorem firsts_atf (hs : Rows.Slices (fun _ => 0) Firsts) (u : FVec Ideal Rows .f32) (h : Fin 12) (n : Fin 2048) (i : Fin 99) :
    extractStridedSlice Firsts (fun _ => 0) u hs (ix3 h n i) = u (ix3 h n ⟨i, by omega⟩) := by
  pointwise []

include hv in
/-- The values of the top-k: the row's logits from the greatest down. -/
theorem topk_val (hs : Rows.Slices (fun _ => 0) Firsts) (h : Fin 12) (n : Fin 2048) (i : Fin 99) :
    (Host.topK Firsts 2 (FloatOps.cmpfTotal (F := Ideal) (φ := .f32) .gt) v hs).1 (ix3 h n i)
      = ((R h n (ord (R h n) ⟨i, by omega⟩) : ℝ) : EReal) := by
  show extractStridedSlice Firsts (fun _ => 0) (fun j : Rows.Idx => v (Shape.Idx.along (s := Rows) j 2 (sortedFrom (fun k k' =>
    FloatOps.cmpfTotal (F := Ideal) (φ := .f32) .gt (v (Shape.Idx.along (s := Rows) j 2 k))
      (v (Shape.Idx.along (s := Rows) j 2 k')) == 1#1) (j 2)))) hs (ix3 h n i) = _
  refine (firsts_atf hs _ h n i).trans ?_
  refine (congrArg v (along_row h n _ _)).trans ((hv h n _).trans ?_)
  exact congrArg (fun f : Fin 2048 → Fin 2048 → Bool => ((R h n (sortedFrom f ⟨i, by omega⟩) : ℝ) : EReal)) (sort_row v hv h n ⟨i, by omega⟩)

include hv in
/-- The indices of the top-k. -/
theorem topk_idx (hs : Rows.Slices (fun _ => 0) Firsts) (h : Fin 12) (n : Fin 2048) (i : Fin 99) :
    (Host.topK Firsts 2 (FloatOps.cmpfTotal (F := Ideal) (φ := .f32) .gt) v hs).2 (ix3 h n i)
      = BitVec.ofNat 32 (ord (R h n) ⟨i, by omega⟩) := by
  show extractStridedSlice Firsts (fun _ => 0) (fun j : Rows.Idx => BitVec.ofNat 32 (Shape.Idx.along (s := Rows) j 2 (sortedFrom (fun k k' =>
    FloatOps.cmpfTotal (F := Ideal) (φ := .f32) .gt (v (Shape.Idx.along (s := Rows) j 2 k))
      (v (Shape.Idx.along (s := Rows) j 2 k')) == 1#1) (j 2)) 2).val) hs (ix3 h n i) = _
  refine (firsts_at hs _ h n i).trans ?_
  refine (congrArg (fun q : Rows.Idx => BitVec.ofNat 32 (q 2).val) (along_row h n ⟨i, by omega⟩ _)).trans ?_
  exact congrArg (fun f : Fin 2048 → Fin 2048 → Bool => BitVec.ofNat 32 (sortedFrom f ⟨i, by omega⟩).val) (sort_row v hv h n ⟨i, by omega⟩)

/-- A row of a reduction. -/
theorem lift_row (h : Rows.Reduces [2] RowOf) (j : RowOf.Idx) (m : Fin 2048) : h.lift j m = ix3 (j 0) (j 1) m := by
  funext a; apply Fin.ext; fin_cases a <;> rfl

theorem row_max (init : FVec Ideal ⟨0, ![]⟩ .f32) (h' : Rows.ReducesTo [2] RowOf) (hu) (h : Fin 12) (n : Fin 2048) :
    Host.reduce (FloatOps.maximumf (F := Ideal) (φ := .f32)) v init h' hu (ix2 h n)
      = (Finset.univ : Finset (Fin 2048)).fold max (init (Shape.Idx.first hu)) fun m => v (ix3 h n m) := by
  refine (Host.reduce_eq_fold_single (max : EReal → EReal → EReal) v init h' (by decide) hu (ix2 h n)).trans ?_
  exact congrArg (Finset.fold max _ · _) (funext fun m => congrArg v (lift_row _ _ m))

theorem row_min (init : FVec Ideal ⟨0, ![]⟩ .f32) (h' : Rows.ReducesTo [2] RowOf) (hu) (h : Fin 12) (n : Fin 2048) :
    Host.reduce (FloatOps.minimumf (F := Ideal) (φ := .f32)) v init h' hu (ix2 h n)
      = (Finset.univ : Finset (Fin 2048)).fold min (init (Shape.Idx.first hu)) fun m => v (ix3 h n m) := by
  refine (Host.reduce_eq_fold_single (min : EReal → EReal → EReal) v init h' (by decide) hu (ix2 h n)).trans ?_
  exact congrArg (Finset.fold min _ · _) (funext fun m => congrArg v (lift_row _ _ m))

include hv in
theorem row_max_coe (h' : Rows.ReducesTo [2] RowOf) (hu) (h : Fin 12) (n : Fin 2048) :
    Host.reduce (FloatOps.maximumf (F := Ideal) (φ := .f32)) v (constant ⟨0, ![]⟩ .f32 0xFF800000#32) h' hu (ix2 h n)
      = ((most (R h n) : ℝ) : EReal) := by
  refine (row_max v _ h' hu h n).trans ?_
  rw [show (constant (F := Ideal) ⟨0, ![]⟩ .f32 0xFF800000#32) (Shape.Idx.first hu) = Ideal.ofBits .f32 0xFF800000#32 from rfl, cNegInf]
  exact (congrArg (Finset.fold max _ · _) (funext fun m => hv h n m)).trans (fold_max_coe (R h n))

include hv in
theorem row_min_coe (h' : Rows.ReducesTo [2] RowOf) (hu) (h : Fin 12) (n : Fin 2048) :
    Host.reduce (FloatOps.minimumf (F := Ideal) (φ := .f32)) v (constant ⟨0, ![]⟩ .f32 0x7F800000#32) h' hu (ix2 h n)
      = ((least (R h n) : ℝ) : EReal) := by
  refine (row_min v _ h' hu h n).trans ?_
  rw [show (constant (F := Ideal) ⟨0, ![]⟩ .f32 0x7F800000#32) (Shape.Idx.first hu) = Ideal.ofBits .f32 0x7F800000#32 from rfl, cInf]
  exact (congrArg (Finset.fold min _ · _) (funext fun m => hv h n m)).trans (fold_min_coe (R h n))

/-- The greatest of the selected logits. -/
def topIn (S : Fin 2048 → Prop) (L : Fin 2048 → ℝ) : ℝ :=
  open Classical in ((Finset.univ : Finset (Fin 2048)).fold max (⊥ : EReal) fun m => if S m then ((L m : ℝ) : EReal) else ⊥).toReal

theorem fold_max_masked (S : Fin 2048 → Prop) (h : ∃ m, S m) :
    ((Finset.univ : Finset (Fin 2048)).fold max (⊥ : EReal) fun m => (open Classical in if S m then ((L m : ℝ) : EReal) else ⊥))
      = ((topIn S L : ℝ) : EReal) := by
  classical
  refine (EReal.coe_toReal (ne_of_lt ?_) (ne_of_gt ?_)).symm
  · refine (Finset.fold_max_lt _).2 ⟨bot_lt_top, fun m _ => ?_⟩
    split
    · exact EReal.coe_lt_top _
    · exact bot_lt_top
  · obtain ⟨m, hm⟩ := h
    refine (Finset.lt_fold_max _).2 (.inr ⟨m, Finset.mem_univ m, ?_⟩)
    rw [if_pos hm]
    exact EReal.bot_lt_coe _

theorem row_max_masked (S : Fin 12 → Fin 2048 → Fin 2048 → Prop) (hS : ∀ h n, ∃ m, S h n m)
    (hw : ∀ h n m, v (ix3 h n m) = open Classical in if S h n m then ((R h n m : ℝ) : EReal) else ⊥)
    (h' : Rows.ReducesTo [2] RowOf) (hu) (h : Fin 12) (n : Fin 2048) :
    Host.reduce (FloatOps.maximumf (F := Ideal) (φ := .f32)) v (constant ⟨0, ![]⟩ .f32 0xFF800000#32) h' hu (ix2 h n)
      = ((topIn (S h n) (R h n) : ℝ) : EReal) := by
  refine (row_max v _ h' hu h n).trans ?_
  rw [show (constant (F := Ideal) ⟨0, ![]⟩ .f32 0xFF800000#32) (Shape.Idx.first hu) = Ideal.ofBits .f32 0xFF800000#32 from rfl, cNegInf]
  exact (congrArg (Finset.fold max _ · _) (funext fun m => hw h n m)).trans (fold_max_masked (R h n) (S h n) (hS h n))

/-- The exponential of a masked logit. -/
theorem exp_masked (s : Prop) [Decidable s] (l M : ℝ) :
    Ideal.exp ((if s then ((l : ℝ) : EReal) else ⊥) - ((M : ℝ) : EReal)) = (((if s then Real.exp (l - M) else 0 : ℝ)) : EReal) := by
  split
  · rw [← EReal.coe_sub, Ideal.exp_coe]
  · rw [EReal.bot_sub]; simp

/-- A bias of zero or minus infinity. -/
theorem add_bias (s : Prop) [Decidable s] (l : ℝ) :
    ((l : ℝ) : EReal) + (if s then (0 : EReal) else ⊥) = if s then ((l : ℝ) : EReal) else ⊥ := by
  split <;> simp

/-- The weights of a softmax, whatever is subtracted first, average as the exponentials do. -/
theorem soft_eq (S : Fin 2048 → Prop) (w : Fin 2048 → ℝ) (M : ℝ) :
    (open Classical in ∑ m, w m * ((if S m then Real.exp (L m - M) else 0) / ∑ k, (if S k then Real.exp (L k - M) else 0))) = avg S L w := by
  classical
  have he : ∀ m, (if S m then Real.exp (L m - M) else 0) = (if S m then Real.exp (L m) else 0) * Real.exp (-M) := fun m => by
    split
    · rw [← Real.exp_add, sub_eq_add_neg]
    · rw [zero_mul]
  simp only [he, ← Finset.sum_mul, mul_div_mul_right _ _ (Real.exp_pos (-M)).ne', ← mul_div_assoc, ← Finset.sum_div]
  rfl

theorem soft_sum_pos (S : Fin 2048 → Prop) (h : ∃ m, S m) (M : ℝ) :
    0 < ∑ m, (open Classical in if S m then Real.exp (L m - M) else 0) := sel_sum_pos (fun m => L m - M) h

theorem soft_coe (S : Fin 2048 → Prop) (h : ∃ m, S m) (w : Fin 2048 → ℝ) (M : ℝ) :
    (open Classical in ∑ m, ((w m : ℝ) : EReal) * Ideal.div (((if S m then Real.exp (L m - M) else 0 : ℝ)) : EReal)
      (∑ k, (((if S k then Real.exp (L k - M) else 0 : ℝ)) : EReal))) = ((avg S L w : ℝ) : EReal) := by
  rw [sum_coe]
  simp only [div_coe_coe (soft_sum_pos L S h M).ne', ← EReal.coe_mul]
  rw [sum_coe, soft_eq]

theorem soft_all_coe (w : Fin 2048 → ℝ) (M : ℝ) :
    (∑ m, ((w m : ℝ) : EReal) * Ideal.div ((Real.exp (L m - M) : ℝ) : EReal) (∑ k, ((Real.exp (L k - M) : ℝ) : EReal)))
      = ((avg (fun _ => True) L w : ℝ) : EReal) := by
  have h := soft_coe L (fun _ => True) ⟨0, trivial⟩ w M
  simpa only [if_true] using h

/-- The softmax of two weights and the two averages. -/
theorem mixed_coe (w0 w1 a b : ℝ) :
    Ideal.div (Ideal.exp (w0 : EReal)) (Ideal.exp (w0 : EReal) + Ideal.exp (w1 : EReal)) * ((a : ℝ) : EReal)
      + Ideal.div (Ideal.exp (w1 : EReal)) (Ideal.exp (w0 : EReal) + Ideal.exp (w1 : EReal)) * ((b : ℝ) : EReal)
      = ((Real.exp w0 / (Real.exp w0 + Real.exp w1) * a + Real.exp w1 / (Real.exp w0 + Real.exp w1) * b : ℝ) : EReal) := by
  have hp : Real.exp w0 + Real.exp w1 ≠ 0 := (add_pos (Real.exp_pos _) (Real.exp_pos _)).ne'
  simp only [Ideal.exp_coe, ← EReal.coe_add]
  rw [div_coe_coe hp, div_coe_coe hp]
  simp only [← EReal.coe_mul, ← EReal.coe_add]

/-- Formula 7.1.26 with the powers of `t` written out. -/
theorem erfAS_powers (s : ℝ) (t : EReal) (ht : t = ((1 / (1 + cst 0x3EA7BA05#32 * |s|) : ℝ) : EReal)) :
    (((SignType.sign s : SignType) : ℝ) : EReal) * (1 - (((cst 0x3E827906#32 : ℝ) : EReal) * t
      + ((cst 0xBE91A98E#32 : ℝ) : EReal) * (t * t) + ((cst 0x3FB5F0E3#32 : ℝ) : EReal) * (t * t * t)
      + ((cst 0xBFBA00E3#32 : ℝ) : EReal) * (t * t * (t * t)) + ((cst 0x3F87DC22#32 : ℝ) : EReal) * (t * t * t * (t * t)))
      * Ideal.exp (-(((s : ℝ) : EReal) * ((s : ℝ) : EReal)))) = ((erfAS s : ℝ) : EReal) := by
  subst ht
  rw [show (1 : EReal) = ((1 : ℝ) : EReal) from rfl]
  simp only [← EReal.coe_mul, ← EReal.coe_add, ← EReal.coe_sub, ← EReal.coe_neg, Ideal.exp_coe]
  refine congrArg (fun r : ℝ => (r : EReal)) ?_
  unfold erfAS
  rw [abs_mul_abs_self]
  ring

end Cert.Block

end
-- ==== Proof.RefStages.lean ====
/- The references' operations at an index, at real arguments. -/
module

public import proofs.«01_k».proof.Proof.RefOps
public import proofs.«01_k».proof.Proof.Gen.GridIdeal

@[expose] public section

set_option maxRecDepth 16384

noncomputable section

namespace Cert.Block

open Idealize.ShloMosaic Idealize.ShloMosaic.TcCoe Idealize.SL.Sem
open Cert.GridIdeal Cert.GridIdeal.Gen

/-- A linear map, the weights on the right. -/
theorem lin_coe_right {K J : ℕ} (w : Fin K → Fin J → ℝ) (b : Fin J → ℝ) (y : Fin K → ℝ) (j : Fin J) :
    (∑ c, ((y c : ℝ) : EReal) * ((w c j : ℝ) : EReal)) + ((b j : ℝ) : EReal) = ((lin w b y j : ℝ) : EReal) := by
  simp only [mul_comm (((y _ : ℝ)) : EReal)]
  exact lin_coe w b y j

theorem logit_coe_left (q k : Fin 64 → ℝ) :
    (∑ d, ((q d : ℝ) : EReal) * ((k d : ℝ) : EReal)) * ((cst 0x3E000000#32 : ℝ) : EReal) = ((logit q k : ℝ) : EReal) := by
  simp only [← EReal.coe_mul, sum_coe]
  unfold logit
  simp only [mul_comm (q _)]

/-- A token less its mean. -/
theorem c5_of (X : FVec Ideal S2048x768 .f32) {Xr : Fin 2048 → Fin 768 → ℝ}
    (hX : ∀ n c, X (ix2 n c) = ((Xr n c : ℝ) : EReal))  (n : Fin 2048) (c : Fin 768) :
    (subf X (broadcastInDim S2048x768 ![0, 1] bcast_S2048x1_S2048x768_0_1 (Host.divf (broadcastInDim S2048x1 ![0] bcast_S2048_S2048x1_0 (Host.reduceAdd X (constant S_ .f32 0x00000000#32) reducesTo_S2048x768_S2048_d1 h_S_)) (broadcastInDim S2048x1 ![] bcast_S_S2048x1 (constant S_ .f32 0x44400000#32)))) : FVec Ideal S2048x768 .f32) (ix2 n c)
      = ((Xr n c : ℝ) : EReal) - ((mean (Xr n) : ℝ) : EReal) := by
  pointwise [hX, c768, mean_coe]

/-- The number of channels. -/
theorem c8_of
      (i : S_.Idx) :
    (subf (constant S_ .f32 0x44400000#32) (sitofp .f32 (constantI S_ 32 0#32)) : FVec Ideal S_ .f32) i
      = ((768 : ℝ) : EReal) := by
  pointwise [c768]
  show ((768 : ℝ) : EReal) - ((((0#32 : BitVec 32).toInt : ℤ) : ℝ) : EReal) = _
  simp

/-- The layer norm. -/
theorem ln_of (X : FVec Ideal S2048x768 .f32) (X8 : FVec Ideal S_ .f32) (X5 : FVec Ideal S2048x768 .f32) (a1 : FVec Ideal S1x768 .f32) (a2 : FVec Ideal S1x768 .f32) {Xr : Fin 2048 → Fin 768 → ℝ} {gr : Fin 768 → ℝ} {br : Fin 768 → ℝ}
    (hX : ∀ n c, X (ix2 n c) = ((Xr n c : ℝ) : EReal)) (hX8 : ∀ i, X8 i = ((768 : ℝ) : EReal)) (hX5 : ∀ n c, X5 (ix2 n c) = ((Xr n c : ℝ) : EReal) - ((mean (Xr n) : ℝ) : EReal)) (ha1 : ∀ c, a1 (ix2 0 c) = ((gr c : ℝ) : EReal)) (ha2 : ∀ c, a2 (ix2 0 c) = ((br c : ℝ) : EReal))  (n : Fin 2048) (c : Fin 768) :
    (addf (mulf (Host.divf (subf X (broadcastInDim S2048x768 ![0, 1] bcast_S2048x1_S2048x768_0_1 (Host.divf (broadcastInDim S2048x1 ![0] bcast_S2048_S2048x1_0 (Host.reduceAdd X (constant S_ .f32 0x00000000#32) reducesTo_S2048x768_S2048_d1 h_S_)) (broadcastInDim S2048x1 ![] bcast_S_S2048x1 (constant S_ .f32 0x44400000#32))))) (broadcastInDim S2048x768 ![0, 1] bcast_S2048x1_S2048x768_0_1 (Host.sqrt (addf (select (broadcastInDim S2048x1 ![] bcast_S_S2048x1 (cmpf .ogt X8 (constant S_ .f32 0x00000000#32))) (Host.divf (broadcastInDim S2048x1 ![0] bcast_S2048_S2048x1_0 (Host.reduceAdd (mulf X5 X5) (constant S_ .f32 0x00000000#32) reducesTo_S2048x768_S2048_d1 h_S_)) (broadcastInDim S2048x1 ![] bcast_S_S2048x1 X8)) (broadcastInDim S2048x1 ![] bcast_S_S2048x1 (id (constant S_ .f32 0x7FC00000#32)))) (broadcastInDim S2048x1 ![] bcast_S_S2048x1 (constant S_ .f32 0x3727C5AC#32)))))) (broadcastInDim S2048x768 ![0, 1] bcast_S1x768_S2048x768_0_1 (broadcastInDim S1x768 ![1] bcast_S768_S1x768_1 (shapeCast _ a1 shapeCasts_S1x768_S768)))) (broadcastInDim S2048x768 ![0, 1] bcast_S1x768_S2048x768_0_1 (broadcastInDim S1x768 ![1] bcast_S768_S1x768_1 (shapeCast _ a2 shapeCasts_S1x768_S768))) : FVec Ideal S2048x768 .f32) (ix2 n c)
      = ((lnorm (Xr n) gr br c : ℝ) : EReal) := by
  pointwise [hX, hX5, hX8, c768, mean_coe, cEps, ha1, ha2]
  rw [if_pos (by exact_mod_cast (by norm_num : (0 : ℝ) < 768))]
  exact lnorm_coe (Xr n) gr br c

/-- The second layer norm. -/
theorem ln2_of (X : FVec Ideal S2048x768 .f32) (X8 : FVec Ideal S_ .f32) (X5 : FVec Ideal S2048x768 .f32) (a10 : FVec Ideal S1x768 .f32) (a11 : FVec Ideal S1x768 .f32) {Xr : Fin 2048 → Fin 768 → ℝ} {gr : Fin 768 → ℝ} {br : Fin 768 → ℝ}
    (hX : ∀ n c, X (ix2 n c) = ((Xr n c : ℝ) : EReal)) (hX8 : ∀ i, X8 i = ((768 : ℝ) : EReal)) (hX5 : ∀ n c, X5 (ix2 n c) = ((Xr n c : ℝ) : EReal) - ((mean (Xr n) : ℝ) : EReal)) (ha10 : ∀ c, a10 (ix2 0 c) = ((gr c : ℝ) : EReal)) (ha11 : ∀ c, a11 (ix2 0 c) = ((br c : ℝ) : EReal))  (n : Fin 2048) (c : Fin 768) :
    (addf (mulf (Host.divf (subf X (broadcastInDim S2048x768 ![0, 1] bcast_S2048x1_S2048x768_0_1 (Host.divf (broadcastInDim S2048x1 ![0] bcast_S2048_S2048x1_0 (Host.reduceAdd X (constant S_ .f32 0x00000000#32) reducesTo_S2048x768_S2048_d1 h_S_)) (broadcastInDim S2048x1 ![] bcast_S_S2048x1 (constant S_ .f32 0x44400000#32))))) (broadcastInDim S2048x768 ![0, 1] bcast_S2048x1_S2048x768_0_1 (Host.sqrt (addf (select (broadcastInDim S2048x1 ![] bcast_S_S2048x1 (cmpf .ogt X8 (constant S_ .f32 0x00000000#32))) (Host.divf (broadcastInDim S2048x1 ![0] bcast_S2048_S2048x1_0 (Host.reduceAdd (mulf X5 X5) (constant S_ .f32 0x00000000#32) reducesTo_S2048x768_S2048_d1 h_S_)) (broadcastInDim S2048x1 ![] bcast_S_S2048x1 X8)) (broadcastInDim S2048x1 ![] bcast_S_S2048x1 (id (constant S_ .f32 0x7FC00000#32)))) (broadcastInDim S2048x1 ![] bcast_S_S2048x1 (constant S_ .f32 0x3727C5AC#32)))))) (broadcastInDim S2048x768 ![0, 1] bcast_S1x768_S2048x768_0_1 (broadcastInDim S1x768 ![1] bcast_S768_S1x768_1 (shapeCast _ a10 shapeCasts_S1x768_S768)))) (broadcastInDim S2048x768 ![0, 1] bcast_S1x768_S2048x768_0_1 (broadcastInDim S1x768 ![1] bcast_S768_S1x768_1 (shapeCast _ a11 shapeCasts_S1x768_S768))) : FVec Ideal S2048x768 .f32) (ix2 n c)
      = ((lnorm (Xr n) gr br c : ℝ) : EReal) := by
  pointwise [hX, hX5, hX8, c768, mean_coe, cEps, ha10, ha11]
  rw [if_pos (by exact_mod_cast (by norm_num : (0 : ℝ) < 768))]
  exact lnorm_coe (Xr n) gr br c

/-- The hidden units. -/
theorem hid_of (N2 : FVec Ideal S2048x768 .f32) (a12 : FVec Ideal S1x768x3072 .f32) (a13 : FVec Ideal S1x3072 .f32) {Yr : Fin 2048 → Fin 768 → ℝ} {wr : Fin 768 → Fin 3072 → ℝ} {br : Fin 3072 → ℝ}
    (hN2 : ∀ n c, N2 (ix2 n c) = ((Yr n c : ℝ) : EReal)) (ha12 : ∀ c j, a12 (ix3 0 c j) = ((wr c j : ℝ) : EReal)) (ha13 : ∀ j, a13 (ix2 0 j) = ((br j : ℝ) : EReal))  (n : Fin 2048) (f : Fin 3072) :
    (addf (Host.dotGeneral dot_S2048x768_S768x3072_S2048x3072_1_0_0_1_n_n none N2 (shapeCast _ a12 shapeCasts_S1x768x3072_S768x3072)) (broadcastInDim S2048x3072 ![0, 1] bcast_S1x3072_S2048x3072_0_1 (broadcastInDim S1x3072 ![1] bcast_S3072_S1x3072_1 (shapeCast _ a13 shapeCasts_S1x3072_S3072))) : FVec Ideal S2048x3072 .f32) (ix2 n f)
      = ((lin wr br (Yr n) f : ℝ) : EReal) := by
  pointwise [hN2, ha12, ha13]
  exact lin_coe_right wr br (Yr n) f

/-- Keys and values. -/
theorem kv_of (LN : FVec Ideal S2048x768 .f32) (a5 : FVec Ideal S1x768x1536 .f32) (a6 : FVec Ideal S1x1536 .f32) {Yr : Fin 2048 → Fin 768 → ℝ} {wr : Fin 768 → Fin 1536 → ℝ} {br : Fin 1536 → ℝ}
    (hLN : ∀ n c, LN (ix2 n c) = ((Yr n c : ℝ) : EReal)) (ha5 : ∀ c j, a5 (ix3 0 c j) = ((wr c j : ℝ) : EReal)) (ha6 : ∀ j, a6 (ix2 0 j) = ((br j : ℝ) : EReal))  (n : Fin 2048) (s : Fin 2) (k : Fin 12) (e : Fin 64) :
    (shapeCast _ (addf (Host.dotGeneral dot_S2048x768_S768x1536_S2048x1536_1_0_0_1_n_n none LN (shapeCast _ a5 shapeCasts_S1x768x1536_S768x1536)) (broadcastInDim S2048x1536 ![0, 1] bcast_S1x1536_S2048x1536_0_1 (broadcastInDim S1x1536 ![1] bcast_S1536_S1x1536_1 (shapeCast _ a6 shapeCasts_S1x1536_S1536)))) shapeCasts_S2048x1536_S2048x2x12x64 : FVec Ideal S2048x2x12x64 .f32) (ix4 n s k e)
      = ((lin wr br (Yr n) ⟨s * 768 + k * 64 + e, by omega⟩ : ℝ) : EReal) := by
  pointwise [hLN, ha5, ha6]
  exact lin_coe_right wr br (Yr n) _

/-- The values. -/
theorem v_of (KV : FVec Ideal S2048x2x12x64 .f32) {KVr : Fin 2048 → Fin 2 → Fin 12 → Fin 64 → ℝ}
    (hKV : ∀ n s k e, KV (ix4 n s k e) = ((KVr n s k e : ℝ) : EReal))  (n : Fin 2048) (k : Fin 12) (e : Fin 64) :
    (shapeCast _ (extractStridedSlice S2048x1x12x64 ![0, 1, 0, 0] KV slices_S2048x2x12x64_S2048x1x12x64_0_1_0_0) shapeCasts_S2048x1x12x64_S2048x12x64 : FVec Ideal S2048x12x64 .f32) (ix3 n k e)
      = ((KVr n 1 k e : ℝ) : EReal) := by
  pointwise [hKV]

/-- The queries. -/
theorem q_of (LN : FVec Ideal S2048x768 .f32) (a3 : FVec Ideal S1x768x768 .f32) (a4 : FVec Ideal S1x768 .f32) {Yr : Fin 2048 → Fin 768 → ℝ} {wr : Fin 768 → Fin 768 → ℝ} {br : Fin 768 → ℝ}
    (hLN : ∀ n c, LN (ix2 n c) = ((Yr n c : ℝ) : EReal)) (ha3 : ∀ c j, a3 (ix3 0 c j) = ((wr c j : ℝ) : EReal)) (ha4 : ∀ j, a4 (ix2 0 j) = ((br j : ℝ) : EReal))  (n : Fin 2048) (k : Fin 12) (e : Fin 64) :
    (shapeCast _ (addf (Host.dotGeneral dot_S2048x768_S768x768_S2048x768_1_0_0_1_n_n none LN (shapeCast _ a3 shapeCasts_S1x768x768_S768x768)) (broadcastInDim S2048x768 ![0, 1] bcast_S1x768_S2048x768_0_1 (broadcastInDim S1x768 ![1] bcast_S768_S1x768_1 (shapeCast _ a4 shapeCasts_S1x768_S768)))) shapeCasts_S2048x768_S2048x12x64 : FVec Ideal S2048x12x64 .f32) (ix3 n k e)
      = ((lin wr br (Yr n) (chan k e) : ℝ) : EReal) := by
  pointwise [hLN, ha3, ha4]
  exact lin_coe_right wr br (Yr n) _

/-- The keys. -/
theorem k_of (KV : FVec Ideal S2048x2x12x64 .f32) {KVr : Fin 2048 → Fin 2 → Fin 12 → Fin 64 → ℝ}
    (hKV : ∀ n s k e, KV (ix4 n s k e) = ((KVr n s k e : ℝ) : EReal))  (n : Fin 2048) (k : Fin 12) (e : Fin 64) :
    (shapeCast _ (extractStridedSlice S2048x1x12x64 ![0, 0, 0, 0] KV slices_S2048x2x12x64_S2048x1x12x64_0_0_0_0) shapeCasts_S2048x1x12x64_S2048x12x64 : FVec Ideal S2048x12x64 .f32) (ix3 n k e)
      = ((KVr n 0 k e : ℝ) : EReal) := by
  pointwise [hKV]

/-- The logits. -/
theorem lg_of (Q : FVec Ideal S2048x12x64 .f32) (K : FVec Ideal S2048x12x64 .f32) {Qr : Fin 2048 → Fin 12 → Fin 64 → ℝ} {Kr : Fin 2048 → Fin 12 → Fin 64 → ℝ}
    (hQ : ∀ n k e, Q (ix3 n k e) = ((Qr n k e : ℝ) : EReal)) (hK : ∀ n k e, K (ix3 n k e) = ((Kr n k e : ℝ) : EReal))  (k : Fin 12) (n m : Fin 2048) :
    (mulf (Host.dotGeneral dot_S2048x12x64_S2048x12x64_S12x2048x2048_2_2_0_0_1_1 none Q K) (broadcastInDim S12x2048x2048 ![] bcast_S_S12x2048x2048 (constant S_ .f32 0x3E000000#32)) : FVec Ideal S12x2048x2048 .f32) (ix3 k n m)
      = ((logit (Qr n k) (Kr m k) : ℝ) : EReal) := by
  pointwise [hQ, hK, cScale]
  exact logit_coe_left (Qr n k) (Kr m k)

/-- The exponentials of a row less a number. -/
theorem e_of (LG : FVec Ideal S12x2048x2048 .f32) (M : FVec Ideal S12x2048 .f32)
      (k : Fin 12) (n m : Fin 2048) :
    (Host.exp (subf LG (broadcastInDim S12x2048x2048 ![0, 1, 2] bcast_S12x2048x1_S12x2048x2048_0_1_2 (broadcastInDim S12x2048x1 ![0, 1] bcast_S12x2048_S12x2048x1_0_1 M))) : FVec Ideal S12x2048x2048 .f32) (ix3 k n m)
      = Ideal.exp (LG (ix3 k n m) - M (ix2 k n)) := by
  pointwise []

/-- The exponentials of a masked row less a number. -/
theorem em_of (LM : FVec Ideal S12x2048x2048 .f32) (M : FVec Ideal S12x2048 .f32) (Sel : Fin 12 → Fin 2048 → Fin 2048 → Prop)
    {Lr : Fin 12 → Fin 2048 → Fin 2048 → ℝ} {Mr : Fin 12 → Fin 2048 → ℝ}
    (hLM : ∀ k n m, LM (ix3 k n m) = open Classical in if Sel k n m then ((Lr k n m : ℝ) : EReal) else ⊥)
    (hM : ∀ k n, M (ix2 k n) = ((Mr k n : ℝ) : EReal)) (k : Fin 12) (n m : Fin 2048) :
    (Host.exp (subf LM (broadcastInDim S12x2048x2048 ![0, 1, 2] bcast_S12x2048x1_S12x2048x2048_0_1_2 (broadcastInDim S12x2048x1 ![0, 1] bcast_S12x2048_S12x2048x1_0_1 M))) : FVec Ideal S12x2048x2048 .f32) (ix3 k n m)
      = (((open Classical in if Sel k n m then Real.exp (Lr k n m - Mr k n) else 0 : ℝ)) : EReal) := by
  classical
  refine (e_of LM M k n m).trans ?_
  rw [hLM, hM]
  exact exp_masked _ _ _

/-- A row of numbers as a column. -/
theorem mn_of (M : FVec Ideal S12x2048 .f32)
      (k : Fin 12) (n : Fin 2048) :
    (broadcastInDim S12x2048x1 ![0, 1] bcast_S12x2048_S12x2048x1_0_1 M : FVec Ideal S12x2048x1 .f32) (ix3 k n 0)
      = M (ix2 k n) := by
  pointwise []

/-- The lower end of the grid. -/
theorem lo_of (MN : FVec Ideal S12x2048x1 .f32) {Nr : Fin 12 → Fin 2048 → ℝ}
    (hMN : ∀ k n, MN (ix3 k n 0) = ((Nr k n : ℝ) : EReal))  (k : Fin 12) (n : Fin 2048) :
    (subf (subf MN (mulf (broadcastInDim S12x2048x1 ![] bcast_S_S12x2048x1 (constant S_ .f32 0x3C23D70A#32)) (Host.absf MN))) (broadcastInDim S12x2048x1 ![] bcast_S_S12x2048x1 (constant S_ .f32 0x358637BD#32)) : FVec Ideal S12x2048x1 .f32) (ix3 k n 0)
      = ((Nr k n - cst 0x3C23D70A#32 * |Nr k n| - cst 0x358637BD#32 : ℝ) : EReal) := by
  pointwise [hMN, cLo1, cLo2]
  try rw [absf_coe]
  simp only [← EReal.coe_mul, ← EReal.coe_sub]

/-- The width of the grid. -/
theorem st_of (M : FVec Ideal S12x2048 .f32) (LO : FVec Ideal S12x2048x1 .f32) {Mr : Fin 12 → Fin 2048 → ℝ} {LOr : Fin 12 → Fin 2048 → ℝ}
    (hM : ∀ k n, M (ix2 k n) = ((Mr k n : ℝ) : EReal)) (hLO : ∀ k n, LO (ix3 k n 0) = ((LOr k n : ℝ) : EReal))  (k : Fin 12) (n : Fin 2048) :
    (Host.divf (subf (addf (broadcastInDim S12x2048x1 ![0, 1] bcast_S12x2048_S12x2048x1_0_1 M) (broadcastInDim S12x2048x1 ![] bcast_S_S12x2048x1 (constant S_ .f32 0x3F800000#32))) LO) (broadcastInDim S12x2048x1 ![] bcast_S_S12x2048x1 (constant S_ .f32 0x43800000#32)) : FVec Ideal S12x2048x1 .f32) (ix3 k n 0)
      = (((Mr k n + 1 - LOr k n) / 256 : ℝ) : EReal) := by
  pointwise [hM, hLO, c256]
  rw [show (1 : EReal) = ((1 : ℝ) : EReal) from rfl, ← EReal.coe_add, ← EReal.coe_sub, div_coe_coe (by norm_num)]

/-- The masked logits. -/
theorem lm_of (LG : FVec Ideal S12x2048x2048 .f32) (LO : FVec Ideal S12x2048x1 .f32) (TK : FVec Ideal S12x2048x99 .f32) (ST : FVec Ideal S12x2048x1 .f32) {Lr : Fin 12 → Fin 2048 → Fin 2048 → ℝ} {LOr : Fin 12 → Fin 2048 → ℝ} {STr : Fin 12 → Fin 2048 → ℝ} {TKr : Fin 12 → Fin 2048 → Fin 99 → ℝ}
    (hLG : ∀ k n m, LG (ix3 k n m) = ((Lr k n m : ℝ) : EReal)) (hLO : ∀ k n, LO (ix3 k n 0) = ((LOr k n : ℝ) : EReal)) (hTK : ∀ k n i, TK (ix3 k n i) = ((TKr k n i : ℝ) : EReal)) (hST : ∀ k n, ST (ix3 k n 0) = ((STr k n : ℝ) : EReal))  (k : Fin 12) (n m : Fin 2048) (hp : STr k n ≠ 0) (C : ℝ) (hC : LOr k n + ⌊(TKr k n 98 - LOr k n) / STr k n⌋ * STr k n = C) :
    (addf LG (id (select (cmpf .oge LG (broadcastInDim S12x2048x2048 ![0, 1, 2] bcast_S12x2048x1_S12x2048x2048_0_1_2 (addf LO (mulf (Host.floor (Host.divf (subf (extractStridedSlice S12x2048x1 ![0, 0, 98] TK slices_S12x2048x99_S12x2048x1_0_0_98) LO) ST)) ST)))) (broadcastInDim S12x2048x2048 ![] bcast_S_S12x2048x2048 (constant S_ .f32 0x00000000#32)) (broadcastInDim S12x2048x2048 ![] bcast_S_S12x2048x2048 (constant S_ .f32 0xFF800000#32)))) : FVec Ideal S12x2048x2048 .f32) (ix3 k n m)
      = (open Classical in if C ≤ Lr k n m then ((Lr k n m : ℝ) : EReal) else ⊥) := by
  simp only [id_eq]
  pointwise [hLG, hLO, hST, hTK, cNegInf]
  rw [← EReal.coe_sub, div_coe_coe hp, Ideal.liftRound_coe, ← EReal.coe_mul, ← EReal.coe_add]
  simp only [EReal.coe_le_coe_iff, hC]
  exact add_bias _ _

/-- The exponentials of the two weights. -/
theorem wx_of (a7 : FVec Ideal S1x2 .f32) {wr : Fin 2 → ℝ}
    (ha7 : ∀ i, a7 (ix2 0 i) = ((wr i : ℝ) : EReal))  (i : Fin 2) :
    (Host.exp (shapeCast _ a7 shapeCasts_S1x2_S2) : FVec Ideal S2 .f32) (ix1 i)
      = Ideal.exp ((wr i : ℝ) : EReal) := by
  pointwise [ha7]

/-- Their sum. -/
theorem ws_of (WX : FVec Ideal S2 .f32) {wr : Fin 2 → ℝ}
    (hWX : ∀ i, WX (ix1 i) = Ideal.exp ((wr i : ℝ) : EReal))  (i : S_.Idx) :
    (Host.reduceAdd WX (constant S_ .f32 0x00000000#32) reducesTo_S2_S_d0 h_S_ : FVec Ideal S_ .f32) i
      = Ideal.exp ((wr 0 : ℝ) : EReal) + Ideal.exp ((wr 1 : ℝ) : EReal) := by
  pointwise [hWX]
  try rw [Fin.sum_univ_two]

/-- The average of the values over a row. -/
theorem av_of (VV : FVec Ideal S2048x12x64 .f32) (E : FVec Ideal S12x2048x2048 .f32) {Vr : Fin 2048 → Fin 12 → Fin 64 → ℝ}
    (hVV : ∀ n k e, VV (ix3 n k e) = ((Vr n k e : ℝ) : EReal))  (n : Fin 2048) (k : Fin 12) (e : Fin 64) :
    (transpose S2048x12x64 [2, 0, 1] (Host.dotGeneral dot_S2048x12x64_S12x2048x2048_S12x64x2048_0_2_2_1_1_0 none VV (Host.divf E (broadcastInDim S12x2048x2048 ![0, 1, 2] bcast_S12x2048x1_S12x2048x2048_0_1_2 (broadcastInDim S12x2048x1 ![0, 1] bcast_S12x2048_S12x2048x1_0_1 (Host.reduceAdd E (constant S_ .f32 0x00000000#32) reducesTo_S12x2048x2048_S12x2048_d2 h_S_))))) transposes_S12x64x2048_S2048x12x64_2_0_1 : FVec Ideal S2048x12x64 .f32) (ix3 n k e)
      = ∑ m, ((Vr m k e : ℝ) : EReal) * Ideal.div (E (ix3 k n m)) (∑ j, E (ix3 k n j)) := by
  pointwise [hVV]

/-- The two averages mixed. -/
theorem mix_of (WX : FVec Ideal S2 .f32) (WS : FVec Ideal S_ .f32) (A1 : FVec Ideal S2048x12x64 .f32) (A2 : FVec Ideal S2048x12x64 .f32) {A1r : Fin 2048 → Fin 12 → Fin 64 → ℝ} {A2r : Fin 2048 → Fin 12 → Fin 64 → ℝ} {wr : Fin 2 → ℝ}
    (hWX : ∀ i, WX (ix1 i) = Ideal.exp ((wr i : ℝ) : EReal)) (hWS : ∀ i, WS i = Ideal.exp ((wr 0 : ℝ) : EReal) + Ideal.exp ((wr 1 : ℝ) : EReal)) (hA1 : ∀ n k e, A1 (ix3 n k e) = ((A1r n k e : ℝ) : EReal)) (hA2 : ∀ n k e, A2 (ix3 n k e) = ((A2r n k e : ℝ) : EReal))  (n : Fin 2048) (k : Fin 12) (e : Fin 64) :
    (addf (mulf (broadcastInDim S2048x12x64 ![] bcast_S_S2048x12x64 (Host.divf (shapeCast _ (extractStridedSlice S1 ![0] WX slices_S2_S1_0) shapeCasts_S1_S_) WS)) A1) (mulf (broadcastInDim S2048x12x64 ![] bcast_S_S2048x12x64 (Host.divf (shapeCast _ (extractStridedSlice S1 ![1] WX slices_S2_S1_1) shapeCasts_S1_S_) WS)) A2) : FVec Ideal S2048x12x64 .f32) (ix3 n k e)
      = ((Real.exp (wr 0) / (Real.exp (wr 0) + Real.exp (wr 1)) * A1r n k e + Real.exp (wr 1) / (Real.exp (wr 0) + Real.exp (wr 1)) * A2r n k e : ℝ) : EReal) := by
  pointwise [hWX, hWS, hA1, hA2]
  exact mixed_coe (wr 0) (wr 1) (A1r n k e) (A2r n k e)

/-- The projection added to the token. -/
theorem at_of (X : FVec Ideal S2048x768 .f32) (MIX : FVec Ideal S2048x12x64 .f32) (a8 : FVec Ideal S1x768x768 .f32) (a9 : FVec Ideal S1x768 .f32) {Xr : Fin 2048 → Fin 768 → ℝ} {MXr : Fin 2048 → Fin 12 → Fin 64 → ℝ} {wr : Fin 768 → Fin 768 → ℝ} {br : Fin 768 → ℝ}
    (hX : ∀ n c, X (ix2 n c) = ((Xr n c : ℝ) : EReal)) (hMIX : ∀ n k e, MIX (ix3 n k e) = ((MXr n k e : ℝ) : EReal)) (ha8 : ∀ c j, a8 (ix3 0 c j) = ((wr c j : ℝ) : EReal)) (ha9 : ∀ j, a9 (ix2 0 j) = ((br j : ℝ) : EReal))  (n : Fin 2048) (c : Fin 768) :
    (addf X (addf (Host.dotGeneral dot_S2048x768_S768x768_S2048x768_1_0_0_1_n_n none (shapeCast _ MIX shapeCasts_S2048x12x64_S2048x768) (shapeCast _ a8 shapeCasts_S1x768x768_S768x768)) (broadcastInDim S2048x768 ![0, 1] bcast_S1x768_S2048x768_0_1 (broadcastInDim S1x768 ![1] bcast_S768_S1x768_1 (shapeCast _ a9 shapeCasts_S1x768_S768)))) : FVec Ideal S2048x768 .f32) (ix2 n c)
      = ((lin wr br (fun j => MXr n (Layer.head j) (Layer.lane j)) c + Xr n c : ℝ) : EReal) := by
  pointwise [hX, hMIX, ha8, ha9]
  rw [add_comm]
  exact (congrArg (· + ((Xr n c : ℝ) : EReal)) (lin_coe_right wr br (fun j => MXr n (Layer.head j) (Layer.lane j)) c)).trans (EReal.coe_add _ _).symm

/-- The argument of the error function. -/
theorem s_of (HID : FVec Ideal S2048x3072 .f32) {Hr : Fin 2048 → Fin 3072 → ℝ}
    (hHID : ∀ n f, HID (ix2 n f) = ((Hr n f : ℝ) : EReal))  (n : Fin 2048) (f : Fin 3072) :
    (mulf HID (broadcastInDim S2048x3072 ![] bcast_S_S2048x3072 (constant S_ .f32 0x3F3504F3#32)) : FVec Ideal S2048x3072 .f32) (ix2 n f)
      = ((Hr n f * cst 0x3F3504F3#32 : ℝ) : EReal) := by
  pointwise [hHID, cRt]
  rw [← EReal.coe_mul]

/-- The variable of the polynomial. -/
theorem t_of (S : FVec Ideal S2048x3072 .f32) {Sr : Fin 2048 → Fin 3072 → ℝ}
    (hS : ∀ n f, S (ix2 n f) = ((Sr n f : ℝ) : EReal))  (n : Fin 2048) (f : Fin 3072) :
    (Host.divf (broadcastInDim S2048x3072 ![] bcast_S_S2048x3072 (constant S_ .f32 0x3F800000#32)) (addf (broadcastInDim S2048x3072 ![] bcast_S_S2048x3072 (constant S_ .f32 0x3F800000#32)) (mulf (broadcastInDim S2048x3072 ![] bcast_S_S2048x3072 (constant S_ .f32 0x3EA7BA05#32)) (Host.absf S))) : FVec Ideal S2048x3072 .f32) (ix2 n f)
      = ((1 / (1 + cst 0x3EA7BA05#32 * |Sr n f|) : ℝ) : EReal) := by
  pointwise [hS, cP]
  try rw [absf_coe]
  exact inv_coe (Sr n f)

/-- Its square. -/
theorem t2_of (T : FVec Ideal S2048x3072 .f32)
      (n : Fin 2048) (f : Fin 3072) :
    (mulf T T : FVec Ideal S2048x3072 .f32) (ix2 n f)
      = T (ix2 n f) * T (ix2 n f) := by
  pointwise []

/-- Its cube. -/
theorem t3_of (T2 : FVec Ideal S2048x3072 .f32) (T : FVec Ideal S2048x3072 .f32)
    (hT2 : ∀ n f, T2 (ix2 n f) = T (ix2 n f) * T (ix2 n f))  (n : Fin 2048) (f : Fin 3072) :
    (mulf T2 T : FVec Ideal S2048x3072 .f32) (ix2 n f)
      = T (ix2 n f) * T (ix2 n f) * T (ix2 n f) := by
  pointwise [hT2]

/-- The activation. -/
theorem ac_of (HID : FVec Ideal S2048x3072 .f32) (S : FVec Ideal S2048x3072 .f32) (T : FVec Ideal S2048x3072 .f32) (T2 : FVec Ideal S2048x3072 .f32) (T3 : FVec Ideal S2048x3072 .f32) {Hr : Fin 2048 → Fin 3072 → ℝ} {Sr : Fin 2048 → Fin 3072 → ℝ}
    (hHID : ∀ n f, HID (ix2 n f) = ((Hr n f : ℝ) : EReal)) (hS : ∀ n f, S (ix2 n f) = ((Sr n f : ℝ) : EReal)) (hT : ∀ n f, T (ix2 n f) = ((1 / (1 + cst 0x3EA7BA05#32 * |Sr n f|) : ℝ) : EReal)) (hT2 : ∀ n f, T2 (ix2 n f) = T (ix2 n f) * T (ix2 n f)) (hT3 : ∀ n f, T3 (ix2 n f) = T (ix2 n f) * T (ix2 n f) * T (ix2 n f))  (n : Fin 2048) (f : Fin 3072) (hs : Sr n f = Hr n f * cst 0x3F3504F3#32) :
    (mulf (mulf (broadcastInDim S2048x3072 ![] bcast_S_S2048x3072 (constant S_ .f32 0x3F000000#32)) HID) (addf (broadcastInDim S2048x3072 ![] bcast_S_S2048x3072 (constant S_ .f32 0x3F800000#32)) (mulf (Host.sign S) (subf (broadcastInDim S2048x3072 ![] bcast_S_S2048x3072 (constant S_ .f32 0x3F800000#32)) (mulf (addf (addf (addf (addf (mulf (broadcastInDim S2048x3072 ![] bcast_S_S2048x3072 (constant S_ .f32 0x3E827906#32)) T) (mulf (broadcastInDim S2048x3072 ![] bcast_S_S2048x3072 (constant S_ .f32 0xBE91A98E#32)) T2)) (mulf (broadcastInDim S2048x3072 ![] bcast_S_S2048x3072 (constant S_ .f32 0x3FB5F0E3#32)) T3)) (mulf (broadcastInDim S2048x3072 ![] bcast_S_S2048x3072 (constant S_ .f32 0xBFBA00E3#32)) (mulf T2 T2))) (mulf (broadcastInDim S2048x3072 ![] bcast_S_S2048x3072 (constant S_ .f32 0x3F87DC22#32)) (mulf T3 T2))) (Host.exp (Host.negf (mulf S S))))))) : FVec Ideal S2048x3072 .f32) (ix2 n f)
      = ((act (Hr n f) : ℝ) : EReal) := by
  pointwise [hHID, hS, hT2, hT3, cA1, cA2, cA3, cA4, cA5]
  rw [Ideal.sign_coe]
  refine (congrArg (fun u : EReal => Ideal.ofBits .f32 0x3F000000#32 * ((Hr n f : ℝ) : EReal) * (1 + u)) (erfAS_powers (Sr n f) _ (hT n f))).trans ?_
  rw [hs]
  exact act_coe (Hr n f)

/-- The feed-forward part added to the token. -/
theorem out_of (AT : FVec Ideal S2048x768 .f32) (AC : FVec Ideal S2048x3072 .f32) (a14 : FVec Ideal S1x3072x768 .f32) (a15 : FVec Ideal S1x768 .f32) {Xr : Fin 2048 → Fin 768 → ℝ} {ACr : Fin 2048 → Fin 3072 → ℝ} {wr : Fin 3072 → Fin 768 → ℝ} {br : Fin 768 → ℝ}
    (hAT : ∀ n c, AT (ix2 n c) = ((Xr n c : ℝ) : EReal)) (hAC : ∀ n f, AC (ix2 n f) = ((ACr n f : ℝ) : EReal)) (ha14 : ∀ c j, a14 (ix3 0 c j) = ((wr c j : ℝ) : EReal)) (ha15 : ∀ j, a15 (ix2 0 j) = ((br j : ℝ) : EReal))  (n : Fin 2048) (c : Fin 768) :
    (addf AT (addf (Host.dotGeneral dot_S2048x3072_S3072x768_S2048x768_1_0_0_1_n_n none AC (shapeCast _ a14 shapeCasts_S1x3072x768_S3072x768)) (broadcastInDim S2048x768 ![0, 1] bcast_S1x768_S2048x768_0_1 (broadcastInDim S1x768 ![1] bcast_S768_S1x768_1 (shapeCast _ a15 shapeCasts_S1x768_S768)))) : FVec Ideal S2048x768 .f32) (ix2 n c)
      = ((Xr n c + lin wr br (ACr n) c : ℝ) : EReal) := by
  pointwise [hAT, hAC, ha14, ha15]
  exact (congrArg (((Xr n c : ℝ) : EReal) + ·) (lin_coe_right wr br (ACr n) c)).trans (EReal.coe_add _ _).symm

end Cert.Block

end
-- ==== Proof.RefG0.lean ====
/- The first layer of the grid reference, at real arguments. -/
module

public import proofs.«01_k».proof.Proof.RefStages
public import proofs.«01_k».proof.Proof.Args
public import proofs.«01_k».proof.Proof.Gen.GridIdeal.Run

@[expose] public section

set_option maxRecDepth 16384

noncomputable section

namespace Cert.Block.G0

open Idealize.ShloMosaic Idealize.ShloMosaic.TcCoe Idealize.SL.Sem
open Cert.GridIdeal Cert.GridIdeal.Gen Cert.GridIdeal.Value

variable (V : Valuation τ sig (Elt Ideal)) {x X : Fin 2048 → Fin 768 → ℝ} {p : Fin 2 → Layer}
  (h : Real16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) x p)
  (hX : ∀ n c, (res_main_v0 V : FVec Ideal S2048x768 .f32) (ix2 n c) = ((X n c : ℝ) : EReal))

include hX in
/-- A token less its mean. -/
theorem c5_at (n : Fin 2048) (c : Fin 768) :
    (res_main_call0_v5 V : FVec Ideal S2048x768 .f32) (ix2 n c) = ((X n c : ℝ) : EReal) - ((mean (X n) : ℝ) : EReal) := by
  unfold res_main_call0_v5
  exact c5_of _ hX n c

theorem c8_at (i : S_.Idx) : (res_main_call0_v8 V : FVec Ideal S_ .f32) i = ((768 : ℝ) : EReal) := by
  unfold res_main_call0_v8
  exact c8_of i

include h hX in
/-- The layer norm. -/
theorem ln_at (n : Fin 2048) (c : Fin 768) :
    (res_main_v48 V : FVec Ideal S2048x768 .f32) (ix2 n c) = ((lnorm (X n) (p 0).g1 (p 0).b1 c : ℝ) : EReal) := by
  unfold res_main_v48
  exact ln_of _ _ _ _ _ hX (c8_at V) (c5_at V hX) (fun c => by pointwise [h.g1]) (fun c => by pointwise [h.b1]) n c

include h hX in
/-- Keys and values. -/
theorem kv_at (n : Fin 2048) (s : Fin 2) (k : Fin 12) (e : Fin 64) :
    (res_main_v58 V : FVec Ideal S2048x2x12x64 .f32) (ix4 n s k e) = (((p 0).kv (X n) ⟨s * 768 + k * 64 + e, by omega⟩ : ℝ) : EReal) := by
  unfold res_main_v58
  exact kv_of _ _ _ (ln_at V h hX) (fun c j => by pointwise [h.wkv]) (fun j => by pointwise [h.bkv]) n s k e

include h hX in
/-- The values. -/
theorem v_at (n : Fin 2048) (k : Fin 12) (e : Fin 64) :
    (res_main_v62 V : FVec Ideal S2048x12x64 .f32) (ix3 n k e) = (((p 0).kv (X n) (chanV k e) : ℝ) : EReal) := by
  unfold res_main_v62
  refine (v_of _ (KVr := fun n s k e => (p 0).kv (X n) ⟨s * 768 + k * 64 + e, by omega⟩) (kv_at V h hX) n k e).trans ?_
  refine congrArg (fun q => (((p 0).kv (X n) q : ℝ) : EReal)) (Fin.ext ?_)
  show 1 * 768 + k.val * 64 + e.val = 768 + (k.val * 64 + e.val)
  omega

theorem k_eq (k : Fin 12) (n : Fin 2048) (e : Fin 64) :
    (p 0).kv (X n) ⟨(0 : Fin 2) * 768 + k * 64 + e, by omega⟩ = (p 0).kv (X n) (chanK k e) := by
  refine congrArg (fun q => (p 0).kv (X n) q) (Fin.ext ?_)
  show 0 * 768 + k.val * 64 + e.val = k.val * 64 + e.val
  omega

include h hX in
/-- The logits. -/
theorem lg_at (k : Fin 12) (n m : Fin 2048) :
    (res_main_v65 V : FVec Ideal S12x2048x2048 .f32) (ix3 k n m) = (((p 0).logits X k n m : ℝ) : EReal) := by
  unfold res_main_v65
  exact lg_of _ _ (Qr := fun n k e => (p 0).q (X n) (chan k e)) (Kr := fun n k e => (p 0).kv (X n) (chanK k e))
    (fun n k e => q_of _ _ _ (ln_at V h hX) (fun c j => by pointwise [h.wq]) (fun j => by pointwise [h.bq]) n k e)
    (fun n k e => (k_of _ (KVr := fun n s k e => (p 0).kv (X n) ⟨s * 768 + k * 64 + e, by omega⟩) (kv_at V h hX) n k e).trans
      (congrArg (fun q : ℝ => (q : EReal)) (k_eq k n e))) k n m

include h hX in
/-- The exponentials of the logits less the greatest. -/
theorem e_at (k : Fin 12) (n m : Fin 2048) :
    (res_main_v70 V : FVec Ideal S12x2048x2048 .f32) (ix3 k n m)
      = ((Real.exp ((p 0).logits X k n m - most ((p 0).logits X k n)) : ℝ) : EReal) := by
  unfold res_main_v70
  refine (e_of _ _ k n m).trans ?_
  rw [lg_at V h hX]
  refine (congrArg (fun q => Ideal.exp ((((p 0).logits X k n m : ℝ) : EReal) - q)) (row_max_coe _ (lg_at V h hX) _ _ k n)).trans ?_
  rw [← EReal.coe_sub, Ideal.exp_coe]

include h hX in
/-- The lower end of the grid. -/
theorem lo_at (k : Fin 12) (n : Fin 2048) :
    (res_main_v85 V : FVec Ideal S12x2048x1 .f32) (ix3 k n 0) = ((lo0 ((p 0).logits X k n) : ℝ) : EReal) := by
  unfold res_main_v85
  exact lo_of _ (Nr := fun k n => least ((p 0).logits X k n)) (fun k n => by
    unfold res_main_v79
    exact (mn_of _ k n).trans (row_min_coe _ (lg_at V h hX) _ _ k n)) k n

include h hX in
/-- The width of the grid. -/
theorem st_at (k : Fin 12) (n : Fin 2048) :
    (res_main_v92 V : FVec Ideal S12x2048x1 .f32) (ix3 k n 0) = ((step ((p 0).logits X k n) : ℝ) : EReal) := by
  unfold res_main_v92
  exact st_of _ _ (Mr := fun k n => most ((p 0).logits X k n)) (LOr := fun k n => lo0 ((p 0).logits X k n)) (row_max_coe _ (lg_at V h hX) _ _) (lo_at V h hX) k n

include h hX in
/-- The masked logits. -/
theorem lm_at (k : Fin 12) (n m : Fin 2048) :
    (res_main_v102 V : FVec Ideal S12x2048x2048 .f32) (ix3 k n m)
      = open Classical in if selCut ((p 0).logits X k n) m then (((p 0).logits X k n m : ℝ) : EReal) else ⊥ := by
  unfold res_main_v102
  have ht := topk_val (res_main_v65 V) (lg_at V h hX) sliceFits_S12x2048x2048_S12x2048x99
  have hc := cut_ord_first ((p 0).logits X k n) (98 : Fin 99) (by decide)
  have hl := lm_of (Lr := (p 0).logits X) (LOr := fun k n => lo0 ((p 0).logits X k n)) (STr := fun k n => step ((p 0).logits X k n))
    (TKr := fun k n i => (p 0).logits X k n (ord ((p 0).logits X k n) ⟨i, by omega⟩)) (res_main_v65 V) (res_main_v85 V) _ (res_main_v92 V)
    (lg_at V h hX) (lo_at V h hX) ht (st_at V h hX) k n m (step_pos ((p 0).logits X k n)).ne' (cut ((p 0).logits X k n)) hc
  classical
  exact hl.trans (if_congr Iff.rfl rfl rfl)

include h hX in
/-- The exponentials of the masked logits less the greatest of them. -/
theorem em_at (k : Fin 12) (n m : Fin 2048) :
    (res_main_v107 V : FVec Ideal S12x2048x2048 .f32) (ix3 k n m)
      = (((open Classical in if selCut ((p 0).logits X k n) m then Real.exp ((p 0).logits X k n m - topIn (selCut ((p 0).logits X k n)) ((p 0).logits X k n)) else 0 : ℝ)) : EReal) := by
  unfold res_main_v107
  exact em_of _ _ (fun k n => selCut ((p 0).logits X k n)) (Lr := (p 0).logits X) (Mr := fun k n => topIn (selCut ((p 0).logits X k n)) ((p 0).logits X k n)) (lm_at V h hX)
    (row_max_masked _ (fun k n => selCut ((p 0).logits X k n)) (fun k n => exists_reach _ (reach_cut ((p 0).logits X k n))) (lm_at V h hX) _ _) k n m

include h in
/-- The exponentials of the two weights. -/
theorem wx_at (i : Fin 2) : (res_main_v114 V : FVec Ideal S2 .f32) (ix1 i) = Ideal.exp (((p 0).wc i : ℝ) : EReal) := by
  unfold res_main_v114
  exact wx_of _ (fun i => by pointwise [h.wc]) i

include h in
/-- Their sum. -/
theorem ws_at (i : S_.Idx) : (res_main_v115 V : FVec Ideal S_ .f32) i = Ideal.exp (((p 0).wc 0 : ℝ) : EReal) + Ideal.exp (((p 0).wc 1 : ℝ) : EReal) := by
  unfold res_main_v115
  exact ws_of _ (wx_at V h) i

include h hX in
/-- The projection of the attention, added to the token. -/
theorem at_at (n : Fin 2048) (c : Fin 768) :
    (res_main_v132 V : FVec Ideal S2048x768 .f32) (ix2 n c)
      = (((p 0).proj (fun c => (p 0).attn selCut X (Layer.head c) (Layer.lane c) n) (X n) c : ℝ) : EReal) := by
  unfold res_main_v132
  refine at_of _ _ _ _ (MXr := fun n k e => (p 0).attn selCut X k e n) hX (fun n k e => ?_) (fun c j => by pointwise [h.pw])
    (fun j => by pointwise [h.pb]) n c
  refine mix_of _ _ _ _ (A1r := (fun n k e => avg (fun _ => True) ((p 0).logits X k n) fun m => (p 0).kv (X m) (chanV k e))) (A2r := (fun n k e => avg (selCut ((p 0).logits X k n)) ((p 0).logits X k n) fun m => (p 0).kv (X m) (chanV k e))) (wx_at V h) (ws_at V h) (fun n k e => ?_) (fun n k e => ?_) n k e
  · refine (av_of _ _ (Vr := fun m k e => (p 0).kv (X m) (chanV k e)) (v_at V h hX) n k e).trans ?_
    simp only [e_at V h hX]
    exact soft_all_coe ((p 0).logits X k n) (fun m => (p 0).kv (X m) (chanV k e)) (most ((p 0).logits X k n))
  · refine (av_of _ _ (Vr := fun m k e => (p 0).kv (X m) (chanV k e)) (v_at V h hX) n k e).trans ?_
    simp only [em_at V h hX]
    exact soft_coe ((p 0).logits X k n) (selCut ((p 0).logits X k n)) (exists_reach _ (reach_cut _)) (fun m => (p 0).kv (X m) (chanV k e)) (topIn (selCut ((p 0).logits X k n)) ((p 0).logits X k n))

variable {Y : Fin 2048 → Fin 768 → ℝ} (hY : ∀ n c, (res_main_v132 V : FVec Ideal S2048x768 .f32) (ix2 n c) = ((Y n c : ℝ) : EReal))

include hY in
theorem d5_at (n : Fin 2048) (c : Fin 768) :
    (res_main_call2_v5 V : FVec Ideal S2048x768 .f32) (ix2 n c) = ((Y n c : ℝ) : EReal) - ((mean (Y n) : ℝ) : EReal) := by
  unfold res_main_call2_v5
  exact c5_of _ hY n c

theorem d8_at (i : S_.Idx) : (res_main_call2_v8 V : FVec Ideal S_ .f32) i = ((768 : ℝ) : EReal) := by
  unfold res_main_call2_v8
  exact c8_of i

include h hY in
/-- The hidden units. -/
theorem hid_at (n : Fin 2048) (f : Fin 3072) :
    (res_main_v154 V : FVec Ideal S2048x3072 .f32) (ix2 n f) = (((p 0).hid (Y n) f : ℝ) : EReal) := by
  unfold res_main_v154
  exact hid_of _ _ _ (Yr := fun n => lnorm (Y n) (p 0).g2 (p 0).b2)
    (ln2_of _ _ _ _ _ hY (d8_at V) (d5_at V hY) (fun c => by pointwise [h.g2]) (fun c => by pointwise [h.b2]))
    (fun c j => by pointwise [h.f1w]) (fun j => by pointwise [h.f1b]) n f

include h hY in
theorem s_at (n : Fin 2048) (f : Fin 3072) :
    (res_main_v158 V : FVec Ideal S2048x3072 .f32) (ix2 n f) = (((p 0).hid (Y n) f * cst 0x3F3504F3#32 : ℝ) : EReal) := by
  unfold res_main_v158
  exact s_of _ (Hr := fun n => (p 0).hid (Y n)) (hid_at V h hY) n f

include h hY in
theorem t_at (n : Fin 2048) (f : Fin 3072) :
    (res_main_v165 V : FVec Ideal S2048x3072 .f32) (ix2 n f)
      = ((1 / (1 + cst 0x3EA7BA05#32 * |(p 0).hid (Y n) f * cst 0x3F3504F3#32|) : ℝ) : EReal) := by
  unfold res_main_v165
  exact t_of _ (Sr := fun n f => (p 0).hid (Y n) f * cst 0x3F3504F3#32) (s_at V h hY) n f

theorem t2_at (n : Fin 2048) (f : Fin 3072) :
    (res_main_v166 V : FVec Ideal S2048x3072 .f32) (ix2 n f) = HMul.hMul (α := EReal) (β := EReal) (γ := EReal) ((res_main_v165 V : FVec Ideal S2048x3072 .f32) (ix2 n f)) ((res_main_v165 V : FVec Ideal S2048x3072 .f32) (ix2 n f)) := by
  unfold res_main_v166
  exact t2_of _ n f

theorem t3_at (n : Fin 2048) (f : Fin 3072) :
    (res_main_v167 V : FVec Ideal S2048x3072 .f32) (ix2 n f)
      = HMul.hMul (α := EReal) (β := EReal) (γ := EReal) (HMul.hMul (α := EReal) (β := EReal) (γ := EReal) ((res_main_v165 V : FVec Ideal S2048x3072 .f32) (ix2 n f)) ((res_main_v165 V : FVec Ideal S2048x3072 .f32) (ix2 n f))) ((res_main_v165 V : FVec Ideal S2048x3072 .f32) (ix2 n f)) := by
  unfold res_main_v167
  exact t3_of _ _ (t2_at V) n f

include h hY in
/-- The layer. -/
theorem out_at (n : Fin 2048) (c : Fin 768) :
    (res_main_v199 V : FVec Ideal S2048x768 .f32) (ix2 n c) = (((p 0).post (Y n) c : ℝ) : EReal) := by
  unfold res_main_v199
  exact out_of _ _ _ _ (ACr := fun n f => act ((p 0).hid (Y n) f)) hY (fun n f => ac_of _ _ _ _ _ (Hr := fun n => (p 0).hid (Y n))
      (Sr := fun n f => (p 0).hid (Y n) f * cst 0x3F3504F3#32) (hid_at V h hY) (s_at V h hY) (t_at V h hY) (t2_at V) (t3_at V) n f rfl)
    (fun c j => by pointwise [h.f2w]) (fun j => by pointwise [h.f2b]) n c

end Cert.Block.G0

end
-- ==== Proof.RefG1.lean ====
/- The second layer of the grid reference, at real arguments. -/
module

public import proofs.«01_k».proof.Proof.RefStages
public import proofs.«01_k».proof.Proof.Args
public import proofs.«01_k».proof.Proof.Gen.GridIdeal.Run

@[expose] public section

set_option maxRecDepth 16384

noncomputable section

namespace Cert.Block.G1

open Idealize.ShloMosaic Idealize.ShloMosaic.TcCoe Idealize.SL.Sem
open Cert.GridIdeal Cert.GridIdeal.Gen Cert.GridIdeal.Value

section
variable {F : FTy → Type} [FloatOps F]
/-- The second layer's result. -/
def last (V : Valuation τ sig (Elt F)) : (Proc.devRef .tc main_v199 : DevRef τ sig).ty.Contents (Elt F) :=
  addf (res_main_v331 V) (addf (Host.dotGeneral dot_S2048x3072_S3072x768_S2048x768_1_0_0_1_n_n none (mulf (mulf (broadcastInDim S2048x3072 ![] bcast_S_S2048x3072 (constant S_ .f32 0x3F000000#32)) (res_main_v353 V)) (addf (broadcastInDim S2048x3072 ![] bcast_S_S2048x3072 (constant S_ .f32 0x3F800000#32)) (mulf (Host.sign (res_main_v357 V)) (subf (broadcastInDim S2048x3072 ![] bcast_S_S2048x3072 (constant S_ .f32 0x3F800000#32)) (mulf (addf (addf (addf (addf (mulf (broadcastInDim S2048x3072 ![] bcast_S_S2048x3072 (constant S_ .f32 0x3E827906#32)) (res_main_v364 V)) (mulf (broadcastInDim S2048x3072 ![] bcast_S_S2048x3072 (constant S_ .f32 0xBE91A98E#32)) (res_main_v365 V))) (mulf (broadcastInDim S2048x3072 ![] bcast_S_S2048x3072 (constant S_ .f32 0x3FB5F0E3#32)) (res_main_v366 V))) (mulf (broadcastInDim S2048x3072 ![] bcast_S_S2048x3072 (constant S_ .f32 0xBFBA00E3#32)) (mulf (res_main_v365 V) (res_main_v365 V)))) (mulf (broadcastInDim S2048x3072 ![] bcast_S_S2048x3072 (constant S_ .f32 0x3F87DC22#32)) (mulf (res_main_v366 V) (res_main_v365 V)))) (Host.exp (Host.negf (mulf (res_main_v357 V) (res_main_v357 V))))))))) (shapeCast _ (extractStridedSlice S1x3072x768 ![1, 0, 0] (V (Proc.devRef .tc main_arg14)) slices_S2x3072x768_S1x3072x768_1_0_0) shapeCasts_S1x3072x768_S3072x768)) (broadcastInDim S2048x768 ![0, 1] bcast_S1x768_S2048x768_0_1 (broadcastInDim S1x768 ![1] bcast_S768_S1x768_1 (shapeCast _ (extractStridedSlice S1x768 ![1, 0] (V (Proc.devRef .tc main_arg15)) slices_S2x768_S1x768_1_0) shapeCasts_S1x768_S768))))
end

variable (V : Valuation τ sig (Elt Ideal)) {x X : Fin 2048 → Fin 768 → ℝ} {p : Fin 2 → Layer}
  (h : Real16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) x p)
  (hX : ∀ n c, (res_main_v199 V : FVec Ideal S2048x768 .f32) (ix2 n c) = ((X n c : ℝ) : EReal))

include hX in
/-- A token less its mean. -/
theorem c5_at (n : Fin 2048) (c : Fin 768) :
    (res_main_call3_v5 V : FVec Ideal S2048x768 .f32) (ix2 n c) = ((X n c : ℝ) : EReal) - ((mean (X n) : ℝ) : EReal) := by
  unfold res_main_call3_v5
  exact c5_of _ hX n c

theorem c8_at (i : S_.Idx) : (res_main_call3_v8 V : FVec Ideal S_ .f32) i = ((768 : ℝ) : EReal) := by
  unfold res_main_call3_v8
  exact c8_of i

include h hX in
/-- The layer norm. -/
theorem ln_at (n : Fin 2048) (c : Fin 768) :
    (res_main_v247 V : FVec Ideal S2048x768 .f32) (ix2 n c) = ((lnorm (X n) (p 1).g1 (p 1).b1 c : ℝ) : EReal) := by
  unfold res_main_v247
  exact ln_of _ _ _ _ _ hX (c8_at V) (c5_at V hX) (fun c => by pointwise [h.g1]) (fun c => by pointwise [h.b1]) n c

include h hX in
/-- Keys and values. -/
theorem kv_at (n : Fin 2048) (s : Fin 2) (k : Fin 12) (e : Fin 64) :
    (res_main_v257 V : FVec Ideal S2048x2x12x64 .f32) (ix4 n s k e) = (((p 1).kv (X n) ⟨s * 768 + k * 64 + e, by omega⟩ : ℝ) : EReal) := by
  unfold res_main_v257
  exact kv_of _ _ _ (ln_at V h hX) (fun c j => by pointwise [h.wkv]) (fun j => by pointwise [h.bkv]) n s k e

include h hX in
/-- The values. -/
theorem v_at (n : Fin 2048) (k : Fin 12) (e : Fin 64) :
    (res_main_v261 V : FVec Ideal S2048x12x64 .f32) (ix3 n k e) = (((p 1).kv (X n) (chanV k e) : ℝ) : EReal) := by
  unfold res_main_v261
  refine (v_of _ (KVr := fun n s k e => (p 1).kv (X n) ⟨s * 768 + k * 64 + e, by omega⟩) (kv_at V h hX) n k e).trans ?_
  refine congrArg (fun q => (((p 1).kv (X n) q : ℝ) : EReal)) (Fin.ext ?_)
  show 1 * 768 + k.val * 64 + e.val = 768 + (k.val * 64 + e.val)
  omega

theorem k_eq (k : Fin 12) (n : Fin 2048) (e : Fin 64) :
    (p 1).kv (X n) ⟨(0 : Fin 2) * 768 + k * 64 + e, by omega⟩ = (p 1).kv (X n) (chanK k e) := by
  refine congrArg (fun q => (p 1).kv (X n) q) (Fin.ext ?_)
  show 0 * 768 + k.val * 64 + e.val = k.val * 64 + e.val
  omega

include h hX in
/-- The logits. -/
theorem lg_at (k : Fin 12) (n m : Fin 2048) :
    (res_main_v264 V : FVec Ideal S12x2048x2048 .f32) (ix3 k n m) = (((p 1).logits X k n m : ℝ) : EReal) := by
  unfold res_main_v264
  exact lg_of _ _ (Qr := fun n k e => (p 1).q (X n) (chan k e)) (Kr := fun n k e => (p 1).kv (X n) (chanK k e))
    (fun n k e => q_of _ _ _ (ln_at V h hX) (fun c j => by pointwise [h.wq]) (fun j => by pointwise [h.bq]) n k e)
    (fun n k e => (k_of _ (KVr := fun n s k e => (p 1).kv (X n) ⟨s * 768 + k * 64 + e, by omega⟩) (kv_at V h hX) n k e).trans
      (congrArg (fun q : ℝ => (q : EReal)) (k_eq k n e))) k n m

include h hX in
/-- The exponentials of the logits less the greatest. -/
theorem e_at (k : Fin 12) (n m : Fin 2048) :
    (res_main_v269 V : FVec Ideal S12x2048x2048 .f32) (ix3 k n m)
      = ((Real.exp ((p 1).logits X k n m - most ((p 1).logits X k n)) : ℝ) : EReal) := by
  unfold res_main_v269
  refine (e_of _ _ k n m).trans ?_
  rw [lg_at V h hX]
  refine (congrArg (fun q => Ideal.exp ((((p 1).logits X k n m : ℝ) : EReal) - q)) (row_max_coe _ (lg_at V h hX) _ _ k n)).trans ?_
  rw [← EReal.coe_sub, Ideal.exp_coe]

include h hX in
/-- The lower end of the grid. -/
theorem lo_at (k : Fin 12) (n : Fin 2048) :
    (res_main_v284 V : FVec Ideal S12x2048x1 .f32) (ix3 k n 0) = ((lo0 ((p 1).logits X k n) : ℝ) : EReal) := by
  unfold res_main_v284
  exact lo_of _ (Nr := fun k n => least ((p 1).logits X k n)) (fun k n => by
    unfold res_main_v278
    exact (mn_of _ k n).trans (row_min_coe _ (lg_at V h hX) _ _ k n)) k n

include h hX in
/-- The width of the grid. -/
theorem st_at (k : Fin 12) (n : Fin 2048) :
    (res_main_v291 V : FVec Ideal S12x2048x1 .f32) (ix3 k n 0) = ((step ((p 1).logits X k n) : ℝ) : EReal) := by
  unfold res_main_v291
  exact st_of _ _ (Mr := fun k n => most ((p 1).logits X k n)) (LOr := fun k n => lo0 ((p 1).logits X k n)) (row_max_coe _ (lg_at V h hX) _ _) (lo_at V h hX) k n

include h hX in
/-- The masked logits. -/
theorem lm_at (k : Fin 12) (n m : Fin 2048) :
    (res_main_v301 V : FVec Ideal S12x2048x2048 .f32) (ix3 k n m)
      = open Classical in if selCut ((p 1).logits X k n) m then (((p 1).logits X k n m : ℝ) : EReal) else ⊥ := by
  unfold res_main_v301
  have ht := topk_val (res_main_v264 V) (lg_at V h hX) sliceFits_S12x2048x2048_S12x2048x99
  have hc := cut_ord_first ((p 1).logits X k n) (98 : Fin 99) (by decide)
  have hl := lm_of (Lr := (p 1).logits X) (LOr := fun k n => lo0 ((p 1).logits X k n)) (STr := fun k n => step ((p 1).logits X k n))
    (TKr := fun k n i => (p 1).logits X k n (ord ((p 1).logits X k n) ⟨i, by omega⟩)) (res_main_v264 V) (res_main_v284 V) _ (res_main_v291 V)
    (lg_at V h hX) (lo_at V h hX) ht (st_at V h hX) k n m (step_pos ((p 1).logits X k n)).ne' (cut ((p 1).logits X k n)) hc
  classical
  exact hl.trans (if_congr Iff.rfl rfl rfl)

include h hX in
/-- The exponentials of the masked logits less the greatest of them. -/
theorem em_at (k : Fin 12) (n m : Fin 2048) :
    (res_main_v306 V : FVec Ideal S12x2048x2048 .f32) (ix3 k n m)
      = (((open Classical in if selCut ((p 1).logits X k n) m then Real.exp ((p 1).logits X k n m - topIn (selCut ((p 1).logits X k n)) ((p 1).logits X k n)) else 0 : ℝ)) : EReal) := by
  unfold res_main_v306
  exact em_of _ _ (fun k n => selCut ((p 1).logits X k n)) (Lr := (p 1).logits X) (Mr := fun k n => topIn (selCut ((p 1).logits X k n)) ((p 1).logits X k n)) (lm_at V h hX)
    (row_max_masked _ (fun k n => selCut ((p 1).logits X k n)) (fun k n => exists_reach _ (reach_cut ((p 1).logits X k n))) (lm_at V h hX) _ _) k n m

include h in
/-- The exponentials of the two weights. -/
theorem wx_at (i : Fin 2) : (res_main_v313 V : FVec Ideal S2 .f32) (ix1 i) = Ideal.exp (((p 1).wc i : ℝ) : EReal) := by
  unfold res_main_v313
  exact wx_of _ (fun i => by pointwise [h.wc]) i

include h in
/-- Their sum. -/
theorem ws_at (i : S_.Idx) : (res_main_v314 V : FVec Ideal S_ .f32) i = Ideal.exp (((p 1).wc 0 : ℝ) : EReal) + Ideal.exp (((p 1).wc 1 : ℝ) : EReal) := by
  unfold res_main_v314
  exact ws_of _ (wx_at V h) i

include h hX in
/-- The projection of the attention, added to the token. -/
theorem at_at (n : Fin 2048) (c : Fin 768) :
    (res_main_v331 V : FVec Ideal S2048x768 .f32) (ix2 n c)
      = (((p 1).proj (fun c => (p 1).attn selCut X (Layer.head c) (Layer.lane c) n) (X n) c : ℝ) : EReal) := by
  unfold res_main_v331
  refine at_of _ _ _ _ (MXr := fun n k e => (p 1).attn selCut X k e n) hX (fun n k e => ?_) (fun c j => by pointwise [h.pw])
    (fun j => by pointwise [h.pb]) n c
  refine mix_of _ _ _ _ (A1r := (fun n k e => avg (fun _ => True) ((p 1).logits X k n) fun m => (p 1).kv (X m) (chanV k e))) (A2r := (fun n k e => avg (selCut ((p 1).logits X k n)) ((p 1).logits X k n) fun m => (p 1).kv (X m) (chanV k e))) (wx_at V h) (ws_at V h) (fun n k e => ?_) (fun n k e => ?_) n k e
  · refine (av_of _ _ (Vr := fun m k e => (p 1).kv (X m) (chanV k e)) (v_at V h hX) n k e).trans ?_
    simp only [e_at V h hX]
    exact soft_all_coe ((p 1).logits X k n) (fun m => (p 1).kv (X m) (chanV k e)) (most ((p 1).logits X k n))
  · refine (av_of _ _ (Vr := fun m k e => (p 1).kv (X m) (chanV k e)) (v_at V h hX) n k e).trans ?_
    simp only [em_at V h hX]
    exact soft_coe ((p 1).logits X k n) (selCut ((p 1).logits X k n)) (exists_reach _ (reach_cut _)) (fun m => (p 1).kv (X m) (chanV k e)) (topIn (selCut ((p 1).logits X k n)) ((p 1).logits X k n))

variable {Y : Fin 2048 → Fin 768 → ℝ} (hY : ∀ n c, (res_main_v331 V : FVec Ideal S2048x768 .f32) (ix2 n c) = ((Y n c : ℝ) : EReal))

include hY in
theorem d5_at (n : Fin 2048) (c : Fin 768) :
    (res_main_call5_v5 V : FVec Ideal S2048x768 .f32) (ix2 n c) = ((Y n c : ℝ) : EReal) - ((mean (Y n) : ℝ) : EReal) := by
  unfold res_main_call5_v5
  exact c5_of _ hY n c

theorem d8_at (i : S_.Idx) : (res_main_call5_v8 V : FVec Ideal S_ .f32) i = ((768 : ℝ) : EReal) := by
  unfold res_main_call5_v8
  exact c8_of i

include h hY in
/-- The hidden units. -/
theorem hid_at (n : Fin 2048) (f : Fin 3072) :
    (res_main_v353 V : FVec Ideal S2048x3072 .f32) (ix2 n f) = (((p 1).hid (Y n) f : ℝ) : EReal) := by
  unfold res_main_v353
  exact hid_of _ _ _ (Yr := fun n => lnorm (Y n) (p 1).g2 (p 1).b2)
    (ln2_of _ _ _ _ _ hY (d8_at V) (d5_at V hY) (fun c => by pointwise [h.g2]) (fun c => by pointwise [h.b2]))
    (fun c j => by pointwise [h.f1w]) (fun j => by pointwise [h.f1b]) n f

include h hY in
theorem s_at (n : Fin 2048) (f : Fin 3072) :
    (res_main_v357 V : FVec Ideal S2048x3072 .f32) (ix2 n f) = (((p 1).hid (Y n) f * cst 0x3F3504F3#32 : ℝ) : EReal) := by
  unfold res_main_v357
  exact s_of _ (Hr := fun n => (p 1).hid (Y n)) (hid_at V h hY) n f

include h hY in
theorem t_at (n : Fin 2048) (f : Fin 3072) :
    (res_main_v364 V : FVec Ideal S2048x3072 .f32) (ix2 n f)
      = ((1 / (1 + cst 0x3EA7BA05#32 * |(p 1).hid (Y n) f * cst 0x3F3504F3#32|) : ℝ) : EReal) := by
  unfold res_main_v364
  exact t_of _ (Sr := fun n f => (p 1).hid (Y n) f * cst 0x3F3504F3#32) (s_at V h hY) n f

theorem t2_at (n : Fin 2048) (f : Fin 3072) :
    (res_main_v365 V : FVec Ideal S2048x3072 .f32) (ix2 n f) = HMul.hMul (α := EReal) (β := EReal) (γ := EReal) ((res_main_v364 V : FVec Ideal S2048x3072 .f32) (ix2 n f)) ((res_main_v364 V : FVec Ideal S2048x3072 .f32) (ix2 n f)) := by
  unfold res_main_v365
  exact t2_of _ n f

theorem t3_at (n : Fin 2048) (f : Fin 3072) :
    (res_main_v366 V : FVec Ideal S2048x3072 .f32) (ix2 n f)
      = HMul.hMul (α := EReal) (β := EReal) (γ := EReal) (HMul.hMul (α := EReal) (β := EReal) (γ := EReal) ((res_main_v364 V : FVec Ideal S2048x3072 .f32) (ix2 n f)) ((res_main_v364 V : FVec Ideal S2048x3072 .f32) (ix2 n f))) ((res_main_v364 V : FVec Ideal S2048x3072 .f32) (ix2 n f)) := by
  unfold res_main_v366
  exact t3_of _ _ (t2_at V) n f

include h hY in
/-- The layer. -/
theorem out_at (n : Fin 2048) (c : Fin 768) :
    (last V : FVec Ideal S2048x768 .f32) (ix2 n c) = (((p 1).post (Y n) c : ℝ) : EReal) := by
  unfold last
  exact out_of _ _ _ _ (ACr := fun n f => act ((p 1).hid (Y n) f)) hY (fun n f => ac_of _ _ _ _ _ (Hr := fun n => (p 1).hid (Y n))
      (Sr := fun n f => (p 1).hid (Y n) f * cst 0x3F3504F3#32) (hid_at V h hY) (s_at V h hY) (t_at V h hY) (t2_at V) (t3_at V) n f rfl)
    (fun c j => by pointwise [h.f2w]) (fun j => by pointwise [h.f2b]) n c

end Cert.Block.G1

end
-- ==== Proof.GridRun.lean ====
/- The grid reference's run ends with the two layers' result. -/
module

public import proofs.«01_k».proof.Proof.RefG0
public import proofs.«01_k».proof.Proof.RefG1

@[expose] public section

set_option maxRecDepth 16384

noncomputable section

namespace Cert.Block.Grid

open Idealize.ShloMosaic Idealize.ShloMosaic.TcCoe Idealize.SL.Sem
open Cert.GridIdeal Cert.GridIdeal.Gen Cert.GridIdeal.Value

/-- The batch axis dropped at entry. -/
theorem x_of (A : FVec Ideal S1x2048x768 .f32) {X : Fin 2048 → Fin 768 → ℝ} (hA : ∀ n c, A (ix3 0 n c) = ((X n c : ℝ) : EReal))
    (n : Fin 2048) (c : Fin 768) :
    (shapeCast S2048x768 A shapeCasts_S1x2048x768_S2048x768 : FVec Ideal S2048x768 .f32) (ix2 n c) = ((X n c : ℝ) : EReal) := by
  pointwise [hA]

/-- The batch axis put back at the end. -/
theorem y_of (A : FVec Ideal S2048x768 .f32) {X : Fin 2048 → Fin 768 → ℝ} (hA : ∀ n c, A (ix2 n c) = ((X n c : ℝ) : EReal)) :
    (broadcastInDim S1x2048x768 ![1, 2] bcast_S2048x768_S1x2048x768_1_2 A : FVec Ideal S1x2048x768 .f32)
      = fun i => ((X (i 1) (i 2) : ℝ) : EReal) := by
  funext i
  have hi : i = ix3 (i 0) (i 1) (i 2) := by funext a; fin_cases a <;> rfl
  rw [hi]
  pointwise [hA]

variable (V : Valuation τ sig (Elt Ideal)) {x : Fin 2048 → Fin 768 → ℝ} {p : Fin 2 → Layer}
  (h : Real16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) x p)

include h in
theorem x_at (n : Fin 2048) (c : Fin 768) : (res_main_v0 V : FVec Ideal S2048x768 .f32) (ix2 n c) = ((x n c : ℝ) : EReal) := by
  unfold res_main_v0
  exact x_of _ h.x n c

include h in
/-- After the first layer. -/
theorem mid_at (n : Fin 2048) (c : Fin 768) :
    (res_main_v199 V : FVec Ideal S2048x768 .f32) (ix2 n c) = (((p 0).out selCut x n c : ℝ) : EReal) :=
  G0.out_at V h (G0.at_at V h (x_at V h)) n c

include h in
/-- After the second. -/
theorem last_at (n : Fin 2048) (c : Fin 768) :
    (G1.last V : FVec Ideal S2048x768 .f32) (ix2 n c) = ((block p x n c : ℝ) : EReal) :=
  G1.out_at V h (G1.at_at V h (mid_at V h)) n c

include h in
theorem result_eq : (broadcastInDim S1x2048x768 ![1, 2] bcast_S2048x768_S1x2048x768_1_2 (G1.last V : FVec Ideal S2048x768 .f32) : FVec Ideal S1x2048x768 .f32)
      = blockArray p x :=
  y_of _ (last_at V h)

/-- The reference's run, at real arguments. -/
theorem run_value (m : (ℓ : Loc nD τ sig) → Buf (Elt Ideal) ℓ) (ρ : Dev nD → PrngReg) {x : Dev nD → Fin 2048 → Fin 768 → ℝ} {p : Dev nD → Fin 2 → Layer}
    (h : ∀ c : Dev nD, Real16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (x c) (p c)) :
    θ_run (defs (F := Ideal)) (onTc (τ := τ) (main (F := Ideal))) ⟨m, fun _ => 0, ρ⟩ fun r => ∀ c : Dev nD,
      r.2.mem ((c.tc : Thread nD τ).loc main_v399) = (blockArray (p c) (x c) : FVec Ideal S1x2048x768 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (defs (F := Ideal)) _ _).mono (fun _ q c => ⟨(q c).1.trans (result_eq (StableHlo.launchContents m c) (h c)), (q c).2⟩)
    (run (F := Ideal) m ρ)

end Cert.Block.Grid

end
-- ==== Proof.Finite.lean ====
/- Finite arguments are arrays of reals. -/
module

public import proofs.«01_k».proof.Proof.Args
public import proofs.«01_k».proof.Pre_finite
public import proofs.«01_k».proof.Proof.FactsFinite

@[expose] public section

set_option maxRecDepth 16384

noncomputable section

namespace Cert.Block

open Idealize.ShloMosaic Idealize.ShloMosaic.TcCoe Idealize.SL.Sem
open Cert.KernelIdeal Cert.Pre_finite.Gen

/-- The tokens read off their array. -/
def tokensOf (a0 : FVec Ideal S1x2048x768 .f32) : Fin 2048 → Fin 768 → ℝ := fun n c => (a0 (ix3 0 n c)).toReal

/-- The two layers' parameters read off their arrays. -/
def layersOf (a1 : FVec Ideal S2x768 .f32) (a2 : FVec Ideal S2x768 .f32) (a3 : FVec Ideal S2x768x768 .f32) (a4 : FVec Ideal S2x768 .f32) (a5 : FVec Ideal S2x768x1536 .f32) (a6 : FVec Ideal S2x1536 .f32) (a7 : FVec Ideal S2x2 .f32) (a8 : FVec Ideal S2x768x768 .f32) (a9 : FVec Ideal S2x768 .f32) (a10 : FVec Ideal S2x768 .f32) (a11 : FVec Ideal S2x768 .f32) (a12 : FVec Ideal S2x768x3072 .f32) (a13 : FVec Ideal S2x3072 .f32) (a14 : FVec Ideal S2x3072x768 .f32) (a15 : FVec Ideal S2x768 .f32) : Fin 2 → Layer := fun l => {
  g1 := fun a => (a1 (ix2 l a)).toReal
  b1 := fun a => (a2 (ix2 l a)).toReal
  wq := fun a j => (a3 (ix3 l a j)).toReal
  bq := fun a => (a4 (ix2 l a)).toReal
  wkv := fun a j => (a5 (ix3 l a j)).toReal
  bkv := fun a => (a6 (ix2 l a)).toReal
  wc := fun a => (a7 (ix2 l a)).toReal
  pw := fun a j => (a8 (ix3 l a j)).toReal
  pb := fun a => (a9 (ix2 l a)).toReal
  g2 := fun a => (a10 (ix2 l a)).toReal
  b2 := fun a => (a11 (ix2 l a)).toReal
  f1w := fun a j => (a12 (ix3 l a j)).toReal
  f1b := fun a => (a13 (ix2 l a)).toReal
  f2w := fun a j => (a14 (ix3 l a j)).toReal
  f2b := fun a => (a15 (ix2 l a)).toReal }

/-- Arrays of reals are the reals read off them. -/
theorem real16_of (a0 : FVec Ideal S1x2048x768 .f32) (a1 : FVec Ideal S2x768 .f32) (a2 : FVec Ideal S2x768 .f32) (a3 : FVec Ideal S2x768x768 .f32) (a4 : FVec Ideal S2x768 .f32) (a5 : FVec Ideal S2x768x1536 .f32) (a6 : FVec Ideal S2x1536 .f32) (a7 : FVec Ideal S2x2 .f32) (a8 : FVec Ideal S2x768x768 .f32) (a9 : FVec Ideal S2x768 .f32) (a10 : FVec Ideal S2x768 .f32) (a11 : FVec Ideal S2x768 .f32) (a12 : FVec Ideal S2x768x3072 .f32) (a13 : FVec Ideal S2x3072 .f32) (a14 : FVec Ideal S2x3072x768 .f32) (a15 : FVec Ideal S2x768 .f32)
    (h0 : ∀ j, a0 j = ((a0 j).toReal : EReal))
    (h1 : ∀ j, a1 j = ((a1 j).toReal : EReal))
    (h2 : ∀ j, a2 j = ((a2 j).toReal : EReal))
    (h3 : ∀ j, a3 j = ((a3 j).toReal : EReal))
    (h4 : ∀ j, a4 j = ((a4 j).toReal : EReal))
    (h5 : ∀ j, a5 j = ((a5 j).toReal : EReal))
    (h6 : ∀ j, a6 j = ((a6 j).toReal : EReal))
    (h7 : ∀ j, a7 j = ((a7 j).toReal : EReal))
    (h8 : ∀ j, a8 j = ((a8 j).toReal : EReal))
    (h9 : ∀ j, a9 j = ((a9 j).toReal : EReal))
    (h10 : ∀ j, a10 j = ((a10 j).toReal : EReal))
    (h11 : ∀ j, a11 j = ((a11 j).toReal : EReal))
    (h12 : ∀ j, a12 j = ((a12 j).toReal : EReal))
    (h13 : ∀ j, a13 j = ((a13 j).toReal : EReal))
    (h14 : ∀ j, a14 j = ((a14 j).toReal : EReal))
    (h15 : ∀ j, a15 j = ((a15 j).toReal : EReal)) :
    Real16 a0 a1 a2 a3 a4 a5 a6 a7 a8 a9 a10 a11 a12 a13 a14 a15 (tokensOf a0) (layersOf a1 a2 a3 a4 a5 a6 a7 a8 a9 a10 a11 a12 a13 a14 a15) :=
  ⟨fun _ _ => h0 _, fun _ _ => h1 _, fun _ _ => h2 _, fun _ _ _ => h3 _, fun _ _ => h4 _, fun _ _ _ => h5 _, fun _ _ => h6 _, fun _ _ => h7 _, fun _ _ _ => h8 _, fun _ _ => h9 _, fun _ _ => h10 _, fun _ _ => h11 _, fun _ _ _ => h12 _, fun _ _ => h13 _, fun _ _ _ => h14 _, fun _ _ => h15 _⟩

/-- What is less than infinity in absolute value is a real. -/
theorem real_of_abs_lt (a : EReal) (h : max a (-a) < ⊤) : a = (a.toReal : EReal) := by
  refine (EReal.coe_toReal ?_ ?_).symm
  · rintro rfl
    simp at h
  · rintro rfl
    simp at h

/-- The mask of the finite entries, read at an index. -/
theorem real_of_mask (s : Shape) (hb : Cert.Pre_finite.S_.BroadcastsInDim s (![] : Fin 0 → Fin s.rank)) (a : FVec Ideal s .f32)
    (h : cmpf .olt (Host.absf a) (broadcastInDim s ![] hb (constant Cert.Pre_finite.S_ .f32 0x7F800000#32)) = fun _ => 1#1) (i : s.Idx) :
    a i = ((a i).toReal : EReal) := by
  have hi : Ideal.cmp .olt (max (a i) (-(a i))) (Ideal.ofBits .f32 0x7F800000#32) = 1#1 := congrFun h i
  refine real_of_abs_lt _ (by_contra fun hn => ?_)
  rw [cInf] at hi
  simp [Ideal.cmp, hn] at hi

/-- Arguments that pass the test of finiteness are arrays of reals. -/
theorem real16_of_finite (a0 : FVec Ideal S1x2048x768 .f32) (a1 : FVec Ideal S2x768 .f32) (a2 : FVec Ideal S2x768 .f32) (a3 : FVec Ideal S2x768x768 .f32) (a4 : FVec Ideal S2x768 .f32) (a5 : FVec Ideal S2x768x1536 .f32) (a6 : FVec Ideal S2x1536 .f32) (a7 : FVec Ideal S2x2 .f32) (a8 : FVec Ideal S2x768x768 .f32) (a9 : FVec Ideal S2x768 .f32) (a10 : FVec Ideal S2x768 .f32) (a11 : FVec Ideal S2x768 .f32) (a12 : FVec Ideal S2x768x3072 .f32) (a13 : FVec Ideal S2x3072 .f32) (a14 : FVec Ideal S2x3072x768 .f32) (a15 : FVec Ideal S2x768 .f32)
    (h : (Cert.Pre_finite.fn (F := Ideal) a0 a1 a2 a3 a4 a5 a6 a7 a8 a9 a10 a11 a12 a13 a14 a15).1 = (fun _ => 1#1)
    ∧ (Cert.Pre_finite.fn (F := Ideal) a0 a1 a2 a3 a4 a5 a6 a7 a8 a9 a10 a11 a12 a13 a14 a15).2.1 = (fun _ => 1#1)
    ∧ (Cert.Pre_finite.fn (F := Ideal) a0 a1 a2 a3 a4 a5 a6 a7 a8 a9 a10 a11 a12 a13 a14 a15).2.2.1 = (fun _ => 1#1)
    ∧ (Cert.Pre_finite.fn (F := Ideal) a0 a1 a2 a3 a4 a5 a6 a7 a8 a9 a10 a11 a12 a13 a14 a15).2.2.2.1 = (fun _ => 1#1)
    ∧ (Cert.Pre_finite.fn (F := Ideal) a0 a1 a2 a3 a4 a5 a6 a7 a8 a9 a10 a11 a12 a13 a14 a15).2.2.2.2.1 = (fun _ => 1#1)
    ∧ (Cert.Pre_finite.fn (F := Ideal) a0 a1 a2 a3 a4 a5 a6 a7 a8 a9 a10 a11 a12 a13 a14 a15).2.2.2.2.2.1 = (fun _ => 1#1)
    ∧ (Cert.Pre_finite.fn (F := Ideal) a0 a1 a2 a3 a4 a5 a6 a7 a8 a9 a10 a11 a12 a13 a14 a15).2.2.2.2.2.2.1 = (fun _ => 1#1)
    ∧ (Cert.Pre_finite.fn (F := Ideal) a0 a1 a2 a3 a4 a5 a6 a7 a8 a9 a10 a11 a12 a13 a14 a15).2.2.2.2.2.2.2.1 = (fun _ => 1#1)
    ∧ (Cert.Pre_finite.fn (F := Ideal) a0 a1 a2 a3 a4 a5 a6 a7 a8 a9 a10 a11 a12 a13 a14 a15).2.2.2.2.2.2.2.2.1 = (fun _ => 1#1)
    ∧ (Cert.Pre_finite.fn (F := Ideal) a0 a1 a2 a3 a4 a5 a6 a7 a8 a9 a10 a11 a12 a13 a14 a15).2.2.2.2.2.2.2.2.2.1 = (fun _ => 1#1)
    ∧ (Cert.Pre_finite.fn (F := Ideal) a0 a1 a2 a3 a4 a5 a6 a7 a8 a9 a10 a11 a12 a13 a14 a15).2.2.2.2.2.2.2.2.2.2.1 = (fun _ => 1#1)
    ∧ (Cert.Pre_finite.fn (F := Ideal) a0 a1 a2 a3 a4 a5 a6 a7 a8 a9 a10 a11 a12 a13 a14 a15).2.2.2.2.2.2.2.2.2.2.2.1 = (fun _ => 1#1)
    ∧ (Cert.Pre_finite.fn (F := Ideal) a0 a1 a2 a3 a4 a5 a6 a7 a8 a9 a10 a11 a12 a13 a14 a15).2.2.2.2.2.2.2.2.2.2.2.2.1 = (fun _ => 1#1)
    ∧ (Cert.Pre_finite.fn (F := Ideal) a0 a1 a2 a3 a4 a5 a6 a7 a8 a9 a10 a11 a12 a13 a14 a15).2.2.2.2.2.2.2.2.2.2.2.2.2.1 = (fun _ => 1#1)
    ∧ (Cert.Pre_finite.fn (F := Ideal) a0 a1 a2 a3 a4 a5 a6 a7 a8 a9 a10 a11 a12 a13 a14 a15).2.2.2.2.2.2.2.2.2.2.2.2.2.2.1 = (fun _ => 1#1)
    ∧ (Cert.Pre_finite.fn (F := Ideal) a0 a1 a2 a3 a4 a5 a6 a7 a8 a9 a10 a11 a12 a13 a14 a15).2.2.2.2.2.2.2.2.2.2.2.2.2.2.2 = (fun _ => 1#1)) :
    Real16 a0 a1 a2 a3 a4 a5 a6 a7 a8 a9 a10 a11 a12 a13 a14 a15 (tokensOf a0) (layersOf a1 a2 a3 a4 a5 a6 a7 a8 a9 a10 a11 a12 a13 a14 a15) := by
  unfold Cert.Pre_finite.fn Cert.Pre_finite.fn_part1 Cert.Pre_finite.fn_part2 at h
  exact real16_of a0 a1 a2 a3 a4 a5 a6 a7 a8 a9 a10 a11 a12 a13 a14 a15 (real_of_mask _ _ _ h.1) (real_of_mask _ _ _ h.2.1) (real_of_mask _ _ _ h.2.2.1) (real_of_mask _ _ _ h.2.2.2.1) (real_of_mask _ _ _ h.2.2.2.2.1) (real_of_mask _ _ _ h.2.2.2.2.2.1) (real_of_mask _ _ _ h.2.2.2.2.2.2.1) (real_of_mask _ _ _ h.2.2.2.2.2.2.2.1) (real_of_mask _ _ _ h.2.2.2.2.2.2.2.2.1) (real_of_mask _ _ _ h.2.2.2.2.2.2.2.2.2.1) (real_of_mask _ _ _ h.2.2.2.2.2.2.2.2.2.2.1) (real_of_mask _ _ _ h.2.2.2.2.2.2.2.2.2.2.2.1) (real_of_mask _ _ _ h.2.2.2.2.2.2.2.2.2.2.2.2.1) (real_of_mask _ _ _ h.2.2.2.2.2.2.2.2.2.2.2.2.2.1) (real_of_mask _ _ _ h.2.2.2.2.2.2.2.2.2.2.2.2.2.2.1) (real_of_mask _ _ _ h.2.2.2.2.2.2.2.2.2.2.2.2.2.2.2)

end Cert.Block

end
-- ==== Proof.GridEqual.lean ====
/- The grid reference computes what the kernel computes. -/
module

public import proofs.«01_k».proof.Defs
public import proofs.«01_k».proof.Proof.KRun
public import proofs.«01_k».proof.Proof.GridRun
public import proofs.«01_k».proof.Proof.Finite

@[expose] public section

set_option maxRecDepth 16384

noncomputable section

namespace Cert.Block

open Idealize.ShloMosaic Idealize.ShloMosaic.TcCoe Idealize.SL.Sem

/-- The tokens at launch. -/
def tokens (m : (ℓ : Loc Cert.KernelIdeal.nD Cert.KernelIdeal.τ Cert.KernelIdeal.sig) → Buf (Elt Ideal) ℓ) (c : Dev Cert.KernelIdeal.nD) : Fin 2048 → Fin 768 → ℝ :=
  tokensOf (m ((c.tc : Thread Cert.KernelIdeal.nD Cert.KernelIdeal.τ).loc Cert.KernelIdeal.main_arg0))

/-- The parameters at launch. -/
def layers (m : (ℓ : Loc Cert.KernelIdeal.nD Cert.KernelIdeal.τ Cert.KernelIdeal.sig) → Buf (Elt Ideal) ℓ) (c : Dev Cert.KernelIdeal.nD) : Fin 2 → Layer :=
  layersOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))

/-- The kernel's run, at real arguments. -/
theorem kernel_value (m : (ℓ : Loc Cert.KernelIdeal.nD Cert.KernelIdeal.τ Cert.KernelIdeal.sig) → Buf (Elt Ideal) ℓ) (ρ : Dev Cert.KernelIdeal.nD → PrngReg)
    (h : ∀ c, KArgs m c (tokens m c) (layers m c)) (c : Dev Cert.KernelIdeal.nD) :
    Cert.KernelIdeal.Gen.W13 m ρ c (Proc.devRef .tc Cert.KernelIdeal.main_v109) = blockArray (layers m c) (tokens m c) :=
  kernel_result (h c)

theorem grid_equal : Cert.algebraic_KernelIdeal_GridIdeal_pre_finite := by
  intro m ρ m' ρ' hp he
  have hr : ∀ c, KArgs m c (tokens m c) (layers m c) := fun c => real16_of_finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hp c)
  refine ⟨fun c => blockArray (layers m c) (tokens m c), ?_, ?_⟩
  · exact (θ_run (Cert.KernelIdeal.defs (F := Ideal)) _ _).mono
      (fun r q c => ⟨(q c).1.trans (kernel_value m ρ hr c), (q c).2⟩) (run_contents m ρ)
  · refine Grid.run_value m' ρ' (x := fun c => tokens m c) (p := fun c => layers m c) fun c => ?_
    obtain ⟨e0, e1, e2, e3, e4, e5, e6, e7, e8, e9, e10, e11, e12, e13, e14, e15⟩ := he c
    rw [e0, e1, e2, e3, e4, e5, e6, e7, e8, e9, e10, e11, e12, e13, e14, e15]
    exact hr c

end Cert.Block

end
-- ==== Proof.RefBias.lean ====
/- The exact reference's bias: zero at the row's first 99 keys, minus infinity elsewhere. -/
module

public import proofs.«01_k».proof.Proof.RefOps
public import proofs.«01_k».proof.Proof.Gen.ReferenceIdeal
public import Idealize.ShloMosaic.Lib.Routing.OpsSet
public import Idealize.ShloMosaic.Lib.Routing.OpsPair

@[expose] public section

set_option maxRecDepth 16384

noncomputable section

namespace Cert.Block

open Idealize.ShloMosaic Idealize.ShloMosaic.TcCoe Idealize.SL.Sem
open Cert.ReferenceIdeal Cert.ReferenceIdeal.Gen Idealize.ShloMosaic.Routing

/-- The word of a small number is not negative. -/
theorem not_slt (q : ℕ) (hq : q < 2048) : ¬ (BitVec.ofNat 32 q).slt 0#32 := by
  simp [BitVec.slt, BitVec.toInt_eq_toNat_cond]
  omega

theorem toInt_small (q : ℕ) (hq : q < 2048) : (BitVec.ofNat 32 q).toInt = (q : ℤ) := by
  simp [BitVec.toInt_eq_toNat_cond]
  omega

theorem head_word (k : Fin 12) (n : Fin 2048) (i : Fin 99) :
    ((broadcastInDim S12x2048x99x1 ![0, 1, 2] bcast_S12x2048x99_S12x2048x99x1_0_1_2 (broadcastInDim S12x2048x99 ![0, 1, 2] bcast_S12x1x1_S12x2048x99_0_1_2 (select (cmpi .slt (broadcastInDim S12x1x1 ![0] bcast_S12_S12x1x1_0 (iotaInDim S12 32 0)) (broadcastInDim S12x1x1 ![] bcast_S_S12x1x1 (constantI S_ 32 0#32))) (addi (broadcastInDim S12x1x1 ![0] bcast_S12_S12x1x1_0 (iotaInDim S12 32 0)) (broadcastInDim S12x1x1 ![] bcast_S_S12x1x1 (constantI S_ 32 12#32))) (broadcastInDim S12x1x1 ![0] bcast_S12_S12x1x1_0 (iotaInDim S12 32 0))))) : (⟨S12x2048x99x1, .i32⟩ : BufTy).Contents (Elt Ideal)) (ix4 k n i 0) = BitVec.ofNat 32 k := by
  pointwise []
  exact wrap_of_lt _ _ (by simp; omega)

theorem query_word (k : Fin 12) (n : Fin 2048) (i : Fin 99) :
    ((broadcastInDim S12x2048x99x1 ![0, 1, 2] bcast_S12x2048x99_S12x2048x99x1_0_1_2 (broadcastInDim S12x2048x99 ![0, 1, 2] bcast_S1x2048x1_S12x2048x99_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S12x2048x99x1, .i32⟩ : BufTy).Contents (Elt Ideal)) (ix4 k n i 0) = BitVec.ofNat 32 n := by
  pointwise []
  exact wrap_of_lt _ _ (by simp; omega)

theorem key_word (IX : IVec S12x2048x99 32) {Ir : Fin 12 → Fin 2048 → Fin 99 → Fin 2048} (hIX : ∀ k n i, IX (ix3 k n i) = BitVec.ofNat 32 (Ir k n i))
    (k : Fin 12) (n : Fin 2048) (i : Fin 99) :
    ((broadcastInDim S12x2048x99x1 ![0, 1, 2] bcast_S12x2048x99_S12x2048x99x1_0_1_2 (select (cmpi .slt IX (broadcastInDim S12x2048x99 ![] bcast_S_S12x2048x99 (constantI S_ 32 0#32))) (addi IX (broadcastInDim S12x2048x99 ![] bcast_S_S12x2048x99 (constantI S_ 32 2048#32))) IX)) : (⟨S12x2048x99x1, .i32⟩ : BufTy).Contents (Elt Ideal)) (ix4 k n i 0) = BitVec.ofNat 32 (Ir k n i) := by
  pointwise [hIX]
  exact wrap_of_lt _ _ (by simp; omega)

/-- The three columns of the scatter's indices. -/
theorem cols (x0 x1 x2 : IVec S12x2048x99x1 32) (k : Fin 12) (n : Fin 2048) (i : Fin 99) :
    let C := concatenate S12x2048x99x3 3 [⟨S12x2048x99x1, x0⟩, ⟨S12x2048x99x1, x1⟩, ⟨S12x2048x99x1, x2⟩] concatenates_S12x2048x99x1_S12x2048x99x1_S12x2048x99x1_S12x2048x99x3_d3
    C (ix4 k n i 0) = x0 (ix4 k n i 0) ∧ C (ix4 k n i 1) = x1 (ix4 k n i 0) ∧ C (ix4 k n i 2) = x2 (ix4 k n i 0) := by
  refine ⟨?_, ?_, ?_⟩ <;> pointwise []

abbrev dims := scatter_S12x2048x2048_S12x2048x99x3_S12x2048x99_n_012_012_3

theorem window_dims (j : S12x2048x99.Idx) (a : Fin 3) : dims.window j a = 0 := by
  unfold ScatterDims.window
  exact dif_neg fun h => (of_decide_eq_true (List.mem_filter.1 h).2) (by fin_cases a <;> decide)

theorem start_dims (k : Fin 12) (n : Fin 2048) (i : Fin 99) (idx : IVec S12x2048x99x3 32) (a : Fin 3) :
    dims.start (ix3 k n i) idx a = (idx (ix4 k n i a)).toInt := by
  have hm : a ∈ dims.scatterDimsToOperandDims := by fin_cases a <;> decide
  unfold ScatterDims.start
  rw [dif_pos hm]
  refine congrArg (fun q => (idx q).toInt) ?_
  funext b
  fin_cases a <;> fin_cases b <;> rfl

/-- The update `(k', n', i)` lands at `(k, n, m)` when its words say so. -/
theorem lands_dims (k' : Fin 12) (n' : Fin 2048) (i : Fin 99) (idx : IVec S12x2048x99x3 32) (k : Fin 12) (n m : Fin 2048) :
    dims.resultIdx? (ix3 k' n' i) idx = some (ix3 k n m)
      ↔ (idx (ix4 k' n' i 0)).toInt = k.val ∧ (idx (ix4 k' n' i 1)).toInt = n.val ∧ (idx (ix4 k' n' i 2)).toInt = m.val := by
  rw [resultIdx?_eq_some]
  simp only [window_dims, start_dims]
  constructor
  · intro h
    exact ⟨by simpa using h 0, by simpa using h 1, by simpa using h 2⟩
  · rintro ⟨h0, h1, h2⟩ a
    fin_cases a
    · simpa using h0
    · simpa using h1
    · simpa using h2

open Classical in
theorem bias_of (LG : FVec Ideal S12x2048x2048 .f32) (IX : IVec S12x2048x99 32) {Lr : Fin 12 → Fin 2048 → Fin 2048 → ℝ}
    {Ir : Fin 12 → Fin 2048 → Fin 99 → Fin 2048} (hLG : ∀ k n m, LG (ix3 k n m) = ((Lr k n m : ℝ) : EReal))
    (hIX : ∀ k n i, IX (ix3 k n i) = BitVec.ofNat 32 (Ir k n i)) (k : Fin 12) (n m : Fin 2048) :
    (addf LG (Host.scatter scatter_S12x2048x2048_S12x2048x99x3_S12x2048x99_n_012_012_3 (fun _ b => b) (broadcastInDim S12x2048x2048 ![] bcast_S_S12x2048x2048 (constant S_ .f32 0xFF800000#32)) ((concatenate S12x2048x99x3 3 [⟨S12x2048x99x1, ((broadcastInDim S12x2048x99x1 ![0, 1, 2] bcast_S12x2048x99_S12x2048x99x1_0_1_2 (broadcastInDim S12x2048x99 ![0, 1, 2] bcast_S12x1x1_S12x2048x99_0_1_2 (select (cmpi .slt (broadcastInDim S12x1x1 ![0] bcast_S12_S12x1x1_0 (iotaInDim S12 32 0)) (broadcastInDim S12x1x1 ![] bcast_S_S12x1x1 (constantI S_ 32 0#32))) (addi (broadcastInDim S12x1x1 ![0] bcast_S12_S12x1x1_0 (iotaInDim S12 32 0)) (broadcastInDim S12x1x1 ![] bcast_S_S12x1x1 (constantI S_ 32 12#32))) (broadcastInDim S12x1x1 ![0] bcast_S12_S12x1x1_0 (iotaInDim S12 32 0))))) : (⟨S12x2048x99x1, .i32⟩ : BufTy).Contents (Elt Ideal))⟩, ⟨S12x2048x99x1, ((broadcastInDim S12x2048x99x1 ![0, 1, 2] bcast_S12x2048x99_S12x2048x99x1_0_1_2 (broadcastInDim S12x2048x99 ![0, 1, 2] bcast_S1x2048x1_S12x2048x99_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S12x2048x99x1, .i32⟩ : BufTy).Contents (Elt Ideal))⟩, ⟨S12x2048x99x1, ((broadcastInDim S12x2048x99x1 ![0, 1, 2] bcast_S12x2048x99_S12x2048x99x1_0_1_2 (select (cmpi .slt IX (broadcastInDim S12x2048x99 ![] bcast_S_S12x2048x99 (constantI S_ 32 0#32))) (addi IX (broadcastInDim S12x2048x99 ![] bcast_S_S12x2048x99 (constantI S_ 32 2048#32))) IX)) : (⟨S12x2048x99x1, .i32⟩ : BufTy).Contents (Elt Ideal))⟩] concatenates_S12x2048x99x1_S12x2048x99x1_S12x2048x99x1_S12x2048x99x3_d3 : (⟨S12x2048x99x3, .i32⟩ : BufTy).Contents (Elt Ideal))) (broadcastInDim S12x2048x99 ![] bcast_S_S12x2048x99 (constant S_ .f32 0x00000000#32))) : FVec Ideal S12x2048x2048 .f32) (ix3 k n m)
      = if ∃ i, Ir k n i = m then ((Lr k n m : ℝ) : EReal) else ⊥ := by
  refine (congrArg₂ (fun a b : EReal => a + b) (hLG k n m) (?_ : _ = if ∃ i, Ir k n i = m then (0 : EReal) else ⊥)).trans (add_bias _ _)
  have hw : ∀ (k' : Fin 12) (n' : Fin 2048) (i : Fin 99), dims.resultIdx? (ix3 k' n' i) ((concatenate S12x2048x99x3 3 [⟨S12x2048x99x1, ((broadcastInDim S12x2048x99x1 ![0, 1, 2] bcast_S12x2048x99_S12x2048x99x1_0_1_2 (broadcastInDim S12x2048x99 ![0, 1, 2] bcast_S12x1x1_S12x2048x99_0_1_2 (select (cmpi .slt (broadcastInDim S12x1x1 ![0] bcast_S12_S12x1x1_0 (iotaInDim S12 32 0)) (broadcastInDim S12x1x1 ![] bcast_S_S12x1x1 (constantI S_ 32 0#32))) (addi (broadcastInDim S12x1x1 ![0] bcast_S12_S12x1x1_0 (iotaInDim S12 32 0)) (broadcastInDim S12x1x1 ![] bcast_S_S12x1x1 (constantI S_ 32 12#32))) (broadcastInDim S12x1x1 ![0] bcast_S12_S12x1x1_0 (iotaInDim S12 32 0))))) : (⟨S12x2048x99x1, .i32⟩ : BufTy).Contents (Elt Ideal))⟩, ⟨S12x2048x99x1, ((broadcastInDim S12x2048x99x1 ![0, 1, 2] bcast_S12x2048x99_S12x2048x99x1_0_1_2 (broadcastInDim S12x2048x99 ![0, 1, 2] bcast_S1x2048x1_S12x2048x99_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S12x2048x99x1, .i32⟩ : BufTy).Contents (Elt Ideal))⟩, ⟨S12x2048x99x1, ((broadcastInDim S12x2048x99x1 ![0, 1, 2] bcast_S12x2048x99_S12x2048x99x1_0_1_2 (select (cmpi .slt IX (broadcastInDim S12x2048x99 ![] bcast_S_S12x2048x99 (constantI S_ 32 0#32))) (addi IX (broadcastInDim S12x2048x99 ![] bcast_S_S12x2048x99 (constantI S_ 32 2048#32))) IX)) : (⟨S12x2048x99x1, .i32⟩ : BufTy).Contents (Elt Ideal))⟩] concatenates_S12x2048x99x1_S12x2048x99x1_S12x2048x99x1_S12x2048x99x3_d3 : (⟨S12x2048x99x3, .i32⟩ : BufTy).Contents (Elt Ideal))) = some (ix3 k n m)
      ↔ k' = k ∧ n' = n ∧ Ir k' n' i = m := fun k' n' i => by
    rw [lands_dims]
    obtain ⟨e0, e1, e2⟩ := cols ((broadcastInDim S12x2048x99x1 ![0, 1, 2] bcast_S12x2048x99_S12x2048x99x1_0_1_2 (broadcastInDim S12x2048x99 ![0, 1, 2] bcast_S12x1x1_S12x2048x99_0_1_2 (select (cmpi .slt (broadcastInDim S12x1x1 ![0] bcast_S12_S12x1x1_0 (iotaInDim S12 32 0)) (broadcastInDim S12x1x1 ![] bcast_S_S12x1x1 (constantI S_ 32 0#32))) (addi (broadcastInDim S12x1x1 ![0] bcast_S12_S12x1x1_0 (iotaInDim S12 32 0)) (broadcastInDim S12x1x1 ![] bcast_S_S12x1x1 (constantI S_ 32 12#32))) (broadcastInDim S12x1x1 ![0] bcast_S12_S12x1x1_0 (iotaInDim S12 32 0))))) : (⟨S12x2048x99x1, .i32⟩ : BufTy).Contents (Elt Ideal)) ((broadcastInDim S12x2048x99x1 ![0, 1, 2] bcast_S12x2048x99_S12x2048x99x1_0_1_2 (broadcastInDim S12x2048x99 ![0, 1, 2] bcast_S1x2048x1_S12x2048x99_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S12x2048x99x1, .i32⟩ : BufTy).Contents (Elt Ideal)) ((broadcastInDim S12x2048x99x1 ![0, 1, 2] bcast_S12x2048x99_S12x2048x99x1_0_1_2 (select (cmpi .slt IX (broadcastInDim S12x2048x99 ![] bcast_S_S12x2048x99 (constantI S_ 32 0#32))) (addi IX (broadcastInDim S12x2048x99 ![] bcast_S_S12x2048x99 (constantI S_ 32 2048#32))) IX)) : (⟨S12x2048x99x1, .i32⟩ : BufTy).Contents (Elt Ideal)) k' n' i
    rw [e0, e1, e2, head_word, query_word, key_word IX hIX, toInt_small _ (by omega), toInt_small _ (by omega), toInt_small _ (by omega)]
    simp only [Nat.cast_inj, Fin.ext_iff]
  split
  · next h =>
    obtain ⟨i, hi⟩ := h
    refine scatter_set_hit dims _ _ _ _ 0 (fun q _ => ?_) (ix3 k n i) ((hw k n i).2 ⟨rfl, rfl, hi⟩)
    pointwise []
  · next h =>
    refine (scatter_set_miss dims _ _ _ _ fun q hq => h ?_).trans ?_
    · rw [show q = ix3 (q 0) (q 1) (q 2) from by funext a; fin_cases a <;> rfl] at hq
      obtain ⟨rfl, rfl, e⟩ := (hw (q 0) (q 1) (q 2)).1 hq
      exact ⟨_, e⟩
    · pointwise [cNegInf]

end Cert.Block

end
-- ==== Proof.RefR0.lean ====
/- The first layer of the exact reference, at real arguments. -/
module

public import proofs.«01_k».proof.Proof.RefStages
public import proofs.«01_k».proof.Proof.RefBias
public import proofs.«01_k».proof.Proof.Args
public import proofs.«01_k».proof.Proof.Gen.ReferenceIdeal.Run

@[expose] public section

set_option maxRecDepth 16384

noncomputable section

namespace Cert.Block.R0

open Idealize.ShloMosaic Idealize.ShloMosaic.TcCoe Idealize.SL.Sem
open Cert.ReferenceIdeal Cert.ReferenceIdeal.Gen Cert.ReferenceIdeal.Value

variable (V : Valuation τ sig (Elt Ideal)) {x X : Fin 2048 → Fin 768 → ℝ} {p : Fin 2 → Layer}
  (h : Real16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) x p)
  (hX : ∀ n c, (res_main_v0 V : FVec Ideal S2048x768 .f32) (ix2 n c) = ((X n c : ℝ) : EReal))

include hX in
/-- A token less its mean. -/
theorem c5_at (n : Fin 2048) (c : Fin 768) :
    (res_main_call0_v5 V : FVec Ideal S2048x768 .f32) (ix2 n c) = ((X n c : ℝ) : EReal) - ((mean (X n) : ℝ) : EReal) := by
  unfold res_main_call0_v5
  exact c5_of _ hX n c

theorem c8_at (i : S_.Idx) : (res_main_call0_v8 V : FVec Ideal S_ .f32) i = ((768 : ℝ) : EReal) := by
  unfold res_main_call0_v8
  exact c8_of i

include h hX in
/-- The layer norm. -/
theorem ln_at (n : Fin 2048) (c : Fin 768) :
    (res_main_v48 V : FVec Ideal S2048x768 .f32) (ix2 n c) = ((lnorm (X n) (p 0).g1 (p 0).b1 c : ℝ) : EReal) := by
  unfold res_main_v48
  exact ln_of _ _ _ _ _ hX (c8_at V) (c5_at V hX) (fun c => by pointwise [h.g1]) (fun c => by pointwise [h.b1]) n c

include h hX in
/-- Keys and values. -/
theorem kv_at (n : Fin 2048) (s : Fin 2) (k : Fin 12) (e : Fin 64) :
    (res_main_v58 V : FVec Ideal S2048x2x12x64 .f32) (ix4 n s k e) = (((p 0).kv (X n) ⟨s * 768 + k * 64 + e, by omega⟩ : ℝ) : EReal) := by
  unfold res_main_v58
  exact kv_of _ _ _ (ln_at V h hX) (fun c j => by pointwise [h.wkv]) (fun j => by pointwise [h.bkv]) n s k e

include h hX in
/-- The values. -/
theorem v_at (n : Fin 2048) (k : Fin 12) (e : Fin 64) :
    (res_main_v62 V : FVec Ideal S2048x12x64 .f32) (ix3 n k e) = (((p 0).kv (X n) (chanV k e) : ℝ) : EReal) := by
  unfold res_main_v62
  refine (v_of _ (KVr := fun n s k e => (p 0).kv (X n) ⟨s * 768 + k * 64 + e, by omega⟩) (kv_at V h hX) n k e).trans ?_
  refine congrArg (fun q => (((p 0).kv (X n) q : ℝ) : EReal)) (Fin.ext ?_)
  show 1 * 768 + k.val * 64 + e.val = 768 + (k.val * 64 + e.val)
  omega

theorem k_eq (k : Fin 12) (n : Fin 2048) (e : Fin 64) :
    (p 0).kv (X n) ⟨(0 : Fin 2) * 768 + k * 64 + e, by omega⟩ = (p 0).kv (X n) (chanK k e) := by
  refine congrArg (fun q => (p 0).kv (X n) q) (Fin.ext ?_)
  show 0 * 768 + k.val * 64 + e.val = k.val * 64 + e.val
  omega

include h hX in
/-- The logits. -/
theorem lg_at (k : Fin 12) (n m : Fin 2048) :
    (res_main_v65 V : FVec Ideal S12x2048x2048 .f32) (ix3 k n m) = (((p 0).logits X k n m : ℝ) : EReal) := by
  unfold res_main_v65
  exact lg_of _ _ (Qr := fun n k e => (p 0).q (X n) (chan k e)) (Kr := fun n k e => (p 0).kv (X n) (chanK k e))
    (fun n k e => q_of _ _ _ (ln_at V h hX) (fun c j => by pointwise [h.wq]) (fun j => by pointwise [h.bq]) n k e)
    (fun n k e => (k_of _ (KVr := fun n s k e => (p 0).kv (X n) ⟨s * 768 + k * 64 + e, by omega⟩) (kv_at V h hX) n k e).trans
      (congrArg (fun q : ℝ => (q : EReal)) (k_eq k n e))) k n m

include h hX in
/-- The exponentials of the logits less the greatest. -/
theorem e_at (k : Fin 12) (n m : Fin 2048) :
    (res_main_v70 V : FVec Ideal S12x2048x2048 .f32) (ix3 k n m)
      = ((Real.exp ((p 0).logits X k n m - most ((p 0).logits X k n)) : ℝ) : EReal) := by
  unfold res_main_v70
  refine (e_of _ _ k n m).trans ?_
  rw [lg_at V h hX]
  refine (congrArg (fun q => Ideal.exp ((((p 0).logits X k n m : ℝ) : EReal) - q)) (row_max_coe _ (lg_at V h hX) _ _ k n)).trans ?_
  rw [← EReal.coe_sub, Ideal.exp_coe]

include h hX in
/-- The masked logits. -/
theorem lm_at (hs : ∀ k n, (p 0).logits X k n (ord ((p 0).logits X k n) 99) < cut ((p 0).logits X k n)) (k : Fin 12) (n m : Fin 2048) :
    (res_main_v105 V : FVec Ideal S12x2048x2048 .f32) (ix3 k n m)
      = open Classical in if selCut ((p 0).logits X k n) m then (((p 0).logits X k n m : ℝ) : EReal) else ⊥ := by
  unfold res_main_v105 res_main_v78 res_main_v80 res_main_indices
  refine (bias_of _ _ (Lr := (p 0).logits X) (Ir := fun k n i => ord ((p 0).logits X k n) ⟨i, by omega⟩) (lg_at V h hX)
    (topk_idx _ (lg_at V h hX) _) k n m).trans ?_
  have hm := sel_sorted ((p 0).logits X k n) (ord_injective _) (ord_desc _) (hs k n) m
  classical
  exact if_congr hm.symm rfl rfl

include h hX in
/-- The exponentials of the masked logits less the greatest of them. -/
theorem em_at (hs : ∀ k n, (p 0).logits X k n (ord ((p 0).logits X k n) 99) < cut ((p 0).logits X k n)) (k : Fin 12) (n m : Fin 2048) :
    (res_main_v110 V : FVec Ideal S12x2048x2048 .f32) (ix3 k n m)
      = (((open Classical in if selCut ((p 0).logits X k n) m then Real.exp ((p 0).logits X k n m - topIn (selCut ((p 0).logits X k n)) ((p 0).logits X k n)) else 0 : ℝ)) : EReal) := by
  unfold res_main_v110
  exact em_of _ _ (fun k n => selCut ((p 0).logits X k n)) (Lr := (p 0).logits X) (Mr := fun k n => topIn (selCut ((p 0).logits X k n)) ((p 0).logits X k n)) (lm_at V h hX hs)
    (row_max_masked _ (fun k n => selCut ((p 0).logits X k n)) (fun k n => exists_reach _ (reach_cut ((p 0).logits X k n))) (lm_at V h hX hs) _ _) k n m

include h in
/-- The exponentials of the two weights. -/
theorem wx_at (i : Fin 2) : (res_main_v117 V : FVec Ideal S2 .f32) (ix1 i) = Ideal.exp (((p 0).wc i : ℝ) : EReal) := by
  unfold res_main_v117
  exact wx_of _ (fun i => by pointwise [h.wc]) i

include h in
/-- Their sum. -/
theorem ws_at (i : S_.Idx) : (res_main_v118 V : FVec Ideal S_ .f32) i = Ideal.exp (((p 0).wc 0 : ℝ) : EReal) + Ideal.exp (((p 0).wc 1 : ℝ) : EReal) := by
  unfold res_main_v118
  exact ws_of _ (wx_at V h) i

include h hX in
/-- The projection of the attention, added to the token. -/
theorem at_at (hs : ∀ k n, (p 0).logits X k n (ord ((p 0).logits X k n) 99) < cut ((p 0).logits X k n)) (n : Fin 2048) (c : Fin 768) :
    (res_main_v135 V : FVec Ideal S2048x768 .f32) (ix2 n c)
      = (((p 0).proj (fun c => (p 0).attn selCut X (Layer.head c) (Layer.lane c) n) (X n) c : ℝ) : EReal) := by
  unfold res_main_v135
  refine at_of _ _ _ _ (MXr := fun n k e => (p 0).attn selCut X k e n) hX (fun n k e => ?_) (fun c j => by pointwise [h.pw])
    (fun j => by pointwise [h.pb]) n c
  refine mix_of _ _ _ _ (A1r := (fun n k e => avg (fun _ => True) ((p 0).logits X k n) fun m => (p 0).kv (X m) (chanV k e))) (A2r := (fun n k e => avg (selCut ((p 0).logits X k n)) ((p 0).logits X k n) fun m => (p 0).kv (X m) (chanV k e))) (wx_at V h) (ws_at V h) (fun n k e => ?_) (fun n k e => ?_) n k e
  · refine (av_of _ _ (Vr := fun m k e => (p 0).kv (X m) (chanV k e)) (v_at V h hX) n k e).trans ?_
    simp only [e_at V h hX]
    exact soft_all_coe ((p 0).logits X k n) (fun m => (p 0).kv (X m) (chanV k e)) (most ((p 0).logits X k n))
  · refine (av_of _ _ (Vr := fun m k e => (p 0).kv (X m) (chanV k e)) (v_at V h hX) n k e).trans ?_
    simp only [em_at V h hX hs]
    exact soft_coe ((p 0).logits X k n) (selCut ((p 0).logits X k n)) (exists_reach _ (reach_cut _)) (fun m => (p 0).kv (X m) (chanV k e)) (topIn (selCut ((p 0).logits X k n)) ((p 0).logits X k n))

variable {Y : Fin 2048 → Fin 768 → ℝ} (hY : ∀ n c, (res_main_v135 V : FVec Ideal S2048x768 .f32) (ix2 n c) = ((Y n c : ℝ) : EReal))

include hY in
theorem d5_at (n : Fin 2048) (c : Fin 768) :
    (res_main_call1_v5 V : FVec Ideal S2048x768 .f32) (ix2 n c) = ((Y n c : ℝ) : EReal) - ((mean (Y n) : ℝ) : EReal) := by
  unfold res_main_call1_v5
  exact c5_of _ hY n c

theorem d8_at (i : S_.Idx) : (res_main_call1_v8 V : FVec Ideal S_ .f32) i = ((768 : ℝ) : EReal) := by
  unfold res_main_call1_v8
  exact c8_of i

include h hY in
/-- The hidden units. -/
theorem hid_at (n : Fin 2048) (f : Fin 3072) :
    (res_main_v157 V : FVec Ideal S2048x3072 .f32) (ix2 n f) = (((p 0).hid (Y n) f : ℝ) : EReal) := by
  unfold res_main_v157
  exact hid_of _ _ _ (Yr := fun n => lnorm (Y n) (p 0).g2 (p 0).b2)
    (ln2_of _ _ _ _ _ hY (d8_at V) (d5_at V hY) (fun c => by pointwise [h.g2]) (fun c => by pointwise [h.b2]))
    (fun c j => by pointwise [h.f1w]) (fun j => by pointwise [h.f1b]) n f

include h hY in
theorem s_at (n : Fin 2048) (f : Fin 3072) :
    (res_main_v161 V : FVec Ideal S2048x3072 .f32) (ix2 n f) = (((p 0).hid (Y n) f * cst 0x3F3504F3#32 : ℝ) : EReal) := by
  unfold res_main_v161
  exact s_of _ (Hr := fun n => (p 0).hid (Y n)) (hid_at V h hY) n f

include h hY in
theorem t_at (n : Fin 2048) (f : Fin 3072) :
    (res_main_v168 V : FVec Ideal S2048x3072 .f32) (ix2 n f)
      = ((1 / (1 + cst 0x3EA7BA05#32 * |(p 0).hid (Y n) f * cst 0x3F3504F3#32|) : ℝ) : EReal) := by
  unfold res_main_v168
  exact t_of _ (Sr := fun n f => (p 0).hid (Y n) f * cst 0x3F3504F3#32) (s_at V h hY) n f

theorem t2_at (n : Fin 2048) (f : Fin 3072) :
    (res_main_v169 V : FVec Ideal S2048x3072 .f32) (ix2 n f) = HMul.hMul (α := EReal) (β := EReal) (γ := EReal) ((res_main_v168 V : FVec Ideal S2048x3072 .f32) (ix2 n f)) ((res_main_v168 V : FVec Ideal S2048x3072 .f32) (ix2 n f)) := by
  unfold res_main_v169
  exact t2_of _ n f

theorem t3_at (n : Fin 2048) (f : Fin 3072) :
    (res_main_v170 V : FVec Ideal S2048x3072 .f32) (ix2 n f)
      = HMul.hMul (α := EReal) (β := EReal) (γ := EReal) (HMul.hMul (α := EReal) (β := EReal) (γ := EReal) ((res_main_v168 V : FVec Ideal S2048x3072 .f32) (ix2 n f)) ((res_main_v168 V : FVec Ideal S2048x3072 .f32) (ix2 n f))) ((res_main_v168 V : FVec Ideal S2048x3072 .f32) (ix2 n f)) := by
  unfold res_main_v170
  exact t3_of _ _ (t2_at V) n f

include h hY in
/-- The layer. -/
theorem out_at (n : Fin 2048) (c : Fin 768) :
    (res_main_v202 V : FVec Ideal S2048x768 .f32) (ix2 n c) = (((p 0).post (Y n) c : ℝ) : EReal) := by
  unfold res_main_v202
  exact out_of _ _ _ _ (ACr := fun n f => act ((p 0).hid (Y n) f)) hY (fun n f => ac_of _ _ _ _ _ (Hr := fun n => (p 0).hid (Y n))
      (Sr := fun n f => (p 0).hid (Y n) f * cst 0x3F3504F3#32) (hid_at V h hY) (s_at V h hY) (t_at V h hY) (t2_at V) (t3_at V) n f rfl)
    (fun c j => by pointwise [h.f2w]) (fun j => by pointwise [h.f2b]) n c

end Cert.Block.R0

end
-- ==== Proof.RefR1.lean ====
/- The second layer of the exact reference, at real arguments. -/
module

public import proofs.«01_k».proof.Proof.RefStages
public import proofs.«01_k».proof.Proof.RefBias
public import proofs.«01_k».proof.Proof.Args
public import proofs.«01_k».proof.Proof.Gen.ReferenceIdeal.Run

@[expose] public section

set_option maxRecDepth 16384

noncomputable section

namespace Cert.Block.R1

open Idealize.ShloMosaic Idealize.ShloMosaic.TcCoe Idealize.SL.Sem
open Cert.ReferenceIdeal Cert.ReferenceIdeal.Gen Cert.ReferenceIdeal.Value

section
variable {F : FTy → Type} [FloatOps F]
/-- The second layer's result. -/
def last (V : Valuation τ sig (Elt F)) : (Proc.devRef .tc main_v202 : DevRef τ sig).ty.Contents (Elt F) :=
  addf (res_main_v337 V) (addf (Host.dotGeneral dot_S2048x3072_S3072x768_S2048x768_1_0_0_1_n_n none (mulf (mulf (broadcastInDim S2048x3072 ![] bcast_S_S2048x3072 (constant S_ .f32 0x3F000000#32)) (res_main_v359 V)) (addf (broadcastInDim S2048x3072 ![] bcast_S_S2048x3072 (constant S_ .f32 0x3F800000#32)) (mulf (Host.sign (res_main_v363 V)) (subf (broadcastInDim S2048x3072 ![] bcast_S_S2048x3072 (constant S_ .f32 0x3F800000#32)) (mulf (addf (addf (addf (addf (mulf (broadcastInDim S2048x3072 ![] bcast_S_S2048x3072 (constant S_ .f32 0x3E827906#32)) (res_main_v370 V)) (mulf (broadcastInDim S2048x3072 ![] bcast_S_S2048x3072 (constant S_ .f32 0xBE91A98E#32)) (res_main_v371 V))) (mulf (broadcastInDim S2048x3072 ![] bcast_S_S2048x3072 (constant S_ .f32 0x3FB5F0E3#32)) (res_main_v372 V))) (mulf (broadcastInDim S2048x3072 ![] bcast_S_S2048x3072 (constant S_ .f32 0xBFBA00E3#32)) (mulf (res_main_v371 V) (res_main_v371 V)))) (mulf (broadcastInDim S2048x3072 ![] bcast_S_S2048x3072 (constant S_ .f32 0x3F87DC22#32)) (mulf (res_main_v372 V) (res_main_v371 V)))) (Host.exp (Host.negf (mulf (res_main_v363 V) (res_main_v363 V))))))))) (shapeCast _ (extractStridedSlice S1x3072x768 ![1, 0, 0] (V (Proc.devRef .tc main_arg14)) slices_S2x3072x768_S1x3072x768_1_0_0) shapeCasts_S1x3072x768_S3072x768)) (broadcastInDim S2048x768 ![0, 1] bcast_S1x768_S2048x768_0_1 (broadcastInDim S1x768 ![1] bcast_S768_S1x768_1 (shapeCast _ (extractStridedSlice S1x768 ![1, 0] (V (Proc.devRef .tc main_arg15)) slices_S2x768_S1x768_1_0) shapeCasts_S1x768_S768))))
end

variable (V : Valuation τ sig (Elt Ideal)) {x X : Fin 2048 → Fin 768 → ℝ} {p : Fin 2 → Layer}
  (h : Real16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) x p)
  (hX : ∀ n c, (res_main_v202 V : FVec Ideal S2048x768 .f32) (ix2 n c) = ((X n c : ℝ) : EReal))

include hX in
/-- A token less its mean. -/
theorem c5_at (n : Fin 2048) (c : Fin 768) :
    (res_main_call2_v5 V : FVec Ideal S2048x768 .f32) (ix2 n c) = ((X n c : ℝ) : EReal) - ((mean (X n) : ℝ) : EReal) := by
  unfold res_main_call2_v5
  exact c5_of _ hX n c

theorem c8_at (i : S_.Idx) : (res_main_call2_v8 V : FVec Ideal S_ .f32) i = ((768 : ℝ) : EReal) := by
  unfold res_main_call2_v8
  exact c8_of i

include h hX in
/-- The layer norm. -/
theorem ln_at (n : Fin 2048) (c : Fin 768) :
    (res_main_v250 V : FVec Ideal S2048x768 .f32) (ix2 n c) = ((lnorm (X n) (p 1).g1 (p 1).b1 c : ℝ) : EReal) := by
  unfold res_main_v250
  exact ln_of _ _ _ _ _ hX (c8_at V) (c5_at V hX) (fun c => by pointwise [h.g1]) (fun c => by pointwise [h.b1]) n c

include h hX in
/-- Keys and values. -/
theorem kv_at (n : Fin 2048) (s : Fin 2) (k : Fin 12) (e : Fin 64) :
    (res_main_v260 V : FVec Ideal S2048x2x12x64 .f32) (ix4 n s k e) = (((p 1).kv (X n) ⟨s * 768 + k * 64 + e, by omega⟩ : ℝ) : EReal) := by
  unfold res_main_v260
  exact kv_of _ _ _ (ln_at V h hX) (fun c j => by pointwise [h.wkv]) (fun j => by pointwise [h.bkv]) n s k e

include h hX in
/-- The values. -/
theorem v_at (n : Fin 2048) (k : Fin 12) (e : Fin 64) :
    (res_main_v264 V : FVec Ideal S2048x12x64 .f32) (ix3 n k e) = (((p 1).kv (X n) (chanV k e) : ℝ) : EReal) := by
  unfold res_main_v264
  refine (v_of _ (KVr := fun n s k e => (p 1).kv (X n) ⟨s * 768 + k * 64 + e, by omega⟩) (kv_at V h hX) n k e).trans ?_
  refine congrArg (fun q => (((p 1).kv (X n) q : ℝ) : EReal)) (Fin.ext ?_)
  show 1 * 768 + k.val * 64 + e.val = 768 + (k.val * 64 + e.val)
  omega

theorem k_eq (k : Fin 12) (n : Fin 2048) (e : Fin 64) :
    (p 1).kv (X n) ⟨(0 : Fin 2) * 768 + k * 64 + e, by omega⟩ = (p 1).kv (X n) (chanK k e) := by
  refine congrArg (fun q => (p 1).kv (X n) q) (Fin.ext ?_)
  show 0 * 768 + k.val * 64 + e.val = k.val * 64 + e.val
  omega

include h hX in
/-- The logits. -/
theorem lg_at (k : Fin 12) (n m : Fin 2048) :
    (res_main_v267 V : FVec Ideal S12x2048x2048 .f32) (ix3 k n m) = (((p 1).logits X k n m : ℝ) : EReal) := by
  unfold res_main_v267
  exact lg_of _ _ (Qr := fun n k e => (p 1).q (X n) (chan k e)) (Kr := fun n k e => (p 1).kv (X n) (chanK k e))
    (fun n k e => q_of _ _ _ (ln_at V h hX) (fun c j => by pointwise [h.wq]) (fun j => by pointwise [h.bq]) n k e)
    (fun n k e => (k_of _ (KVr := fun n s k e => (p 1).kv (X n) ⟨s * 768 + k * 64 + e, by omega⟩) (kv_at V h hX) n k e).trans
      (congrArg (fun q : ℝ => (q : EReal)) (k_eq k n e))) k n m

include h hX in
/-- The exponentials of the logits less the greatest. -/
theorem e_at (k : Fin 12) (n m : Fin 2048) :
    (res_main_v272 V : FVec Ideal S12x2048x2048 .f32) (ix3 k n m)
      = ((Real.exp ((p 1).logits X k n m - most ((p 1).logits X k n)) : ℝ) : EReal) := by
  unfold res_main_v272
  refine (e_of _ _ k n m).trans ?_
  rw [lg_at V h hX]
  refine (congrArg (fun q => Ideal.exp ((((p 1).logits X k n m : ℝ) : EReal) - q)) (row_max_coe _ (lg_at V h hX) _ _ k n)).trans ?_
  rw [← EReal.coe_sub, Ideal.exp_coe]

include h hX in
/-- The masked logits. -/
theorem lm_at (hs : ∀ k n, (p 1).logits X k n (ord ((p 1).logits X k n) 99) < cut ((p 1).logits X k n)) (k : Fin 12) (n m : Fin 2048) :
    (res_main_v307 V : FVec Ideal S12x2048x2048 .f32) (ix3 k n m)
      = open Classical in if selCut ((p 1).logits X k n) m then (((p 1).logits X k n m : ℝ) : EReal) else ⊥ := by
  unfold res_main_v307 res_main_v280 res_main_v282 res_main_indices_40
  refine (bias_of _ _ (Lr := (p 1).logits X) (Ir := fun k n i => ord ((p 1).logits X k n) ⟨i, by omega⟩) (lg_at V h hX)
    (topk_idx _ (lg_at V h hX) _) k n m).trans ?_
  have hm := sel_sorted ((p 1).logits X k n) (ord_injective _) (ord_desc _) (hs k n) m
  classical
  exact if_congr hm.symm rfl rfl

include h hX in
/-- The exponentials of the masked logits less the greatest of them. -/
theorem em_at (hs : ∀ k n, (p 1).logits X k n (ord ((p 1).logits X k n) 99) < cut ((p 1).logits X k n)) (k : Fin 12) (n m : Fin 2048) :
    (res_main_v312 V : FVec Ideal S12x2048x2048 .f32) (ix3 k n m)
      = (((open Classical in if selCut ((p 1).logits X k n) m then Real.exp ((p 1).logits X k n m - topIn (selCut ((p 1).logits X k n)) ((p 1).logits X k n)) else 0 : ℝ)) : EReal) := by
  unfold res_main_v312
  exact em_of _ _ (fun k n => selCut ((p 1).logits X k n)) (Lr := (p 1).logits X) (Mr := fun k n => topIn (selCut ((p 1).logits X k n)) ((p 1).logits X k n)) (lm_at V h hX hs)
    (row_max_masked _ (fun k n => selCut ((p 1).logits X k n)) (fun k n => exists_reach _ (reach_cut ((p 1).logits X k n))) (lm_at V h hX hs) _ _) k n m

include h in
/-- The exponentials of the two weights. -/
theorem wx_at (i : Fin 2) : (res_main_v319 V : FVec Ideal S2 .f32) (ix1 i) = Ideal.exp (((p 1).wc i : ℝ) : EReal) := by
  unfold res_main_v319
  exact wx_of _ (fun i => by pointwise [h.wc]) i

include h in
/-- Their sum. -/
theorem ws_at (i : S_.Idx) : (res_main_v320 V : FVec Ideal S_ .f32) i = Ideal.exp (((p 1).wc 0 : ℝ) : EReal) + Ideal.exp (((p 1).wc 1 : ℝ) : EReal) := by
  unfold res_main_v320
  exact ws_of _ (wx_at V h) i

include h hX in
/-- The projection of the attention, added to the token. -/
theorem at_at (hs : ∀ k n, (p 1).logits X k n (ord ((p 1).logits X k n) 99) < cut ((p 1).logits X k n)) (n : Fin 2048) (c : Fin 768) :
    (res_main_v337 V : FVec Ideal S2048x768 .f32) (ix2 n c)
      = (((p 1).proj (fun c => (p 1).attn selCut X (Layer.head c) (Layer.lane c) n) (X n) c : ℝ) : EReal) := by
  unfold res_main_v337
  refine at_of _ _ _ _ (MXr := fun n k e => (p 1).attn selCut X k e n) hX (fun n k e => ?_) (fun c j => by pointwise [h.pw])
    (fun j => by pointwise [h.pb]) n c
  refine mix_of _ _ _ _ (A1r := (fun n k e => avg (fun _ => True) ((p 1).logits X k n) fun m => (p 1).kv (X m) (chanV k e))) (A2r := (fun n k e => avg (selCut ((p 1).logits X k n)) ((p 1).logits X k n) fun m => (p 1).kv (X m) (chanV k e))) (wx_at V h) (ws_at V h) (fun n k e => ?_) (fun n k e => ?_) n k e
  · refine (av_of _ _ (Vr := fun m k e => (p 1).kv (X m) (chanV k e)) (v_at V h hX) n k e).trans ?_
    simp only [e_at V h hX]
    exact soft_all_coe ((p 1).logits X k n) (fun m => (p 1).kv (X m) (chanV k e)) (most ((p 1).logits X k n))
  · refine (av_of _ _ (Vr := fun m k e => (p 1).kv (X m) (chanV k e)) (v_at V h hX) n k e).trans ?_
    simp only [em_at V h hX hs]
    exact soft_coe ((p 1).logits X k n) (selCut ((p 1).logits X k n)) (exists_reach _ (reach_cut _)) (fun m => (p 1).kv (X m) (chanV k e)) (topIn (selCut ((p 1).logits X k n)) ((p 1).logits X k n))

variable {Y : Fin 2048 → Fin 768 → ℝ} (hY : ∀ n c, (res_main_v337 V : FVec Ideal S2048x768 .f32) (ix2 n c) = ((Y n c : ℝ) : EReal))

include hY in
theorem d5_at (n : Fin 2048) (c : Fin 768) :
    (res_main_call3_v5 V : FVec Ideal S2048x768 .f32) (ix2 n c) = ((Y n c : ℝ) : EReal) - ((mean (Y n) : ℝ) : EReal) := by
  unfold res_main_call3_v5
  exact c5_of _ hY n c

theorem d8_at (i : S_.Idx) : (res_main_call3_v8 V : FVec Ideal S_ .f32) i = ((768 : ℝ) : EReal) := by
  unfold res_main_call3_v8
  exact c8_of i

include h hY in
/-- The hidden units. -/
theorem hid_at (n : Fin 2048) (f : Fin 3072) :
    (res_main_v359 V : FVec Ideal S2048x3072 .f32) (ix2 n f) = (((p 1).hid (Y n) f : ℝ) : EReal) := by
  unfold res_main_v359
  exact hid_of _ _ _ (Yr := fun n => lnorm (Y n) (p 1).g2 (p 1).b2)
    (ln2_of _ _ _ _ _ hY (d8_at V) (d5_at V hY) (fun c => by pointwise [h.g2]) (fun c => by pointwise [h.b2]))
    (fun c j => by pointwise [h.f1w]) (fun j => by pointwise [h.f1b]) n f

include h hY in
theorem s_at (n : Fin 2048) (f : Fin 3072) :
    (res_main_v363 V : FVec Ideal S2048x3072 .f32) (ix2 n f) = (((p 1).hid (Y n) f * cst 0x3F3504F3#32 : ℝ) : EReal) := by
  unfold res_main_v363
  exact s_of _ (Hr := fun n => (p 1).hid (Y n)) (hid_at V h hY) n f

include h hY in
theorem t_at (n : Fin 2048) (f : Fin 3072) :
    (res_main_v370 V : FVec Ideal S2048x3072 .f32) (ix2 n f)
      = ((1 / (1 + cst 0x3EA7BA05#32 * |(p 1).hid (Y n) f * cst 0x3F3504F3#32|) : ℝ) : EReal) := by
  unfold res_main_v370
  exact t_of _ (Sr := fun n f => (p 1).hid (Y n) f * cst 0x3F3504F3#32) (s_at V h hY) n f

theorem t2_at (n : Fin 2048) (f : Fin 3072) :
    (res_main_v371 V : FVec Ideal S2048x3072 .f32) (ix2 n f) = HMul.hMul (α := EReal) (β := EReal) (γ := EReal) ((res_main_v370 V : FVec Ideal S2048x3072 .f32) (ix2 n f)) ((res_main_v370 V : FVec Ideal S2048x3072 .f32) (ix2 n f)) := by
  unfold res_main_v371
  exact t2_of _ n f

theorem t3_at (n : Fin 2048) (f : Fin 3072) :
    (res_main_v372 V : FVec Ideal S2048x3072 .f32) (ix2 n f)
      = HMul.hMul (α := EReal) (β := EReal) (γ := EReal) (HMul.hMul (α := EReal) (β := EReal) (γ := EReal) ((res_main_v370 V : FVec Ideal S2048x3072 .f32) (ix2 n f)) ((res_main_v370 V : FVec Ideal S2048x3072 .f32) (ix2 n f))) ((res_main_v370 V : FVec Ideal S2048x3072 .f32) (ix2 n f)) := by
  unfold res_main_v372
  exact t3_of _ _ (t2_at V) n f

include h hY in
/-- The layer. -/
theorem out_at (n : Fin 2048) (c : Fin 768) :
    (last V : FVec Ideal S2048x768 .f32) (ix2 n c) = (((p 1).post (Y n) c : ℝ) : EReal) := by
  unfold last
  exact out_of _ _ _ _ (ACr := fun n f => act ((p 1).hid (Y n) f)) hY (fun n f => ac_of _ _ _ _ _ (Hr := fun n => (p 1).hid (Y n))
      (Sr := fun n f => (p 1).hid (Y n) f * cst 0x3F3504F3#32) (hid_at V h hY) (s_at V h hY) (t_at V h hY) (t2_at V) (t3_at V) n f rfl)
    (fun c j => by pointwise [h.f2w]) (fun j => by pointwise [h.f2b]) n c

end Cert.Block.R1

end
-- ==== Proof.ExactRun.lean ====
/- The exact reference's run ends with the two layers' result. -/
module

public import proofs.«01_k».proof.Proof.RefR0
public import proofs.«01_k».proof.Proof.RefR1

@[expose] public section

set_option maxRecDepth 16384

noncomputable section

namespace Cert.Block.Exact

open Idealize.ShloMosaic Idealize.ShloMosaic.TcCoe Idealize.SL.Sem
open Cert.ReferenceIdeal Cert.ReferenceIdeal.Gen Cert.ReferenceIdeal.Value

/-- In both layers, for every query, the hundredth key in the order of the logits stays below the threshold. -/
def Separated (p : Fin 2 → Layer) (x : Fin 2048 → Fin 768 → ℝ) : Prop :=
  (∀ k n, (p 0).logits x k n (ord ((p 0).logits x k n) 99) < cut ((p 0).logits x k n))
    ∧ ∀ k n, (p 1).logits ((p 0).out selCut x) k n (ord ((p 1).logits ((p 0).out selCut x) k n) 99)
      < cut ((p 1).logits ((p 0).out selCut x) k n)

/-- The batch axis dropped at entry. -/
theorem x_of (A : FVec Ideal S1x2048x768 .f32) {X : Fin 2048 → Fin 768 → ℝ} (hA : ∀ n c, A (ix3 0 n c) = ((X n c : ℝ) : EReal))
    (n : Fin 2048) (c : Fin 768) :
    (shapeCast S2048x768 A shapeCasts_S1x2048x768_S2048x768 : FVec Ideal S2048x768 .f32) (ix2 n c) = ((X n c : ℝ) : EReal) := by
  pointwise [hA]

/-- The batch axis put back at the end. -/
theorem y_of (A : FVec Ideal S2048x768 .f32) {X : Fin 2048 → Fin 768 → ℝ} (hA : ∀ n c, A (ix2 n c) = ((X n c : ℝ) : EReal)) :
    (broadcastInDim S1x2048x768 ![1, 2] bcast_S2048x768_S1x2048x768_1_2 A : FVec Ideal S1x2048x768 .f32)
      = fun i => ((X (i 1) (i 2) : ℝ) : EReal) := by
  funext i
  have hi : i = ix3 (i 0) (i 1) (i 2) := by funext a; fin_cases a <;> rfl
  rw [hi]
  pointwise [hA]

variable (V : Valuation τ sig (Elt Ideal)) {x : Fin 2048 → Fin 768 → ℝ} {p : Fin 2 → Layer}
  (h : Real16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) x p)

include h in
theorem x_at (n : Fin 2048) (c : Fin 768) : (res_main_v0 V : FVec Ideal S2048x768 .f32) (ix2 n c) = ((x n c : ℝ) : EReal) := by
  unfold res_main_v0
  exact x_of _ h.x n c

include h in
/-- After the first layer. -/
theorem mid_at (hs : Separated p x) (n : Fin 2048) (c : Fin 768) :
    (res_main_v202 V : FVec Ideal S2048x768 .f32) (ix2 n c) = (((p 0).out selCut x n c : ℝ) : EReal) :=
  R0.out_at V h (R0.at_at V h (x_at V h) hs.1) n c

include h in
/-- After the second. -/
theorem last_at (hs : Separated p x) (n : Fin 2048) (c : Fin 768) :
    (R1.last V : FVec Ideal S2048x768 .f32) (ix2 n c) = ((block p x n c : ℝ) : EReal) :=
  R1.out_at V h (R1.at_at V h (mid_at V h hs) hs.2) n c

include h in
theorem result_eq (hs : Separated p x) : (broadcastInDim S1x2048x768 ![1, 2] bcast_S2048x768_S1x2048x768_1_2 (R1.last V : FVec Ideal S2048x768 .f32) : FVec Ideal S1x2048x768 .f32)
      = blockArray p x :=
  y_of _ (last_at V h hs)

/-- The reference's run, at real arguments. -/
theorem run_value (m : (ℓ : Loc nD τ sig) → Buf (Elt Ideal) ℓ) (ρ : Dev nD → PrngReg) {x : Dev nD → Fin 2048 → Fin 768 → ℝ} {p : Dev nD → Fin 2 → Layer}
    (h : ∀ c : Dev nD, Real16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (x c) (p c)) (hs : ∀ c, Separated (p c) (x c)) :
    θ_run (defs (F := Ideal)) (onTc (τ := τ) (main (F := Ideal))) ⟨m, fun _ => 0, ρ⟩ fun r => ∀ c : Dev nD,
      r.2.mem ((c.tc : Thread nD τ).loc main_v405) = (blockArray (p c) (x c) : FVec Ideal S1x2048x768 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (defs (F := Ideal)) _ _).mono (fun _ q c => ⟨(q c).1.trans (result_eq (StableHlo.launchContents m c) (h c) (hs c)), (q c).2⟩)
    (run (F := Ideal) m ρ)

end Cert.Block.Exact

end
-- ==== Proof.SepFn.lean ====
/- The test of separation, in the terms of the exact reference's run. -/
module

public import proofs.«01_k».proof.Proof.Gen.ReferenceIdeal.Run
public import proofs.«01_k».proof.Proof.FactsSeparated

@[expose] public section

set_option maxRecDepth 100000

noncomputable section

namespace Cert.Block.Sep

open Idealize.ShloMosaic Idealize.ShloMosaic.TcCoe Idealize.SL.Sem
open Cert.Pre_separated Cert.Pre_separated.Facts Cert.Pre_separated.Gen
open Cert.ReferenceIdeal (τ sig main_arg0 main_arg1 main_arg2 main_arg3 main_arg4 main_arg5 main_arg6 main_arg7 main_arg8 main_arg9 main_arg10 main_arg11 main_arg12 main_arg13 main_arg14 main_arg15)
open Cert.ReferenceIdeal.Value

variable {F : FTy → Type} [FloatOps F]

/-- The hundredth greatest logit of a row against the row's threshold. -/
def apart (LG : FVec F S12x2048x2048 .f32) : IVec S12x2048x1 1 :=
  cmpf .olt ((extractStridedSlice S12x2048x1 ![0, 0, 99] · slices_S12x2048x100_S12x2048x1_0_0_99) ((fun x => (Host.topK S12x2048x100 2 (FloatOps.cmpfTotal .gt) x sliceFits_S12x2048x2048_S12x2048x100).1) LG)) (addf (subf (subf (broadcastInDim S12x2048x1 ![0, 1] bcast_S12x2048_S12x2048x1_0_1 ((fun x v => Host.reduce FloatOps.minimumf x v reducesTo_S12x2048x2048_S12x2048_d2 h_S_) LG (constant S_ .f32 0x7F800000#32))) (mulf (broadcastInDim S12x2048x1 ![] bcast_S_S12x2048x1 (constant S_ .f32 0x3C23D70A#32)) (Host.absf (broadcastInDim S12x2048x1 ![0, 1] bcast_S12x2048_S12x2048x1_0_1 ((fun x v => Host.reduce FloatOps.minimumf x v reducesTo_S12x2048x2048_S12x2048_d2 h_S_) LG (constant S_ .f32 0x7F800000#32)))))) (broadcastInDim S12x2048x1 ![] bcast_S_S12x2048x1 (constant S_ .f32 0x358637BD#32))) (mulf (Host.floor (Host.divf (subf ((extractStridedSlice S12x2048x1 ![0, 0, 98] · slices_S12x2048x99_S12x2048x1_0_0_98) ((fun x => (Host.topK S12x2048x99 2 (FloatOps.cmpfTotal .gt) x sliceFits_S12x2048x2048_S12x2048x99).1) LG)) (subf (subf (broadcastInDim S12x2048x1 ![0, 1] bcast_S12x2048_S12x2048x1_0_1 ((fun x v => Host.reduce FloatOps.minimumf x v reducesTo_S12x2048x2048_S12x2048_d2 h_S_) LG (constant S_ .f32 0x7F800000#32))) (mulf (broadcastInDim S12x2048x1 ![] bcast_S_S12x2048x1 (constant S_ .f32 0x3C23D70A#32)) (Host.absf (broadcastInDim S12x2048x1 ![0, 1] bcast_S12x2048_S12x2048x1_0_1 ((fun x v => Host.reduce FloatOps.minimumf x v reducesTo_S12x2048x2048_S12x2048_d2 h_S_) LG (constant S_ .f32 0x7F800000#32)))))) (broadcastInDim S12x2048x1 ![] bcast_S_S12x2048x1 (constant S_ .f32 0x358637BD#32)))) (Host.divf (subf (addf (broadcastInDim S12x2048x1 ![0, 1] bcast_S12x2048_S12x2048x1_0_1 ((fun x v => Host.reduce FloatOps.maximumf x v reducesTo_S12x2048x2048_S12x2048_d2 h_S_) LG (constant S_ .f32 0xFF800000#32))) (broadcastInDim S12x2048x1 ![] bcast_S_S12x2048x1 (constant S_ .f32 0x3F800000#32))) (subf (subf (broadcastInDim S12x2048x1 ![0, 1] bcast_S12x2048_S12x2048x1_0_1 ((fun x v => Host.reduce FloatOps.minimumf x v reducesTo_S12x2048x2048_S12x2048_d2 h_S_) LG (constant S_ .f32 0x7F800000#32))) (mulf (broadcastInDim S12x2048x1 ![] bcast_S_S12x2048x1 (constant S_ .f32 0x3C23D70A#32)) (Host.absf (broadcastInDim S12x2048x1 ![0, 1] bcast_S12x2048_S12x2048x1_0_1 ((fun x v => Host.reduce FloatOps.minimumf x v reducesTo_S12x2048x2048_S12x2048_d2 h_S_) LG (constant S_ .f32 0x7F800000#32)))))) (broadcastInDim S12x2048x1 ![] bcast_S_S12x2048x1 (constant S_ .f32 0x358637BD#32)))) (broadcastInDim S12x2048x1 ![] bcast_S_S12x2048x1 (constant S_ .f32 0x43800000#32))))) (Host.divf (subf (addf (broadcastInDim S12x2048x1 ![0, 1] bcast_S12x2048_S12x2048x1_0_1 ((fun x v => Host.reduce FloatOps.maximumf x v reducesTo_S12x2048x2048_S12x2048_d2 h_S_) LG (constant S_ .f32 0xFF800000#32))) (broadcastInDim S12x2048x1 ![] bcast_S_S12x2048x1 (constant S_ .f32 0x3F800000#32))) (subf (subf (broadcastInDim S12x2048x1 ![0, 1] bcast_S12x2048_S12x2048x1_0_1 ((fun x v => Host.reduce FloatOps.minimumf x v reducesTo_S12x2048x2048_S12x2048_d2 h_S_) LG (constant S_ .f32 0x7F800000#32))) (mulf (broadcastInDim S12x2048x1 ![] bcast_S_S12x2048x1 (constant S_ .f32 0x3C23D70A#32)) (Host.absf (broadcastInDim S12x2048x1 ![0, 1] bcast_S12x2048_S12x2048x1_0_1 ((fun x v => Host.reduce FloatOps.minimumf x v reducesTo_S12x2048x2048_S12x2048_d2 h_S_) LG (constant S_ .f32 0x7F800000#32)))))) (broadcastInDim S12x2048x1 ![] bcast_S_S12x2048x1 (constant S_ .f32 0x358637BD#32)))) (broadcastInDim S12x2048x1 ![] bcast_S_S12x2048x1 (constant S_ .f32 0x43800000#32)))))

set_option maxHeartbeats 4000000 in
theorem fn_eq (V : Valuation τ sig (Elt F)) : Cert.Pre_separated.fn (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
    = (cmpf .olt (Host.absf (V (Proc.devRef .tc main_arg0))) (broadcastInDim S1x2048x768 ![] bcast_S_S1x2048x768 (constant S_ .f32 0x7F800000#32)), cmpf .olt (Host.absf (V (Proc.devRef .tc main_arg1))) (broadcastInDim S2x768 ![] bcast_S_S2x768 (constant S_ .f32 0x7F800000#32)), cmpf .olt (Host.absf (V (Proc.devRef .tc main_arg2))) (broadcastInDim S2x768 ![] bcast_S_S2x768 (constant S_ .f32 0x7F800000#32)), cmpf .olt (Host.absf (V (Proc.devRef .tc main_arg3))) (broadcastInDim S2x768x768 ![] bcast_S_S2x768x768 (constant S_ .f32 0x7F800000#32)), cmpf .olt (Host.absf (V (Proc.devRef .tc main_arg4))) (broadcastInDim S2x768 ![] bcast_S_S2x768 (constant S_ .f32 0x7F800000#32)), cmpf .olt (Host.absf (V (Proc.devRef .tc main_arg5))) (broadcastInDim S2x768x1536 ![] bcast_S_S2x768x1536 (constant S_ .f32 0x7F800000#32)), cmpf .olt (Host.absf (V (Proc.devRef .tc main_arg6))) (broadcastInDim S2x1536 ![] bcast_S_S2x1536 (constant S_ .f32 0x7F800000#32)), cmpf .olt (Host.absf (V (Proc.devRef .tc main_arg7))) (broadcastInDim S2x2 ![] bcast_S_S2x2 (constant S_ .f32 0x7F800000#32)), cmpf .olt (Host.absf (V (Proc.devRef .tc main_arg8))) (broadcastInDim S2x768x768 ![] bcast_S_S2x768x768 (constant S_ .f32 0x7F800000#32)), cmpf .olt (Host.absf (V (Proc.devRef .tc main_arg9))) (broadcastInDim S2x768 ![] bcast_S_S2x768 (constant S_ .f32 0x7F800000#32)), cmpf .olt (Host.absf (V (Proc.devRef .tc main_arg10))) (broadcastInDim S2x768 ![] bcast_S_S2x768 (constant S_ .f32 0x7F800000#32)), cmpf .olt (Host.absf (V (Proc.devRef .tc main_arg11))) (broadcastInDim S2x768 ![] bcast_S_S2x768 (constant S_ .f32 0x7F800000#32)), cmpf .olt (Host.absf (V (Proc.devRef .tc main_arg12))) (broadcastInDim S2x768x3072 ![] bcast_S_S2x768x3072 (constant S_ .f32 0x7F800000#32)), cmpf .olt (Host.absf (V (Proc.devRef .tc main_arg13))) (broadcastInDim S2x3072 ![] bcast_S_S2x3072 (constant S_ .f32 0x7F800000#32)), cmpf .olt (Host.absf (V (Proc.devRef .tc main_arg14))) (broadcastInDim S2x3072x768 ![] bcast_S_S2x3072x768 (constant S_ .f32 0x7F800000#32)), cmpf .olt (Host.absf (V (Proc.devRef .tc main_arg15))) (broadcastInDim S2x768 ![] bcast_S_S2x768 (constant S_ .f32 0x7F800000#32)), apart (res_main_v65 V), apart (res_main_v267 V)) := by
  unfold apart
  rfl

end Cert.Block.Sep

end
-- ==== Proof.SepMask.lean ====
/- What the test of separation says at real logits. -/
module

public import proofs.«01_k».proof.Proof.SepFn
public import proofs.«01_k».proof.Proof.RefStages

@[expose] public section

set_option maxRecDepth 16384

noncomputable section

namespace Cert.Block.Sep

open Idealize.ShloMosaic Idealize.ShloMosaic.TcCoe Idealize.SL.Sem
open Cert.Pre_separated Cert.Pre_separated.Facts Cert.Pre_separated.Gen

theorem hundred_at (hs : S12x2048x2048.Slices (fun _ => 0) S12x2048x100) (u : FVec Ideal S12x2048x2048 .f32) (h : Fin 12) (n : Fin 2048) (i : Fin 100) :
    extractStridedSlice S12x2048x100 (fun _ => 0) u hs (ix3 h n i) = u (ix3 h n ⟨i, by omega⟩) := by
  pointwise []

/-- The values of the top 100. -/
theorem hundred_val (v : FVec Ideal S12x2048x2048 .f32) {R : Fin 12 → Fin 2048 → Fin 2048 → ℝ} (hv : ∀ h n m, v (ix3 h n m) = ((R h n m : ℝ) : EReal))
    (hs : S12x2048x2048.Slices (fun _ => 0) S12x2048x100) (h : Fin 12) (n : Fin 2048) (i : Fin 100) :
    (Host.topK S12x2048x100 2 (FloatOps.cmpfTotal (F := Ideal) (φ := .f32) .gt) v hs).1 (ix3 h n i)
      = ((R h n (ord (R h n) ⟨i, by omega⟩) : ℝ) : EReal) := by
  show extractStridedSlice S12x2048x100 (fun _ => 0) (fun j : Rows.Idx => v (Shape.Idx.along (s := Rows) j 2 (sortedFrom (fun k k' =>
    FloatOps.cmpfTotal (F := Ideal) (φ := .f32) .gt (v (Shape.Idx.along (s := Rows) j 2 k))
      (v (Shape.Idx.along (s := Rows) j 2 k')) == 1#1) (j 2)))) hs (ix3 h n i) = _
  refine (hundred_at hs _ h n i).trans ?_
  refine (congrArg v (along_row h n _ _)).trans ((hv h n _).trans ?_)
  exact congrArg (fun f : Fin 2048 → Fin 2048 → Bool => ((R h n (sortedFrom f ⟨i, by omega⟩) : ℝ) : EReal)) (sort_row v hv h n ⟨i, by omega⟩)

/-- The comparison, read at a row. -/
theorem apart_of (T1 : FVec Ideal S12x2048x100 .f32) (TK : FVec Ideal S12x2048x99 .f32) (LO ST : FVec Ideal S12x2048x1 .f32)
    {T1r : Fin 12 → Fin 2048 → Fin 100 → ℝ} {TKr : Fin 12 → Fin 2048 → Fin 99 → ℝ} {LOr STr : Fin 12 → Fin 2048 → ℝ}
    (hT1 : ∀ k n i, T1 (ix3 k n i) = ((T1r k n i : ℝ) : EReal)) (hTK : ∀ k n i, TK (ix3 k n i) = ((TKr k n i : ℝ) : EReal))
    (hLO : ∀ k n, LO (ix3 k n 0) = ((LOr k n : ℝ) : EReal)) (hST : ∀ k n, ST (ix3 k n 0) = ((STr k n : ℝ) : EReal))
    (k : Fin 12) (n : Fin 2048) (hp : STr k n ≠ 0) (C : ℝ) (hC : LOr k n + ⌊(TKr k n 98 - LOr k n) / STr k n⌋ * STr k n = C) :
    (cmpf .olt (extractStridedSlice S12x2048x1 ![0, 0, 99] T1 slices_S12x2048x100_S12x2048x1_0_0_99)
      (addf LO (mulf (Host.floor (Host.divf (subf (extractStridedSlice S12x2048x1 ![0, 0, 98] TK slices_S12x2048x99_S12x2048x1_0_0_98) LO) ST)) ST))
      : IVec S12x2048x1 1) (ix3 k n 0) = 1#1 ↔ T1r k n 99 < C := by
  have e : (addf LO (mulf (Host.floor (Host.divf (subf (extractStridedSlice S12x2048x1 ![0, 0, 98] TK slices_S12x2048x99_S12x2048x1_0_0_98) LO) ST)) ST)
      : FVec Ideal S12x2048x1 .f32) (ix3 k n 0) = ((C : ℝ) : EReal) := by
    pointwise [hLO, hST, hTK]
    rw [← EReal.coe_sub, div_coe_coe hp, Ideal.liftRound_coe, ← EReal.coe_mul, ← EReal.coe_add, hC]
  have e1 : (extractStridedSlice S12x2048x1 ![0, 0, 99] T1 slices_S12x2048x100_S12x2048x1_0_0_99 : FVec Ideal S12x2048x1 .f32) (ix3 k n 0)
      = ((T1r k n 99 : ℝ) : EReal) := by
    pointwise [hT1]
  have h : ∀ a b : EReal, (Ideal.cmp .olt a b = 1#1 ↔ a < b) := fun a b => by
    by_cases hab : a < b <;> simp [Ideal.cmp, hab]
  refine (Iff.of_eq (congrArg (· = 1#1) (congrArg₂ (Ideal.cmp .olt) e1 e))).trans ((h _ _).trans ?_)
  exact EReal.coe_lt_coe_iff

/-- At real logits the test says that the hundredth logit in order stays below the threshold. -/
theorem below_of_apart (LG : FVec Ideal S12x2048x2048 .f32) {Lr : Fin 12 → Fin 2048 → Fin 2048 → ℝ}
    (hLG : ∀ k n m, LG (ix3 k n m) = ((Lr k n m : ℝ) : EReal)) (h : apart LG = fun _ => 1#1) (k : Fin 12) (n : Fin 2048) :
    Lr k n (ord (Lr k n) 99) < cut (Lr k n) := by
  have hi := congrFun h (ix3 k n 0)
  unfold apart at hi
  have hlo := lo_of _ (Nr := fun k n => least (Lr k n)) (fun k n => (mn_of _ k n).trans (row_min_coe LG hLG
    Cert.GridIdeal.Gen.reducesTo_S12x2048x2048_S12x2048_d2 Cert.GridIdeal.Gen.h_S_ k n))
  exact (apart_of _ _ _ _ (T1r := fun k n i => Lr k n (ord (Lr k n) ⟨i, by omega⟩)) (TKr := fun k n i => Lr k n (ord (Lr k n) ⟨i, by omega⟩))
    (LOr := fun k n => lo0 (Lr k n)) (STr := fun k n => step (Lr k n)) (hundred_val LG hLG _) (topk_val LG hLG _) hlo
    (st_of _ _ (Mr := fun k n => most (Lr k n)) (LOr := fun k n => lo0 (Lr k n)) (row_max_coe LG hLG
      Cert.GridIdeal.Gen.reducesTo_S12x2048x2048_S12x2048_d2 Cert.GridIdeal.Gen.h_S_) hlo)
    k n (step_pos (Lr k n)).ne' (cut (Lr k n)) (cut_ord_first (Lr k n) (98 : Fin 99) (by decide))).1 hi

end Cert.Block.Sep

end
-- ==== Proof.ExactEqual.lean ====
/- The exact reference computes what the kernel computes, where the test of separation passes. -/
module

public import proofs.«01_k».proof.Proof.GridEqual
public import proofs.«01_k».proof.Proof.ExactRun
public import proofs.«01_k».proof.Proof.SepMask

@[expose] public section

set_option maxRecDepth 16384

noncomputable section

namespace Cert.Block.Exact

open Idealize.ShloMosaic Idealize.ShloMosaic.TcCoe Idealize.SL.Sem
open Cert.ReferenceIdeal Cert.ReferenceIdeal.Gen Cert.ReferenceIdeal.Value

/-- The test of separation passes. -/
def Passes (a0 : FVec Ideal S1x2048x768 .f32) (a1 : FVec Ideal S2x768 .f32) (a2 : FVec Ideal S2x768 .f32) (a3 : FVec Ideal S2x768x768 .f32) (a4 : FVec Ideal S2x768 .f32) (a5 : FVec Ideal S2x768x1536 .f32) (a6 : FVec Ideal S2x1536 .f32) (a7 : FVec Ideal S2x2 .f32) (a8 : FVec Ideal S2x768x768 .f32) (a9 : FVec Ideal S2x768 .f32) (a10 : FVec Ideal S2x768 .f32) (a11 : FVec Ideal S2x768 .f32) (a12 : FVec Ideal S2x768x3072 .f32) (a13 : FVec Ideal S2x3072 .f32) (a14 : FVec Ideal S2x3072x768 .f32) (a15 : FVec Ideal S2x768 .f32) : Prop :=
  (Cert.Pre_separated.fn (F := Ideal) a0 a1 a2 a3 a4 a5 a6 a7 a8 a9 a10 a11 a12 a13 a14 a15).1 = (fun _ => 1#1)
  ∧ (Cert.Pre_separated.fn (F := Ideal) a0 a1 a2 a3 a4 a5 a6 a7 a8 a9 a10 a11 a12 a13 a14 a15).2.1 = (fun _ => 1#1)
  ∧ (Cert.Pre_separated.fn (F := Ideal) a0 a1 a2 a3 a4 a5 a6 a7 a8 a9 a10 a11 a12 a13 a14 a15).2.2.1 = (fun _ => 1#1)
  ∧ (Cert.Pre_separated.fn (F := Ideal) a0 a1 a2 a3 a4 a5 a6 a7 a8 a9 a10 a11 a12 a13 a14 a15).2.2.2.1 = (fun _ => 1#1)
  ∧ (Cert.Pre_separated.fn (F := Ideal) a0 a1 a2 a3 a4 a5 a6 a7 a8 a9 a10 a11 a12 a13 a14 a15).2.2.2.2.1 = (fun _ => 1#1)
  ∧ (Cert.Pre_separated.fn (F := Ideal) a0 a1 a2 a3 a4 a5 a6 a7 a8 a9 a10 a11 a12 a13 a14 a15).2.2.2.2.2.1 = (fun _ => 1#1)
  ∧ (Cert.Pre_separated.fn (F := Ideal) a0 a1 a2 a3 a4 a5 a6 a7 a8 a9 a10 a11 a12 a13 a14 a15).2.2.2.2.2.2.1 = (fun _ => 1#1)
  ∧ (Cert.Pre_separated.fn (F := Ideal) a0 a1 a2 a3 a4 a5 a6 a7 a8 a9 a10 a11 a12 a13 a14 a15).2.2.2.2.2.2.2.1 = (fun _ => 1#1)
  ∧ (Cert.Pre_separated.fn (F := Ideal) a0 a1 a2 a3 a4 a5 a6 a7 a8 a9 a10 a11 a12 a13 a14 a15).2.2.2.2.2.2.2.2.1 = (fun _ => 1#1)
  ∧ (Cert.Pre_separated.fn (F := Ideal) a0 a1 a2 a3 a4 a5 a6 a7 a8 a9 a10 a11 a12 a13 a14 a15).2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.2.2.2.2.2.2.1 = (fun _ => 1#1)
  ∧ (Cert.Pre_separated.fn (F := Ideal) a0 a1 a2 a3 a4 a5 a6 a7 a8 a9 a10 a11 a12 a13 a14 a15).2.2.2.2.2.2.2.2.2.2.2.2.2.2.2.2.2 = (fun _ => 1#1)

/-- Arguments that pass are arrays of reals, and their logits are separated in both layers. -/
theorem separated_of (V : Valuation τ sig (Elt Ideal)) (q : Passes (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) :
    Real16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (tokensOf (V (Proc.devRef .tc main_arg0))) (layersOf (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)))
      ∧ Separated (layersOf (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) (tokensOf (V (Proc.devRef .tc main_arg0))) := by
  unfold Passes at q
  rw [Sep.fn_eq V] at q
  have h := real16_of (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (real_of_mask _ _ _ q.1) (real_of_mask _ _ _ q.2.1) (real_of_mask _ _ _ q.2.2.1) (real_of_mask _ _ _ q.2.2.2.1) (real_of_mask _ _ _ q.2.2.2.2.1) (real_of_mask _ _ _ q.2.2.2.2.2.1) (real_of_mask _ _ _ q.2.2.2.2.2.2.1) (real_of_mask _ _ _ q.2.2.2.2.2.2.2.1) (real_of_mask _ _ _ q.2.2.2.2.2.2.2.2.1) (real_of_mask _ _ _ q.2.2.2.2.2.2.2.2.2.1) (real_of_mask _ _ _ q.2.2.2.2.2.2.2.2.2.2.1) (real_of_mask _ _ _ q.2.2.2.2.2.2.2.2.2.2.2.1) (real_of_mask _ _ _ q.2.2.2.2.2.2.2.2.2.2.2.2.1) (real_of_mask _ _ _ q.2.2.2.2.2.2.2.2.2.2.2.2.2.1) (real_of_mask _ _ _ q.2.2.2.2.2.2.2.2.2.2.2.2.2.2.1) (real_of_mask _ _ _ q.2.2.2.2.2.2.2.2.2.2.2.2.2.2.2.1)
  have h1 := Sep.below_of_apart (res_main_v65 V) (R0.lg_at V h (x_at V h)) q.2.2.2.2.2.2.2.2.2.2.2.2.2.2.2.2.1
  have hm := R0.out_at V h (R0.at_at V h (x_at V h) h1)
  exact ⟨h, h1, Sep.below_of_apart (res_main_v267 V) (R1.lg_at V h hm) q.2.2.2.2.2.2.2.2.2.2.2.2.2.2.2.2.2⟩

end Cert.Block.Exact

namespace Cert.Block

open Idealize.ShloMosaic Idealize.ShloMosaic.TcCoe Idealize.SL.Sem

theorem exact_equal : Cert.algebraic_KernelIdeal_ReferenceIdeal_pre_separated := by
  intro m ρ m' ρ' hp he
  have hr : ∀ c, KArgs m c (tokens m c) (layers m c) ∧ Exact.Separated (layers m c) (tokens m c) := fun c => by
    have q : Exact.Passes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := hp c
    have s := Exact.separated_of (StableHlo.launchContents m' c)
    obtain ⟨e0, e1, e2, e3, e4, e5, e6, e7, e8, e9, e10, e11, e12, e13, e14, e15⟩ := he c
    change Exact.Passes (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) → Real16 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (tokensOf (m' ((c.tc : Thread Cert.ReferenceIdeal.nD Cert.ReferenceIdeal.τ).loc Cert.ReferenceIdeal.main_arg0))) (layersOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))) ∧ Exact.Separated (layersOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))) (tokensOf (m' ((c.tc : Thread Cert.ReferenceIdeal.nD Cert.ReferenceIdeal.τ).loc Cert.ReferenceIdeal.main_arg0))) at s
    rw [e0, e1, e2, e3, e4, e5, e6, e7, e8, e9, e10, e11, e12, e13, e14, e15] at s
    exact s q
  refine ⟨fun c => blockArray (layers m c) (tokens m c), ?_, ?_⟩
  · exact (θ_run (Cert.KernelIdeal.defs (F := Ideal)) _ _).mono
      (fun r q c => ⟨(q c).1.trans (kernel_value m ρ (fun c => (hr c).1) c), (q c).2⟩) (run_contents m ρ)
  · refine Exact.run_value m' ρ' (x := fun c => tokens m c) (p := fun c => layers m c) (fun c => ?_) fun c => (hr c).2
    obtain ⟨e0, e1, e2, e3, e4, e5, e6, e7, e8, e9, e10, e11, e12, e13, e14, e15⟩ := he c
    rw [e0, e1, e2, e3, e4, e5, e6, e7, e8, e9, e10, e11, e12, e13, e14, e15]
    exact (hr c).1

end Cert.Block

end
-- ==== Proof.lean ====
module

public import proofs.«01_k».proof.Defs
public import proofs.«01_k».proof.Proof.Frames
public import proofs.«01_k».proof.Proof.FactsFinite
public import proofs.«01_k».proof.Proof.FactsSeparated
public import proofs.«01_k».proof.Proof.GridEqual
public import proofs.«01_k».proof.Proof.ExactEqual

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.GridIdeal.Gen.facts,
    Cert.Pre_separated.Gen.facts, Cert.Pre_finite.Gen.facts,
    Cert.Block.Frames.kernel, Cert.Block.Frames.kernelIdeal, fun m g _ => Cert.Block.Frames.kernelIdeal m g trivial,
    fun m g _ => Cert.Block.Frames.kernelIdeal m g trivial, Cert.Block.Frames.reference,
    fun m g _ => Cert.Block.Frames.reference m g trivial, Cert.Block.Frames.grid, fun m g _ => Cert.Block.Frames.grid m g trivial,
    Cert.Block.Frames.preserves, Cert.Block.exact_equal, Cert.Block.grid_equal⟩

end Cert.Proof

end
